-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v37_0)) (v1 : (c : Dev Cert.Kernel3Ideal.nD) → Buf (Elt Ideal) ((c.tc : Thread Cert.Kernel3Ideal.nD Cert.Kernel3Ideal.τ).loc Cert.Kernel3Ideal.main_v37_1)) (v2 : (c : Dev Cert.Kernel3Ideal.nD) → Buf (Elt Ideal) ((c.tc : Thread Cert.Kernel3Ideal.nD Cert.Kernel3Ideal.τ).loc Cert.Kernel3Ideal.main_v37_2)) (v3 : (c : Dev Cert.Kernel3Ideal.nD) → Buf (Elt Ideal) ((c.tc : Thread Cert.Kernel3Ideal.nD Cert.Kernel3Ideal.τ).loc Cert.Kernel3Ideal.main_v37_3)) (v4 : (c : Dev Cert.Kernel3Ideal.nD) → Buf (Elt Ideal) ((c.tc : Thread Cert.Kernel3Ideal.nD Cert.Kernel3Ideal.τ).loc Cert.Kernel3Ideal.main_v37_4)) (v5 : (c : Dev Cert.Kernel3Ideal.nD) → Buf (Elt Ideal) ((c.tc : Thread Cert.Kernel3Ideal.nD Cert.Kernel3Ideal.τ).loc Cert.Kernel3Ideal.main_v37_5)) (v6 : (c : Dev Cert.Kernel3Ideal.nD) → Buf (Elt Ideal) ((c.tc : Thread Cert.Kernel3Ideal.nD Cert.Kernel3Ideal.τ).loc Cert.Kernel3Ideal.main_v37_6)) (v7 : (c : Dev Cert.Kernel3Ideal.nD) → Buf (Elt Ideal) ((c.tc : Thread Cert.Kernel3Ideal.nD Cert.Kernel3Ideal.τ).loc Cert.Kernel3Ideal.main_v37_7)) (v8 : (c : Dev Cert.Kernel3Ideal.nD) → Buf (Elt Ideal) ((c.tc : Thread Cert.Kernel3Ideal.nD Cert.Kernel3Ideal.τ).loc Cert.Kernel3Ideal.main_v37_8)) (v9 : (c : Dev Cert.Kernel3Ideal.nD) → Buf (Elt Ideal) ((c.tc : Thread Cert.Kernel3Ideal.nD Cert.Kernel3Ideal.τ).loc Cert.Kernel3Ideal.main_v37_9)) (v10 : (c : Dev Cert.Kernel3Ideal.nD) → Buf (Elt Ideal) ((c.tc : Thread Cert.Kernel3Ideal.nD Cert.Kernel3Ideal.τ).loc Cert.Kernel3Ideal.main_v37_10)) (v11 : (c : Dev Cert.Kernel3Ideal.nD) → Buf (Elt Ideal) ((c.tc : Thread Cert.Kernel3Ideal.nD Cert.Kernel3Ideal.τ).loc Cert.Kernel3Ideal.main_v37_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_v37_1) = v1 c
          ∧ r.2.mem ((c.tc : Thread Cert.Kernel3Ideal.nD Cert.Kernel3Ideal.τ).loc Cert.Kernel3Ideal.main_v37_2) = v2 c
          ∧ r.2.mem ((c.tc : Thread Cert.Kernel3Ideal.nD Cert.Kernel3Ideal.τ).loc Cert.Kernel3Ideal.main_v37_3) = v3 c
          ∧ r.2.mem ((c.tc : Thread Cert.Kernel3Ideal.nD Cert.Kernel3Ideal.τ).loc Cert.Kernel3Ideal.main_v37_4) = v4 c
          ∧ r.2.mem ((c.tc : Thread Cert.Kernel3Ideal.nD Cert.Kernel3Ideal.τ).loc Cert.Kernel3Ideal.main_v37_5) = v5 c
          ∧ r.2.mem ((c.tc : Thread Cert.Kernel3Ideal.nD Cert.Kernel3Ideal.τ).loc Cert.Kernel3Ideal.main_v37_6) = v6 c
          ∧ r.2.mem ((c.tc : Thread Cert.Kernel3Ideal.nD Cert.Kernel3Ideal.τ).loc Cert.Kernel3Ideal.main_v37_7) = v7 c
          ∧ r.2.mem ((c.tc : Thread Cert.Kernel3Ideal.nD Cert.Kernel3Ideal.τ).loc Cert.Kernel3Ideal.main_v37_8) = v8 c
          ∧ r.2.mem ((c.tc : Thread Cert.Kernel3Ideal.nD Cert.Kernel3Ideal.τ).loc Cert.Kernel3Ideal.main_v37_9) = v9 c
          ∧ r.2.mem ((c.tc : Thread Cert.Kernel3Ideal.nD Cert.Kernel3Ideal.τ).loc Cert.Kernel3Ideal.main_v37_10) = v10 c
          ∧ r.2.mem ((c.tc : Thread Cert.Kernel3Ideal.nD Cert.Kernel3Ideal.τ).loc Cert.Kernel3Ideal.main_v37_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v118) = v2 c
          ∧ r.2.mem ((c.tc : Thread Cert.Reference3Ideal.nD Cert.Reference3Ideal.τ).loc Cert.Reference3Ideal.main_v120) = v3 c
          ∧ r.2.mem ((c.tc : Thread Cert.Reference3Ideal.nD Cert.Reference3Ideal.τ).loc Cert.Reference3Ideal.main_v123) = v4 c
          ∧ r.2.mem ((c.tc : Thread Cert.Reference3Ideal.nD Cert.Reference3Ideal.τ).loc Cert.Reference3Ideal.main_v126) = v5 c
          ∧ r.2.mem ((c.tc : Thread Cert.Reference3Ideal.nD Cert.Reference3Ideal.τ).loc Cert.Reference3Ideal.main_v127) = v6 c
          ∧ r.2.mem ((c.tc : Thread Cert.Reference3Ideal.nD Cert.Reference3Ideal.τ).loc Cert.Reference3Ideal.main_v128) = v7 c
          ∧ r.2.mem ((c.tc : Thread Cert.Reference3Ideal.nD Cert.Reference3Ideal.τ).loc Cert.Reference3Ideal.main_v129) = v8 c
          ∧ r.2.mem ((c.tc : Thread Cert.Reference3Ideal.nD Cert.Reference3Ideal.τ).loc Cert.Reference3Ideal.main_v130) = v9 c
          ∧ r.2.mem ((c.tc : Thread Cert.Reference3Ideal.nD Cert.Reference3Ideal.τ).loc Cert.Reference3Ideal.main_v114) = v10 c
          ∧ r.2.mem ((c.tc : Thread Cert.Reference3Ideal.nD Cert.Reference3Ideal.τ).loc Cert.Reference3Ideal.main_v117) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S16384x896 : Shape := ⟨2, ![16384, 896]⟩
abbrev S16x128 : Shape := ⟨2, ![16, 128]⟩
abbrev S128 : Shape := ⟨1, ![128]⟩
abbrev S64 : Shape := ⟨1, ![64]⟩
abbrev S_ : Shape := ⟨0, ![]⟩

class Facts : Prop where
  bcast_S_S16384x896 : S_.BroadcastsInDim S16384x896 (![] : Fin 0 → Fin S16384x896.rank)
  reducesTo_S16384x896_S_d0_1 : S16384x896.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16384x896 .f32) (main_arg1 : FVec F S16x128 .f32) (main_arg2 : FVec F S128 .f32) (main_arg3 : FVec F S64 .f32) : IVec S_ 1 :=
  let main_v0 : FVec F S16384x896 .f32 := Host.absf main_arg0
  let main_cst : FVec F S_ .f32 := constant S_ .f32 0x7F800000#32
  let main_v1 : FVec F S16384x896 .f32 := broadcastInDim S16384x896 ![] bcast_S_S16384x896 main_cst
  let main_v2 : IVec S16384x896 1 := cmpf .olt main_v0 main_v1
  let main_c : IVec S_ 1 := constantI S_ 1 1#1
  let main_v3 : IVec S_ 1 := (fun x v => Host.reduce IntOp.andi x v reducesTo_S16384x896_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Pre_finite3.lean ====
abbrev S16384x1024 : Shape := ⟨2, ![16384, 1024]⟩
abbrev S1024 : Shape := ⟨1, ![1024]⟩
abbrev S1024x3112 : Shape := ⟨2, ![1024, 3112]⟩
abbrev S64 : Shape := ⟨1, ![64]⟩
abbrev S3x64 : Shape := ⟨2, ![3, 64]⟩
abbrev S24 : Shape := ⟨1, ![24]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3112 : S_.BroadcastsInDim S1024x3112 (![] : Fin 0 → Fin S1024x3112.rank)
  reducesTo_S1024x3112_S_d0_1 : S1024x3112.ReducesTo [0, 1] S_

variable [Facts]

def fn {F : FTy → Type} [FloatOps F] (main_arg0 : FVec F S16384x1024 .f32) (main_arg1 : FVec F S1024 .f32) (main_arg2 : FVec F S1024x3112 .f32) (main_arg3 : FVec F S64 .f32) (main_arg4 : FVec F S3x64 .f32) (main_arg5 : FVec F S24 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3112 .f32 := Host.absf main_arg2
  let main_cst_0 : FVec F S_ .f32 := constant S_ .f32 0x7F800000#32
  let main_v5 : FVec F S1024x3112 .f32 := broadcastInDim S1024x3112 ![] bcast_S_S1024x3112 main_cst_0
  let main_v6 : IVec S1024x3112 1 := cmpf .olt main_v4 main_v5
  let main_c_1 : IVec S_ 1 := constantI S_ 1 1#1
  let main_v7 : IVec S_ 1 := (fun x v => Host.reduce IntOp.andi x v reducesTo_S1024x3112_S_d0_1 h_S_) main_v6 main_c_1
  let main_v8 : IVec S_ 1 := andi main_v3 main_v7
  main_v8
-- ==== Kernel.lean ====
abbrev S16384x896 : Shape := ⟨2, ![16384, 896]⟩
abbrev S16x128 : Shape := ⟨2, ![16, 128]⟩
abbrev S128 : Shape := ⟨1, ![128]⟩
abbrev S64 : Shape := ⟨1, ![64]⟩
abbrev S256x256 : Shape := ⟨2, ![256, 256]⟩
abbrev S_ : Shape := ⟨0, ![]⟩
abbrev S128x128 : Shape := ⟨2, ![128, 128]⟩
abbrev S1x128 : Shape := ⟨2, ![1, 128]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x256x256 : Shape := ⟨3, ![1, 256, 256]⟩
abbrev S12x256x256 : Shape := ⟨3, ![12, 256, 256]⟩
abbrev S16384x256 : Shape := ⟨2, ![16384, 256]⟩
abbrev S256x896 : Shape := ⟨2, ![256, 896]⟩
abbrev S256x128 : Shape := ⟨2, ![256, 128]⟩
abbrev S1024x256 : Shape := ⟨2, ![1024, 256]⟩
abbrev S1024x128 : Shape := ⟨2, ![1024, 128]⟩
abbrev S32x128 : Shape := ⟨2, ![32, 128]⟩
abbrev S32x256 : Shape := ⟨2, ![32, 256]⟩

abbrev nBuf : Space → Nat
  | .hbm => 204
  | .vmem => 10
  | .smem => 0
  | _ => 0

abbrev hbmTy0_0 (i : Nat) : BufTy := match i % 128 with
  | 0 => ⟨S16384x896, .f32⟩
  | 1 => ⟨S16x128, .f32⟩
  | 2 => ⟨S128, .f32⟩
  | 3 => ⟨S64, .f32⟩
  | 4 => ⟨S256x256, .bf16⟩
  | 5 => ⟨S_, .i32⟩
  | 6 => ⟨S_, .f32⟩
  | 7 => ⟨S128x128, .f32⟩
  | 8 => ⟨S128x128, .bf16⟩
  | 9 => ⟨S1x128, .f32⟩
  | 10 => ⟨S1x64, .f32⟩
  | 11 => ⟨S4x64, .f32⟩
  | 12 => ⟨S256, .f32⟩
  | 13 => ⟨S1x256, .f32⟩
  | 14 => ⟨S256x256, .i32⟩
  | 15 => ⟨S256x256, .i32⟩
  | 16 => ⟨S_, .i32⟩
  | 17 => ⟨S256x256, .i32⟩
  | 18 => ⟨S256x256, .i32⟩
  | 19 => ⟨S_, .i32⟩
  | 20 => ⟨S256x256, .i32⟩
  | 21 => ⟨S256x256, .i32⟩
  | 22 => ⟨S256x256, .i1⟩
  | 23 => ⟨S256x256, .i1⟩
  | 24 => ⟨S256x256, .i1⟩
  | 25 => ⟨S256x256, .i1⟩
  | 26 => ⟨S256x256, .i1⟩
  | 27 => ⟨S_, .i32⟩
  | 28 => ⟨S256x256, .i32⟩
  | 29 => ⟨S256x256, .i32⟩
  | 30 => ⟨S_, .i32⟩
  | 31 => ⟨S256x256, .i32⟩
  | 32 => ⟨S256x256, .i32⟩
  | 33 => ⟨S_, .i32⟩
  | 34 => ⟨S256x256, .i32⟩
  | 35 => ⟨S256x256, .i1⟩
  | 36 => ⟨S_, .i32⟩
  | 37 => ⟨S256x256, .i32⟩
  | 38 => ⟨S256x256, .i32⟩
  | 39 => ⟨S256x256, .i1⟩
  | 40 => ⟨S256x256, .i1⟩
  | 41 => ⟨S256x256, .i1⟩
  | 42 => ⟨S256x256, .i1⟩
  | 43 => ⟨S256x256, .i1⟩
  | 44 => ⟨S256x256, .i1⟩
  | 45 => ⟨S256x256, .i1⟩
  | 46 => ⟨S_, .i32⟩
  | 47 => ⟨S256x256, .i32⟩
  | 48 => ⟨S256x256, .i32⟩
  | 49 => ⟨S_, .i32⟩
  | 50 => ⟨S256x256, .i32⟩
  | 51 => ⟨S256x256, .i32⟩
  | 52 => ⟨S_, .i32⟩
  | 53 => ⟨S256x256, .i32⟩
  | 54 => ⟨S256x256, .i32⟩
  | 55 => ⟨S256x256, .i1⟩
  | 56 => ⟨S256x256, .i1⟩
  | 57 => ⟨S_, .i32⟩
  | 58 => ⟨S256x256, .i32⟩
  | 59 => ⟨S256x256, .i32⟩
  | 60 => ⟨S_, .i32⟩
  | 61 => ⟨S256x256, .i32⟩
  | 62 => ⟨S256x256, .i32⟩
  | 63 => ⟨S_, .i32⟩
  | 64 => ⟨S256x256, .i32⟩
  | 65 => ⟨S256x256, .i1⟩
  | 66 => ⟨S_, .i32⟩
  | 67 => ⟨S256x256, .i32⟩
  | 68 => ⟨S256x256, .i32⟩
  | 69 => ⟨S256x256, .i1⟩
  | 70 => ⟨S256x256, .i1⟩
  | 71 => ⟨S256x256, .i1⟩
  | 72 => ⟨S256x256, .i1⟩
  | 73 => ⟨S256x256, .i1⟩
  | 74 => ⟨S256x256, .i1⟩
  | 75 => ⟨S256x256, .i1⟩
  | 76 => ⟨S_, .i32⟩
  | 77 => ⟨S256x256, .i32⟩
  | 78 => ⟨S256x256, .i32⟩
  | 79 => ⟨S_, .i32⟩
  | 80 => ⟨S256x256, .i32⟩
  | 81 => ⟨S256x256, .i32⟩
  | 82 => ⟨S_, .i32⟩
  | 83 => ⟨S256x256, .i32⟩
  | 84 => ⟨S256x256, .i32⟩
  | 85 => ⟨S256x256, .i1⟩
  | 86 => ⟨S256x256, .i1⟩
  | 87 => ⟨S_, .i32⟩
  | 88 => ⟨S256x256, .i32⟩
  | 89 => ⟨S256x256, .i32⟩
  | 90 => ⟨S_, .i32⟩
  | 91 => ⟨S256x256, .i32⟩
  | 92 => ⟨S256x256, .i32⟩
  | 93 => ⟨S_, .i32⟩
  | 94 => ⟨S256x256, .i32⟩
  | 95 => ⟨S256x256, .i1⟩
  | 96 => ⟨S_, .i32⟩
  | 97 => ⟨S256x256, .i32⟩
  | 98 => ⟨S256x256, .i32⟩
  | 99 => ⟨S256x256, .i1⟩
  | 100 => ⟨S256x256, .i1⟩
  | 101 => ⟨S256x256, .i1⟩
  | 102 => ⟨S256x256, .i1⟩
  | 103 => ⟨S256x256, .i1⟩
  | 104 => ⟨S256x256, .i1⟩
  | 105 => ⟨S256x256, .i1⟩
  | 106 => ⟨S_, .i32⟩
  | 107 => ⟨S256x256, .i32⟩
  | 108 => ⟨S256x256, .i32⟩
  | 109 => ⟨S_, .i32⟩
  | 110 => ⟨S256x256, .i32⟩
  | 111 => ⟨S256x256, .i32⟩
  | 112 => ⟨S_, .i32⟩
  | 113 => ⟨S256x256, .i32⟩
  | 114 => ⟨S256x256, .i32⟩
  | 115 => ⟨S256x256, .i1⟩
  | 116 => ⟨S256x256, .i1⟩
  | 117 => ⟨S_, .i32⟩
  | 118 => ⟨S256x256, .i32⟩
  | 119 => ⟨S256x256, .i32⟩
  | 120 => ⟨S_, .i32⟩
  | 121 => ⟨S256x256, .i32⟩
  | 122 => ⟨S256x256, .i32⟩
  | 123 => ⟨S_, .i32⟩
  | 124 => ⟨S256x256, .i32⟩
  | 125 => ⟨S256x256, .i1⟩
  | 126 => ⟨S_, .i32⟩
  | 127 => ⟨S256x256, .i32⟩
  | _ => ⟨S16384x896, .f32⟩

abbrev hbmTy0_1 (i : Nat) : BufTy := match i % 128 with
  | 0 => ⟨S256x256, .i32⟩
  | 1 => ⟨S256x256, .i1⟩
  | 2 => ⟨S256x256, .i1⟩
  | 3 => ⟨S256x256, .i1⟩
  | 4 => ⟨S256x256, .i1⟩
  | 5 => ⟨S256x256, .i1⟩
  | 6 => ⟨S256x256, .i1⟩
  | 7 => ⟨S256x256, .i1⟩
  | 8 => ⟨S_, .i32⟩
  | 9 => ⟨S256x256, .i32⟩
  | 10 => ⟨S256x256, .i32⟩
  | 11 => ⟨S_, .i32⟩
  | 12 => ⟨S256x256, .i32⟩
  | 13 => ⟨S256x256, .i32⟩
  | 14 => ⟨S_, .i32⟩
  | 15 => ⟨S256x256, .i32⟩
  | 16 => ⟨S256x256, .i32⟩
  | 17 => ⟨S256x256, .i1⟩
  | 18 => ⟨S256x256, .i1⟩
  | 19 => ⟨S_, .i32⟩
  | 20 => ⟨S256x256, .i32⟩
  | 21 => ⟨S256x256, .i32⟩
  | 22 => ⟨S_, .i32⟩
  | 23 => ⟨S256x256, .i32⟩
  | 24 => ⟨S256x256, .i32⟩
  | 25 => ⟨S_, .i32⟩
  | 26 => ⟨S256x256, .i32⟩
  | 27 => ⟨S256x256, .i1⟩
  | 28 => ⟨S_, .i32⟩
  | 29 => ⟨S256x256, .i32⟩
  | 30 => ⟨S256x256, .i32⟩
  | 31 => ⟨S256x256, .i1⟩
  | 32 => ⟨S256x256, .i1⟩
  | 33 => ⟨S256x256, .i1⟩
  | 34 => ⟨S256x256, .i1⟩
  | 35 => ⟨S256x256, .i1⟩
  | 36 => ⟨S256x256, .i1⟩
  | 37 => ⟨S256x256, .i1⟩
  | 38 => ⟨S_, .i32⟩
  | 39 => ⟨S256x256, .i32⟩
  | 40 => ⟨S256x256, .i32⟩
  | 41 => ⟨S_, .i32⟩
  | 42 => ⟨S256x256, .i32⟩
  | 43 => ⟨S256x256, .i32⟩
  | 44 => ⟨S_, .i32⟩
  | 45 => ⟨S256x256, .i32⟩
  | 46 => ⟨S256x256, .i32⟩
  | 47 => ⟨S256x256, .i1⟩
  | 48 => ⟨S256x256, .i1⟩
  | 49 => ⟨S256x256, .f32⟩
  | 50 => ⟨S256x256, .f32⟩
  | 51 => ⟨S256x256, .f32⟩
  | 52 => ⟨S256x256, .f32⟩
  | 53 => ⟨S256x256, .f32⟩
  | 54 => ⟨S256x256, .f32⟩
  | 55 => ⟨S256x256, .f32⟩
  | 56 => ⟨S256x256, .f32⟩
  | 57 => ⟨S256x256, .f32⟩
  | 58 => ⟨S256x256, .f32⟩
  | 59 => ⟨S256x256, .f32⟩
  | 60 => ⟨S256x256, .f32⟩
  | 61 => ⟨S1x256x256, .f32⟩
  | 62 => ⟨S1x256x256, .f32⟩
  | 63 => ⟨S1x256x256, .f32⟩
  | 64 => ⟨S1x256x256, .f32⟩
  | 65 => ⟨S1x256x256, .f32⟩
  | 66 => ⟨S1x256x256, .f32⟩
  | 67 => ⟨S1x256x256, .f32⟩
  | 68 => ⟨S1x256x256, .f32⟩
  | 69 => ⟨S1x256x256, .f32⟩
  | 70 => ⟨S1x256x256, .f32⟩
  | 71 => ⟨S1x256x256, .f32⟩
  | 72 => ⟨S1x256x256, .f32⟩
  | 73 => ⟨S12x256x256, .f32⟩
  | 74 => ⟨S12x256x256, .bf16⟩
  | 75 => ⟨S16384x256, .f32⟩
  | _ => ⟨S16384x896, .f32⟩

abbrev hbmTy (i : Nat) : BufTy := match i / 128 with
  | 0 => hbmTy0_0 i
  | 1 => hbmTy0_1 i
  | _ => ⟨S16384x896, .f32⟩

abbrev bufTy : (tb : Table) → Fin (tcTables nBuf tb) → BufTy
  | .hbm, ⟨i, _⟩ => hbmTy i
  | .local _ .vmem, ⟨0, _⟩ => ⟨S256x896, .f32⟩
  | .local _ .vmem, ⟨1, _⟩ => ⟨S256x896, .f32⟩
  | .local _ .vmem, ⟨2, _⟩ => ⟨S12x256x256, .bf16⟩
  | .local _ .vmem, ⟨3, _⟩ => ⟨S128x128, .bf16⟩
  | .local _ .vmem, ⟨4, _⟩ => ⟨S1x128, .f32⟩
  | .local _ .vmem, ⟨5, _⟩ => ⟨S1x256, .f32⟩
  | .local _ .vmem, ⟨6, _⟩ => ⟨S256x256, .bf16⟩
  | .local _ .vmem, ⟨7, _⟩ => ⟨S256x256, .f32⟩
  | .local _ .vmem, ⟨8, _⟩ => ⟨S256x256, .f32⟩
  | .local _ .vmem, ⟨9, _⟩ => ⟨S256x128, .f32⟩
  | _, _ => ⟨S16384x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_c_11 : Ref sig .tc := ⟨.hbm, 63, rfl⟩
abbrev main_v45 : Ref sig .tc := ⟨.hbm, 64, rfl⟩
abbrev main_v46 : Ref sig .tc := ⟨.hbm, 65, rfl⟩
abbrev main_c_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_13 : Ref sig .tc := ⟨.hbm, 76, rfl⟩
abbrev main_v56 : Ref sig .tc := ⟨.hbm, 77, rfl⟩
abbrev main_v57 : Ref sig .tc := ⟨.hbm, 78, rfl⟩
abbrev main_c_14 : Ref sig .tc := ⟨.hbm, 79, rfl⟩
abbrev main_v58 : Ref sig .tc := ⟨.hbm, 80, rfl⟩
abbrev main_v59 : Ref sig .tc := ⟨.hbm, 81, rfl⟩
abbrev main_c_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_16 : Ref sig .tc := ⟨.hbm, 87, rfl⟩
abbrev main_v64 : Ref sig .tc := ⟨.hbm, 88, rfl⟩
abbrev main_v65 : Ref sig .tc := ⟨.hbm, 89, rfl⟩
abbrev main_c_17 : Ref sig .tc := ⟨.hbm, 90, rfl⟩
abbrev main_v66 : Ref sig .tc := ⟨.hbm, 91, rfl⟩
abbrev main_v67 : Ref sig .tc := ⟨.hbm, 92, rfl⟩
abbrev main_c_18 : Ref sig .tc := ⟨.hbm, 93, rfl⟩
abbrev main_v68 : Ref sig .tc := ⟨.hbm, 94, rfl⟩
abbrev main_v69 : Ref sig .tc := ⟨.hbm, 95, rfl⟩
abbrev main_c_19 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_20 : Ref sig .tc := ⟨.hbm, 106, rfl⟩
abbrev main_v79 : Ref sig .tc := ⟨.hbm, 107, rfl⟩
abbrev main_v80 : Ref sig .tc := ⟨.hbm, 108, rfl⟩
abbrev main_c_21 : Ref sig .tc := ⟨.hbm, 109, rfl⟩
abbrev main_v81 : Ref sig .tc := ⟨.hbm, 110, rfl⟩
abbrev main_v82 : Ref sig .tc := ⟨.hbm, 111, rfl⟩
abbrev main_c_22 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_23 : Ref sig .tc := ⟨.hbm, 117, rfl⟩
abbrev main_v87 : Ref sig .tc := ⟨.hbm, 118, rfl⟩
abbrev main_v88 : Ref sig .tc := ⟨.hbm, 119, rfl⟩
abbrev main_c_24 : Ref sig .tc := ⟨.hbm, 120, rfl⟩
abbrev main_v89 : Ref sig .tc := ⟨.hbm, 121, rfl⟩
abbrev main_v90 : Ref sig .tc := ⟨.hbm, 122, rfl⟩
abbrev main_c_25 : Ref sig .tc := ⟨.hbm, 123, rfl⟩
abbrev main_v91 : Ref sig .tc := ⟨.hbm, 124, rfl⟩
abbrev main_v92 : Ref sig .tc := ⟨.hbm, 125, rfl⟩
abbrev main_c_26 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_27 : Ref sig .tc := ⟨.hbm, 136, rfl⟩
abbrev main_v102 : Ref sig .tc := ⟨.hbm, 137, rfl⟩
abbrev main_v103 : Ref sig .tc := ⟨.hbm, 138, rfl⟩
abbrev main_c_28 : Ref sig .tc := ⟨.hbm, 139, rfl⟩
abbrev main_v104 : Ref sig .tc := ⟨.hbm, 140, rfl⟩
abbrev main_v105 : Ref sig .tc := ⟨.hbm, 141, rfl⟩
abbrev main_c_29 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_30 : Ref sig .tc := ⟨.hbm, 147, rfl⟩
abbrev main_v110 : Ref sig .tc := ⟨.hbm, 148, rfl⟩
abbrev main_v111 : Ref sig .tc := ⟨.hbm, 149, rfl⟩
abbrev main_c_31 : Ref sig .tc := ⟨.hbm, 150, rfl⟩
abbrev main_v112 : Ref sig .tc := ⟨.hbm, 151, rfl⟩
abbrev main_v113 : Ref sig .tc := ⟨.hbm, 152, rfl⟩
abbrev main_c_32 : Ref sig .tc := ⟨.hbm, 153, rfl⟩
abbrev main_v114 : Ref sig .tc := ⟨.hbm, 154, rfl⟩
abbrev main_v115 : Ref sig .tc := ⟨.hbm, 155, rfl⟩
abbrev main_c_33 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_34 : Ref sig .tc := ⟨.hbm, 166, rfl⟩
abbrev main_v125 : Ref sig .tc := ⟨.hbm, 167, rfl⟩
abbrev main_v126 : Ref sig .tc := ⟨.hbm, 168, rfl⟩
abbrev main_c_35 : Ref sig .tc := ⟨.hbm, 169, rfl⟩
abbrev main_v127 : Ref sig .tc := ⟨.hbm, 170, rfl⟩
abbrev main_v128 : Ref sig .tc := ⟨.hbm, 171, rfl⟩
abbrev main_c_36 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S12x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x896 : Shape := ⟨2, ![16384, 896]⟩
abbrev S16x128 : Shape := ⟨2, ![16, 128]⟩
abbrev S128 : Shape := ⟨1, ![128]⟩
abbrev S64 : Shape := ⟨1, ![64]⟩
abbrev S32x32 : Shape := ⟨2, ![32, 32]⟩
abbrev S32x32x1 : Shape := ⟨3, ![32, 32, 1]⟩
abbrev S2x8192x896 : Shape := ⟨3, ![2, 8192, 896]⟩
abbrev S2x8192x128 : Shape := ⟨3, ![2, 8192, 128]⟩
abbrev S2x8192x256 : Shape := ⟨3, ![2, 8192, 256]⟩
abbrev S2x8192x16 : Shape := ⟨3, ![2, 8192, 16]⟩
abbrev S1x1x128 : Shape := ⟨3, ![1, 1, 128]⟩
abbrev S_ : Shape := ⟨0, ![]⟩
abbrev S2x4x32x64 : Shape := ⟨4, ![2, 4, 32, 64]⟩
abbrev S2x256x32x4x32 : Shape := ⟨5, ![2, 256, 32, 4, 32]⟩
abbrev S256x2x4x32x32 : Shape := ⟨5, ![256, 2, 4, 32, 32]⟩
abbrev S2x256x32x4x64 : Shape := ⟨5, ![2, 256, 32, 4, 64]⟩
abbrev S256x2x4x32x64 : Shape := ⟨5, ![256, 2, 4, 32, 64]⟩
abbrev S1x2x4x32x32 : Shape := ⟨5, ![1, 2, 4, 32, 32]⟩
abbrev S2x4x32x32 : Shape := ⟨4, ![2, 4, 32, 32]⟩
abbrev S1x2x4x32x64 : Shape := ⟨5, ![1, 2, 4, 32, 64]⟩
abbrev S2x4x1x32 : Shape := ⟨4, ![2, 4, 1, 32]⟩
abbrev S2x4x32x1x32 : Shape := ⟨5, ![2, 4, 32, 1, 32]⟩
abbrev S2x4x1x32x32 : Shape := ⟨5, ![2, 4, 1, 32, 32]⟩
abbrev S2x4x32x32x32 : Shape := ⟨5, ![2, 4, 32, 32, 32]⟩
abbrev S2x4x32 : Shape := ⟨3, ![2, 4, 32]⟩
abbrev S2x4x32x1 : Shape := ⟨4, ![2, 4, 32, 1]⟩
abbrev S2x8192x4x64 : Shape := ⟨4, ![2, 8192, 4, 64]⟩
abbrev S2x8192x4 : Shape := ⟨3, ![2, 8192, 4]⟩
abbrev S2x8192x4x1 : Shape := ⟨4, ![2, 8192, 4, 1]⟩
abbrev S1x1x1x64 : Shape := ⟨4, ![1, 1, 1, 64]⟩
abbrev S16384x256 : Shape := ⟨2, ![16384, 256]⟩

abbrev nBuf : Space → Nat
  | .hbm => 163
  | .vmem => 0
  | .smem => 0
  | _ => 0

abbrev hbmTy0_0 (i : Nat) : BufTy := match i % 128 with
  | 0 => ⟨S16384x896, .f32⟩
  | 1 => ⟨S16x128, .f32⟩
  | 2 => ⟨S128, .f32⟩
  | 3 => ⟨S64, .f32⟩
  | 4 => ⟨S32x32, .i1⟩
  | 5 => ⟨S32x32x1, .i1⟩
  | 6 => ⟨S2x8192x896, .f32⟩
  | 7 => ⟨S2x8192x128, .f32⟩
  | 8 => ⟨S2x8192x128, .f32⟩
  | 9 => ⟨S2x8192x256, .f32⟩
  | 10 => ⟨S2x8192x16, .f32⟩
  | 11 => ⟨S2x8192x128, .f32⟩
  | 12 => ⟨S1x1x128, .f32⟩
  | 13 => ⟨S2x8192x128, .f32⟩
  | 14 => ⟨S2x8192x128, .f32⟩
  | 15 => ⟨S2x8192x128, .f32⟩
  | 16 => ⟨S_, .f32⟩
  | 17 => ⟨S2x8192x128, .f32⟩
  | 18 => ⟨S2x8192x128, .f32⟩
  | 19 => ⟨S2x8192x128, .f32⟩
  | 20 => ⟨S2x8192x128, .f32⟩
  | 21 => ⟨S2x8192x128, .i1⟩
  | 22 => ⟨S2x8192x128, .f32⟩
  | 23 => ⟨S2x8192x128, .f32⟩
  | 24 => ⟨S2x8192x128, .f32⟩
  | 25 => ⟨S2x8192x128, .f32⟩
  | 26 => ⟨S2x8192x128, .f32⟩
  | 27 => ⟨S2x8192x128, .f32⟩
  | 28 => ⟨S2x8192x128, .f32⟩
  | 29 => ⟨S2x8192x128, .f32⟩
  | 30 => ⟨S2x8192x128, .f32⟩
  | 31 => ⟨S_, .f32⟩
  | 32 => ⟨S2x8192x128, .f32⟩
  | 33 => ⟨S2x8192x128, .f32⟩
  | 34 => ⟨S_, .f32⟩
  | 35 => ⟨S2x4x32x64, .f32⟩
  | 36 => ⟨S2x256x32x4x32, .f32⟩
  | 37 => ⟨S256x2x4x32x32, .f32⟩
  | 38 => ⟨S_, .f32⟩
  | 39 => ⟨S256x2x4x32x32, .f32⟩
  | 40 => ⟨S256x2x4x32x32, .f32⟩
  | 41 => ⟨S2x256x32x4x32, .f32⟩
  | 42 => ⟨S256x2x4x32x32, .f32⟩
  | 43 => ⟨S2x256x32x4x64, .f32⟩
  | 44 => ⟨S256x2x4x32x64, .f32⟩
  | 45 => ⟨S2x256x32x4x32, .f32⟩
  | 46 => ⟨S256x2x4x32x32, .f32⟩
  | 47 => ⟨S_, .f32⟩
  | 48 => ⟨S256x2x4x32x64, .f32⟩
  | 49 => ⟨S_, .i32⟩
  | 50 => ⟨S256x2x4x32x32, .f32⟩
  | 51 => ⟨S256x2x4x32x32, .f32⟩
  | 52 => ⟨S256x2x4x32x64, .f32⟩
  | 53 => ⟨S256x2x4x32x32, .f32⟩
  | 54 => ⟨S32x32x1, .i1⟩
  | 55 => ⟨S_, .i32⟩
  | 56 => ⟨S2x4x32x64, .f32⟩
  | 57 => ⟨S256x2x4x32x64, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S1x2x4x32x32, .f32⟩
  | 65 => ⟨S2x4x32x32, .f32⟩
  | 66 => ⟨S_, .i32⟩
  | 67 => ⟨S_, .i32⟩
  | 68 => ⟨S_, .i32⟩
  | 69 => ⟨S_, .i32⟩
  | 70 => ⟨S1x2x4x32x32, .f32⟩
  | 71 => ⟨S2x4x32x32, .f32⟩
  | 72 => ⟨S_, .i32⟩
  | 73 => ⟨S_, .i32⟩
  | 74 => ⟨S_, .i32⟩
  | 75 => ⟨S_, .i32⟩
  | 76 => ⟨S1x2x4x32x64, .f32⟩
  | 77 => ⟨S2x4x32x64, .f32⟩
  | 78 => ⟨S_, .i32⟩
  | 79 => ⟨S_, .i32⟩
  | 80 => ⟨S_, .i32⟩
  | 81 => ⟨S_, .i32⟩
  | 82 => ⟨S1x2x4x32x32, .f32⟩
  | 83 => ⟨S2x4x32x32, .f32⟩
  | 84 => ⟨S_, .f32⟩
  | 85 => ⟨S_, .f32⟩
  | 86 => ⟨S2x4x32x32, .f32⟩
  | 87 => ⟨S2x4x1x32, .f32⟩
  | 88 => ⟨S2x4x32x1x32, .f32⟩
  | 89 => ⟨S2x4x1x32x32, .f32⟩
  | 90 => ⟨S2x4x32x32x32, .f32⟩
  | 91 => ⟨S2x4x32x32x32, .f32⟩
  | 92 => ⟨S2x4x32x32x32, .f32⟩
  | 93 => ⟨S_, .f32⟩
  | 94 => ⟨S_, .f32⟩
  | 95 => ⟨S2x4x32x32x32, .i1⟩
  | 96 => ⟨S2x4x32x32x32, .f32⟩
  | 97 => ⟨S2x4x32x32x32, .f32⟩
  | 98 => ⟨S2x4x32x32x32, .f32⟩
  | 99 => ⟨S2x4x32x1x32, .f32⟩
  | 100 => ⟨S2x4x1x32x32, .f32⟩
  | 101 => ⟨S2x4x32x32x32, .f32⟩
  | 102 => ⟨S2x4x32x32x32, .f32⟩
  | 103 => ⟨S2x4x32x32x32, .f32⟩
  | 104 => ⟨S2x4x32x32x32, .f32⟩
  | 105 => ⟨S_, .f32⟩
  | 106 => ⟨S2x4x32x32, .f32⟩
  | 107 => ⟨S2x4x32x64, .f32⟩
  | 108 => ⟨S2x4x32x32, .f32⟩
  | 109 => ⟨S2x4x32x32, .f32⟩
  | 110 => ⟨S2x4x32x32, .f32⟩
  | 111 => ⟨S2x4x32x32, .f32⟩
  | 112 => ⟨S2x4x32x64, .f32⟩
  | 113 => ⟨S2x4x32, .f32⟩
  | 114 => ⟨S2x4x32, .f32⟩
  | 115 => ⟨S2x4x32x32, .f32⟩
  | 116 => ⟨S2x4x32x32, .f32⟩
  | 117 => ⟨S2x4x32x64, .f32⟩
  | 118 => ⟨S2x4x32x1, .f32⟩
  | 119 => ⟨S2x4x32x64, .f32⟩
  | 120 => ⟨S2x4x32x64, .f32⟩
  | 121 => ⟨S2x4x32x64, .f32⟩
  | 122 => ⟨S2x4x32x64, .f32⟩
  | 123 => ⟨S1x2x4x32x64, .f32⟩
  | 124 => ⟨S_, .i32⟩
  | 125 => ⟨S_, .i32⟩
  | 126 => ⟨S_, .i32⟩
  | 127 => ⟨S_, .i32⟩
  | _ => ⟨S16384x896, .f32⟩

abbrev hbmTy0_1 (i : Nat) : BufTy := match i % 128 with
  | 0 => ⟨S256x2x4x32x64, .f32⟩
  | 1 => ⟨S_, .i32⟩
  | 2 => ⟨S_, .i32⟩
  | 3 => ⟨S2x256x32x4x64, .f32⟩
  | 4 => ⟨S2x8192x4x64, .f32⟩
  | 5 => ⟨S2x8192x4x64, .f32⟩
  | 6 => ⟨S_, .f32⟩
  | 7 => ⟨S2x8192x4, .f32⟩
  | 8 => ⟨S2x8192x4x1, .f32⟩
  | 9 => ⟨S_, .f32⟩
  | 10 => ⟨S2x8192x4x1, .f32⟩
  | 11 => ⟨S2x8192x4x1, .f32⟩
  | 12 => ⟨S_, .f32⟩
  | 13 => ⟨S2x8192x4x1, .f32⟩
  | 14 => ⟨S2x8192x4x1, .f32⟩
  | 15 => ⟨S2x8192x4x1, .f32⟩
  | 16 => ⟨S2x8192x4x64, .f32⟩
  | 17 => ⟨S2x8192x4x64, .f32⟩
  | 18 => ⟨S1x1x1x64, .f32⟩
  | 19 => ⟨S2x8192x4x64, .f32⟩
  | 20 => ⟨S2x8192x4x64, .f32⟩
  | 21 => ⟨S2x8192x256, .f32⟩
  | 22 => ⟨S2x8192x896, .f32⟩
  | 23 => ⟨S2x8192x256, .f32⟩
  | 24 => ⟨S2x8192x256, .f32⟩
  | 25 => ⟨S2x8192x256, .f32⟩
  | 26 => ⟨S_, .f32⟩
  | 27 => ⟨S2x8192x256, .f32⟩
  | 28 => ⟨S2x8192x256, .f32⟩
  | 29 => ⟨S_, .f32⟩
  | 30 => ⟨S2x8192x256, .f32⟩
  | 31 => ⟨S2x8192x256, .f32⟩
  | 32 => ⟨S2x8192x256, .f32⟩
  | 33 => ⟨S2x8192x256, .f32⟩
  | 34 => ⟨S16384x256, .f32⟩
  | _ => ⟨S16384x896, .f32⟩

abbrev hbmTy (i : Nat) : BufTy := match i / 128 with
  | 0 => hbmTy0_0 i
  | 1 => hbmTy0_1 i
  | _ => ⟨S16384x896, .f32⟩

abbrev bufTy : (tb : Table) → Fin (tcTables nBuf tb) → BufTy
  | .hbm, ⟨i, _⟩ => hbmTy i
  | _, _ => ⟨S16384x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_c_3 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev main_v25_3 : Ref sig .tc := ⟨.hbm, 53, rfl⟩
abbrev main_v25_4 : Ref sig .tc := ⟨.hbm, 54, rfl⟩
abbrev main_v25_5 : Ref sig .tc := ⟨.hbm, 55, rfl⟩
abbrev main_v25_6 : Ref sig .tc := ⟨.hbm, 56, rfl⟩
abbrev main_v25_7 : Ref sig .tc := ⟨.hbm, 57, rfl⟩
abbrev main_while0c_c_14 : Ref sig .tc := ⟨.hbm, 58, rfl⟩
abbrev main_while0c_v47 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_c_2 : Ref sig .tc := ⟨.hbm, 63, rfl⟩
abbrev main_while0b_call1_v0 : Ref sig .tc := ⟨.hbm, 64, rfl⟩
abbrev main_while0b_v47 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_c_2 : Ref sig .tc := ⟨.hbm, 69, rfl⟩
abbrev main_while0b_call2_v0 : Ref sig .tc := ⟨.hbm, 70, rfl⟩
abbrev main_while0b_v48 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_c_2 : Ref sig .tc := ⟨.hbm, 75, rfl⟩
abbrev main_while0b_call3_v0 : Ref sig .tc := ⟨.hbm, 76, rfl⟩
abbrev main_while0b_v49 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_call4_c_2 : Ref sig .tc := ⟨.hbm, 81, rfl⟩
abbrev main_while0b_call4_v0 : Ref sig .tc := ⟨.hbm, 82, rfl⟩
abbrev main_while0b_v50 : Ref sig .tc := ⟨.hbm, 83, rfl⟩
abbrev main_while0b_call5_call0_cst : Ref sig .tc := ⟨.hbm, 84, rfl⟩
abbrev main_while0b_call5_call0_v0 : Ref sig .tc := ⟨.hbm, 85, rfl⟩
abbrev main_while0b_v51 : Ref sig .tc := ⟨.hbm, 86, rfl⟩
abbrev main_while0b_v52 : Ref sig .tc := ⟨.hbm, 87, rfl⟩
abbrev main_while0b_v53 : Ref sig .tc := ⟨.hbm, 88, rfl⟩
abbrev main_while0b_v54 : Ref sig .tc := ⟨.hbm, 89, rfl⟩
abbrev main_while0b_v55 : Ref sig .tc := ⟨.hbm, 90, rfl⟩
abbrev main_while0b_v56 : Ref sig .tc := ⟨.hbm, 91, rfl⟩
abbrev main_while0b_v57 : Ref sig .tc := ⟨.hbm, 92, rfl⟩
abbrev main_while0b_cst_14 : Ref sig .tc := ⟨.hbm, 93, rfl⟩
abbrev main_while0b_call6_v0 : Ref sig .tc := ⟨.hbm, 94, rfl⟩
abbrev main_while0b_call6_v1 : Ref sig .tc := ⟨.hbm, 95, rfl⟩
abbrev main_while0b_call6_v2 : Ref sig .tc := ⟨.hbm, 96, rfl⟩
abbrev main_while0b_v58 : Ref sig .tc := ⟨.hbm, 97, rfl⟩
abbrev main_while0b_v59 : Ref sig .tc := ⟨.hbm, 98, rfl⟩
abbrev main_while0b_v60 : Ref sig .tc := ⟨.hbm, 99, rfl⟩
abbrev main_while0b_v61 : Ref sig .tc := ⟨.hbm, 100, rfl⟩
abbrev main_while0b_v62 : Ref sig .tc := ⟨.hbm, 101, rfl⟩
abbrev main_while0b_v63 : Ref sig .tc := ⟨.hbm, 102, rfl⟩
abbrev main_while0b_v64 : Ref sig .tc := ⟨.hbm, 103, rfl⟩
abbrev main_while0b_v65 : Ref sig .tc := ⟨.hbm, 104, rfl⟩
abbrev main_while0b_cst_15 : Ref sig .tc := ⟨.hbm, 105, rfl⟩
abbrev main_while0b_v66 : Ref sig .tc := ⟨.hbm, 106, rfl⟩
abbrev main_while0b_v67 : Ref sig .tc := ⟨.hbm, 107, rfl⟩
abbrev main_while0b_v68 : Ref sig .tc := ⟨.hbm, 108, rfl⟩
abbrev main_while0b_v69 : Ref sig .tc := ⟨.hbm, 109, rfl⟩
abbrev main_while0b_v70 : Ref sig .tc := ⟨.hbm, 110, rfl⟩
abbrev main_while0b_v71 : Ref sig .tc := ⟨.hbm, 111, rfl⟩
abbrev main_while0b_v72 : Ref sig .tc := ⟨.hbm, 112, rfl⟩
abbrev main_while0b_v73 : Ref sig .tc := ⟨.hbm, 113, rfl⟩
abbrev main_while0b_v74 : Ref sig .tc := ⟨.hbm, 114, rfl⟩
abbrev main_while0b_v75 : Ref sig .tc := ⟨.hbm, 115, rfl⟩
abbrev main_while0b_v76 : Ref sig .tc := ⟨.hbm, 116, rfl⟩
abbrev main_while0b_v77 : Ref sig .tc := ⟨.hbm, 117, rfl⟩
abbrev main_while0b_v78 : Ref sig .tc := ⟨.hbm, 118, rfl⟩
abbrev main_while0b_v79 : Ref sig .tc := ⟨.hbm, 119, rfl⟩
abbrev main_while0b_v80 : Ref sig .tc := ⟨.hbm, 120, rfl⟩
abbrev main_while0b_v81 : Ref sig .tc := ⟨.hbm, 121, rfl⟩
abbrev main_while0b_v82 : Ref sig .tc := ⟨.hbm, 122, rfl⟩
abbrev main_while0b_call7_v0 : Ref sig .tc := ⟨.hbm, 123, rfl⟩
abbrev main_while0b_call7_c : Ref sig .tc := ⟨.hbm, 124, rfl⟩
abbrev main_while0b_call7_c_0 : Ref sig .tc := ⟨.hbm, 125, rfl⟩
abbrev main_while0b_call7_c_1 : Ref sig .tc := ⟨.hbm, 126, rfl⟩
abbrev main_while0b_call7_c_2 : Ref sig .tc := ⟨.hbm, 127, rfl⟩
abbrev main_while0b_v83 : Ref sig .tc := ⟨.hbm, 128, rfl⟩
abbrev main_while0b_c_16 : Ref sig .tc := ⟨.hbm, 129, rfl⟩
abbrev main_while0b_v84 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_cst_4 : Ref sig .tc := ⟨.hbm, 134, rfl⟩
abbrev main_v29 : Ref sig .tc := ⟨.hbm, 135, rfl⟩
abbrev main_v30 : Ref sig .tc := ⟨.hbm, 136, rfl⟩
abbrev main_cst_5 : Ref sig .tc := ⟨.hbm, 137, rfl⟩
abbrev main_v31 : Ref sig .tc := ⟨.hbm, 138, rfl⟩
abbrev main_v32 : Ref sig .tc := ⟨.hbm, 139, rfl⟩
abbrev main_cst_6 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_call8_v0 : Ref sig .tc := ⟨.hbm, 152, rfl⟩
abbrev main_call8_v1 : Ref sig .tc := ⟨.hbm, 153, rfl⟩
abbrev main_call8_cst : Ref sig .tc := ⟨.hbm, 154, rfl⟩
abbrev main_call8_v2 : Ref sig .tc := ⟨.hbm, 155, rfl⟩
abbrev main_call8_v3 : Ref sig .tc := ⟨.hbm, 156, rfl⟩
abbrev main_call8_cst_0 : Ref sig .tc := ⟨.hbm, 157, rfl⟩
abbrev main_call8_v4 : Ref sig .tc := ⟨.hbm, 158, rfl⟩
abbrev main_call8_v5 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16384x1024 : Shape := ⟨2, ![16384, 1024]⟩
abbrev S16384x256 : Shape := ⟨2, ![16384, 256]⟩
abbrev S16384x512 : Shape := ⟨2, ![16384, 512]⟩
abbrev S8x16384x64 : Shape := ⟨3, ![8, 16384, 64]⟩
abbrev S16x16 : Shape := ⟨2, ![16, 16]⟩
abbrev S256x512 : Shape := ⟨2, ![256, 512]⟩
abbrev S512 : Shape := ⟨1, ![512]⟩
abbrev S1024x1024 : Shape := ⟨2, ![1024, 1024]⟩
abbrev S1x256 : Shape := ⟨2, ![1, 256]⟩
abbrev S1x512 : Shape := ⟨2, ![1, 512]⟩
abbrev S512x1024 : Shape := ⟨2, ![512, 1024]⟩
abbrev S512x256 : Shape := ⟨2, ![512, 256]⟩
abbrev S512x512 : Shape := ⟨2, ![512, 512]⟩
abbrev S8x512x64 : Shape := ⟨3, ![8, 512, 64]⟩
abbrev S256x1024 : Shape := ⟨2, ![256, 1024]⟩
abbrev S1x512x64 : Shape := ⟨3, ![1, 512, 64]⟩
abbrev S512x64 : Shape := ⟨2, ![512, 64]⟩
abbrev S64x1024 : Shape := ⟨2, ![64, 1024]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x512, .f32⟩
  | .hbm, ⟨4, _⟩ => ⟨S8x16384x64, .bf16⟩
  | .hbm, ⟨5, _⟩ => ⟨S16x16, .f32⟩
  | .hbm, ⟨6, _⟩ => ⟨S256x512, .f32⟩
  | .hbm, ⟨7, _⟩ => ⟨S512, .f32⟩
  | .hbm, ⟨8, _⟩ => ⟨S1024x1024, .f32⟩
  | .hbm, ⟨9, _⟩ => ⟨S1x256, .f32⟩
  | .hbm, ⟨10, _⟩ => ⟨S256x512, .bf16⟩
  | .hbm, ⟨11, _⟩ => ⟨S1x512, .f32⟩
  | .hbm, ⟨12, _⟩ => ⟨S1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S1x256, .f32⟩
  | .local _ .vmem, ⟨9, _⟩ => ⟨S256x512, .bf16⟩
  | .local _ .vmem, ⟨10, _⟩ => ⟨S1x512, .f32⟩
  | .local _ .vmem, ⟨11, _⟩ => ⟨S8x512x64, .bf16⟩
  | .local _ .vmem, ⟨12, _⟩ => ⟨S8x512x64, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S16384x256 : Shape := ⟨2, ![16384, 256]⟩
abbrev S16384x512 : Shape := ⟨2, ![16384, 512]⟩
abbrev S8x16384x64 : Shape := ⟨3, ![8, 16384, 64]⟩
abbrev S16x16 : Shape := ⟨2, ![16, 16]⟩
abbrev S256x512 : Shape := ⟨2, ![256, 512]⟩
abbrev S512 : Shape := ⟨1, ![512]⟩
abbrev S1024x1024 : Shape := ⟨2, ![1024, 1024]⟩
abbrev S16384x16x16 : Shape := ⟨3, ![16384, 16, 16]⟩
abbrev S1x16x16 : Shape := ⟨3, ![1, 16, 16]⟩
abbrev S_ : Shape := ⟨0, ![]⟩
abbrev S1x512 : Shape := ⟨2, ![1, 512]⟩
abbrev S16384x8x64 : Shape := ⟨3, ![16384, 8, 64]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x512, .f32⟩
  | .hbm, ⟨4, _⟩ => ⟨S8x16384x64, .bf16⟩
  | .hbm, ⟨5, _⟩ => ⟨S16x16, .f32⟩
  | .hbm, ⟨6, _⟩ => ⟨S256x512, .f32⟩
  | .hbm, ⟨7, _⟩ => ⟨S512, .f32⟩
  | .hbm, ⟨8, _⟩ => ⟨S1024x1024, .f32⟩
  | .hbm, ⟨9, _⟩ => ⟨S16384x256, .f32⟩
  | .hbm, ⟨10, _⟩ => ⟨S16384x256, .f32⟩
  | .hbm, ⟨11, _⟩ => ⟨S16384x16x16, .f32⟩
  | .hbm, ⟨12, _⟩ => ⟨S16384x16x16, .f32⟩
  | .hbm, ⟨13, _⟩ => ⟨S1x16x16, .f32⟩
  | .hbm, ⟨14, _⟩ => ⟨S16384x16x16, .f32⟩
  | .hbm, ⟨15, _⟩ => ⟨S16384x16x16, .f32⟩
  | .hbm, ⟨16, _⟩ => ⟨S16384x16x16, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S_, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S_, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S_, .f32⟩
  | .hbm, ⟨29, _⟩ => ⟨S16384x256, .f32⟩
  | .hbm, ⟨30, _⟩ => ⟨S16384x256, .f32⟩
  | .hbm, ⟨31, _⟩ => ⟨S_, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x512, .f32⟩
  | .hbm, ⟨36, _⟩ => ⟨S1x512, .f32⟩
  | .hbm, ⟨37, _⟩ => ⟨S16384x512, .f32⟩
  | .hbm, ⟨38, _⟩ => ⟨S16384x512, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S_, .f32⟩
  | .hbm, ⟨44, _⟩ => ⟨S16384x256, .f32⟩
  | .hbm, ⟨45, _⟩ => ⟨S16384x256, .f32⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S_, .f32⟩
  | .hbm, ⟨53, _⟩ => ⟨S16384x256, .f32⟩
  | .hbm, ⟨54, _⟩ => ⟨S16384x256, .f32⟩
  | .hbm, ⟨55, _⟩ => ⟨S_, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S8x16384x64, .f32⟩
  | .hbm, ⟨61, _⟩ => ⟨S16384x8x64, .f32⟩
  | .hbm, ⟨62, _⟩ => ⟨S16384x512, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3112 : Shape := ⟨2, ![1024, 3112]⟩
abbrev S64 : Shape := ⟨1, ![64]⟩
abbrev S3x64 : Shape := ⟨2, ![3, 64]⟩
abbrev S24 : Shape := ⟨1, ![24]⟩
abbrev S128x128 : Shape := ⟨2, ![128, 128]⟩
abbrev S1x1024 : Shape := ⟨2, ![1, 1024]⟩
abbrev S1024x128 : Shape := ⟨2, ![1024, 128]⟩
abbrev S1024x256 : Shape := ⟨2, ![1024, 256]⟩
abbrev S1024x16 : Shape := ⟨2, ![1024, 16]⟩
abbrev S1024x512 : Shape := ⟨2, ![1024, 512]⟩
abbrev S1024x768 : Shape := ⟨2, ![1024, 768]⟩
abbrev S1024x24 : Shape := ⟨2, ![1024, 24]⟩
abbrev S_ : Shape := ⟨0, ![]⟩
abbrev S1024x3328 : Shape := ⟨2, ![1024, 3328]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x3x1x64 : Shape := ⟨4, ![1, 3, 1, 64]⟩
abbrev S1x3x2x64 : Shape := ⟨4, ![1, 3, 2, 64]⟩
abbrev S3x128 : Shape := ⟨2, ![3, 128]⟩
abbrev S3x1x128 : Shape := ⟨3, ![3, 1, 128]⟩
abbrev S128 : Shape := ⟨1, ![128]⟩
abbrev S1x128 : Shape := ⟨2, ![1, 128]⟩
abbrev S512x512 : Shape := ⟨2, ![512, 512]⟩
abbrev S16384x896 : Shape := ⟨2, ![16384, 896]⟩
abbrev S16384x512 : Shape := ⟨2, ![16384, 512]⟩
abbrev S16384x256 : Shape := ⟨2, ![16384, 256]⟩
abbrev S8x16384x64 : Shape := ⟨3, ![8, 16384, 64]⟩
abbrev S16384x128 : Shape := ⟨2, ![16384, 128]⟩
abbrev S2x16384x256 : Shape := ⟨3, ![2, 16384, 256]⟩
abbrev S2x16384x128 : Shape := ⟨3, ![2, 16384, 128]⟩
abbrev S2x16384x64 : Shape := ⟨3, ![2, 16384, 64]⟩
abbrev S512x1024 : Shape := ⟨2, ![512, 1024]⟩
abbrev S512x896 : Shape := ⟨2, ![512, 896]⟩
abbrev S512x256 : Shape := ⟨2, ![512, 256]⟩
abbrev S8x512x64 : Shape := ⟨3, ![8, 512, 64]⟩
abbrev S512x128 : Shape := ⟨2, ![512, 128]⟩
abbrev S2x512x256 : Shape := ⟨3, ![2, 512, 256]⟩
abbrev S2x512x128 : Shape := ⟨3, ![2, 512, 128]⟩
abbrev S2x512x64 : Shape := ⟨3, ![2, 512, 64]⟩
abbrev S512x1 : Shape := ⟨2, ![512, 1]⟩
abbrev S1024x896 : Shape := ⟨2, ![1024, 896]⟩
abbrev S1024x1920 : Shape := ⟨2, ![1024, 1920]⟩
abbrev S512x1920 : Shape := ⟨2, ![512, 1920]⟩
abbrev S512x64 : Shape := ⟨2, ![512, 64]⟩
abbrev S1x512x64 : Shape := ⟨3, ![1, 512, 64]⟩
abbrev S512x768 : Shape := ⟨2, ![512, 768]⟩
abbrev S1x1x128 : Shape := ⟨3, ![1, 1, 128]⟩
abbrev S1x512x256 : Shape := ⟨3, ![1, 512, 256]⟩
abbrev S1x512x128 : Shape := ⟨3, ![1, 512, 128]⟩

abbrev nBuf : Space → Nat
  | .hbm => 65
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3112, .f32⟩
  | .hbm, ⟨3, _⟩ => ⟨S64, .f32⟩
  | .hbm, ⟨4, _⟩ => ⟨S3x64, .f32⟩
  | .hbm, ⟨5, _⟩ => ⟨S24, .f32⟩
  | .hbm, ⟨6, _⟩ => ⟨S128x128, .bf16⟩
  | .hbm, ⟨7, _⟩ => ⟨S1x1024, .f32⟩
  | .hbm, ⟨8, _⟩ => ⟨S1024x128, .f32⟩
  | .hbm, ⟨9, _⟩ => ⟨S1024x128, .f32⟩
  | .hbm, ⟨10, _⟩ => ⟨S1024x256, .f32⟩
  | .hbm, ⟨11, _⟩ => ⟨S1024x16, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x512, .f32⟩
  | .hbm, ⟨16, _⟩ => ⟨S1024x768, .f32⟩
  | .hbm, ⟨17, _⟩ => ⟨S1024x24, .f32⟩
  | .hbm, ⟨18, _⟩ => ⟨S1024x512, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x3328, .f32⟩
  | .hbm, ⟨26, _⟩ => ⟨S1024x3328, .bf16⟩
  | .hbm, ⟨27, _⟩ => ⟨S1x64, .f32⟩
  | .hbm, ⟨28, _⟩ => ⟨S8x64, .f32⟩
  | .hbm, ⟨29, _⟩ => ⟨S512, .f32⟩
  | .hbm, ⟨30, _⟩ => ⟨S1x512, .f32⟩
  | .hbm, ⟨31, _⟩ => ⟨S1x3x1x64, .f32⟩
  | .hbm, ⟨32, _⟩ => ⟨S1x3x2x64, .f32⟩
  | .hbm, ⟨33, _⟩ => ⟨S3x128, .f32⟩
  | .hbm, ⟨34, _⟩ => ⟨S3x1x128, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S512x512, .i32⟩
  | .hbm, ⟨40, _⟩ => ⟨S512x512, .i32⟩
  | .hbm, ⟨41, _⟩ => ⟨S_, .i32⟩
  | .hbm, ⟨42, _⟩ => ⟨S512x512, .i32⟩
  | .hbm, ⟨43, _⟩ => ⟨S512x512, .i32⟩
  | .hbm, ⟨44, _⟩ => ⟨S_, .i32⟩
  | .hbm, ⟨45, _⟩ => ⟨S512x512, .i32⟩
  | .hbm, ⟨46, _⟩ => ⟨S512x512, .i32⟩
  | .hbm, ⟨47, _⟩ => ⟨S512x512, .i1⟩
  | .hbm, ⟨48, _⟩ => ⟨S512x512, .f32⟩
  | .hbm, ⟨49, _⟩ => ⟨S_, .f32⟩
  | .hbm, ⟨50, _⟩ => ⟨S512x512, .f32⟩
  | .hbm, ⟨51, _⟩ => ⟨S512x512, .f32⟩
  | .hbm, ⟨52, _⟩ => ⟨S512x512, .bf16⟩
  | .hbm, ⟨53, _⟩ => ⟨S16384x896, .f32⟩
  | .hbm, ⟨54, _⟩ => ⟨S16384x512, .f32⟩
  | .hbm, ⟨55, _⟩ => ⟨S16384x256, .bf16⟩
  | .hbm, ⟨56, _⟩ => ⟨S8x16384x64, .bf16⟩
  | .hbm, ⟨57, _⟩ => ⟨S16384x128, .f32⟩
  | .hbm, ⟨58, _⟩ => ⟨S16384x128, .f32⟩
  | .hbm, ⟨59, _⟩ => ⟨S2x16384x256, .bf16⟩
  | .hbm, ⟨60, _⟩ => ⟨S2x16384x128, .bf16⟩
  | .hbm, ⟨61, _⟩ => ⟨S2x16384x64, .bf16⟩
  | .hbm, ⟨62, _⟩ => ⟨S2x16384x128, .bf16⟩
  | .hbm, ⟨63, _⟩ => ⟨S2x16384x128, .f32⟩
  | .hbm, ⟨64, _⟩ => ⟨S8x16384x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S1x512, .f32⟩
  | .local _ .vmem, ⟨5, _⟩ => ⟨S3x1x128, .f32⟩
  | .local _ .vmem, ⟨6, _⟩ => ⟨S1x128, .f32⟩
  | .local _ .vmem, ⟨7, _⟩ => ⟨S512x512, .bf16⟩
  | .local _ .vmem, ⟨8, _⟩ => ⟨S128x128, .bf16⟩
  | .local _ .vmem, ⟨9, _⟩ => ⟨S512x896, .f32⟩
  | .local _ .vmem, ⟨10, _⟩ => ⟨S512x896, .f32⟩
  | .local _ .vmem, ⟨11, _⟩ => ⟨S512x512, .f32⟩
  | .local _ .vmem, ⟨12, _⟩ => ⟨S512x512, .f32⟩
  | .local _ .vmem, ⟨13, _⟩ => ⟨S512x256, .bf16⟩
  | .local _ .vmem, ⟨14, _⟩ => ⟨S512x256, .bf16⟩
  | .local _ .vmem, ⟨15, _⟩ => ⟨S8x512x64, .bf16⟩
  | .local _ .vmem, ⟨16, _⟩ => ⟨S8x512x64, .bf16⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S2x512x256, .bf16⟩
  | .local _ .vmem, ⟨22, _⟩ => ⟨S2x512x256, .bf16⟩
  | .local _ .vmem, ⟨23, _⟩ => ⟨S2x512x128, .bf16⟩
  | .local _ .vmem, ⟨24, _⟩ => ⟨S2x512x128, .bf16⟩
  | .local _ .vmem, ⟨25, _⟩ => ⟨S2x512x64, .bf16⟩
  | .local _ .vmem, ⟨26, _⟩ => ⟨S2x512x64, .bf16⟩
  | .local _ .vmem, ⟨27, _⟩ => ⟨S2x512x128, .bf16⟩
  | .local _ .vmem, ⟨28, _⟩ => ⟨S2x512x128, .bf16⟩
  | .local _ .vmem, ⟨29, _⟩ => ⟨S2x512x128, .f32⟩
  | .local _ .vmem, ⟨30, _⟩ => ⟨S2x512x128, .f32⟩
  | .local _ .vmem, ⟨31, _⟩ => ⟨S8x512x64, .f32⟩
  | .local _ .vmem, ⟨32, _⟩ => ⟨S8x512x64, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_c_0 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_call2_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev main_v37_3 : Ref sig .tc := ⟨.hbm, 56, rfl⟩
abbrev main_v37_4 : Ref sig .tc := ⟨.hbm, 57, rfl⟩
abbrev main_v37_5 : Ref sig .tc := ⟨.hbm, 58, rfl⟩
abbrev main_v37_6 : Ref sig .tc := ⟨.hbm, 59, rfl⟩
abbrev main_v37_7 : Ref sig .tc := ⟨.hbm, 60, rfl⟩
abbrev main_v37_8 : Ref sig .tc := ⟨.hbm, 61, rfl⟩
abbrev main_v37_9 : Ref sig .tc := ⟨.hbm, 62, rfl⟩
abbrev main_v37_10 : Ref sig .tc := ⟨.hbm, 63, rfl⟩
abbrev main_v37_11 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S16384x1024 : Shape := ⟨2, ![16384, 1024]⟩
abbrev S1024 : Shape := ⟨1, ![1024]⟩
abbrev S1024x3112 : Shape := ⟨2, ![1024, 3112]⟩
abbrev S64 : Shape := ⟨1, ![64]⟩
abbrev S3x64 : Shape := ⟨2, ![3, 64]⟩
abbrev S24 : Shape := ⟨1, ![24]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3112 : Shape := ⟨2, ![16384, 3112]⟩
abbrev S16384x128 : Shape := ⟨2, ![16384, 128]⟩
abbrev S16384x256 : Shape := ⟨2, ![16384, 256]⟩
abbrev S16384x16 : Shape := ⟨2, ![16384, 16]⟩
abbrev S16384x512 : Shape := ⟨2, ![16384, 512]⟩
abbrev S16384x768 : Shape := ⟨2, ![16384, 768]⟩
abbrev S16384x24 : Shape := ⟨2, ![16384, 24]⟩
abbrev S16384x112 : Shape := ⟨2, ![16384, 112]⟩
abbrev S16384x896 : Shape := ⟨2, ![16384, 896]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x3x2x2x64 : Shape := ⟨5, ![16384, 3, 2, 2, 64]⟩
abbrev S16384x1x1x2x64 : Shape := ⟨5, ![16384, 1, 1, 2, 64]⟩
abbrev S16384x2x64 : Shape := ⟨3, ![16384, 2, 64]⟩
abbrev S1x64 : Shape := ⟨2, ![1, 64]⟩
abbrev S16384x2 : Shape := ⟨2, ![16384, 2]⟩
abbrev S16384x2x1 : Shape := ⟨3, ![16384, 2, 1]⟩
abbrev S2x16384x64 : Shape := ⟨3, ![2, 16384, 64]⟩
abbrev S1x128 : Shape := ⟨2, ![1, 128]⟩
abbrev S1x16384x128 : Shape := ⟨3, ![1, 16384, 128]⟩
abbrev S2x16384x128 : Shape := ⟨3, ![2, 16384, 128]⟩
abbrev S2x16384x256 : Shape := ⟨3, ![2, 16384, 256]⟩
abbrev S1x24 : Shape := ⟨2, ![1, 24]⟩
abbrev S16384x104 : Shape := ⟨2, ![16384, 104]⟩
abbrev S16384x116 : Shape := ⟨2, ![16384, 116]⟩
abbrev S16384x12 : Shape := ⟨2, ![16384, 12]⟩
abbrev S8x16384x64 : Shape := ⟨3, ![8, 16384, 64]⟩

abbrev nBuf : Space → Nat
  | .hbm => 207
  | .vmem => 0
  | .smem => 0
  | _ => 0

abbrev hbmTy0_0 (i : Nat) : BufTy := match i % 128 with
  | 0 => ⟨S16384x1024, .f32⟩
  | 1 => ⟨S1024, .f32⟩
  | 2 => ⟨S1024x3112, .f32⟩
  | 3 => ⟨S64, .f32⟩
  | 4 => ⟨S3x64, .f32⟩
  | 5 => ⟨S24, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x3112, .f32⟩
  | 23 => ⟨S16384x128, .f32⟩
  | 24 => ⟨S16384x128, .f32⟩
  | 25 => ⟨S16384x256, .f32⟩
  | 26 => ⟨S16384x16, .f32⟩
  | 27 => ⟨S16384x256, .f32⟩
  | 28 => ⟨S16384x256, .f32⟩
  | 29 => ⟨S16384x256, .f32⟩
  | 30 => ⟨S16384x512, .f32⟩
  | 31 => ⟨S16384x768, .f32⟩
  | 32 => ⟨S16384x24, .f32⟩
  | 33 => ⟨S16384x512, .f32⟩
  | 34 => ⟨S_, .f32⟩
  | 35 => ⟨S16384x112, .f32⟩
  | 36 => ⟨S16384x896, .f32⟩
  | 37 => ⟨S16384x512, .f32⟩
  | 38 => ⟨S16384x8x64, .f32⟩
  | 39 => ⟨S16384x8x64, .f32⟩
  | 40 => ⟨S_, .f32⟩
  | 41 => ⟨S16384x8, .f32⟩
  | 42 => ⟨S16384x8x1, .f32⟩
  | 43 => ⟨S_, .f32⟩
  | 44 => ⟨S16384x8x1, .f32⟩
  | 45 => ⟨S16384x8x1, .f32⟩
  | 46 => ⟨S_, .f32⟩
  | 47 => ⟨S16384x8x1, .f32⟩
  | 48 => ⟨S16384x8x1, .f32⟩
  | 49 => ⟨S16384x8x1, .f32⟩
  | 50 => ⟨S16384x8x64, .f32⟩
  | 51 => ⟨S16384x8x64, .f32⟩
  | 52 => ⟨S1x1x64, .f32⟩
  | 53 => ⟨S16384x8x64, .f32⟩
  | 54 => ⟨S16384x8x64, .f32⟩
  | 55 => ⟨S_, .f32⟩
  | 56 => ⟨S16384x8x64, .f32⟩
  | 57 => ⟨S16384x8x64, .f32⟩
  | 58 => ⟨S16384x3x2x2x64, .f32⟩
  | 59 => ⟨S16384x1x1x2x64, .f32⟩
  | 60 => ⟨S16384x2x64, .f32⟩
  | 61 => ⟨S1x64, .f32⟩
  | 62 => ⟨S64, .f32⟩
  | 63 => ⟨S16384x2x64, .f32⟩
  | 64 => ⟨S_, .f32⟩
  | 65 => ⟨S16384x2, .f32⟩
  | 66 => ⟨S16384x2x1, .f32⟩
  | 67 => ⟨S_, .f32⟩
  | 68 => ⟨S16384x2x1, .f32⟩
  | 69 => ⟨S16384x2x1, .f32⟩
  | 70 => ⟨S_, .f32⟩
  | 71 => ⟨S16384x2x1, .f32⟩
  | 72 => ⟨S16384x2x1, .f32⟩
  | 73 => ⟨S16384x2x1, .f32⟩
  | 74 => ⟨S16384x2x64, .f32⟩
  | 75 => ⟨S16384x2x64, .f32⟩
  | 76 => ⟨S1x1x64, .f32⟩
  | 77 => ⟨S16384x2x64, .f32⟩
  | 78 => ⟨S16384x2x64, .f32⟩
  | 79 => ⟨S2x16384x64, .f32⟩
  | 80 => ⟨S16384x1x1x2x64, .f32⟩
  | 81 => ⟨S16384x2x64, .f32⟩
  | 82 => ⟨S2x16384x64, .f32⟩
  | 83 => ⟨S16384x1x1x2x64, .f32⟩
  | 84 => ⟨S16384x2x64, .f32⟩
  | 85 => ⟨S1x64, .f32⟩
  | 86 => ⟨S64, .f32⟩
  | 87 => ⟨S16384x2x64, .f32⟩
  | 88 => ⟨S_, .f32⟩
  | 89 => ⟨S16384x2, .f32⟩
  | 90 => ⟨S16384x2x1, .f32⟩
  | 91 => ⟨S_, .f32⟩
  | 92 => ⟨S16384x2x1, .f32⟩
  | 93 => ⟨S16384x2x1, .f32⟩
  | 94 => ⟨S_, .f32⟩
  | 95 => ⟨S16384x2x1, .f32⟩
  | 96 => ⟨S16384x2x1, .f32⟩
  | 97 => ⟨S16384x2x1, .f32⟩
  | 98 => ⟨S16384x2x64, .f32⟩
  | 99 => ⟨S16384x2x64, .f32⟩
  | 100 => ⟨S1x1x64, .f32⟩
  | 101 => ⟨S16384x2x64, .f32⟩
  | 102 => ⟨S16384x2x64, .f32⟩
  | 103 => ⟨S2x16384x64, .f32⟩
  | 104 => ⟨S16384x1x1x2x64, .f32⟩
  | 105 => ⟨S16384x2x64, .f32⟩
  | 106 => ⟨S2x16384x64, .f32⟩
  | 107 => ⟨S16384, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S16384, .i32⟩
  | 115 => ⟨S16384, .i32⟩
  | 116 => ⟨S_, .i32⟩
  | 117 => ⟨S16384, .i32⟩
  | 118 => ⟨S16384, .i1⟩
  | 119 => ⟨S_, .i32⟩
  | 120 => ⟨S16384, .i32⟩
  | 121 => ⟨S16384, .i1⟩
  | 122 => ⟨S_, .i32⟩
  | 123 => ⟨S_, .i1⟩
  | 124 => ⟨S16384, .i1⟩
  | 125 => ⟨S16384, .i1⟩
  | 126 => ⟨S16384, .i1⟩
  | 127 => ⟨S16384, .i32⟩
  | _ => ⟨S16384x1024, .f32⟩

abbrev hbmTy0_1 (i : Nat) : BufTy := match i % 128 with
  | 0 => ⟨S16384, .i32⟩
  | 1 => ⟨S16384, .i32⟩
  | 2 => ⟨S_, .i32⟩
  | 3 => ⟨S_, .i32⟩
  | 4 => ⟨S16384, .i32⟩
  | 5 => ⟨S16384, .i32⟩
  | 6 => ⟨S16384, .i32⟩
  | 7 => ⟨S_, .i32⟩
  | 8 => ⟨S16384, .i32⟩
  | 9 => ⟨S16384, .i1⟩
  | 10 => ⟨S16384, .i32⟩
  | 11 => ⟨S16384, .i32⟩
  | 12 => ⟨S_, .i32⟩
  | 13 => ⟨S16384, .i32⟩
  | 14 => ⟨S16384, .i1⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1x128, .i32⟩
  | 22 => ⟨S16384x128, .i32⟩
  | 23 => ⟨S16384x128, .i32⟩
  | 24 => ⟨S16384x128, .i1⟩
  | 25 => ⟨S16384x128, .f32⟩
  | 26 => ⟨S1x16384x128, .f32⟩
  | 27 => ⟨S2x16384x128, .f32⟩
  | 28 => ⟨S_, .f32⟩
  | 29 => ⟨S2x16384x64, .f32⟩
  | 30 => ⟨S_, .f32⟩
  | 31 => ⟨S2x16384x64, .f32⟩
  | 32 => ⟨S2x16384x256, .f32⟩
  | 33 => ⟨S2x16384x128, .f32⟩
  | 34 => ⟨S2x16384x128, .f32⟩
  | 35 => ⟨S1x24, .f32⟩
  | 36 => ⟨S16384x24, .f32⟩
  | 37 => ⟨S16384x24, .f32⟩
  | 38 => ⟨S_, .f32⟩
  | 39 => ⟨S16384x104, .f32⟩
  | 40 => ⟨S16384x128, .f32⟩
  | 41 => ⟨S16384x128, .f32⟩
  | 42 => ⟨S16384x128, .f32⟩
  | 43 => ⟨S_, .f32⟩
  | 44 => ⟨S16384x128, .f32⟩
  | 45 => ⟨S16384x128, .f32⟩
  | 46 => ⟨S_, .f32⟩
  | 47 => ⟨S16384x128, .f32⟩
  | 48 => ⟨S16384x128, .f32⟩
  | 49 => ⟨S16384x116, .f32⟩
  | 50 => ⟨S16384x12, .f32⟩
  | 51 => ⟨S16384x128, .f32⟩
  | 52 => ⟨S1x16384x128, .f32⟩
  | 53 => ⟨S1x16384x128, .f32⟩
  | 54 => ⟨S2x16384x128, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S16384x512, .f32⟩
  | 64 => ⟨S16384x8x64, .f32⟩
  | 65 => ⟨S8x16384x64, .f32⟩
  | 66 => ⟨S16384x256, .bf16⟩
  | 67 => ⟨S8x16384x64, .f32⟩
  | 68 => ⟨S8x16384x64, .bf16⟩
  | 69 => ⟨S16384x1x1x2x64, .f32⟩
  | 70 => ⟨S16384x2x64, .f32⟩
  | 71 => ⟨S16384x128, .f32⟩
  | 72 => ⟨S16384x1x1x2x64, .f32⟩
  | 73 => ⟨S16384x2x64, .f32⟩
  | 74 => ⟨S16384x128, .f32⟩
  | 75 => ⟨S2x16384x256, .bf16⟩
  | 76 => ⟨S2x16384x128, .bf16⟩
  | 77 => ⟨S2x16384x64, .bf16⟩
  | 78 => ⟨S2x16384x128, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_10 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c : Ref sig .tc := ⟨.hbm, 108, rfl⟩
abbrev main_call0_v0 : Ref sig .tc := ⟨.hbm, 109, rfl⟩
abbrev main_call0_c : Ref sig .tc := ⟨.hbm, 110, rfl⟩
abbrev main_call0_v1 : Ref sig .tc := ⟨.hbm, 111, rfl⟩
abbrev main_call0_c_0 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_c_1 : Ref sig .tc := ⟨.hbm, 116, rfl⟩
abbrev main_call0_v5 : Ref sig .tc := ⟨.hbm, 117, rfl⟩
abbrev main_call0_v6 : Ref sig .tc := ⟨.hbm, 118, rfl⟩
abbrev main_call0_c_2 : Ref sig .tc := ⟨.hbm, 119, rfl⟩
abbrev main_call0_v7 : Ref sig .tc := ⟨.hbm, 120, rfl⟩
abbrev main_call0_v8 : Ref sig .tc := ⟨.hbm, 121, rfl⟩
abbrev main_call0_c_3 : Ref sig .tc := ⟨.hbm, 122, rfl⟩
abbrev main_call0_v9 : Ref sig .tc := ⟨.hbm, 123, rfl⟩
abbrev main_call0_v10 : Ref sig .tc := ⟨.hbm, 124, rfl⟩
abbrev main_call0_v11 : Ref sig .tc := ⟨.hbm, 125, rfl⟩
abbrev main_call0_v12 : Ref sig .tc := ⟨.hbm, 126, rfl⟩
abbrev main_call0_v13 : Ref sig .tc := ⟨.hbm, 127, rfl⟩
abbrev main_call0_v14 : Ref sig .tc := ⟨.hbm, 128, rfl⟩
abbrev main_v88 : Ref sig .tc := ⟨.hbm, 129, rfl⟩
abbrev main_c_13 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_call1_v5 : Ref sig .tc := ⟨.hbm, 136, rfl⟩
abbrev main_call1_v6 : Ref sig .tc := ⟨.hbm, 137, rfl⟩
abbrev main_call1_v7 : Ref sig .tc := ⟨.hbm, 138, rfl⟩
abbrev main_call1_v8 : Ref sig .tc := ⟨.hbm, 139, rfl⟩
abbrev main_call1_c : Ref sig .tc := ⟨.hbm, 140, rfl⟩
abbrev main_call1_v9 : Ref sig .tc := ⟨.hbm, 141, rfl⟩
abbrev main_call1_v10 : Ref sig .tc := ⟨.hbm, 142, rfl⟩
abbrev main_call1_v11 : Ref sig .tc := ⟨.hbm, 143, rfl⟩
abbrev main_call1_c_0 : Ref sig .tc := ⟨.hbm, 144, rfl⟩
abbrev main_call1_v12 : Ref sig .tc := ⟨.hbm, 145, rfl⟩
abbrev main_call1_v13 : Ref sig .tc := ⟨.hbm, 146, rfl⟩
abbrev main_v89 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_14 : Ref sig .tc := ⟨.hbm, 156, rfl⟩
abbrev main_v93 : Ref sig .tc := ⟨.hbm, 157, rfl⟩
abbrev main_cst_15 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_16 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_17 : Ref sig .tc := ⟨.hbm, 171, rfl⟩
abbrev main_v105 : Ref sig .tc := ⟨.hbm, 172, rfl⟩
abbrev main_v106 : Ref sig .tc := ⟨.hbm, 173, rfl⟩
abbrev main_cst_18 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_call3_v0 : Ref sig .tc := ⟨.hbm, 183, rfl⟩
abbrev main_call3_v1 : Ref sig .tc := ⟨.hbm, 184, rfl⟩
abbrev main_call3_cst : Ref sig .tc := ⟨.hbm, 185, rfl⟩
abbrev main_call3_v2 : Ref sig .tc := ⟨.hbm, 186, rfl⟩
abbrev main_call3_v3 : Ref sig .tc := ⟨.hbm, 187, rfl⟩
abbrev main_call3_cst_0 : Ref sig .tc := ⟨.hbm, 188, rfl⟩
abbrev main_call3_v4 : Ref sig .tc := ⟨.hbm, 189, rfl⟩
abbrev main_call3_v5 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩

abbrev nD : Nat := 1
abbrev τ : Topo := Topo.v7x

variable {F : FTy → Type} [FloatOps F]
-- ==== Proof.Finite.lean ====
module

public import proofs.«01_k».proof.Defs
public import proofs.«01_k».proof.Proof.Gen.KernelIdeal
public import proofs.«01_k».proof.Proof.Gen.ReferenceIdeal
public import Idealize.ShloMosaic.Lib.ReduceAll
public import Idealize.ShloMosaic.Lib.LayoutPointwise
public import Mathlib.Data.EReal.Basic

/-! What the precondition says at an index: the projections, the low-rank weight and its bias are reals. -/

@[expose] public section
set_option maxRecDepth 16384
noncomputable section

namespace Cert.Finite
open Cert.Pre_finite Idealize.ShloMosaic

theorem bits_top : Ideal.ofBits .f32 0x7F800000#32 = (⊤ : EReal) := by
  simp [Ideal.ofBits, Ideal.ieee]

theorem real_of_less (x : EReal) (h : Ideal.cmp .olt (max x (-x)) (Ideal.ofBits .f32 0x7F800000#32) = 1#1) :
    x = ((x.toReal : ℝ) : EReal) := by
  have h' : max x (-x) < ⊤ := by
    rw [bits_top] at h
    by_contra hn
    have : Ideal.cmp .olt (max x (-x)) (⊤ : EReal) = 0#1 := by
      simp [Ideal.cmp, hn]
    rw [this] at h
    exact absurd h (by decide)
  have h1 : x ≠ ⊤ := fun e => by rw [e] at h'; simp at h'
  have h2 : x ≠ ⊥ := fun e => by rw [e] at h'; simp at h'
  exact (EReal.coe_toReal h1 h2).symm

instance : Subsingleton S_.Idx := ⟨fun a b => funext fun i => i.elim0⟩

theorem both {x y : BitVec 1} (h : IntOp.andi x y = 1#1) : x = 1#1 ∧ y = 1#1 := by
  revert x y; decide

theorem facts : Cert.Pre_finite.Facts where
  bcast_S_S16384x896 := by decide
  reducesTo_S16384x896_S_d0_1 := by decide
  h_S_ := by decide
  bcast_S_S16x128 := by decide
  reducesTo_S16x128_S_d0_1 := by decide
  bcast_S_S128 := by decide
  reducesTo_S128_S_d0 := by decide

variable [Cert.Pre_finite.Facts]

theorem reals (a0 : S16384x896.Idx → EReal) (a1 : S16x128.Idx → EReal) (a2 : S128.Idx → EReal) (a3 : S64.Idx → EReal)
    (h : Cert.Pre_finite.fn (F := Ideal) a0 a1 a2 a3 = fun _ => 1#1) :
    (∀ i, a0 i = (((a0 i).toReal : ℝ) : EReal)) ∧ (∀ i, a1 i = (((a1 i).toReal : ℝ) : EReal)) ∧
      ∀ i, a2 i = (((a2 i).toReal : ℝ) : EReal) := by
  have h := congrFun h (fun i => i.elim0)
  dsimp only [Cert.Pre_finite.fn] at h
  obtain ⟨h', h2⟩ := both h
  obtain ⟨h0, h1⟩ := both h'
  exact ⟨fun i => real_of_less _ (Host.reduce_andi_all _ _ _ _ _ h0 i), fun i => real_of_less _ (Host.reduce_andi_all _ _ _ _ _ h1 i),
    fun i => real_of_less _ (Host.reduce_andi_all _ _ _ _ _ h2 i)⟩
end Cert.Finite
-- ==== Proof.TileDefs.lean ====
module

public import proofs.«01_k».proof.Proof.Gen.KernelIdeal.Skeleton
public import Idealize.ShloMosaic.Lib.Pointwise

/-! The values one grid point of the gated linear attention call computes from its blocks, named
one by one: the sections of the projected row, the attention table level by level, the chunk
state after each of the eight chunks of a block, and the normed and gated rows. -/

@[expose] public section
set_option maxRecDepth 16384
noncomputable section

namespace Cert.KernelIdeal.Tile
open Cert.KernelIdeal Cert.KernelIdeal.Gen Idealize.ShloMosaic Idealize.ShloMosaic.TcCoe

/-- Row numbers of a block. -/
abbrev rowI : IVec S256x128 32 := iota .tc S256x128 32 [0] iota_S256x128_d0_w32
/-- Lane numbers of a block. -/
abbrev laneI : IVec S256x128 32 := iota .tc S256x128 32 [1] iota_S256x128_d1_w32
/-- Column numbers of the attention table. -/
abbrev colI : IVec S1024x256 32 := iota .tc S1024x256 32 [1] iota_S1024x256_d1_w32
/-- Row numbers of the attention table within a head. -/
abbrev rowA : IVec S1024x256 32 := k0_pay8 (iota .tc S1024x256 32 [0] iota_S1024x256_d0_w32) 256#32

abbrev head0 : IVec S256x128 1 := k0_pay9 laneI
abbrev head1 : IVec S256x128 1 := k0_pay11 laneI 32#32 (k0_pay10 laneI) 0#32
abbrev head2 : IVec S256x128 1 := k0_pay15 (k0_pay12 laneI) (k0_pay13 laneI) (k0_pay14 laneI)
abbrev head3 : IVec S256x128 1 := k0_pay16 laneI

abbrev odd16 : IVec S256x128 1 := k0_pay18 rowI 16#32
abbrev odd8 : IVec S256x128 1 := k0_pay28 rowI 8#32 (k0_pay25 rowI) (k0_pay26 rowI) (k0_pay27 rowI)
abbrev odd4 : IVec S256x128 1 := k0_pay37 rowI 4#32 (k0_pay35 rowI) (k0_pay36 rowI)
abbrev odd2 : IVec S256x128 1 := k0_pay47 (k0_pay46 rowI)
abbrev odd1 : IVec S256x128 1 :=
  k0_pay57 2#32 (k0_pay55 rowI) (k0_pay56 rowI)
/-- Whether a state entry joins a value lane and a key lane of one head. -/
abbrev stMask : IVec S256x128 1 :=
  k0_pay85 (iota .tc S256x128 32 [1] iota_S256x128_d1_w32) k0_pay82 k0_pay83 k0_pay84

section
variable (x : FVec Ideal S256x896 .f32) (D : Vec Ideal S12x256x256 .bf16)
  (w : FVec Ideal S128x128 .bf16) (b : FVec Ideal S1x128 .f32) (st : FVec Ideal S256x128 .f32)

def tq : FVec Ideal S256x128 .f32 := k0_pay3 x
def tk : FVec Ideal S256x128 .f32 := k0_pay4 x
def tv : FVec Ideal S256x256 .f32 := k0_pay5 x
def tgate : FVec Ideal S256x256 .f32 := k0_pay6 x
/-- The log gates beside their (vanishing) remainders. -/
def tg : FVec Ideal S256x256 .bf16 := k0_pay7 x w b
def dm0 : FVec Ideal S1x256x256 .bf16 :=
  View.ld D (Rect.unit ![0, 0, 0] ![1, 256, 256] inb_S12x256x256_S1x256x256_0_0_0)
def dm1 : FVec Ideal S1x256x256 .bf16 :=
  View.ld D (Rect.unit ![1, 0, 0] ![1, 256, 256] inb_S12x256x256_S1x256x256_1_0_0)
def dm2 : FVec Ideal S1x256x256 .bf16 :=
  View.ld D (Rect.unit ![2, 0, 0] ![1, 256, 256] inb_S12x256x256_S1x256x256_2_0_0)
def dm3 : FVec Ideal S1x256x256 .bf16 :=
  View.ld D (Rect.unit ![3, 0, 0] ![1, 256, 256] inb_S12x256x256_S1x256x256_3_0_0)
def dm4 : FVec Ideal S1x256x256 .bf16 :=
  View.ld D (Rect.unit ![4, 0, 0] ![1, 256, 256] inb_S12x256x256_S1x256x256_4_0_0)
def dm5 : FVec Ideal S1x256x256 .bf16 :=
  View.ld D (Rect.unit ![5, 0, 0] ![1, 256, 256] inb_S12x256x256_S1x256x256_5_0_0)
def dm6 : FVec Ideal S1x256x256 .bf16 :=
  View.ld D (Rect.unit ![6, 0, 0] ![1, 256, 256] inb_S12x256x256_S1x256x256_6_0_0)
def dm7 : FVec Ideal S1x256x256 .bf16 :=
  View.ld D (Rect.unit ![7, 0, 0] ![1, 256, 256] inb_S12x256x256_S1x256x256_7_0_0)
def dm8 : FVec Ideal S1x256x256 .bf16 :=
  View.ld D (Rect.unit ![8, 0, 0] ![1, 256, 256] inb_S12x256x256_S1x256x256_8_0_0)
def dm9 : FVec Ideal S1x256x256 .bf16 :=
  View.ld D (Rect.unit ![9, 0, 0] ![1, 256, 256] inb_S12x256x256_S1x256x256_9_0_0)
def dm10 : FVec Ideal S1x256x256 .bf16 :=
  View.ld D (Rect.unit ![10, 0, 0] ![1, 256, 256] inb_S12x256x256_S1x256x256_10_0_0)
def dm11 : FVec Ideal S1x256x256 .bf16 :=
  View.ld D (Rect.unit ![11, 0, 0] ![1, 256, 256] inb_S12x256x256_S1x256x256_11_0_0)

def q16 : FVec Ideal S256x128 .f32 := k0_pay20 (tq x) (tg x w b) odd16 (k0_pay19 (dm2 D))
def k16 : FVec Ideal S256x128 .f32 := k0_pay21 (tk x) (tg x w b) odd16 (dm3 D)
def q8 : FVec Ideal S256x128 .f32 :=
  k0_pay29 (tq x) (tg x w b) rowI 8#32 (k0_pay25 rowI) (k0_pay26 rowI) (k0_pay27 rowI) (dm4 D)
def k8 : FVec Ideal S256x128 .f32 := k0_pay30 (tk x) (tg x w b) odd8 (dm5 D)
def q4 : FVec Ideal S256x128 .f32 :=
  k0_pay38 (tq x) (tg x w b) rowI 4#32 (k0_pay35 rowI) (k0_pay36 rowI) (dm6 D)
def k4 : FVec Ideal S256x128 .f32 := k0_pay40 (tk x) odd4 (k0_pay39 (tg x w b) (dm7 D))
def q2 : FVec Ideal S256x128 .f32 := k0_pay48 (tq x) (tg x w b) (k0_pay46 rowI) (dm8 D)
def k2 : FVec Ideal S256x128 .f32 := k0_pay49 (tk x) (tg x w b) (k0_pay46 rowI) (dm9 D)
def q1 : FVec Ideal S256x128 .f32 :=
  k0_pay58 (tq x) (tg x w b) 2#32 (k0_pay55 rowI)
    (k0_pay56 rowI) (dm10 D)
def k1 : FVec Ideal S256x128 .f32 :=
  k0_pay59 (tk x) (tg x w b) 2#32 (k0_pay55 rowI)
    (k0_pay56 rowI) (dm11 D)

def att0 : FVec Ideal S1024x256 .f32 :=
  k0_pay17 (tq x) (tk x) laneI rowA colI head0 head1 (k0_pay12 laneI) (k0_pay13 laneI)
    (k0_pay14 laneI)
def att16 : FVec Ideal S1024x256 .f32 :=
  k0_pay24 colI head0 head1 head2 head3 (att0 x) (q16 x D w b) (k16 x D w b) (k0_pay22 rowA) 32#32
    (k0_pay23 colI) 0#32
def att8 : FVec Ideal S1024x256 .f32 :=
  k0_pay34 colI head0 head1 head2 head3 (att16 x D w b) (q8 x D w b) (k8 x D w b) (k0_pay31 rowA)
    16#32 (k0_pay32 colI) (k0_pay33 colI) 1#1
def att4 : FVec Ideal S1024x256 .f32 :=
  k0_pay45 head0 head1 head2 head3 (att8 x D w b) (q4 x D w b) (k4 x D w b) (k0_pay41 rowA)
    (k0_pay42 colI) (k0_pay43 colI) (k0_pay44 colI) 0#32
def att2 : FVec Ideal S1024x256 .f32 :=
  k0_pay54 head0 head1 head2 head3 (att4 x D w b) (q2 x D w b) (k2 x D w b)
    (k0_pay52 rowA colI 4#32 (k0_pay50 rowA) k0_pay51) k0_pay53
abbrev same2 : IVec S1024x256 1 :=
  k0_pay62 rowA colI 2#32 (k0_pay60 rowA) (k0_pay61 rowA) 1#32
def att1 : FVec Ideal S1024x256 .bf16 :=
  k0_pay67 (att2 x D w b) (k1 x D w b) same2 (k0_pay63 head0 (q1 x D w b))
    (k0_pay64 head1 (q1 x D w b)) (k0_pay65 head2 (q1 x D w b)) (k0_pay66 head3 (q1 x D w b))

abbrev laneV : IVec S256x256 32 := iota .tc S256x256 32 [1] iota_S256x256_d1_w32
def in0 : FVec Ideal S256x256 .f32 :=
  k0_pay68 (tv x) (att2 x D w b) (k1 x D w b) same2 (k0_pay63 head0 (q1 x D w b))
    (k0_pay64 head1 (q1 x D w b)) (k0_pay65 head2 (q1 x D w b)) (k0_pay66 head3 (q1 x D w b))
def in1 : FVec Ideal S256x256 .f32 :=
  k0_pay71 (tv x) (att1 x D w b) laneV (in0 x D w b) 64#32 k0_pay69 k0_pay70
def in2 : FVec Ideal S256x256 .f32 :=
  k0_pay75 (tv x) (att1 x D w b) (in1 x D w b) (k0_pay72 laneV) (k0_pay73 laneV) (k0_pay74 laneV)
/-- The output of a block's rows from the keys and values of their own chunk. -/
def intra : FVec Ideal S256x256 .f32 :=
  k0_pay77 (in2 x D w b) (k0_pay76 (tv x) (att1 x D w b) laneV)

/-- The running log decay within a chunk. -/
def cum : FVec Ideal S256x128 .f32 := k0_pay78 (tg x w b) (dm0 D)
def qe : FVec Ideal S256x128 .bf16 := k0_pay79 (tq x) (tg x w b) (dm0 D)
def ke : FVec Ideal S256x128 .bf16 := k0_pay80 (tk x) (tg x w b) (dm1 D)
def vb : FVec Ideal S256x256 .bf16 := k0_pay81 (tv x)

/-- The state after the first chunk of the block, the second, and so on. -/
def s1 : FVec Ideal S256x128 .f32 :=
  k0_pay87 (cum x D w b) (ke x D w b) (vb x) laneI k0_pay82 k0_pay83 k0_pay84 st
def s2 : FVec Ideal S256x128 .f32 :=
  k0_pay90 (cum x D w b) stMask (s1 x D w b st) (k0_pay89 (ke x D w b) (vb x))
def s3 : FVec Ideal S256x128 .f32 :=
  k0_pay92 (cum x D w b) (ke x D w b) (vb x) stMask (s1 x D w b st) (k0_pay89 (ke x D w b) (vb x))
def s4 : FVec Ideal S256x128 .f32 :=
  k0_pay94 (cum x D w b) (ke x D w b) (vb x) stMask (s1 x D w b st) (k0_pay89 (ke x D w b) (vb x))
def s5 : FVec Ideal S256x128 .f32 :=
  k0_pay96 (cum x D w b) (ke x D w b) (vb x) stMask (s1 x D w b st) (k0_pay89 (ke x D w b) (vb x))
def s6 : FVec Ideal S256x128 .f32 :=
  k0_pay98 (cum x D w b) (ke x D w b) (vb x) stMask (s5 x D w b st)
def s7 : FVec Ideal S256x128 .f32 :=
  k0_pay99 (cum x D w b) (ke x D w b) (vb x) stMask (s5 x D w b st)
/-- The state a block leaves. -/
def s8 : FVec Ideal S256x128 .f32 :=
  k0_pay100 (cum x D w b) (ke x D w b) (vb x) stMask (s5 x D w b st)

/-- The output of the first chunk's rows from the state before it; then the second's, and so on. -/
def r0 : FVec Ideal S32x256 .f32 := k0_pay86 (qe x D w b) st
def r1 : FVec Ideal S32x256 .f32 :=
  k0_pay88 (cum x D w b) (qe x D w b) (ke x D w b) (vb x) laneI k0_pay82 k0_pay83 k0_pay84 st
def r2 : FVec Ideal S32x256 .f32 :=
  k0_pay91 (cum x D w b) (qe x D w b) stMask (s1 x D w b st) (k0_pay89 (ke x D w b) (vb x))
def r3 : FVec Ideal S32x256 .f32 :=
  k0_pay93 (cum x D w b) (qe x D w b) (ke x D w b) (vb x) stMask (s1 x D w b st)
    (k0_pay89 (ke x D w b) (vb x))
def r4 : FVec Ideal S32x256 .f32 :=
  k0_pay95 (cum x D w b) (qe x D w b) (ke x D w b) (vb x) stMask (s1 x D w b st)
    (k0_pay89 (ke x D w b) (vb x))
def r5 : FVec Ideal S32x256 .f32 :=
  k0_pay97 (cum x D w b) (qe x D w b) (ke x D w b) (vb x) stMask (s1 x D w b st)
    (k0_pay89 (ke x D w b) (vb x))
/-- A block's output rows before the norm. -/
def orow : FVec Ideal S256x256 .f32 :=
  k0_pay101 (intra x D w b) (cum x D w b) (qe x D w b) (ke x D w b) (vb x) stMask (r0 x D w b st)
    (r1 x D w b st) (r2 x D w b st) (r3 x D w b st) (r4 x D w b st) (s5 x D w b st) (r5 x D w b st)
/-- A block's output: the rows normed per head and gated. -/
def yrow (g : FVec Ideal S1x256 .f32) (a : FVec Ideal S256x256 .bf16) : FVec Ideal S256x256 .f32 :=
  k0_pay1 (tgate x) (orow x D w b st) a
    (k0_pay103 (intra x D w b) (cum x D w b) (qe x D w b) (ke x D w b) (vb x) stMask
      (r0 x D w b st) (r1 x D w b st) (r2 x D w b st) (r3 x D w b st) (r4 x D w b st)
      (s5 x D w b st) (r5 x D w b st))
    (k0_pay104 (intra x D w b) (cum x D w b) (qe x D w b) (ke x D w b) (vb x) stMask
      (r0 x D w b st) (r1 x D w b st) (r2 x D w b st) (r3 x D w b st) (r4 x D w b st)
      (s5 x D w b st) (r5 x D w b st)) g
end
end Cert.KernelIdeal.Tile
-- ==== Proof.TileMask.lean ====
module

public import proofs.«01_k».proof.Proof.TileDefs

/-! The masks of a block, read at an index; the attention levels and their scaled queries and
keys, each as one and the same function of its mask. -/

@[expose] public section
set_option maxRecDepth 16384
set_option maxHeartbeats 1000000
noncomputable section

namespace Cert.KernelIdeal.Tile
open Cert.KernelIdeal Cert.KernelIdeal.Gen Idealize.ShloMosaic Idealize.ShloMosaic.TcCoe

theorem head0_at (r : Fin 256) (c : Fin 128) :
    head0 (ix2 r c) = if c.val / 32 = 0 then 1#1 else 0#1 := by
  pointwise [head0, laneI, k0_pay9]
  clear r; revert c; decide +kernel
theorem head1_at (r : Fin 256) (c : Fin 128) :
    head1 (ix2 r c) = if c.val / 32 = 1 then 1#1 else 0#1 := by
  pointwise [head1, laneI, k0_pay11, k0_pay10]
  clear r; revert c; decide +kernel
theorem head2_at (r : Fin 256) (c : Fin 128) :
    head2 (ix2 r c) = if c.val / 32 = 2 then 1#1 else 0#1 := by
  pointwise [head2, laneI, k0_pay15, k0_pay12, k0_pay13, k0_pay14]
  clear r; revert c; decide +kernel
theorem head3_at (r : Fin 256) (c : Fin 128) :
    head3 (ix2 r c) = if c.val / 32 = 3 then 1#1 else 0#1 := by
  pointwise [head3, laneI, k0_pay16]
  clear r; revert c; decide +kernel
theorem odd16_at (r : Fin 256) (c : Fin 128) :
    odd16 (ix2 r c) = if r.val / 16 % 2 = 1 then 1#1 else 0#1 := by
  pointwise [odd16, rowI, k0_pay18]
  clear c; revert r; decide +kernel
theorem odd8_at (r : Fin 256) (c : Fin 128) :
    odd8 (ix2 r c) = if r.val / 8 % 2 = 1 then 1#1 else 0#1 := by
  pointwise [odd8, rowI, k0_pay28, k0_pay25, k0_pay26, k0_pay27]
  clear c; revert r; decide +kernel
theorem odd4_at (r : Fin 256) (c : Fin 128) :
    odd4 (ix2 r c) = if r.val / 4 % 2 = 1 then 1#1 else 0#1 := by
  pointwise [odd4, rowI, k0_pay37, k0_pay35, k0_pay36]
  clear c; revert r; decide +kernel
theorem odd2_at (r : Fin 256) (c : Fin 128) :
    odd2 (ix2 r c) = if r.val / 2 % 2 = 1 then 1#1 else 0#1 := by
  pointwise [odd2, rowI, k0_pay47, k0_pay46]
  clear c; revert r; decide +kernel
theorem odd1_at (r : Fin 256) (c : Fin 128) :
    odd1 (ix2 r c) = if r.val / 1 % 2 = 1 then 1#1 else 0#1 := by
  pointwise [odd1, rowI, k0_pay57, k0_pay55, k0_pay56]
  clear c; revert r; decide +kernel
theorem rowA_at (r : Fin 1024) (c : Fin 256) : rowA (ix2 r c) = BitVec.ofNat 32 (r.val % 256) := by
  pointwise [rowA, k0_pay8]
  clear c; revert r; decide +kernel
theorem colI_at (r : Fin 1024) (c : Fin 256) : colI (ix2 r c) = BitVec.ofNat 32 c.val := by
  pointwise [colI]

/-- Floor division of a vector of words by one word, as the tile spells it. -/
def fdv {S : Shape} (v : IVec S 32) (d : BitVec 32) : IVec S 32 :=
  select (andi (cmpi .ne (subi (extui 32 (cmpi .sgt v (broadcast S 0#32)) natLt_1_32)
      (extui 32 (cmpi .slt v (broadcast S 0#32)) natLt_1_32))
      (broadcast S (Scalar.subi (Scalar.extui (Scalar.cmpi .sgt d 0#32))
        (Scalar.extui (Scalar.cmpi .slt d 0#32)))))
      (cmpi .ne (remsi v (broadcast S d)) (broadcast S 0#32)))
    (subi (divsi v (broadcast S d)) (broadcast S 1#32)) (divsi v (broadcast S d))

/-- Whether a row and a column lie in one group of `d`. -/
def sameV (d : BitVec 32) : IVec S1024x256 1 := cmpi .eq (fdv rowA d) (fdv colI d)

/-- Four copies of the rows, the `h`-th keeping only the lanes of head `h`. -/
def stackH (a : FVec Ideal S256x128 .f32) : FVec Ideal S1024x128 .f32 :=
  concatenate S1024x128 0
    [⟨S256x128, select head0 a (broadcast S256x128 (Scalar.ofBits .f32 0x00000000#32))⟩,
     ⟨S256x128, select head1 a (broadcast S256x128 (Scalar.ofBits .f32 0x00000000#32))⟩,
     ⟨S256x128, select head2 a (broadcast S256x128 (Scalar.ofBits .f32 0x00000000#32))⟩,
     ⟨S256x128, select head3 a (broadcast S256x128 (Scalar.ofBits .f32 0x00000000#32))⟩]
    concatenates_S256x128_S256x128_S256x128_S256x128_S1024x128_d0

/-- Scores of all heads, kept where the mask is set. -/
def scoreV (m : IVec S1024x256 1) (q k : FVec Ideal S256x128 .f32) : FVec Ideal S1024x256 .f32 :=
  select m (matmul dot_S1024x128_S256x128_S1024x256_1_1_0_0_n_n none
      (truncf .bf16 (stackH q) bitsLt_bf16_f32) (truncf .bf16 k bitsLt_bf16_f32)
      (constant S1024x256 .f32 0x00000000#32))
    (broadcast S1024x256 (Scalar.ofBits .f32 0x00000000#32))

/-- The exponents one 0/1 matrix sums up. -/
def expoV (g : FVec Ideal S256x256 .bf16) (d : FVec Ideal S1x256x256 .bf16) :
    FVec Ideal S256x128 .f32 :=
  addf (extractStridedSlice S256x128 ![0, 0] (matmul dot_S256x256_S256x256_S256x256_1_0_0_1_n_n none
      (shapeCast S256x256 d shapeCasts_S1x256x256_S256x256) g (constant S256x256 .f32 0x00000000#32))
      slices_S256x256_o0_0_S256x128)
    (extractStridedSlice S256x128 ![0, 128] (matmul dot_S256x256_S256x256_S256x256_1_0_0_1_n_n none
      (shapeCast S256x256 d shapeCasts_S1x256x256_S256x256) g (constant S256x256 .f32 0x00000000#32))
      slices_S256x256_o0_128_S256x128)

/-- Rows scaled by an exponential, kept where the mask is set. -/
def onOdd (m : IVec S256x128 1) (a e : FVec Ideal S256x128 .f32) : FVec Ideal S256x128 .f32 :=
  select m (mulf a (exp e)) (broadcast S256x128 (Scalar.ofBits .f32 0x00000000#32))
/-- Rows scaled by an exponential, kept where the mask is not set. -/
def onEven (m : IVec S256x128 1) (a e : FVec Ideal S256x128 .f32) : FVec Ideal S256x128 .f32 :=
  select m (broadcast S256x128 (Scalar.ofBits .f32 0x00000000#32)) (mulf a (exp e))

section
variable (x : FVec Ideal S256x896 .f32) (D : Vec Ideal S12x256x256 .bf16)
  (w : FVec Ideal S128x128 .bf16) (b : FVec Ideal S1x128 .f32)
theorem q16_eq : q16 x D w b = onOdd odd16 (tq x) (expoV (tg x w b) (dm2 D)) := rfl
theorem k16_eq : k16 x D w b = onEven odd16 (tk x) (expoV (tg x w b) (dm3 D)) := rfl
theorem q8_eq : q8 x D w b = onOdd odd8 (tq x) (expoV (tg x w b) (dm4 D)) := rfl
theorem k8_eq : k8 x D w b = onEven odd8 (tk x) (expoV (tg x w b) (dm5 D)) := rfl
theorem q4_eq : q4 x D w b = onOdd odd4 (tq x) (expoV (tg x w b) (dm6 D)) := rfl
theorem k4_eq : k4 x D w b = onEven odd4 (tk x) (expoV (tg x w b) (dm7 D)) := rfl
theorem q2_eq : q2 x D w b = onOdd odd2 (tq x) (expoV (tg x w b) (dm8 D)) := rfl
theorem k2_eq : k2 x D w b = onEven odd2 (tk x) (expoV (tg x w b) (dm9 D)) := rfl
theorem q1_eq : q1 x D w b = onOdd odd1 (tq x) (expoV (tg x w b) (dm10 D)) := rfl
theorem k1_eq : k1 x D w b = onEven odd1 (tk x) (expoV (tg x w b) (dm11 D)) := rfl
theorem cum_eq : cum x D w b = expoV (tg x w b) (dm0 D) := rfl
theorem att0_eq : att0 x = scoreV (cmpi .eq rowA colI) (tq x) (tk x) := rfl
theorem att16_eq : att16 x D w b =
    addf (att0 x) (scoreV (sameV 32#32) (q16 x D w b) (k16 x D w b)) := rfl
theorem att8_eq : att8 x D w b =
    addf (att16 x D w b) (scoreV (sameV 16#32) (q8 x D w b) (k8 x D w b)) := rfl
theorem att4_eq : att4 x D w b =
    addf (att8 x D w b) (scoreV (sameV 8#32) (q4 x D w b) (k4 x D w b)) := rfl
theorem att2_eq : att2 x D w b =
    addf (att4 x D w b) (scoreV (sameV 4#32) (q2 x D w b) (k2 x D w b)) := rfl
theorem att1_eq : att1 x D w b = truncf .bf16
    (addf (att2 x D w b) (scoreV (sameV 2#32) (q1 x D w b) (k1 x D w b))) bitsLt_bf16_f32 := rfl
end

theorem cmp_word (a b : ℕ) (ha : a < 1024) (hb : b < 1024) :
    IntOp.cmpi .eq (BitVec.ofNat 32 a) (BitVec.ofNat 32 b) = if a = b then 1#1 else 0#1 := by
  by_cases h : a = b
  · subst h; simp [IntOp.cmpi]
  · have : BitVec.ofNat 32 a ≠ BitVec.ofNat 32 b := by
      intro e
      have := congrArg BitVec.toNat e
      simp only [BitVec.toNat_ofNat] at this
      omega
    have e : (BitVec.ofNat 32 a == BitVec.ofNat 32 b) = false := by simpa using this
    rw [if_neg h]
    show BitVec.ofBool (BitVec.ofNat 32 a == BitVec.ofNat 32 b) = 0#1
    rw [e]; rfl

theorem fdv_row (d : ℕ) (hd : d = 32 ∨ d = 16 ∨ d = 8 ∨ d = 4 ∨ d = 2) (r : Fin 1024) (c : Fin 256) :
    fdv rowA (BitVec.ofNat 32 d) (ix2 r c) = BitVec.ofNat 32 (r.val % 256 / d) := by
  unfold fdv
  pointwise
  simp only [rowA_at]
  clear c
  rcases hd with rfl | rfl | rfl | rfl | rfl <;> revert r <;> decide +kernel

theorem fdv_col (d : ℕ) (hd : d = 32 ∨ d = 16 ∨ d = 8 ∨ d = 4 ∨ d = 2) (r : Fin 1024) (c : Fin 256) :
    fdv colI (BitVec.ofNat 32 d) (ix2 r c) = BitVec.ofNat 32 (c.val / d) := by
  unfold fdv
  pointwise
  clear r
  rcases hd with rfl | rfl | rfl | rfl | rfl <;> revert c <;> decide +kernel

theorem sameV_at (d : ℕ) (hd : d = 32 ∨ d = 16 ∨ d = 8 ∨ d = 4 ∨ d = 2) (r : Fin 1024) (c : Fin 256) :
    sameV (BitVec.ofNat 32 d) (ix2 r c) = if r.val % 256 / d = c.val / d then 1#1 else 0#1 := by
  show IntOp.cmpi .eq (fdv rowA (BitVec.ofNat 32 d) (ix2 r c)) (fdv colI (BitVec.ofNat 32 d) (ix2 r c)) = _
  rw [fdv_row d hd, fdv_col d hd, cmp_word]
  · exact lt_of_le_of_lt (Nat.div_le_self _ _) (by omega)
  · exact lt_of_le_of_lt (Nat.div_le_self _ _) (by omega)

theorem diag_at (r : Fin 1024) (c : Fin 256) :
    (cmpi .eq rowA colI : IVec S1024x256 1) (ix2 r c) = if r.val % 256 = c.val then 1#1 else 0#1 := by
  show IntOp.cmpi .eq (rowA (ix2 r c)) (colI (ix2 r c)) = _
  rw [rowA_at, colI_at, cmp_word _ _ (by omega) (by omega)]

theorem stMask_at (e : Fin 256) (c : Fin 128) :
    stMask (ix2 e c) = if e.val / 64 = c.val / 32 then 1#1 else 0#1 := by
  have h1 : (fdv (iota .tc S256x128 32 [0] iota_S256x128_d0_w32) 64#32 : IVec S256x128 32) (ix2 e c)
      = BitVec.ofNat 32 (e.val / 64) := by
    unfold fdv
    pointwise
    clear c; revert e; decide +kernel
  have h2 : (fdv laneI 32#32 : IVec S256x128 32) (ix2 e c) = BitVec.ofNat 32 (c.val / 32) := by
    unfold fdv
    pointwise
    clear h1 e; revert c; decide +kernel
  have h3 : stMask = cmpi .eq (fdv (iota .tc S256x128 32 [0] iota_S256x128_d0_w32) 64#32)
      (fdv laneI 32#32) := rfl
  rw [h3]
  show IntOp.cmpi .eq _ _ = _
  rw [h1, h2, cmp_word _ _ (by omega) (by omega)]

theorem select_ite {α : Type} (p : Prop) [Decidable p] (a b : α) :
    Scalar.select (if p then 1#1 else 0#1) a b = if p then a else b := by
  by_cases h : p <;> simp [h, Scalar.select]

theorem stackH_at (a : FVec Ideal S256x128 .f32) (r : Fin 1024) (d : Fin 128) :
    stackH a (ix2 r d) = if d.val / 32 = r.val / 256 then a (ix2 ⟨r.val % 256, by omega⟩ d) else 0 := by
  unfold stackH
  pointwise
  simp only [head0_at, head1_at, head2_at, head3_at, select_ite]
  have hr := r.isLt
  have key : ∀ (n : ℕ) (hn : n < 256) (q : ℕ), r.val = 256 * q + n →
      (if d.val / 32 = q then a (ix2 ⟨n, hn⟩ d) else 0) =
        if d.val / 32 = r.val / 256 then a (ix2 ⟨r.val % 256, by omega⟩ d) else 0 := by
    intro n hn q e
    have e1 : r.val / 256 = q := by omega
    have e2 : (⟨n, hn⟩ : Fin 256) = ⟨r.val % 256, by omega⟩ := Fin.ext (by show n = r.val % 256; omega)
    rw [e1, e2]
  by_cases h0 : r.val < 256
  · rw [dif_pos h0]; exact key _ _ 0 (by omega)
  rw [dif_neg h0]
  by_cases h1 : r.val - 256 < 256
  · rw [dif_pos h1]; exact key _ _ 1 (by omega)
  rw [dif_neg h1]
  by_cases h2 : r.val - 256 - 256 < 256
  · rw [dif_pos h2]; exact key _ _ 2 (by omega)
  rw [dif_neg h2]; exact key _ _ 3 (by omega)

theorem scoreV_at (m : IVec S1024x256 1) (q k : FVec Ideal S256x128 .f32) (r : Fin 1024) (c : Fin 256) :
    scoreV m q k (ix2 r c) = Scalar.select (m (ix2 r c))
      (∑ d : Fin 128, (if d.val / 32 = r.val / 256 then q (ix2 ⟨r.val % 256, by omega⟩ d) else 0)
        * k (ix2 c d)) 0 := by
  unfold scoreV
  pointwise
  simp only [stackH_at]

theorem expoV_at (g : FVec Ideal S256x256 .bf16) (d : FVec Ideal S1x256x256 .bf16) (r : Fin 256)
    (c : Fin 128) : expoV g d (ix2 r c) =
      ∑ j : Fin 256, d (ix3 0 r j) * g (ix2 j ⟨c.val, by omega⟩)
      + ∑ j : Fin 256, d (ix3 0 r j) * g (ix2 j ⟨128 + c.val, by omega⟩) := by
  unfold expoV
  pointwise

theorem onOdd_at (m : IVec S256x128 1) (a e : FVec Ideal S256x128 .f32) (i : S256x128.Idx) :
    onOdd m a e i = Scalar.select (m i) (a i * Ideal.exp (e i)) 0 := by
  unfold onOdd
  pointwise
theorem onEven_at (m : IVec S256x128 1) (a e : FVec Ideal S256x128 .f32) (i : S256x128.Idx) :
    onEven m a e i = Scalar.select (m i) 0 (a i * Ideal.exp (e i)) := by
  unfold onEven
  pointwise
end Cert.KernelIdeal.Tile
-- ==== Proof.TileParts.lean ====
module

public import proofs.«01_k».proof.Proof.TileMask

/-! The rest of a block at an index: the output within a chunk, the state after each chunk, the
output from the state, the norm and the gate. -/

@[expose] public section
set_option maxRecDepth 16384
set_option maxHeartbeats 1000000
noncomputable section

namespace Cert.KernelIdeal.Tile
open Cert.KernelIdeal Cert.KernelIdeal.Gen Idealize.ShloMosaic Idealize.ShloMosaic.TcCoe

/-- The values of one head's lanes. -/
def vHead (h : BitVec 32) (v : FVec Ideal S256x256 .f32) : FVec Ideal S256x256 .f32 :=
  select (cmpi .eq (fdv laneV 64#32) (broadcast S256x256 h)) v
    (broadcast S256x256 (Scalar.ofBits .f32 0x00000000#32))

theorem vHead_at (h : Fin 4) (v : FVec Ideal S256x256 .f32) (r e : Fin 256) :
    vHead (BitVec.ofNat 32 h.val) v (ix2 r e) = if e.val / 64 = h.val then v (ix2 r e) else 0 := by
  have h1 : (fdv laneV 64#32 : IVec S256x256 32) (ix2 r e) = BitVec.ofNat 32 (e.val / 64) := by
    unfold fdv
    pointwise
    clear r; revert e; decide +kernel
  have h2 : vHead (BitVec.ofNat 32 h.val) v (ix2 r e) =
      Scalar.select (IntOp.cmpi .eq ((fdv laneV 64#32 : IVec S256x256 32) (ix2 r e))
        (BitVec.ofNat 32 h.val)) (v (ix2 r e)) (Ideal.ofBits .f32 0x00000000#32) := rfl
  rw [h2, h1, cmp_word _ _ (by omega) (by omega), select_ite, Ideal.ofBits_zero_f32]

section
variable (x : FVec Ideal S256x896 .f32) (D : Vec Ideal S12x256x256 .bf16)
  (w : FVec Ideal S128x128 .bf16) (b : FVec Ideal S1x128 .f32) (st : FVec Ideal S256x128 .f32)

theorem in0_eq : in0 x D w b = addf (broadcast S256x256 (Scalar.ofBits .f32 0x00000000#32))
    (matmul dot_S256x256_S256x256_S256x256_1_0_0_1_n_n none
      (extractStridedSlice S256x256 ![0, 0] (att1 x D w b) slices_S1024x256_o0_0_S256x256)
      (truncf .bf16 (vHead 0#32 (tv x)) bitsLt_bf16_f32) (constant S256x256 .f32 0x00000000#32)) := rfl
theorem in1_eq : in1 x D w b = addf (in0 x D w b)
    (matmul dot_S256x256_S256x256_S256x256_1_0_0_1_n_n none
      (extractStridedSlice S256x256 ![256, 0] (att1 x D w b) slices_S1024x256_o256_0_S256x256)
      (truncf .bf16 (vHead 1#32 (tv x)) bitsLt_bf16_f32) (constant S256x256 .f32 0x00000000#32)) := rfl
theorem in2_eq : in2 x D w b = addf (in1 x D w b)
    (matmul dot_S256x256_S256x256_S256x256_1_0_0_1_n_n none
      (extractStridedSlice S256x256 ![512, 0] (att1 x D w b) slices_S1024x256_o512_0_S256x256)
      (truncf .bf16 (vHead 2#32 (tv x)) bitsLt_bf16_f32) (constant S256x256 .f32 0x00000000#32)) := rfl
theorem intra_eq : intra x D w b = addf (in2 x D w b)
    (matmul dot_S256x256_S256x256_S256x256_1_0_0_1_n_n none
      (extractStridedSlice S256x256 ![768, 0] (att1 x D w b) slices_S1024x256_o768_0_S256x256)
      (truncf .bf16 (vHead 3#32 (tv x)) bitsLt_bf16_f32) (constant S256x256 .f32 0x00000000#32)) := rfl

theorem intra_at (r e : Fin 256) : intra x D w b (ix2 r e) =
    ∑ c : Fin 256, att1 x D w b (ix2 ⟨256 * (e.val / 64) + r.val, by omega⟩ c) * tv x (ix2 c e) := by
  have v0 := fun c => vHead_at 0 (tv x) c e
  have v1 := fun c => vHead_at 1 (tv x) c e
  have v2 := fun c => vHead_at 2 (tv x) c e
  have v3 := fun c => vHead_at 3 (tv x) c e
  simp only [Fin.isValue, Fin.val_zero, Fin.val_one, Fin.val_two, show ((3 : Fin 4) : ℕ) = 3 from rfl] at v0 v1 v2 v3
  rw [intra_eq, in2_eq, in1_eq, in0_eq]
  pointwise
  simp only [v0, v1, v2, v3]
  have he : e.val / 64 = 0 ∨ e.val / 64 = 1 ∨ e.val / 64 = 2 ∨ e.val / 64 = 3 := by omega
  rcases he with h | h | h | h <;> simp [h]

theorem s1_at (e : Fin 256) (c : Fin 128) : s1 x D w b st (ix2 e c) =
    st (ix2 e c) * Ideal.exp (cum x D w b (ix2 31 c)) + Scalar.select (stMask (ix2 e c))
      (∑ j : Fin 32, vb x (ix2 ⟨0 + j.val, by omega⟩ e) * ke x D w b (ix2 ⟨0 + j.val, by omega⟩ c)) 0 := by
  pointwise [s1, k0_pay87] <;> rfl
theorem s2_at (e : Fin 256) (c : Fin 128) : s2 x D w b st (ix2 e c) =
    s1 x D w b st (ix2 e c) * Ideal.exp (cum x D w b (ix2 63 c)) + Scalar.select (stMask (ix2 e c))
      (∑ j : Fin 32, vb x (ix2 ⟨32 + j.val, by omega⟩ e) * ke x D w b (ix2 ⟨32 + j.val, by omega⟩ c)) 0 := by
  pointwise [s2, k0_pay90, k0_pay89] <;> rfl
theorem s3_at (e : Fin 256) (c : Fin 128) : s3 x D w b st (ix2 e c) =
    s2 x D w b st (ix2 e c) * Ideal.exp (cum x D w b (ix2 95 c)) + Scalar.select (stMask (ix2 e c))
      (∑ j : Fin 32, vb x (ix2 ⟨64 + j.val, by omega⟩ e) * ke x D w b (ix2 ⟨64 + j.val, by omega⟩ c)) 0 := by
  pointwise [s3, k0_pay92] <;> rfl
theorem s4_at (e : Fin 256) (c : Fin 128) : s4 x D w b st (ix2 e c) =
    s3 x D w b st (ix2 e c) * Ideal.exp (cum x D w b (ix2 127 c)) + Scalar.select (stMask (ix2 e c))
      (∑ j : Fin 32, vb x (ix2 ⟨96 + j.val, by omega⟩ e) * ke x D w b (ix2 ⟨96 + j.val, by omega⟩ c)) 0 := by
  pointwise [s4, k0_pay94] <;> rfl
theorem s5_at (e : Fin 256) (c : Fin 128) : s5 x D w b st (ix2 e c) =
    s4 x D w b st (ix2 e c) * Ideal.exp (cum x D w b (ix2 159 c)) + Scalar.select (stMask (ix2 e c))
      (∑ j : Fin 32, vb x (ix2 ⟨128 + j.val, by omega⟩ e) * ke x D w b (ix2 ⟨128 + j.val, by omega⟩ c)) 0 := by
  pointwise [s5, k0_pay96] <;> rfl
theorem s6_at (e : Fin 256) (c : Fin 128) : s6 x D w b st (ix2 e c) =
    s5 x D w b st (ix2 e c) * Ideal.exp (cum x D w b (ix2 191 c)) + Scalar.select (stMask (ix2 e c))
      (∑ j : Fin 32, vb x (ix2 ⟨160 + j.val, by omega⟩ e) * ke x D w b (ix2 ⟨160 + j.val, by omega⟩ c)) 0 := by
  pointwise [s6, k0_pay98] <;> rfl
theorem s7_at (e : Fin 256) (c : Fin 128) : s7 x D w b st (ix2 e c) =
    s6 x D w b st (ix2 e c) * Ideal.exp (cum x D w b (ix2 223 c)) + Scalar.select (stMask (ix2 e c))
      (∑ j : Fin 32, vb x (ix2 ⟨192 + j.val, by omega⟩ e) * ke x D w b (ix2 ⟨192 + j.val, by omega⟩ c)) 0 := by
  pointwise [s7, k0_pay99] <;> rfl
theorem s8_at (e : Fin 256) (c : Fin 128) : s8 x D w b st (ix2 e c) =
    s7 x D w b st (ix2 e c) * Ideal.exp (cum x D w b (ix2 255 c)) + Scalar.select (stMask (ix2 e c))
      (∑ j : Fin 32, vb x (ix2 ⟨224 + j.val, by omega⟩ e) * ke x D w b (ix2 ⟨224 + j.val, by omega⟩ c)) 0 := by
  pointwise [s8, k0_pay100] <;> rfl
theorem r0_at (i : Fin 32) (e : Fin 256) : r0 x D w b st (ix2 i e) =
    ∑ d : Fin 128, qe x D w b (ix2 ⟨0 + i.val, by omega⟩ d) * st (ix2 e d) := by
  pointwise [r0, k0_pay86] <;> rfl
theorem r1_at (i : Fin 32) (e : Fin 256) : r1 x D w b st (ix2 i e) =
    ∑ d : Fin 128, qe x D w b (ix2 ⟨32 + i.val, by omega⟩ d) * s1 x D w b st (ix2 e d) := by
  pointwise [r1, k0_pay88] <;> rfl
theorem r2_at (i : Fin 32) (e : Fin 256) : r2 x D w b st (ix2 i e) =
    ∑ d : Fin 128, qe x D w b (ix2 ⟨64 + i.val, by omega⟩ d) * s2 x D w b st (ix2 e d) := by
  pointwise [r2, k0_pay91] <;> rfl
theorem r3_at (i : Fin 32) (e : Fin 256) : r3 x D w b st (ix2 i e) =
    ∑ d : Fin 128, qe x D w b (ix2 ⟨96 + i.val, by omega⟩ d) * s3 x D w b st (ix2 e d) := by
  pointwise [r3, k0_pay93] <;> rfl
theorem r4_at (i : Fin 32) (e : Fin 256) : r4 x D w b st (ix2 i e) =
    ∑ d : Fin 128, qe x D w b (ix2 ⟨128 + i.val, by omega⟩ d) * s4 x D w b st (ix2 e d) := by
  pointwise [r4, k0_pay95] <;> rfl
theorem r5_at (i : Fin 32) (e : Fin 256) : r5 x D w b st (ix2 i e) =
    ∑ d : Fin 128, qe x D w b (ix2 ⟨160 + i.val, by omega⟩ d) * s5 x D w b st (ix2 e d) := by
  pointwise [r5, k0_pay97] <;> rfl

/-- The state before chunk `a` of the block. -/
def sAt : ℕ → FVec Ideal S256x128 .f32
  | 0 => st
  | 1 => s1 x D w b st
  | 2 => s2 x D w b st
  | 3 => s3 x D w b st
  | 4 => s4 x D w b st
  | 5 => s5 x D w b st
  | 6 => s6 x D w b st
  | 7 => s7 x D w b st
  | _ => s8 x D w b st

theorem orow_at (r e : Fin 256) : orow x D w b st (ix2 r e) = intra x D w b (ix2 r e) +
    ∑ d : Fin 128, qe x D w b (ix2 r d) * sAt x D w b st (r.val / 32) (ix2 e d) := by
  have hr := r.isLt
  have key : ∀ (a n : ℕ) (hn : 32 * a + n < 256), n < 32 → r.val = 32 * a + n →
      ∑ d : Fin 128, qe x D w b (ix2 ⟨32 * a + n, hn⟩ d) * sAt x D w b st a (ix2 e d) =
      ∑ d : Fin 128, qe x D w b (ix2 r d) * sAt x D w b st (r.val / 32) (ix2 e d) := by
    intro a n hn h1 h2
    have e1 : r.val / 32 = a := by omega
    have e2 : (⟨32 * a + n, hn⟩ : Fin 256) = r := Fin.ext h2.symm
    rw [e1, e2]
  pointwise [orow, k0_pay101]
  congr 1
  by_cases h0 : r.val < 32
  · rw [dif_pos h0, r0_at]; exact key 0 (r.val) (by omega) h0 (by omega)
  rw [dif_neg h0]
  by_cases h1 : r.val - 32 < 32
  · rw [dif_pos h1, r1_at]; exact key 1 (r.val - 32) (by omega) h1 (by omega)
  rw [dif_neg h1]
  by_cases h2 : r.val - 32 - 32 < 32
  · rw [dif_pos h2, r2_at]; exact key 2 (r.val - 32 - 32) (by omega) h2 (by omega)
  rw [dif_neg h2]
  by_cases h3 : r.val - 32 - 32 - 32 < 32
  · rw [dif_pos h3, r3_at]; exact key 3 (r.val - 32 - 32 - 32) (by omega) h3 (by omega)
  rw [dif_neg h3]
  by_cases h4 : r.val - 32 - 32 - 32 - 32 < 32
  · rw [dif_pos h4, r4_at]; exact key 4 (r.val - 32 - 32 - 32 - 32) (by omega) h4 (by omega)
  rw [dif_neg h4]
  by_cases h5 : r.val - 32 - 32 - 32 - 32 - 32 < 32
  · rw [dif_pos h5, r5_at]; exact key 5 (r.val - 32 - 32 - 32 - 32 - 32) (by omega) h5 (by omega)
  rw [dif_neg h5]
  by_cases h6 : r.val - 32 - 32 - 32 - 32 - 32 - 32 < 32
  · rw [dif_pos h6]
    exact Eq.trans (Finset.sum_congr rfl fun d _ => rfl)
      (key 6 (r.val - 32 - 32 - 32 - 32 - 32 - 32) (by omega) h6 (by omega))
  rw [dif_neg h6]
  exact Eq.trans (Finset.sum_congr rfl fun d _ => rfl)
    (key 7 (r.val - 32 - 32 - 32 - 32 - 32 - 32 - 32) (by omega) (by omega) (by omega))

theorem qe_at (r : Fin 256) (c : Fin 128) : qe x D w b (ix2 r c) =
    tq x (ix2 r c) * Ideal.exp (cum x D w b (ix2 r c)) := by
  pointwise [qe, k0_pay79] <;> rfl
theorem ke_at (r : Fin 256) (c : Fin 128) : ke x D w b (ix2 r c) =
    tk x (ix2 r c) * Ideal.exp (expoV (tg x w b) (dm1 D) (ix2 r c)) := by
  have h : ke x D w b = truncf .bf16 (mulf (tk x) (exp (expoV (tg x w b) (dm1 D)))) bitsLt_bf16_f32 := rfl
  rw [h]
  pointwise
theorem vb_at (r e : Fin 256) : vb x (ix2 r e) = x (ix2 r ⟨256 + e.val, by omega⟩) := by
  pointwise [vb, k0_pay81, tv, k0_pay5]
theorem tv_at (r e : Fin 256) : tv x (ix2 r e) = x (ix2 r ⟨256 + e.val, by omega⟩) := by
  pointwise [tv, k0_pay5]
theorem tgate_at (r e : Fin 256) : tgate x (ix2 r e) = x (ix2 r ⟨512 + e.val, by omega⟩) := by
  pointwise [tgate, k0_pay6]
theorem tk_at (r : Fin 256) (c : Fin 128) : tk x (ix2 r c) = x (ix2 r ⟨128 + c.val, by omega⟩) := by
  pointwise [tk, k0_pay4]
theorem tq_at (r : Fin 256) (c : Fin 128) : tq x (ix2 r c) =
    x (ix2 r ⟨c.val, by omega⟩) * Ideal.ofBits .f32 0x3E3504F3#32 := by
  pointwise [tq, k0_pay3]
theorem dm0_at (r c : Fin 256) : dm0 D (ix3 0 r c) = D (ix3 0 r c) := by
  pointwise [dm0]
theorem dm1_at (r c : Fin 256) : dm1 D (ix3 0 r c) = D (ix3 1 r c) := by
  pointwise [dm1]
theorem dm2_at (r c : Fin 256) : dm2 D (ix3 0 r c) = D (ix3 2 r c) := by
  pointwise [dm2]
theorem dm3_at (r c : Fin 256) : dm3 D (ix3 0 r c) = D (ix3 3 r c) := by
  pointwise [dm3]
theorem dm4_at (r c : Fin 256) : dm4 D (ix3 0 r c) = D (ix3 4 r c) := by
  pointwise [dm4]
theorem dm5_at (r c : Fin 256) : dm5 D (ix3 0 r c) = D (ix3 5 r c) := by
  pointwise [dm5]
theorem dm6_at (r c : Fin 256) : dm6 D (ix3 0 r c) = D (ix3 6 r c) := by
  pointwise [dm6]
theorem dm7_at (r c : Fin 256) : dm7 D (ix3 0 r c) = D (ix3 7 r c) := by
  pointwise [dm7]
theorem dm8_at (r c : Fin 256) : dm8 D (ix3 0 r c) = D (ix3 8 r c) := by
  pointwise [dm8]
theorem dm9_at (r c : Fin 256) : dm9 D (ix3 0 r c) = D (ix3 9 r c) := by
  pointwise [dm9]
theorem dm10_at (r c : Fin 256) : dm10 D (ix3 0 r c) = D (ix3 10 r c) := by
  pointwise [dm10]
theorem dm11_at (r c : Fin 256) : dm11 D (ix3 0 r c) = D (ix3 11 r c) := by
  pointwise [dm11]

/-- The gate's log sigmoid divided by 16, as the tile spells it. -/
def lgE (z : EReal) : EReal :=
  Ideal.div (0 - (max (0 - z) 0 + Ideal.log1p (Ideal.exp (0 - FloatOps.absf (F := Ideal) (φ := .f32) z))))
    (Ideal.ofBits .f32 0x41800000#32)
/-- The gate's input. -/
def zE (r : Fin 256) (c : Fin 128) : EReal :=
  ∑ j : Fin 128, x (ix2 r ⟨768 + j.val, by omega⟩) * w (ix2 j c) + b (ix2 0 c)

theorem tg_at (r c : Fin 256) : tg x w b (ix2 r c) =
    if h : c.val < 128 then lgE (zE x w b r ⟨c.val, h⟩)
    else lgE (zE x w b r ⟨c.val - 128, by omega⟩) - lgE (zE x w b r ⟨c.val - 128, by omega⟩) := by
  pointwise [tg, k0_pay7] <;> rfl
theorem yrow_at (g : FVec Ideal S1x256 .f32) (a : FVec Ideal S256x256 .bf16) (r e : Fin 256) :
    yrow x D w b st g a (ix2 r e) = orow x D w b st (ix2 r e) *
      Ideal.rsqrt (∑ c : Fin 256, (orow x D w b st (ix2 r c) * orow x D w b st (ix2 r c)) * a (ix2 c e) +
        ∑ c : Fin 256, (orow x D w b st (ix2 r c) * orow x D w b st (ix2 r c) -
          orow x D w b st (ix2 r c) * orow x D w b st (ix2 r c)) * a (ix2 c e) +
        Ideal.ofBits .f32 0x358637BD#32) * g (ix2 0 e) *
      (tgate x (ix2 r e) * Ideal.div 1 (1 + Ideal.exp (0 - tgate x (ix2 r e)))) := by
  pointwise [yrow, k0_pay1] <;> rfl
end
end Cert.KernelIdeal.Tile
-- ==== Proof.Spec.lean ====
module

public import Mathlib.Analysis.SpecialFunctions.Exp
public import Mathlib.Data.EReal.Operations

/-! Gated linear attention over the real numbers, chunk by chunk, and the algebra that the blocked
form needs: which rows a 0/1 matrix sums, and that the five levels and the diagonal together are
the causal scores of a chunk. -/

@[expose] public section
noncomputable section

namespace Gla
open Finset

/-- The running sum of the log gates in chunk `C`, up to and including row `i`. -/
def cum (G : ℕ → ℕ → ℝ) (C i d : ℕ) : ℝ := ∑ j ∈ range (i + 1), G (32 * C + j) d

/-- The state before chunk `C`, at a value lane and a key lane; it starts anew every 256 chunks. -/
def state (X G : ℕ → ℕ → ℝ) : ℕ → ℕ → ℕ → ℝ
  | 0 => fun _ _ => 0
  | C + 1 => fun e d => if (C + 1) % 256 = 0 then 0 else
      state X G C e d * Real.exp (cum G C 31 d) +
      ∑ j ∈ range 32, X (32 * C + j) (256 + e) *
        (X (32 * C + j) (128 + d) * Real.exp (cum G C 31 d - cum G C j d))

theorem state_reset (X G : ℕ → ℕ → ℝ) (C : ℕ) (h : C % 256 = 0) (e d : ℕ) : state X G C e d = 0 := by
  cases C with
  | zero => rfl
  | succ C => exact if_pos h

/-- The score of rows `i` and `j` of a chunk in one head. -/
def score (X G : ℕ → ℕ → ℝ) (κ : ℝ) (C i j h : ℕ) : ℝ :=
  if j ≤ i then ∑ d ∈ range 32, X (32 * C + i) (32 * h + d) * κ * X (32 * C + j) (128 + (32 * h + d)) *
    Real.exp (cum G C i (32 * h + d) - cum G C j (32 * h + d)) else 0

/-- The output of row `i` of chunk `C` before the norm. -/
def out (X G : ℕ → ℕ → ℝ) (κ : ℝ) (C i e : ℕ) : ℝ :=
  ∑ j ∈ range 32, score X G κ C i j (e / 64) * X (32 * C + j) (256 + e) +
  ∑ d ∈ range 32, X (32 * C + i) (32 * (e / 64) + d) * κ * Real.exp (cum G C i (32 * (e / 64) + d)) *
    state X G C e (32 * (e / 64) + d)

/-! ### Sums over one group -/

theorem sum_group (n q : ℕ) (hq : q < n) (F : ℕ → ℝ) :
    ∑ j ∈ range (32 * n), (if j / 32 = q then F j else 0) = ∑ j ∈ range 32, F (32 * q + j) := by
  rw [← sum_filter]
  symm
  apply sum_nbij (fun j => 32 * q + j)
  · intro j hj
    simp only [mem_range, mem_filter] at hj ⊢
    omega
  · intro a _ b _ h
    simp only at h
    omega
  · intro j hj
    simp only [coe_filter, mem_range, Set.mem_setOf_eq] at hj
    simp only [coe_range, Set.mem_image, Set.mem_Iio]
    exact ⟨j - 32 * q, by omega, by omega⟩
  · intro j _
    rfl

theorem sum_group64 (n q : ℕ) (hq : q < n) (F : ℕ → ℝ) :
    ∑ j ∈ range (64 * n), (if j / 64 = q then F j else 0) = ∑ j ∈ range 64, F (64 * q + j) := by
  rw [← sum_filter]
  symm
  apply sum_nbij (fun j => 64 * q + j)
  · intro j hj
    simp only [mem_range, mem_filter] at hj ⊢
    omega
  · intro a _ b _ h
    simp only at h
    omega
  · intro j hj
    simp only [coe_filter, mem_range, Set.mem_setOf_eq] at hj
    simp only [coe_range, Set.mem_image, Set.mem_Iio]
    exact ⟨j - 64 * q, by omega, by omega⟩
  · intro j _
    rfl

theorem sum_upto (f : ℕ → ℝ) (i : ℕ) (hi : i < 32) :
    ∑ j ∈ range 32, (if j ≤ i then f j else 0) = ∑ j ∈ range (i + 1), f j := by
  rw [← sum_filter]
  apply sum_congr _ fun _ _ => rfl
  ext j
  simp only [mem_filter, mem_range]
  omega

/-! ### What the 0/1 matrices sum -/

/-- Entry `(r, j)` of matrix `i`: the running sum of a chunk, its remainder, and for each level
the part of the running sum from a group's first row, and to its last. -/
def pm : ℕ → ℕ → ℕ → Bool
  | 0, r, j => decide (r / 32 = j / 32 ∧ j ≤ r)
  | 1, r, j => decide (r / 32 = j / 32 ∧ r < j)
  | 2, r, j => decide (r / 16 % 2 = 1 ∧ r / 16 * 16 ≤ j ∧ j ≤ r)
  | 3, r, j => decide (¬r / 16 % 2 = 1 ∧ r < j ∧ j ≤ r / 16 * 16 + 15)
  | 4, r, j => decide (r / 8 % 2 = 1 ∧ r / 8 * 8 ≤ j ∧ j ≤ r)
  | 5, r, j => decide (¬r / 8 % 2 = 1 ∧ r < j ∧ j ≤ r / 8 * 8 + 7)
  | 6, r, j => decide (r / 4 % 2 = 1 ∧ r / 4 * 4 ≤ j ∧ j ≤ r)
  | 7, r, j => decide (¬r / 4 % 2 = 1 ∧ r < j ∧ j ≤ r / 4 * 4 + 3)
  | 8, r, j => decide (r / 2 % 2 = 1 ∧ r / 2 * 2 ≤ j ∧ j ≤ r)
  | 9, r, j => decide (¬r / 2 % 2 = 1 ∧ r < j ∧ j ≤ r / 2 * 2 + 1)
  | 10, r, j => decide (r / 1 % 2 = 1 ∧ r / 1 * 1 ≤ j ∧ j ≤ r)
  | 11, r, j => decide (¬r / 1 % 2 = 1 ∧ r < j ∧ j ≤ r / 1 * 1 + 0)
  | _, _, _ => false

/-- The sum matrix `i` takes for row `r`. -/
def ex (f : ℕ → ℝ) (i r : ℕ) : ℝ := ∑ j ∈ range 256, if pm i r j then f j else 0

theorem ex_cum (f : ℕ → ℝ) (r : ℕ) (hr : r < 256) :
    ex f 0 r = ∑ j ∈ range (r % 32 + 1), f (32 * (r / 32) + j) := by
  have h := sum_group 8 (r / 32) (by omega) (fun j => if j % 32 ≤ r % 32 then f j else 0)
  have h2 := sum_upto (fun j => f (32 * (r / 32) + j)) (r % 32) (by omega)
  rw [← h2]
  have e : ∀ j ∈ range 32, (if j ≤ r % 32 then f (32 * (r / 32) + j) else 0) =
      if (32 * (r / 32) + j) % 32 ≤ r % 32 then f (32 * (r / 32) + j) else 0 := by
    intro j hj
    have := mem_range.mp hj
    rw [show (32 * (r / 32) + j) % 32 = j by omega]
  rw [sum_congr rfl e, ← h]
  unfold ex
  apply sum_congr rfl
  intro j _
  simp only [pm, decide_eq_true_eq]
  split_ifs <;> first | rfl | omega

theorem ex_rev (f : ℕ → ℝ) (r : ℕ) (hr : r < 256) :
    ex f 1 r = ∑ j ∈ range 32, f (32 * (r / 32) + j) -
      ∑ j ∈ range (r % 32 + 1), f (32 * (r / 32) + j) := by
  rw [← ex_cum f r hr, ← sum_group 8 (r / 32) (by omega) f, eq_sub_iff_add_eq]
  unfold ex
  rw [← sum_add_distrib]
  apply sum_congr rfl
  intro j _
  simp only [pm, decide_eq_true_eq]
  split_ifs <;> first | (simp; done) | omega

theorem level16 (f : ℕ → ℝ) (r c : ℕ) (h1 : r / 32 = c / 32) (h2 : r / 16 % 2 = 1)
    (h3 : ¬c / 16 % 2 = 1) : ex f 2 r + ex f 3 c = ex f 0 r - ex f 0 c := by
  rw [eq_sub_iff_add_eq]
  unfold ex
  rw [← sum_add_distrib, ← sum_add_distrib]
  apply sum_congr rfl
  intro j _
  simp only [pm, decide_eq_true_eq]
  split_ifs <;> first | (simp; done) | omega

theorem level8 (f : ℕ → ℝ) (r c : ℕ) (h1 : r / 16 = c / 16) (h2 : r / 8 % 2 = 1)
    (h3 : ¬c / 8 % 2 = 1) : ex f 4 r + ex f 5 c = ex f 0 r - ex f 0 c := by
  rw [eq_sub_iff_add_eq]
  unfold ex
  rw [← sum_add_distrib, ← sum_add_distrib]
  apply sum_congr rfl
  intro j _
  simp only [pm, decide_eq_true_eq]
  split_ifs <;> first | (simp; done) | omega

theorem level4 (f : ℕ → ℝ) (r c : ℕ) (h1 : r / 8 = c / 8) (h2 : r / 4 % 2 = 1)
    (h3 : ¬c / 4 % 2 = 1) : ex f 6 r + ex f 7 c = ex f 0 r - ex f 0 c := by
  rw [eq_sub_iff_add_eq]
  unfold ex
  rw [← sum_add_distrib, ← sum_add_distrib]
  apply sum_congr rfl
  intro j _
  simp only [pm, decide_eq_true_eq]
  split_ifs <;> first | (simp; done) | omega

theorem level2 (f : ℕ → ℝ) (r c : ℕ) (h1 : r / 4 = c / 4) (h2 : r / 2 % 2 = 1)
    (h3 : ¬c / 2 % 2 = 1) : ex f 8 r + ex f 9 c = ex f 0 r - ex f 0 c := by
  rw [eq_sub_iff_add_eq]
  unfold ex
  rw [← sum_add_distrib, ← sum_add_distrib]
  apply sum_congr rfl
  intro j _
  simp only [pm, decide_eq_true_eq]
  split_ifs <;> first | (simp; done) | omega

theorem level1 (f : ℕ → ℝ) (r c : ℕ) (h1 : r / 2 = c / 2) (h2 : r / 1 % 2 = 1)
    (h3 : ¬c / 1 % 2 = 1) : ex f 10 r + ex f 11 c = ex f 0 r - ex f 0 c := by
  rw [eq_sub_iff_add_eq]
  unfold ex
  rw [← sum_add_distrib, ← sum_add_distrib]
  apply sum_congr rfl
  intro j _
  simp only [pm, decide_eq_true_eq]
  split_ifs <;> first | (simp; done) | omega

/-! ### The five levels and the diagonal are the causal scores -/

/-- A score with the decay as one difference of running sums. -/
def full (q k : ℕ → ℕ → ℝ) (G : ℕ → ℕ → ℝ) (h r c : ℕ) : ℝ :=
  ∑ d ∈ range 128, (if d / 32 = h then q r d else 0) * k c d *
    Real.exp (ex (fun j => G j d) 0 r - ex (fun j => G j d) 0 c)

/-- What one level adds to the table. -/
def levelTerm (q k : ℕ → ℕ → ℝ) (G : ℕ → ℕ → ℝ) (s iq ik h r c : ℕ) : ℝ :=
  if r / (2 * s) = c / (2 * s) then
    ∑ d ∈ range 128,
      (if d / 32 = h then (if r / s % 2 = 1 then q r d * Real.exp (ex (fun j => G j d) iq r) else 0) else 0) *
      (if c / s % 2 = 1 then 0 else k c d * Real.exp (ex (fun j => G j d) ik c))
  else 0

theorem levelTerm_eq (q k : ℕ → ℕ → ℝ) (G : ℕ → ℕ → ℝ) (s iq ik h r c : ℕ)
    (H : ∀ f : ℕ → ℝ, r / (2 * s) = c / (2 * s) → r / s % 2 = 1 → ¬c / s % 2 = 1 →
      ex f iq r + ex f ik c = ex f 0 r - ex f 0 c) :
    levelTerm q k G s iq ik h r c =
      if r / (2 * s) = c / (2 * s) ∧ r / s % 2 = 1 ∧ ¬c / s % 2 = 1 then full q k G h r c else 0 := by
  unfold levelTerm full
  by_cases h1 : r / (2 * s) = c / (2 * s)
  · by_cases h2 : r / s % 2 = 1
    · by_cases h3 : c / s % 2 = 1
      · simp [h2, h3]
      · rw [if_pos h1, if_pos ⟨h1, h2, h3⟩]
        apply sum_congr rfl
        intro d _
        rw [if_pos h2, if_neg h3, ← H _ h1 h2 h3, Real.exp_add]
        by_cases h4 : d / 32 = h
        · rw [if_pos h4, if_pos h4]; ring
        · rw [if_neg h4, if_neg h4]; ring
    · simp [h2]
  · simp [h1]

/-- The table before the values are taken. -/
def table (q k : ℕ → ℕ → ℝ) (G : ℕ → ℕ → ℝ) (h r c : ℕ) : ℝ :=
  (if r = c then ∑ d ∈ range 128, (if d / 32 = h then q r d else 0) * k c d else 0)
    + levelTerm q k G 16 2 3 h r c + levelTerm q k G 8 4 5 h r c + levelTerm q k G 4 6 7 h r c
    + levelTerm q k G 2 8 9 h r c + levelTerm q k G 1 10 11 h r c

theorem table_eq (q k : ℕ → ℕ → ℝ) (G : ℕ → ℕ → ℝ) (h r c : ℕ) :
    table q k G h r c = if r / 32 = c / 32 ∧ c ≤ r then full q k G h r c else 0 := by
  unfold table
  rw [levelTerm_eq q k G 16 2 3 h r c (fun f a b e => level16 f r c a b e),
    levelTerm_eq q k G 8 4 5 h r c (fun f a b e => level8 f r c a b e),
    levelTerm_eq q k G 4 6 7 h r c (fun f a b e => level4 f r c a b e),
    levelTerm_eq q k G 2 8 9 h r c (fun f a b e => level2 f r c a b e),
    levelTerm_eq q k G 1 10 11 h r c (fun f a b e => level1 f r c a b e)]
  have hd : (if r = c then ∑ d ∈ range 128, (if d / 32 = h then q r d else 0) * k c d else 0) =
      if r = c then full q k G h r c else 0 := by
    by_cases e : r = c
    · subst e; simp [full]
    · simp [e]
  rw [hd]
  simp only [Nat.reduceMul]
  generalize full q k G h r c = T
  by_cases h32 : r / 32 = c / 32
  · by_cases h16 : r / 16 = c / 16
    · by_cases h8 : r / 8 = c / 8
      · by_cases h4 : r / 4 = c / 4
        · by_cases h2 : r / 2 = c / 2
          · rw [if_neg (by omega : ¬(r / 32 = c / 32 ∧ r / 16 % 2 = 1 ∧ ¬c / 16 % 2 = 1)),
              if_neg (by omega : ¬(r / 16 = c / 16 ∧ r / 8 % 2 = 1 ∧ ¬c / 8 % 2 = 1)),
              if_neg (by omega : ¬(r / 8 = c / 8 ∧ r / 4 % 2 = 1 ∧ ¬c / 4 % 2 = 1)),
              if_neg (by omega : ¬(r / 4 = c / 4 ∧ r / 2 % 2 = 1 ∧ ¬c / 2 % 2 = 1))]
            split_ifs <;> first | (simp; done) | omega
          · rw [if_neg (by omega : ¬r = c),
              if_neg (by omega : ¬(r / 32 = c / 32 ∧ r / 16 % 2 = 1 ∧ ¬c / 16 % 2 = 1)),
              if_neg (by omega : ¬(r / 16 = c / 16 ∧ r / 8 % 2 = 1 ∧ ¬c / 8 % 2 = 1)),
              if_neg (by omega : ¬(r / 8 = c / 8 ∧ r / 4 % 2 = 1 ∧ ¬c / 4 % 2 = 1)),
              if_neg (by omega : ¬(r / 2 = c / 2 ∧ r / 1 % 2 = 1 ∧ ¬c / 1 % 2 = 1))]
            split_ifs <;> first | (simp; done) | omega
        · rw [if_neg (by omega : ¬r = c),
            if_neg (by omega : ¬(r / 32 = c / 32 ∧ r / 16 % 2 = 1 ∧ ¬c / 16 % 2 = 1)),
            if_neg (by omega : ¬(r / 16 = c / 16 ∧ r / 8 % 2 = 1 ∧ ¬c / 8 % 2 = 1)),
            if_neg (by omega : ¬(r / 4 = c / 4 ∧ r / 2 % 2 = 1 ∧ ¬c / 2 % 2 = 1)),
            if_neg (by omega : ¬(r / 2 = c / 2 ∧ r / 1 % 2 = 1 ∧ ¬c / 1 % 2 = 1))]
          split_ifs <;> first | (simp; done) | omega
      · rw [if_neg (by omega : ¬r = c),
          if_neg (by omega : ¬(r / 32 = c / 32 ∧ r / 16 % 2 = 1 ∧ ¬c / 16 % 2 = 1)),
          if_neg (by omega : ¬(r / 8 = c / 8 ∧ r / 4 % 2 = 1 ∧ ¬c / 4 % 2 = 1)),
          if_neg (by omega : ¬(r / 4 = c / 4 ∧ r / 2 % 2 = 1 ∧ ¬c / 2 % 2 = 1)),
          if_neg (by omega : ¬(r / 2 = c / 2 ∧ r / 1 % 2 = 1 ∧ ¬c / 1 % 2 = 1))]
        split_ifs <;> first | (simp; done) | omega
    · rw [if_neg (by omega : ¬r = c),
        if_neg (by omega : ¬(r / 16 = c / 16 ∧ r / 8 % 2 = 1 ∧ ¬c / 8 % 2 = 1)),
        if_neg (by omega : ¬(r / 8 = c / 8 ∧ r / 4 % 2 = 1 ∧ ¬c / 4 % 2 = 1)),
        if_neg (by omega : ¬(r / 4 = c / 4 ∧ r / 2 % 2 = 1 ∧ ¬c / 2 % 2 = 1)),
        if_neg (by omega : ¬(r / 2 = c / 2 ∧ r / 1 % 2 = 1 ∧ ¬c / 1 % 2 = 1))]
      split_ifs <;> first | (simp; done) | omega
  · rw [if_neg (by omega : ¬r = c),
      if_neg (by omega : ¬(r / 32 = c / 32 ∧ r / 16 % 2 = 1 ∧ ¬c / 16 % 2 = 1)),
      if_neg (by omega : ¬(r / 16 = c / 16 ∧ r / 8 % 2 = 1 ∧ ¬c / 8 % 2 = 1)),
      if_neg (by omega : ¬(r / 8 = c / 8 ∧ r / 4 % 2 = 1 ∧ ¬c / 4 % 2 = 1)),
      if_neg (by omega : ¬(r / 4 = c / 4 ∧ r / 2 % 2 = 1 ∧ ¬c / 2 % 2 = 1)),
      if_neg (by omega : ¬(r / 2 = c / 2 ∧ r / 1 % 2 = 1 ∧ ¬c / 1 % 2 = 1)),
      if_neg (by omega : ¬(r / 32 = c / 32 ∧ c ≤ r))]
    simp

/-! ### A stretch of chunks -/

/-- The state before the `a`-th chunk of a stretch that starts with the state `S`. -/
def run (X G S : ℕ → ℕ → ℝ) : ℕ → ℕ → ℕ → ℝ
  | 0 => S
  | a + 1 => fun e d => run X G S a e d * Real.exp (cum G a 31 d) +
      ∑ j ∈ range 32, X (32 * a + j) (256 + e) *
        (X (32 * a + j) (128 + d) * Real.exp (cum G a 31 d - cum G a j d))

/-- The output before the norm of row `i` of the `a`-th chunk of a stretch. -/
def runOut (X G S : ℕ → ℕ → ℝ) (κ : ℝ) (a i e : ℕ) : ℝ :=
  ∑ j ∈ range 32, score X G κ a i j (e / 64) * X (32 * a + j) (256 + e) +
  ∑ d ∈ range 32, X (32 * a + i) (32 * (e / 64) + d) * κ * Real.exp (cum G a i (32 * (e / 64) + d)) *
    run X G S a e (32 * (e / 64) + d)

/-- The rows of a stretch that starts at chunk `8 t`. -/
def shift (X : ℕ → ℕ → ℝ) (t : ℕ) : ℕ → ℕ → ℝ := fun r => X (256 * t + r)

theorem shift_row (X : ℕ → ℕ → ℝ) (t a j : ℕ) : shift X t (32 * a + j) = X (32 * (8 * t + a) + j) := by
  unfold shift
  congr 1
  ring

theorem cum_shift (G : ℕ → ℕ → ℝ) (t a i d : ℕ) : cum (shift G t) a i d = cum G (8 * t + a) i d := by
  unfold cum
  simp only [shift_row]

theorem run_shift (X G : ℕ → ℕ → ℝ) (t : ℕ) (a : ℕ) (h : ∀ b, b < a → ¬(8 * t + b + 1) % 256 = 0) :
    run (shift X t) (shift G t) (state X G (8 * t)) a = state X G (8 * t + a) := by
  induction a with
  | zero => rfl
  | succ a ih =>
    funext e d
    show _ = state X G ((8 * t + a) + 1) e d
    rw [run, ih fun b hb => h b (by omega), state]
    dsimp only
    rw [if_neg (h a (by omega))]
    simp only [shift_row, cum_shift]

theorem score_shift (X G : ℕ → ℕ → ℝ) (κ : ℝ) (t a i j h : ℕ) :
    score (shift X t) (shift G t) κ a i j h = score X G κ (8 * t + a) i j h := by
  unfold score
  simp only [shift_row, cum_shift]

theorem runOut_shift (X G : ℕ → ℕ → ℝ) (κ : ℝ) (t a i e : ℕ) (ha : a < 8) :
    runOut (shift X t) (shift G t) (state X G (8 * t)) κ a i e = out X G κ (8 * t + a) i e := by
  unfold runOut out
  rw [run_shift X G t a fun b hb => by omega]
  simp only [shift_row, cum_shift, score_shift]

/-- The table's row against the values is the causal sum over the row's own chunk. -/
theorem table_sum (X G : ℕ → ℕ → ℝ) (κ : ℝ) (r e : ℕ) (hr : r < 256) (he : e < 256) :
    ∑ c ∈ range 256, table (fun r d => X r d * κ) (fun r d => X r (128 + d)) G (e / 64) r c * X c (256 + e) =
      ∑ j ∈ range 32, score X G κ (r / 32) (r % 32) j (e / 64) * X (32 * (r / 32) + j) (256 + e) := by
  have e1 : ∀ j ∈ range 32, score X G κ (r / 32) (r % 32) j (e / 64) * X (32 * (r / 32) + j) (256 + e) =
      score X G κ (r / 32) (r % 32) ((32 * (r / 32) + j) % 32) (e / 64) * X (32 * (r / 32) + j) (256 + e) := by
    intro j hj
    have := mem_range.mp hj
    rw [show (32 * (r / 32) + j) % 32 = j by omega]
  rw [sum_congr rfl e1, ← sum_group 8 (r / 32) (by omega)
    (fun c => score X G κ (r / 32) (r % 32) (c % 32) (e / 64) * X c (256 + e))]
  apply sum_congr rfl
  intro c hc
  have hc' := mem_range.mp hc
  rw [table_eq]
  by_cases h1 : c / 32 = r / 32
  · rw [if_pos h1]
    unfold score
    by_cases h2 : c ≤ r
    · rw [if_pos ⟨h1.symm, h2⟩, if_pos (by omega)]
      congr 1
      unfold full
      rw [← sum_group 4 (e / 64) (by omega) (fun d => X (32 * (r / 32) + r % 32) d * κ *
        X (32 * (r / 32) + c % 32) (128 + d) *
        Real.exp (cum G (r / 32) (r % 32) d - cum G (r / 32) (c % 32) d))]
      apply sum_congr rfl
      intro d _
      by_cases h3 : d / 32 = e / 64
      · rw [if_pos h3, if_pos h3, ex_cum _ r hr, ex_cum _ c (by omega), h1,
          show 32 * (r / 32) + r % 32 = r by omega, show 32 * (r / 32) + c % 32 = c by omega]
        rfl
      · rw [if_neg h3, if_neg h3]; ring
    · rw [if_neg (by tauto), if_neg (by omega)]
  · rw [if_neg h1, if_neg (by tauto)]; ring
end Gla
-- ==== Proof.TileReal.lean ====
module

public import proofs.«01_k».proof.Proof.TileParts
public import proofs.«01_k».proof.Proof.Spec

/-! A block over the real numbers: where the inputs are finite and the 0/1 matrices are the ones
the call is given, its values are those of the chunked recurrence. -/

@[expose] public section
set_option maxRecDepth 16384
set_option maxHeartbeats 1000000
noncomputable section

namespace Cert.KernelIdeal.Tile
open Cert.KernelIdeal Cert.KernelIdeal.Gen Idealize.ShloMosaic Idealize.ShloMosaic.TcCoe

theorem coe_sum (s : Finset ℕ) (f : ℕ → ℝ) :
    ∑ i ∈ s, ((f i : ℝ) : EReal) = ((∑ i ∈ s, f i : ℝ) : EReal) := by
  induction s using Finset.induction_on with
  | empty => simp
  | insert a s ha ih => rw [Finset.sum_insert ha, Finset.sum_insert ha, EReal.coe_add, ih]

theorem sum_real (n : ℕ) (F : Fin n → EReal) (f : ℕ → ℝ) (h : ∀ i : Fin n, F i = ((f i.val : ℝ) : EReal)) :
    ∑ i, F i = ((∑ i ∈ Finset.range n, f i : ℝ) : EReal) := by
  rw [← coe_sum, Finset.sum_range]
  exact Finset.sum_congr rfl fun i _ => h i

theorem ite_real (p : Prop) [Decidable p] (a : ℝ) :
    (if p then ((a : ℝ) : EReal) else 0) = ((if p then a else 0 : ℝ) : EReal) := by
  by_cases h : p <;> simp [h]
theorem ite_real' (p : Prop) [Decidable p] (a : ℝ) :
    (if p then 0 else ((a : ℝ) : EReal)) = ((if p then 0 else a : ℝ) : EReal) := by
  by_cases h : p <;> simp [h]

section
variable {x : FVec Ideal S256x896 .f32} {D : Vec Ideal S12x256x256 .bf16}
  {w : FVec Ideal S128x128 .bf16} {b : FVec Ideal S1x128 .f32} {st : FVec Ideal S256x128 .f32}
  {X G S : ℕ → ℕ → ℝ} {κ : ℝ}

theorem expo_real {d : FVec Ideal S1x256x256 .bf16} {i : ℕ}
    (hg : ∀ (r : Fin 256) (c : Fin 128), lgE (zE x w b r c) = ((G r.val c.val : ℝ) : EReal))
    (hd : ∀ r c : Fin 256, d (ix3 0 r c) = if Gla.pm i r.val c.val then 1 else 0)
    (r : Fin 256) (c : Fin 128) :
    expoV (tg x w b) d (ix2 r c) = ((Gla.ex (fun j => G j c.val) i r.val : ℝ) : EReal) := by
  rw [expoV_at, sum_real 256 _ (fun j => if Gla.pm i r.val j then G j c.val else 0),
    sum_real 256 _ (fun _ => 0)]
  · rw [Finset.sum_const_zero, EReal.coe_zero, add_zero]; rfl
  · intro j
    rw [tg_at, dif_neg (by simp), hg, ← EReal.coe_sub, sub_self, EReal.coe_zero, mul_zero]
  · intro j
    rw [tg_at, dif_pos c.isLt, hd, hg]
    by_cases h : Gla.pm i r.val j.val <;> simp [h]

theorem onOdd_real {m : IVec S256x128 1} {a e : FVec Ideal S256x128 .f32} {A E : ℕ → ℕ → ℝ}
    {p : ℕ → Prop} [DecidablePred p] (hm : ∀ (r : Fin 256) (c : Fin 128), m (ix2 r c) = if p r.val then 1#1 else 0#1)
    (ha : ∀ (r : Fin 256) (c : Fin 128), a (ix2 r c) = ((A r.val c.val : ℝ) : EReal))
    (he : ∀ (r : Fin 256) (c : Fin 128), e (ix2 r c) = ((E r.val c.val : ℝ) : EReal))
    (r : Fin 256) (c : Fin 128) : onOdd m a e (ix2 r c) =
      ((if p r.val then A r.val c.val * Real.exp (E r.val c.val) else 0 : ℝ) : EReal) := by
  rw [onOdd_at, hm, ha, he, Ideal.exp_coe, ← EReal.coe_mul, select_ite, ite_real]

theorem onEven_real {m : IVec S256x128 1} {a e : FVec Ideal S256x128 .f32} {A E : ℕ → ℕ → ℝ}
    {p : ℕ → Prop} [DecidablePred p] (hm : ∀ (r : Fin 256) (c : Fin 128), m (ix2 r c) = if p r.val then 1#1 else 0#1)
    (ha : ∀ (r : Fin 256) (c : Fin 128), a (ix2 r c) = ((A r.val c.val : ℝ) : EReal))
    (he : ∀ (r : Fin 256) (c : Fin 128), e (ix2 r c) = ((E r.val c.val : ℝ) : EReal))
    (r : Fin 256) (c : Fin 128) : onEven m a e (ix2 r c) =
      ((if p r.val then 0 else A r.val c.val * Real.exp (E r.val c.val) : ℝ) : EReal) := by
  rw [onEven_at, hm, ha, he, Ideal.exp_coe, ← EReal.coe_mul, select_ite, ite_real']

theorem scoreV_real {m : IVec S1024x256 1} {q k : FVec Ideal S256x128 .f32} {Q K : ℕ → ℕ → ℝ}
    {p : ℕ → ℕ → Prop} [∀ r c, Decidable (p r c)]
    (hm : ∀ (r : Fin 1024) (c : Fin 256), m (ix2 r c) = if p (r.val % 256) c.val then 1#1 else 0#1)
    (hq : ∀ (r : Fin 256) (c : Fin 128), q (ix2 r c) = ((Q r.val c.val : ℝ) : EReal))
    (hk : ∀ (r : Fin 256) (c : Fin 128), k (ix2 r c) = ((K r.val c.val : ℝ) : EReal))
    (r : Fin 1024) (c : Fin 256) : scoreV m q k (ix2 r c) =
      ((if p (r.val % 256) c.val then ∑ d ∈ Finset.range 128,
        (if d / 32 = r.val / 256 then Q (r.val % 256) d else 0) * K c.val d else 0 : ℝ) : EReal) := by
  rw [scoreV_at, sum_real 128 _ (fun d =>
    (if d / 32 = r.val / 256 then Q (r.val % 256) d else 0) * K c.val d), hm, select_ite, ite_real]
  intro d
  rw [hq, hk, ite_real, ← EReal.coe_mul]

variable (hx : ∀ (r : Fin 256) (c : Fin 896), x (ix2 r c) = ((X r.val c.val : ℝ) : EReal))
  (hg : ∀ (r : Fin 256) (c : Fin 128), lgE (zE x w b r c) = ((G r.val c.val : ℝ) : EReal))
  (hD : ∀ (i : Fin 12) (r c : Fin 256), D (ix3 i r c) = if Gla.pm i.val r.val c.val then 1 else 0)
  (hκ : Ideal.ofBits .f32 0x3E3504F3#32 = ((κ : ℝ) : EReal))
  (hst : ∀ (e : Fin 256) (c : Fin 128), st (ix2 e c) =
    ((if e.val / 64 = c.val / 32 then S e.val c.val else 0 : ℝ) : EReal))

include hx hκ in
theorem tq_real (r : Fin 256) (c : Fin 128) : tq x (ix2 r c) = ((X r.val c.val * κ : ℝ) : EReal) := by
  rw [tq_at, hx, hκ, EReal.coe_mul]
include hx in
theorem tk_real (r : Fin 256) (c : Fin 128) : tk x (ix2 r c) = ((X r.val (128 + c.val) : ℝ) : EReal) := by
  rw [tk_at, hx]
include hx in
theorem tv_real (r e : Fin 256) : tv x (ix2 r e) = ((X r.val (256 + e.val) : ℝ) : EReal) := by
  rw [tv_at, hx]

include hD in
theorem dm0_real (r c : Fin 256) : dm0 D (ix3 0 r c) = if Gla.pm 0 r.val c.val then 1 else 0 := by
  rw [dm0_at, hD]; rfl
include hD in
theorem dm1_real (r c : Fin 256) : dm1 D (ix3 0 r c) = if Gla.pm 1 r.val c.val then 1 else 0 := by
  rw [dm1_at, hD]; rfl
include hD in
theorem dm2_real (r c : Fin 256) : dm2 D (ix3 0 r c) = if Gla.pm 2 r.val c.val then 1 else 0 := by
  rw [dm2_at, hD]; rfl
include hD in
theorem dm3_real (r c : Fin 256) : dm3 D (ix3 0 r c) = if Gla.pm 3 r.val c.val then 1 else 0 := by
  rw [dm3_at, hD]; rfl
include hD in
theorem dm4_real (r c : Fin 256) : dm4 D (ix3 0 r c) = if Gla.pm 4 r.val c.val then 1 else 0 := by
  rw [dm4_at, hD]; rfl
include hD in
theorem dm5_real (r c : Fin 256) : dm5 D (ix3 0 r c) = if Gla.pm 5 r.val c.val then 1 else 0 := by
  rw [dm5_at, hD]; rfl
include hD in
theorem dm6_real (r c : Fin 256) : dm6 D (ix3 0 r c) = if Gla.pm 6 r.val c.val then 1 else 0 := by
  rw [dm6_at, hD]; rfl
include hD in
theorem dm7_real (r c : Fin 256) : dm7 D (ix3 0 r c) = if Gla.pm 7 r.val c.val then 1 else 0 := by
  rw [dm7_at, hD]; rfl
include hD in
theorem dm8_real (r c : Fin 256) : dm8 D (ix3 0 r c) = if Gla.pm 8 r.val c.val then 1 else 0 := by
  rw [dm8_at, hD]; rfl
include hD in
theorem dm9_real (r c : Fin 256) : dm9 D (ix3 0 r c) = if Gla.pm 9 r.val c.val then 1 else 0 := by
  rw [dm9_at, hD]; rfl
include hD in
theorem dm10_real (r c : Fin 256) : dm10 D (ix3 0 r c) = if Gla.pm 10 r.val c.val then 1 else 0 := by
  rw [dm10_at, hD]; rfl
include hD in
theorem dm11_real (r c : Fin 256) : dm11 D (ix3 0 r c) = if Gla.pm 11 r.val c.val then 1 else 0 := by
  rw [dm11_at, hD]; rfl

include hx hg hD hκ in
theorem att1_real (r : Fin 1024) (c : Fin 256) : att1 x D w b (ix2 r c) =
    ((Gla.table (fun r d => X r d * κ) (fun r d => X r (128 + d)) G (r.val / 256) (r.val % 256) c.val : ℝ) : EReal) := by
  have hq := tq_real hx hκ
  have hk := tk_real hx
  have e1 : att1 x D w b (ix2 r c) = scoreV (cmpi .eq rowA colI) (tq x) (tk x) (ix2 r c)
      + scoreV (sameV 32#32) (q16 x D w b) (k16 x D w b) (ix2 r c)
      + scoreV (sameV 16#32) (q8 x D w b) (k8 x D w b) (ix2 r c)
      + scoreV (sameV 8#32) (q4 x D w b) (k4 x D w b) (ix2 r c)
      + scoreV (sameV 4#32) (q2 x D w b) (k2 x D w b) (ix2 r c)
      + scoreV (sameV 2#32) (q1 x D w b) (k1 x D w b) (ix2 r c) := by
    rw [att1_eq, att2_eq, att4_eq, att8_eq, att16_eq, att0_eq]
    rfl
  rw [e1, q16_eq, k16_eq, q8_eq, k8_eq, q4_eq, k4_eq, q2_eq, k2_eq, q1_eq, k1_eq]
  rw [scoreV_real (p := fun r c => r = c) diag_at (Q := fun r d => X r d * κ) (K := fun r d => X r (128 + d)) hq hk]
  rw [scoreV_real (p := fun r c => r / 32 = c / 32) (sameV_at 32 (by decide))
    (Q := fun r d => if r / 16 % 2 = 1 then X r d * κ * Real.exp (Gla.ex (fun j => G j d) 2 r) else 0)
    (K := fun r d => if r / 16 % 2 = 1 then 0 else X r (128 + d) * Real.exp (Gla.ex (fun j => G j d) 3 r))
    (onOdd_real (p := fun r => r / 16 % 2 = 1) odd16_at (A := fun r d => X r d * κ) hq (E := fun r c => Gla.ex (fun j => G j c) 2 r) (expo_real hg (dm2_real hD)))
    (onEven_real (p := fun r => r / 16 % 2 = 1) odd16_at (A := fun r d => X r (128 + d)) hk (E := fun r c => Gla.ex (fun j => G j c) 3 r) (expo_real hg (dm3_real hD)))]
  rw [scoreV_real (p := fun r c => r / 16 = c / 16) (sameV_at 16 (by decide))
    (Q := fun r d => if r / 8 % 2 = 1 then X r d * κ * Real.exp (Gla.ex (fun j => G j d) 4 r) else 0)
    (K := fun r d => if r / 8 % 2 = 1 then 0 else X r (128 + d) * Real.exp (Gla.ex (fun j => G j d) 5 r))
    (onOdd_real (p := fun r => r / 8 % 2 = 1) odd8_at (A := fun r d => X r d * κ) hq (E := fun r c => Gla.ex (fun j => G j c) 4 r) (expo_real hg (dm4_real hD)))
    (onEven_real (p := fun r => r / 8 % 2 = 1) odd8_at (A := fun r d => X r (128 + d)) hk (E := fun r c => Gla.ex (fun j => G j c) 5 r) (expo_real hg (dm5_real hD)))]
  rw [scoreV_real (p := fun r c => r / 8 = c / 8) (sameV_at 8 (by decide))
    (Q := fun r d => if r / 4 % 2 = 1 then X r d * κ * Real.exp (Gla.ex (fun j => G j d) 6 r) else 0)
    (K := fun r d => if r / 4 % 2 = 1 then 0 else X r (128 + d) * Real.exp (Gla.ex (fun j => G j d) 7 r))
    (onOdd_real (p := fun r => r / 4 % 2 = 1) odd4_at (A := fun r d => X r d * κ) hq (E := fun r c => Gla.ex (fun j => G j c) 6 r) (expo_real hg (dm6_real hD)))
    (onEven_real (p := fun r => r / 4 % 2 = 1) odd4_at (A := fun r d => X r (128 + d)) hk (E := fun r c => Gla.ex (fun j => G j c) 7 r) (expo_real hg (dm7_real hD)))]
  rw [scoreV_real (p := fun r c => r / 4 = c / 4) (sameV_at 4 (by decide))
    (Q := fun r d => if r / 2 % 2 = 1 then X r d * κ * Real.exp (Gla.ex (fun j => G j d) 8 r) else 0)
    (K := fun r d => if r / 2 % 2 = 1 then 0 else X r (128 + d) * Real.exp (Gla.ex (fun j => G j d) 9 r))
    (onOdd_real (p := fun r => r / 2 % 2 = 1) odd2_at (A := fun r d => X r d * κ) hq (E := fun r c => Gla.ex (fun j => G j c) 8 r) (expo_real hg (dm8_real hD)))
    (onEven_real (p := fun r => r / 2 % 2 = 1) odd2_at (A := fun r d => X r (128 + d)) hk (E := fun r c => Gla.ex (fun j => G j c) 9 r) (expo_real hg (dm9_real hD)))]
  rw [scoreV_real (p := fun r c => r / 2 = c / 2) (sameV_at 2 (by decide))
    (Q := fun r d => if r / 1 % 2 = 1 then X r d * κ * Real.exp (Gla.ex (fun j => G j d) 10 r) else 0)
    (K := fun r d => if r / 1 % 2 = 1 then 0 else X r (128 + d) * Real.exp (Gla.ex (fun j => G j d) 11 r))
    (onOdd_real (p := fun r => r / 1 % 2 = 1) odd1_at (A := fun r d => X r d * κ) hq (E := fun r c => Gla.ex (fun j => G j c) 10 r) (expo_real hg (dm10_real hD)))
    (onEven_real (p := fun r => r / 1 % 2 = 1) odd1_at (A := fun r d => X r (128 + d)) hk (E := fun r c => Gla.ex (fun j => G j c) 11 r) (expo_real hg (dm11_real hD)))]
  simp only [← EReal.coe_add]
  rfl

include hx hg hD hκ in
theorem intra_real (r e : Fin 256) : intra x D w b (ix2 r e) =
    ((∑ j ∈ Finset.range 32, Gla.score X G κ (r.val / 32) (r.val % 32) j (e.val / 64) *
      X (32 * (r.val / 32) + j) (256 + e.val) : ℝ) : EReal) := by
  rw [intra_at, ← Gla.table_sum X G κ r.val e.val r.isLt e.isLt]
  apply sum_real
  intro c
  rw [att1_real hx hg hD hκ, tv_real hx, ← EReal.coe_mul]
  have h1 : (256 * (e.val / 64) + r.val) / 256 = e.val / 64 := by have := r.isLt; omega
  have h2 : (256 * (e.val / 64) + r.val) % 256 = r.val := by have := r.isLt; omega
  simp only [h1, h2]

include hg hD in
theorem cum_real (a i : ℕ) (hi : i < 32) (r : Fin 256) (hr : r.val = 32 * a + i) (c : Fin 128) :
    cum x D w b (ix2 r c) = ((Gla.cum G a i c.val : ℝ) : EReal) := by
  rw [cum_eq, expo_real hg (dm0_real hD), Gla.ex_cum _ _ r.isLt]
  have h1 : r.val / 32 = a := by omega
  have h2 : r.val % 32 = i := by omega
  rw [h1, h2]
  rfl

include hx hg hD in
theorem ke_real (a i : ℕ) (hi : i < 32) (r : Fin 256) (hr : r.val = 32 * a + i) (c : Fin 128) :
    ke x D w b (ix2 r c) = ((X (32 * a + i) (128 + c.val) *
      Real.exp (Gla.cum G a 31 c.val - Gla.cum G a i c.val) : ℝ) : EReal) := by
  rw [ke_at, tk_real hx, expo_real hg (dm1_real hD), Ideal.exp_coe, ← EReal.coe_mul, Gla.ex_rev _ _ r.isLt]
  have h1 : r.val / 32 = a := by omega
  have h2 : r.val % 32 = i := by omega
  rw [h1, h2, hr]
  rfl

include hx hg hD in
theorem step_real (a : ℕ) (ha : a < 8) (s s' : FVec Ideal S256x128 .f32)
    (hs' : ∀ (e : Fin 256) (c : Fin 128), s' (ix2 e c) =
      s (ix2 e c) * Ideal.exp (cum x D w b (ix2 ⟨32 * a + 31, by omega⟩ c)) + Scalar.select (stMask (ix2 e c))
      (∑ j : Fin 32, vb x (ix2 ⟨32 * a + j.val, by omega⟩ e) * ke x D w b (ix2 ⟨32 * a + j.val, by omega⟩ c)) 0)
    (hs : ∀ (e : Fin 256) (c : Fin 128), s (ix2 e c) =
      ((if e.val / 64 = c.val / 32 then Gla.run X G S a e.val c.val else 0 : ℝ) : EReal))
    (e : Fin 256) (c : Fin 128) : s' (ix2 e c) =
      ((if e.val / 64 = c.val / 32 then Gla.run X G S (a + 1) e.val c.val else 0 : ℝ) : EReal) := by
  rw [hs', hs, cum_real hg hD a 31 (by omega) _ rfl, Ideal.exp_coe, ← EReal.coe_mul, stMask_at, select_ite,
    sum_real 32 _ (fun j => X (32 * a + j) (256 + e.val) * (X (32 * a + j) (128 + c.val) *
      Real.exp (Gla.cum G a 31 c.val - Gla.cum G a j c.val))), ite_real, ← EReal.coe_add]
  · by_cases h : e.val / 64 = c.val / 32
    · rw [if_pos h, if_pos h, if_pos h]; rfl
    · rw [if_neg h, if_neg h, if_neg h]; simp
  · intro j
    rw [vb_at, hx, ke_real hx hg hD a j.val j.isLt _ rfl, ← EReal.coe_mul]

include hx hg hD hst in
theorem sAt_real : ∀ (a : ℕ), a ≤ 8 → ∀ (e : Fin 256) (c : Fin 128), sAt x D w b st a (ix2 e c) =
      ((if e.val / 64 = c.val / 32 then Gla.run X G S a e.val c.val else 0 : ℝ) : EReal) := by
  have h0 : ∀ (e : Fin 256) (c : Fin 128), st (ix2 e c) =
      ((if e.val / 64 = c.val / 32 then Gla.run X G S 0 e.val c.val else 0 : ℝ) : EReal) := hst
  have h1 := step_real hx hg hD 0 (by omega) _ _ (s1_at x D w b st) h0
  have h2 := step_real hx hg hD 1 (by omega) _ _ (s2_at x D w b st) h1
  have h3 := step_real hx hg hD 2 (by omega) _ _ (s3_at x D w b st) h2
  have h4 := step_real hx hg hD 3 (by omega) _ _ (s4_at x D w b st) h3
  have h5 := step_real hx hg hD 4 (by omega) _ _ (s5_at x D w b st) h4
  have h6 := step_real hx hg hD 5 (by omega) _ _ (s6_at x D w b st) h5
  have h7 := step_real hx hg hD 6 (by omega) _ _ (s7_at x D w b st) h6
  have h8 := step_real hx hg hD 7 (by omega) _ _ (s8_at x D w b st) h7
  intro a ha
  match a, ha with
  | 0, _ => exact h0
  | 1, _ => exact h1
  | 2, _ => exact h2
  | 3, _ => exact h3
  | 4, _ => exact h4
  | 5, _ => exact h5
  | 6, _ => exact h6
  | 7, _ => exact h7
  | 8, _ => exact h8

include hx hg hD hκ hst in
/-- A block's output before the norm. -/
theorem orow_real (r e : Fin 256) : orow x D w b st (ix2 r e) =
    ((Gla.runOut X G S κ (r.val / 32) (r.val % 32) e.val : ℝ) : EReal) := by
  have hr : r.val = 32 * (r.val / 32) + r.val % 32 := by omega
  rw [orow_at, intra_real hx hg hD hκ, sum_real 128 _ (fun d =>
    if d / 32 = e.val / 64 then X (32 * (r.val / 32) + r.val % 32) d * κ *
      Real.exp (Gla.cum G (r.val / 32) (r.val % 32) d) * Gla.run X G S (r.val / 32) e.val d else 0),
    ← EReal.coe_add]
  · rw [show (128 : ℕ) = 32 * 4 from rfl, Gla.sum_group 4 (e.val / 64) (by omega)]
    rfl
  · intro d
    rw [qe_at, tq_real hx hκ, cum_real hg hD (r.val / 32) (r.val % 32) (by omega) r hr, Ideal.exp_coe,
      sAt_real hx hg hD hst _ (by omega), ← EReal.coe_mul, ← EReal.coe_mul]
    by_cases h : d.val / 32 = e.val / 64
    · rw [if_pos h.symm, if_pos h, ← hr]
    · rw [if_neg (Ne.symm h), if_neg h, mul_zero]

include hx hg hD hst in
/-- The state a block leaves. -/
theorem s8_real (e : Fin 256) (c : Fin 128) : s8 x D w b st (ix2 e c) =
    ((if e.val / 64 = c.val / 32 then Gla.run X G S 8 e.val c.val else 0 : ℝ) : EReal) :=
  sAt_real hx hg hD hst 8 le_rfl e c

include hx hg hD hκ hst in
/-- A block's output. -/
theorem yrow_real (g : FVec Ideal S1x256 .f32) (a : FVec Ideal S256x256 .bf16) {α : ℝ}
    (ha : ∀ r c : Fin 256, a (ix2 r c) = if r.val / 64 = c.val / 64 then ((α : ℝ) : EReal) else 0)
    (r e : Fin 256) : yrow x D w b st g a (ix2 r e) =
      ((Gla.runOut X G S κ (r.val / 32) (r.val % 32) e.val : ℝ) : EReal) *
      Ideal.rsqrt (((∑ d ∈ Finset.range 64, Gla.runOut X G S κ (r.val / 32) (r.val % 32) (64 * (e.val / 64) + d) *
        Gla.runOut X G S κ (r.val / 32) (r.val % 32) (64 * (e.val / 64) + d)) * α : ℝ) +
        Ideal.ofBits .f32 0x358637BD#32) * g (ix2 0 e) *
      (((X r.val (512 + e.val) : ℝ) : EReal) *
        Ideal.div 1 (1 + Ideal.exp (0 - ((X r.val (512 + e.val) : ℝ) : EReal)))) := by
  rw [yrow_at, tgate_at, hx]
  simp only [orow_real hx hg hD hκ hst]
  rw [sum_real 256 _ (fun c => if c / 64 = e.val / 64 then
      Gla.runOut X G S κ (r.val / 32) (r.val % 32) c * Gla.runOut X G S κ (r.val / 32) (r.val % 32) c * α else 0),
    sum_real 256 _ (fun _ => 0)]
  · rw [Finset.sum_const_zero, EReal.coe_zero, add_zero,
      show Finset.range 256 = Finset.range (64 * 4) from rfl,
      Gla.sum_group64 4 (e.val / 64) (by omega)
        (fun c => Gla.runOut X G S κ (r.val / 32) (r.val % 32) c * Gla.runOut X G S κ (r.val / 32) (r.val % 32) c * α),
      Finset.sum_mul]
  · intro c
    rw [← EReal.coe_mul, ← EReal.coe_sub, sub_self, EReal.coe_zero, zero_mul]
  · intro c
    rw [← EReal.coe_mul, ha]
    by_cases h : c.val / 64 = e.val / 64
    · rw [if_pos h, if_pos h, ← EReal.coe_mul]
    · rw [if_neg h, if_neg h, mul_zero, EReal.coe_zero]
end
end Cert.KernelIdeal.Tile
-- ==== Proof.TileOpen.lean ====
module

public import proofs.«01_k».proof.Proof.TileDefs
public import proofs.«01_k».proof.Proof.Gen.KernelIdeal.Value

/-! What one grid point leaves in its output block and in the carried state, at the point that
resets the state and at the others: the named values of the tile. -/

@[expose] public section
set_option maxRecDepth 16384
set_option maxHeartbeats 400000
noncomputable section

namespace Cert.KernelIdeal.Tile
open Cert.KernelIdeal Cert.KernelIdeal.Gen Idealize.ShloMosaic Idealize.ShloMosaic.TcCoe

theorem offs2 : (![0, 0] : Fin 2 → Nat) = fun _ => 0 := funext fun a => by fin_cases a <;> rfl

/-- The state a reset leaves: zero everywhere. -/
abbrev zeroSt : FVec Ideal S256x128 .f32 := k0_pay2

/-- The output block after a point that resets the state. -/
theorem out_A (c : Dev nD) (i : grid0.Coords) (a2 : Memref sig .tc .vmem S256x896 .f32) (h2 : a2.IsWhole)
    (a3 : Memref sig .tc .vmem S12x256x256 .bf16) (h3 : a3.IsWhole)
    (a4 : Memref sig .tc .vmem S128x128 .bf16) (h4 : a4.IsWhole)
    (a5 : Memref sig .tc .vmem S1x128 .f32) (h5 : a5.IsWhole)
    (a6 : Memref sig .tc .vmem S1x256 .f32) (h6 : a6.IsWhole)
    (a7 : Memref sig .tc .vmem S256x256 .bf16) (h7 : a7.IsWhole)
    (a8 : Memref sig .tc .vmem S256x256 .f32) (h8 : a8.IsWhole)
    (a9 : Memref sig .tc .vmem S256x128 .f32) (h9 : a9.IsWhole)
    (hc : cond0_0 i)
    (x0 : Vec Ideal S256x896 .f32) (x1 : Vec Ideal S12x256x256 .bf16) (x2 : Vec Ideal S128x128 .bf16)
    (x3 : Vec Ideal S1x128 .f32) (x4 : Vec Ideal S1x256 .f32) (x5 : Vec Ideal S256x256 .bf16) :
    out0_A_6 c i a2 h2 a3 h3 a4 h4 a5 h5 a6 h6 a7 h7 a8 h8 a9 h9 hc x0 x1 x2 x3 x4 x5 =
      yrow x0 x1 x2 x3 zeroSt x4 x5 := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_unit_zero offs2]
  simp only [View.readCov_unit_zero (S := S256x128) _ offs2]
  simp only [View.readAt_eq_ld, h2.read_unread, h3.read_unread, h4.read_unread, h5.read_unread,
    h6.read_unread, h7.read_unread, h9.read_unread, View.ld_unit_zero (S := S256x896) offs2, View.ld_unit_zero (S := S128x128) offs2, View.ld_unit_zero (S := S1x128) offs2, View.ld_unit_zero (S := S1x256) offs2, View.ld_unit_zero (S := S256x256) offs2, View.ld_unit_zero (S := S256x128) offs2]
  simp only [yrow, orow, s8, s7, s6, s5, s4, s3, s2, s1, r0, r1, r2, r3, r4, r5, intra, in2, in1, in0, att1, att2, att4, att8, att16, att0, q16, q8, q4, q2, q1, k16, k8, k4, k2, k1, cum, qe, ke, vb, tq, tk, tv, tgate, tg, dm0, dm1, dm2, dm3, dm4, dm5, dm6, dm7, dm8, dm9, dm10, dm11]

/-- The carried state after a point that resets the state. -/
theorem sout_A (c : Dev nD) (i : grid0.Coords) (a2 : Memref sig .tc .vmem S256x896 .f32) (h2 : a2.IsWhole)
    (a3 : Memref sig .tc .vmem S12x256x256 .bf16) (h3 : a3.IsWhole)
    (a4 : Memref sig .tc .vmem S128x128 .bf16) (h4 : a4.IsWhole)
    (a5 : Memref sig .tc .vmem S1x128 .f32) (h5 : a5.IsWhole)
    (a6 : Memref sig .tc .vmem S1x256 .f32) (h6 : a6.IsWhole)
    (a7 : Memref sig .tc .vmem S256x256 .bf16) (h7 : a7.IsWhole)
    (a8 : Memref sig .tc .vmem S256x256 .f32) (h8 : a8.IsWhole)
    (a9 : Memref sig .tc .vmem S256x128 .f32) (h9 : a9.IsWhole)
    (hc : cond0_0 i)
    (x0 : Vec Ideal S256x896 .f32) (x1 : Vec Ideal S12x256x256 .bf16) (x2 : Vec Ideal S128x128 .bf16)
    (x3 : Vec Ideal S1x128 .f32) (x4 : Vec Ideal S1x256 .f32) (x5 : Vec Ideal S256x256 .bf16) :
    sout0_A_0 c i a2 h2 a3 h3 a4 h4 a5 h5 a6 h6 a7 h7 a8 h8 a9 h9 hc x0 x1 x2 x3 x4 x5 =
      s8 x0 x1 x2 x3 zeroSt := by
  unfold sout0_A_0
  rw [View.read_writes_eq_canon _ _ _ (scover0_A_0 c i a2 h2 a3 h3 a4 h4 a5 h5 a6 h6 a7 h7 a8 h8 a9 h9 hc x0 x1 x2 x3 x4 x5)]
  unfold kernelRun0_A
  dsimp only
  sl_unfold_words
  rw [View.canon_cons_unit_zero offs2]
  simp only [View.readCov_unit_zero (S := S256x128) _ offs2]
  simp only [View.readAt_eq_ld, h2.read_unread, h3.read_unread, h4.read_unread, h5.read_unread,
    h6.read_unread, h7.read_unread, h9.read_unread, View.ld_unit_zero (S := S256x896) offs2, View.ld_unit_zero (S := S128x128) offs2, View.ld_unit_zero (S := S1x128) offs2, View.ld_unit_zero (S := S1x256) offs2, View.ld_unit_zero (S := S256x256) offs2, View.ld_unit_zero (S := S256x128) offs2]
  simp only [s8, s5, s1, cum, ke, vb, tk, tv, tg, dm0, dm1]

/-- The output block after any other point. -/
theorem out_B (c : Dev nD) (i : grid0.Coords) (a2 : Memref sig .tc .vmem S256x896 .f32) (h2 : a2.IsWhole)
    (a3 : Memref sig .tc .vmem S12x256x256 .bf16) (h3 : a3.IsWhole)
    (a4 : Memref sig .tc .vmem S128x128 .bf16) (h4 : a4.IsWhole)
    (a5 : Memref sig .tc .vmem S1x128 .f32) (h5 : a5.IsWhole)
    (a6 : Memref sig .tc .vmem S1x256 .f32) (h6 : a6.IsWhole)
    (a7 : Memref sig .tc .vmem S256x256 .bf16) (h7 : a7.IsWhole)
    (a8 : Memref sig .tc .vmem S256x256 .f32) (h8 : a8.IsWhole)
    (a9 : Memref sig .tc .vmem S256x128 .f32) (h9 : a9.IsWhole)
    (hc : ¬cond0_0 i)
    (x0 : Vec Ideal S256x896 .f32) (x1 : Vec Ideal S12x256x256 .bf16) (x2 : Vec Ideal S128x128 .bf16)
    (x3 : Vec Ideal S1x128 .f32) (x4 : Vec Ideal S1x256 .f32) (x5 : Vec Ideal S256x256 .bf16) (xs : Vec Ideal S256x128 .f32) :
    out0_B_6 c i a2 h2 a3 h3 a4 h4 a5 h5 a6 h6 a7 h7 a8 h8 a9 h9 hc x0 x1 x2 x3 x4 x5 xs =
      yrow x0 x1 x2 x3 xs x4 x5 := by
  unfold out0_B_6
  rw [View.read_writes_eq_canon _ _ _ (cover0_B_6 c i a2 h2 a3 h3 a4 h4 a5 h5 a6 h6 a7 h7 a8 h8 a9 h9 hc x0 x1 x2 x3 x4 x5 xs)]
  unfold kernelRun0_B
  dsimp only
  sl_unfold_words
  rw [View.canon_unit_zero offs2]
  simp only [View.readAt_eq_ld, h2.read_unread, h3.read_unread, h4.read_unread, h5.read_unread,
    h6.read_unread, h7.read_unread, h9.read_unread, View.ld_unit_zero (S := S256x896) offs2, View.ld_unit_zero (S := S128x128) offs2, View.ld_unit_zero (S := S1x128) offs2, View.ld_unit_zero (S := S1x256) offs2, View.ld_unit_zero (S := S256x256) offs2, View.ld_unit_zero (S := S256x128) offs2]
  simp only [yrow, orow, s8, s7, s6, s5, s4, s3, s2, s1, r0, r1, r2, r3, r4, r5, intra, in2, in1, in0, att1, att2, att4, att8, att16, att0, q16, q8, q4, q2, q1, k16, k8, k4, k2, k1, cum, qe, ke, vb, tq, tk, tv, tgate, tg, dm0, dm1, dm2, dm3, dm4, dm5, dm6, dm7, dm8, dm9, dm10, dm11]

/-- The carried state after any other point. -/
theorem sout_B (c : Dev nD) (i : grid0.Coords) (a2 : Memref sig .tc .vmem S256x896 .f32) (h2 : a2.IsWhole)
    (a3 : Memref sig .tc .vmem S12x256x256 .bf16) (h3 : a3.IsWhole)
    (a4 : Memref sig .tc .vmem S128x128 .bf16) (h4 : a4.IsWhole)
    (a5 : Memref sig .tc .vmem S1x128 .f32) (h5 : a5.IsWhole)
    (a6 : Memref sig .tc .vmem S1x256 .f32) (h6 : a6.IsWhole)
    (a7 : Memref sig .tc .vmem S256x256 .bf16) (h7 : a7.IsWhole)
    (a8 : Memref sig .tc .vmem S256x256 .f32) (h8 : a8.IsWhole)
    (a9 : Memref sig .tc .vmem S256x128 .f32) (h9 : a9.IsWhole)
    (hc : ¬cond0_0 i)
    (x0 : Vec Ideal S256x896 .f32) (x1 : Vec Ideal S12x256x256 .bf16) (x2 : Vec Ideal S128x128 .bf16)
    (x3 : Vec Ideal S1x128 .f32) (x4 : Vec Ideal S1x256 .f32) (x5 : Vec Ideal S256x256 .bf16) (xs : Vec Ideal S256x128 .f32) :
    sout0_B_0 c i a2 h2 a3 h3 a4 h4 a5 h5 a6 h6 a7 h7 a8 h8 a9 h9 hc x0 x1 x2 x3 x4 x5 xs =
      s8 x0 x1 x2 x3 xs := by
  unfold sout0_B_0
  rw [View.read_writes_eq_canon _ _ _ (scover0_B_0 c i a2 h2 a3 h3 a4 h4 a5 h5 a6 h6 a7 h7 a8 h8 a9 h9 hc x0 x1 x2 x3 x4 x5 xs)]
  unfold kernelRun0_B
  dsimp only
  sl_unfold_words
  rw [View.canon_unit_zero offs2]
  simp only [View.readAt_eq_ld, h2.read_unread, h3.read_unread, h4.read_unread, h5.read_unread,
    h6.read_unread, h7.read_unread, h9.read_unread, View.ld_unit_zero (S := S256x896) offs2, View.ld_unit_zero (S := S128x128) offs2, View.ld_unit_zero (S := S1x128) offs2, View.ld_unit_zero (S := S1x256) offs2, View.ld_unit_zero (S := S256x256) offs2, View.ld_unit_zero (S := S256x128) offs2]
  simp only [s8, s5, s1, cum, ke, vb, tk, tv, tg, dm0, dm1]

end Cert.KernelIdeal.Tile
-- ==== Proof.HostRead.lean ====
module

public import proofs.«01_k».proof.Proof.TileReal
public import proofs.«01_k».proof.Proof.TileOpen
public import Idealize.ShloMosaic.Lib.StableHlo.ReadAt

/-! The arrays the call is given, read at an index: the twelve 0/1 matrices, the padded weight, the bias. -/

@[expose] public section
set_option maxRecDepth 16384
set_option maxHeartbeats 4000000
noncomputable section

namespace Cert.KernelIdeal.Tile
open Cert.KernelIdeal Cert.KernelIdeal.Gen Idealize.ShloMosaic Idealize.ShloMosaic.TcCoe

theorem small_toInt (a : ℕ) (ha : a < 4096) : (BitVec.ofNat 32 a).toInt = a := by
  rw [BitVec.toInt_eq_toNat_of_lt]
  · simp only [BitVec.toNat_ofNat]; congr 1; omega
  · simp only [BitVec.toNat_ofNat]; omega

theorem ofBool_ite (p : Prop) [Decidable p] : BitVec.ofBool (decide p) = if p then 1#1 else 0#1 := by
  by_cases h : p <;> simp [h]
theorem sle_word (a b : ℕ) (ha : a < 4096) (hb : b < 4096) :
    IntOp.cmpi .sle (BitVec.ofNat 32 a) (BitVec.ofNat 32 b) = if a ≤ b then 1#1 else 0#1 := by
  have h : IntOp.cmpi .sle (BitVec.ofNat 32 a) (BitVec.ofNat 32 b) =
      BitVec.ofBool (decide ((BitVec.ofNat 32 a).toInt ≤ (BitVec.ofNat 32 b).toInt)) := rfl
  rw [h, small_toInt a ha, small_toInt b hb, ofBool_ite]
  simp only [Int.ofNat_le]
theorem sgt_word (a b : ℕ) (ha : a < 4096) (hb : b < 4096) :
    IntOp.cmpi .sgt (BitVec.ofNat 32 a) (BitVec.ofNat 32 b) = if b < a then 1#1 else 0#1 := by
  have h : IntOp.cmpi .sgt (BitVec.ofNat 32 a) (BitVec.ofNat 32 b) =
      BitVec.ofBool (decide ((BitVec.ofNat 32 b).toInt < (BitVec.ofNat 32 a).toInt)) := rfl
  rw [h, small_toInt a ha, small_toInt b hb, ofBool_ite]
  simp only [Int.ofNat_lt]
theorem sge_word (a b : ℕ) (ha : a < 4096) (hb : b < 4096) :
    IntOp.cmpi .sge (BitVec.ofNat 32 a) (BitVec.ofNat 32 b) = if b ≤ a then 1#1 else 0#1 := by
  have h : IntOp.cmpi .sge (BitVec.ofNat 32 a) (BitVec.ofNat 32 b) =
      BitVec.ofBool (decide ((BitVec.ofNat 32 b).toInt ≤ (BitVec.ofNat 32 a).toInt)) := rfl
  rw [h, small_toInt a ha, small_toInt b hb, ofBool_ite]
  simp only [Int.ofNat_le]
theorem and_word (p q : Prop) [Decidable p] [Decidable q] :
    IntOp.andi (if p then 1#1 else 0#1) (if q then 1#1 else 0#1) = if p ∧ q then 1#1 else 0#1 := by
  by_cases h : p <;> by_cases h' : q <;> simp [h, h', IntOp.andi]
theorem not_word (p : Prop) [Decidable p] :
    (~~~(if p then 1#1 else 0#1) : BitVec 1) = if ¬p then 1#1 else 0#1 := by
  by_cases h : p <;> simp [h]
theorem conv_word (p : Prop) [Decidable p] :
    (FloatOps.uitofp .f32 (if p then 1#1 else 0#1 : BitVec 1) : Ideal .f32) = if p then 1 else 0 := by
  by_cases h : p
  · rw [if_pos h, if_pos h]
    show (((1#1 : BitVec 1).toNat : ℝ) : EReal) = 1
    simp
  · rw [if_neg h, if_neg h]
    show (((0#1 : BitVec 1).toNat : ℝ) : EReal) = 0
    simp
theorem mul_word (a b : ℕ) : IntOp.muli (BitVec.ofNat 32 a) (BitVec.ofNat 32 b) = BitVec.ofNat 32 (a * b) := by
  simp [IntOp.muli, BitVec.ofNat_mul]
theorem end_word (a b : ℕ) (hb : 0 < b) : IntOp.subi (IntOp.addi (BitVec.ofNat 32 a) (BitVec.ofNat 32 b)) 1#32 =
    BitVec.ofNat 32 (a + (b - 1)) := by
  obtain ⟨k, rfl⟩ : ∃ k, b = k + 1 := ⟨b - 1, by omega⟩
  show BitVec.ofNat 32 a + BitVec.ofNat 32 (k + 1) - 1#32 = _
  rw [← BitVec.ofNat_add, ← Nat.add_assoc, BitVec.ofNat_add, BitVec.add_sub_cancel]
  rfl
theorem div32_word : ∀ i : Fin 256, IntOp.divsi .host (BitVec.ofNat 32 i.val) 32#32 = BitVec.ofNat 32 (i.val / 32) := by
  decide +kernel
theorem div16_word : ∀ i : Fin 256, IntOp.divsi .host (BitVec.ofNat 32 i.val) 16#32 = BitVec.ofNat 32 (i.val / 16) := by
  decide +kernel
theorem div8_word : ∀ i : Fin 256, IntOp.divsi .host (BitVec.ofNat 32 i.val) 8#32 = BitVec.ofNat 32 (i.val / 8) := by
  decide +kernel
theorem div4_word : ∀ i : Fin 256, IntOp.divsi .host (BitVec.ofNat 32 i.val) 4#32 = BitVec.ofNat 32 (i.val / 4) := by
  decide +kernel
theorem div2_word : ∀ i : Fin 256, IntOp.divsi .host (BitVec.ofNat 32 i.val) 2#32 = BitVec.ofNat 32 (i.val / 2) := by
  decide +kernel
theorem div1_word : ∀ i : Fin 256, IntOp.divsi .host (BitVec.ofNat 32 i.val) 1#32 = BitVec.ofNat 32 (i.val / 1) := by
  decide +kernel
theorem rem2_word : ∀ i : Fin 256, IntOp.remsi .host (BitVec.ofNat 32 i.val) 2#32 = BitVec.ofNat 32 (i.val % 2) := by
  decide +kernel
theorem rem2_word' (n : ℕ) (h : n < 256) : IntOp.remsi .host (BitVec.ofNat 32 n) 2#32 = BitVec.ofNat 32 (n % 2) :=
  rem2_word ⟨n, h⟩

variable (m : (ℓ : Loc nD τ sig) → Buf (Elt Ideal) ℓ)
theorem V158_0 (c : Dev nD) (r j : Fin 256) : (V m c main_v158 : S12x256x256.Idx → Ideal .bf16) (ix3 (0 : Fin 12) r j) =
    if Gla.pm 0 r.val j.val then (1 : EReal) else 0 := by
  show (V m c main_v158) (ix3 (0 : Fin 12) r j) = _
  unfold V
  simp only [List.flatten_cons, List.flatten_nil, List.append_nil]
  after_reads_at
  after_reads_at
  rw [div32_word, div32_word, cmp_word _ _ (by omega) (by omega), sle_word _ _ (by omega) (by omega), and_word, conv_word]
  simp only [Gla.pm, decide_eq_true_eq]
theorem V158_1 (c : Dev nD) (r j : Fin 256) : (V m c main_v158 : S12x256x256.Idx → Ideal .bf16) (ix3 (1 : Fin 12) r j) =
    if Gla.pm 1 r.val j.val then (1 : EReal) else 0 := by
  show (V m c main_v158) (ix3 (1 : Fin 12) r j) = _
  unfold V
  simp only [List.flatten_cons, List.flatten_nil, List.append_nil]
  after_reads_at
  after_reads_at
  rw [div32_word, div32_word, cmp_word _ _ (by omega) (by omega), sgt_word _ _ (by omega) (by omega), and_word, conv_word]
  simp only [Gla.pm, decide_eq_true_eq]
theorem V158_2 (c : Dev nD) (r j : Fin 256) : (V m c main_v158 : S12x256x256.Idx → Ideal .bf16) (ix3 (2 : Fin 12) r j) =
    if Gla.pm 2 r.val j.val then (1 : EReal) else 0 := by
  show (V m c main_v158) (ix3 (2 : Fin 12) r j) = _
  unfold V
  simp only [List.flatten_cons, List.flatten_nil, List.append_nil]
  after_reads_at
  after_reads_at
  have h1 : IntOp.cmpi .eq (IntOp.remsi .host (IntOp.divsi .host (BitVec.ofNat 32 r.val) 16#32) 2#32) 1#32 =
      if r.val / 16 % 2 = 1 then 1#1 else 0#1 := by
    rw [div16_word, rem2_word' _ (by omega)]
    exact cmp_word _ 1 (by omega) (by omega)
  have h2 : IntOp.cmpi .sge (BitVec.ofNat 32 j.val) (IntOp.muli (IntOp.divsi .host (BitVec.ofNat 32 r.val) 16#32) 16#32) =
      if r.val / 16 * 16 ≤ j.val then 1#1 else 0#1 := by
    rw [div16_word]
    rw [show IntOp.muli (BitVec.ofNat 32 (r.val / 16)) 16#32 = BitVec.ofNat 32 (r.val / 16 * 16) from mul_word _ 16]
    exact sge_word _ _ (by omega) (by omega)
  rw [h1, h2, sle_word _ _ (by omega) (by omega), and_word, and_word, conv_word]
  simp only [Gla.pm, decide_eq_true_eq, and_assoc]
theorem V158_3 (c : Dev nD) (r j : Fin 256) : (V m c main_v158 : S12x256x256.Idx → Ideal .bf16) (ix3 (3 : Fin 12) r j) =
    if Gla.pm 3 r.val j.val then (1 : EReal) else 0 := by
  show (V m c main_v158) (ix3 (3 : Fin 12) r j) = _
  unfold V
  simp only [List.flatten_cons, List.flatten_nil, List.append_nil]
  after_reads_at
  after_reads_at
  have h1 : IntOp.cmpi .eq (IntOp.remsi .host (IntOp.divsi .host (BitVec.ofNat 32 r.val) 16#32) 2#32) 1#32 =
      if r.val / 16 % 2 = 1 then 1#1 else 0#1 := by
    rw [div16_word, rem2_word' _ (by omega)]
    exact cmp_word _ 1 (by omega) (by omega)
  have h2 : IntOp.cmpi .sle (BitVec.ofNat 32 j.val) (IntOp.subi (IntOp.addi (IntOp.muli (IntOp.divsi .host (BitVec.ofNat 32 r.val) 16#32) 16#32) 16#32) 1#32) =
      if j.val ≤ r.val / 16 * 16 + 15 then 1#1 else 0#1 := by
    rw [div16_word]
    rw [show IntOp.muli (BitVec.ofNat 32 (r.val / 16)) 16#32 = BitVec.ofNat 32 (r.val / 16 * 16) from mul_word _ 16]
    rw [show IntOp.subi (IntOp.addi (BitVec.ofNat 32 (r.val / 16 * 16)) 16#32) 1#32 = BitVec.ofNat 32 (r.val / 16 * 16 + 15) from end_word _ 16 (by omega)]
    exact sle_word _ _ (by omega) (by omega)
  rw [h1, h2, sgt_word _ _ (by omega) (by omega), not_word, and_word, and_word, conv_word]
  simp only [Gla.pm, decide_eq_true_eq, and_assoc]
theorem V158_4 (c : Dev nD) (r j : Fin 256) : (V m c main_v158 : S12x256x256.Idx → Ideal .bf16) (ix3 (4 : Fin 12) r j) =
    if Gla.pm 4 r.val j.val then (1 : EReal) else 0 := by
  show (V m c main_v158) (ix3 (4 : Fin 12) r j) = _
  unfold V
  simp only [List.flatten_cons, List.flatten_nil, List.append_nil]
  after_reads_at
  after_reads_at
  have h1 : IntOp.cmpi .eq (IntOp.remsi .host (IntOp.divsi .host (BitVec.ofNat 32 r.val) 8#32) 2#32) 1#32 =
      if r.val / 8 % 2 = 1 then 1#1 else 0#1 := by
    rw [div8_word, rem2_word' _ (by omega)]
    exact cmp_word _ 1 (by omega) (by omega)
  have h2 : IntOp.cmpi .sge (BitVec.ofNat 32 j.val) (IntOp.muli (IntOp.divsi .host (BitVec.ofNat 32 r.val) 8#32) 8#32) =
      if r.val / 8 * 8 ≤ j.val then 1#1 else 0#1 := by
    rw [div8_word]
    rw [show IntOp.muli (BitVec.ofNat 32 (r.val / 8)) 8#32 = BitVec.ofNat 32 (r.val / 8 * 8) from mul_word _ 8]
    exact sge_word _ _ (by omega) (by omega)
  rw [h1, h2, sle_word _ _ (by omega) (by omega), and_word, and_word, conv_word]
  simp only [Gla.pm, decide_eq_true_eq, and_assoc]
theorem V158_5 (c : Dev nD) (r j : Fin 256) : (V m c main_v158 : S12x256x256.Idx → Ideal .bf16) (ix3 (5 : Fin 12) r j) =
    if Gla.pm 5 r.val j.val then (1 : EReal) else 0 := by
  show (V m c main_v158) (ix3 (5 : Fin 12) r j) = _
  unfold V
  simp only [List.flatten_cons, List.flatten_nil, List.append_nil]
  after_reads_at
  after_reads_at
  have h1 : IntOp.cmpi .eq (IntOp.remsi .host (IntOp.divsi .host (BitVec.ofNat 32 r.val) 8#32) 2#32) 1#32 =
      if r.val / 8 % 2 = 1 then 1#1 else 0#1 := by
    rw [div8_word, rem2_word' _ (by omega)]
    exact cmp_word _ 1 (by omega) (by omega)
  have h2 : IntOp.cmpi .sle (BitVec.ofNat 32 j.val) (IntOp.subi (IntOp.addi (IntOp.muli (IntOp.divsi .host (BitVec.ofNat 32 r.val) 8#32) 8#32) 8#32) 1#32) =
      if j.val ≤ r.val / 8 * 8 + 7 then 1#1 else 0#1 := by
    rw [div8_word]
    rw [show IntOp.muli (BitVec.ofNat 32 (r.val / 8)) 8#32 = BitVec.ofNat 32 (r.val / 8 * 8) from mul_word _ 8]
    rw [show IntOp.subi (IntOp.addi (BitVec.ofNat 32 (r.val / 8 * 8)) 8#32) 1#32 = BitVec.ofNat 32 (r.val / 8 * 8 + 7) from end_word _ 8 (by omega)]
    exact sle_word _ _ (by omega) (by omega)
  rw [h1, h2, sgt_word _ _ (by omega) (by omega), not_word, and_word, and_word, conv_word]
  simp only [Gla.pm, decide_eq_true_eq, and_assoc]
theorem V158_6 (c : Dev nD) (r j : Fin 256) : (V m c main_v158 : S12x256x256.Idx → Ideal .bf16) (ix3 (6 : Fin 12) r j) =
    if Gla.pm 6 r.val j.val then (1 : EReal) else 0 := by
  show (V m c main_v158) (ix3 (6 : Fin 12) r j) = _
  unfold V
  simp only [List.flatten_cons, List.flatten_nil, List.append_nil]
  after_reads_at
  after_reads_at
  have h1 : IntOp.cmpi .eq (IntOp.remsi .host (IntOp.divsi .host (BitVec.ofNat 32 r.val) 4#32) 2#32) 1#32 =
      if r.val / 4 % 2 = 1 then 1#1 else 0#1 := by
    rw [div4_word, rem2_word' _ (by omega)]
    exact cmp_word _ 1 (by omega) (by omega)
  have h2 : IntOp.cmpi .sge (BitVec.ofNat 32 j.val) (IntOp.muli (IntOp.divsi .host (BitVec.ofNat 32 r.val) 4#32) 4#32) =
      if r.val / 4 * 4 ≤ j.val then 1#1 else 0#1 := by
    rw [div4_word]
    rw [show IntOp.muli (BitVec.ofNat 32 (r.val / 4)) 4#32 = BitVec.ofNat 32 (r.val / 4 * 4) from mul_word _ 4]
    exact sge_word _ _ (by omega) (by omega)
  rw [h1, h2, sle_word _ _ (by omega) (by omega), and_word, and_word, conv_word]
  simp only [Gla.pm, decide_eq_true_eq, and_assoc]
theorem V158_7 (c : Dev nD) (r j : Fin 256) : (V m c main_v158 : S12x256x256.Idx → Ideal .bf16) (ix3 (7 : Fin 12) r j) =
    if Gla.pm 7 r.val j.val then (1 : EReal) else 0 := by
  show (V m c main_v158) (ix3 (7 : Fin 12) r j) = _
  unfold V
  simp only [List.flatten_cons, List.flatten_nil, List.append_nil]
  after_reads_at
  after_reads_at
  have h1 : IntOp.cmpi .eq (IntOp.remsi .host (IntOp.divsi .host (BitVec.ofNat 32 r.val) 4#32) 2#32) 1#32 =
      if r.val / 4 % 2 = 1 then 1#1 else 0#1 := by
    rw [div4_word, rem2_word' _ (by omega)]
    exact cmp_word _ 1 (by omega) (by omega)
  have h2 : IntOp.cmpi .sle (BitVec.ofNat 32 j.val) (IntOp.subi (IntOp.addi (IntOp.muli (IntOp.divsi .host (BitVec.ofNat 32 r.val) 4#32) 4#32) 4#32) 1#32) =
      if j.val ≤ r.val / 4 * 4 + 3 then 1#1 else 0#1 := by
    rw [div4_word]
    rw [show IntOp.muli (BitVec.ofNat 32 (r.val / 4)) 4#32 = BitVec.ofNat 32 (r.val / 4 * 4) from mul_word _ 4]
    rw [show IntOp.subi (IntOp.addi (BitVec.ofNat 32 (r.val / 4 * 4)) 4#32) 1#32 = BitVec.ofNat 32 (r.val / 4 * 4 + 3) from end_word _ 4 (by omega)]
    exact sle_word _ _ (by omega) (by omega)
  rw [h1, h2, sgt_word _ _ (by omega) (by omega), not_word, and_word, and_word, conv_word]
  simp only [Gla.pm, decide_eq_true_eq, and_assoc]
theorem V158_8 (c : Dev nD) (r j : Fin 256) : (V m c main_v158 : S12x256x256.Idx → Ideal .bf16) (ix3 (8 : Fin 12) r j) =
    if Gla.pm 8 r.val j.val then (1 : EReal) else 0 := by
  show (V m c main_v158) (ix3 (8 : Fin 12) r j) = _
  unfold V
  simp only [List.flatten_cons, List.flatten_nil, List.append_nil]
  after_reads_at
  after_reads_at
  have h1 : IntOp.cmpi .eq (IntOp.remsi .host (IntOp.divsi .host (BitVec.ofNat 32 r.val) 2#32) 2#32) 1#32 =
      if r.val / 2 % 2 = 1 then 1#1 else 0#1 := by
    rw [div2_word, rem2_word' _ (by omega)]
    exact cmp_word _ 1 (by omega) (by omega)
  have h2 : IntOp.cmpi .sge (BitVec.ofNat 32 j.val) (IntOp.muli (IntOp.divsi .host (BitVec.ofNat 32 r.val) 2#32) 2#32) =
      if r.val / 2 * 2 ≤ j.val then 1#1 else 0#1 := by
    rw [div2_word]
    rw [show IntOp.muli (BitVec.ofNat 32 (r.val / 2)) 2#32 = BitVec.ofNat 32 (r.val / 2 * 2) from mul_word _ 2]
    exact sge_word _ _ (by omega) (by omega)
  rw [h1, h2, sle_word _ _ (by omega) (by omega), and_word, and_word, conv_word]
  simp only [Gla.pm, decide_eq_true_eq, and_assoc]
theorem V158_9 (c : Dev nD) (r j : Fin 256) : (V m c main_v158 : S12x256x256.Idx → Ideal .bf16) (ix3 (9 : Fin 12) r j) =
    if Gla.pm 9 r.val j.val then (1 : EReal) else 0 := by
  show (V m c main_v158) (ix3 (9 : Fin 12) r j) = _
  unfold V
  simp only [List.flatten_cons, List.flatten_nil, List.append_nil]
  after_reads_at
  after_reads_at
  have h1 : IntOp.cmpi .eq (IntOp.remsi .host (IntOp.divsi .host (BitVec.ofNat 32 r.val) 2#32) 2#32) 1#32 =
      if r.val / 2 % 2 = 1 then 1#1 else 0#1 := by
    rw [div2_word, rem2_word' _ (by omega)]
    exact cmp_word _ 1 (by omega) (by omega)
  have h2 : IntOp.cmpi .sle (BitVec.ofNat 32 j.val) (IntOp.subi (IntOp.addi (IntOp.muli (IntOp.divsi .host (BitVec.ofNat 32 r.val) 2#32) 2#32) 2#32) 1#32) =
      if j.val ≤ r.val / 2 * 2 + 1 then 1#1 else 0#1 := by
    rw [div2_word]
    rw [show IntOp.muli (BitVec.ofNat 32 (r.val / 2)) 2#32 = BitVec.ofNat 32 (r.val / 2 * 2) from mul_word _ 2]
    rw [show IntOp.subi (IntOp.addi (BitVec.ofNat 32 (r.val / 2 * 2)) 2#32) 1#32 = BitVec.ofNat 32 (r.val / 2 * 2 + 1) from end_word _ 2 (by omega)]
    exact sle_word _ _ (by omega) (by omega)
  rw [h1, h2, sgt_word _ _ (by omega) (by omega), not_word, and_word, and_word, conv_word]
  simp only [Gla.pm, decide_eq_true_eq, and_assoc]
theorem V158_10 (c : Dev nD) (r j : Fin 256) : (V m c main_v158 : S12x256x256.Idx → Ideal .bf16) (ix3 (10 : Fin 12) r j) =
    if Gla.pm 10 r.val j.val then (1 : EReal) else 0 := by
  show (V m c main_v158) (ix3 (10 : Fin 12) r j) = _
  unfold V
  simp only [List.flatten_cons, List.flatten_nil, List.append_nil]
  after_reads_at
  after_reads_at
  have h1 : IntOp.cmpi .eq (IntOp.remsi .host (IntOp.divsi .host (BitVec.ofNat 32 r.val) 1#32) 2#32) 1#32 =
      if r.val / 1 % 2 = 1 then 1#1 else 0#1 := by
    rw [div1_word, rem2_word' _ (by omega)]
    exact cmp_word _ 1 (by omega) (by omega)
  have h2 : IntOp.cmpi .sge (BitVec.ofNat 32 j.val) (IntOp.muli (IntOp.divsi .host (BitVec.ofNat 32 r.val) 1#32) 1#32) =
      if r.val / 1 * 1 ≤ j.val then 1#1 else 0#1 := by
    rw [div1_word]
    rw [show IntOp.muli (BitVec.ofNat 32 (r.val / 1)) 1#32 = BitVec.ofNat 32 (r.val / 1 * 1) from mul_word _ 1]
    exact sge_word _ _ (by omega) (by omega)
  rw [h1, h2, sle_word _ _ (by omega) (by omega), and_word, and_word, conv_word]
  simp only [Gla.pm, decide_eq_true_eq, and_assoc]
theorem V158_11 (c : Dev nD) (r j : Fin 256) : (V m c main_v158 : S12x256x256.Idx → Ideal .bf16) (ix3 (11 : Fin 12) r j) =
    if Gla.pm 11 r.val j.val then (1 : EReal) else 0 := by
  show (V m c main_v158) (ix3 (11 : Fin 12) r j) = _
  unfold V
  simp only [List.flatten_cons, List.flatten_nil, List.append_nil]
  after_reads_at
  after_reads_at
  have h1 : IntOp.cmpi .eq (IntOp.remsi .host (IntOp.divsi .host (BitVec.ofNat 32 r.val) 1#32) 2#32) 1#32 =
      if r.val / 1 % 2 = 1 then 1#1 else 0#1 := by
    rw [div1_word, rem2_word' _ (by omega)]
    exact cmp_word _ 1 (by omega) (by omega)
  have h2 : IntOp.cmpi .sle (BitVec.ofNat 32 j.val) (IntOp.subi (IntOp.addi (IntOp.muli (IntOp.divsi .host (BitVec.ofNat 32 r.val) 1#32) 1#32) 1#32) 1#32) =
      if j.val ≤ r.val / 1 * 1 + 0 then 1#1 else 0#1 := by
    rw [div1_word]
    rw [show IntOp.muli (BitVec.ofNat 32 (r.val / 1)) 1#32 = BitVec.ofNat 32 (r.val / 1 * 1) from mul_word _ 1]
    rw [show IntOp.subi (IntOp.addi (BitVec.ofNat 32 (r.val / 1 * 1)) 1#32) 1#32 = BitVec.ofNat 32 (r.val / 1 * 1 + 0) from end_word _ 1 (by omega)]
    exact sle_word _ _ (by omega) (by omega)
  rw [h1, h2, sgt_word _ _ (by omega) (by omega), not_word, and_word, and_word, conv_word]
  simp only [Gla.pm, decide_eq_true_eq, and_assoc]

/-- The twelve 0/1 matrices. -/
theorem V158_at (c : Dev nD) (i : Fin 12) (r j : Fin 256) : (V m c main_v158 : S12x256x256.Idx → Ideal .bf16) (ix3 i r j) =
    if Gla.pm i.val r.val j.val then (1 : EReal) else 0 := by
  match i with
  | 0 => exact V158_0 m c r j
  | 1 => exact V158_1 m c r j
  | 2 => exact V158_2 m c r j
  | 3 => exact V158_3 m c r j
  | 4 => exact V158_4 m c r j
  | 5 => exact V158_5 m c r j
  | 6 => exact V158_6 m c r j
  | 7 => exact V158_7 m c r j
  | 8 => exact V158_8 m c r j
  | 9 => exact V158_9 m c r j
  | 10 => exact V158_10 m c r j
  | 11 => exact V158_11 m c r j

/-- The padded weight. -/
theorem V1_at (c : Dev nD) (i j : Fin 128) : (V m c main_v1 : S128x128.Idx → Ideal .bf16) (ix2 i j) =
    if h : i.val < 16 then (m ((c : Thread nD τ).loc main_arg1) : S16x128.Idx → EReal) (ix2 ⟨i.val, h⟩ j) else (0 : EReal) := by
  show (V m c main_v1) (ix2 i j) = _
  unfold V
  simp only [List.flatten_cons, List.flatten_nil, List.append_nil]
  after_reads_at
  have h0 : (FloatOps.sitofp .f32 (0#32 : BitVec 32) : Ideal .f32) = 0 := by
    show (((0#32 : BitVec 32).toInt : ℝ) : EReal) = 0
    simp
  rw [h0]

theorem V2_at (c : Dev nD) (j : Fin 128) : (V m c main_v2 : S1x128.Idx → EReal) (ix2 (0 : Fin 1) j) =
    (m ((c : Thread nD τ).loc main_arg2) : S128.Idx → EReal) (ix1 j) := by
  show (V m c main_v2) (ix2 (0 : Fin 1) j) = _
  unfold V
  simp only [List.flatten_cons, List.flatten_nil, List.append_nil]
  after_reads_at

theorem V6_at (c : Dev nD) (j : Fin 256) : (V m c main_v6 : S1x256.Idx → EReal) (ix2 (0 : Fin 1) j) =
    (m ((c : Thread nD τ).loc main_arg3) : S64.Idx → EReal) (ix1 ⟨j.val % 64, by omega⟩) := by
  show (V m c main_v6) (ix2 (0 : Fin 1) j) = _
  unfold V
  simp only [List.flatten_cons, List.flatten_nil, List.append_nil]
  after_reads_at

theorem Vcst_at (c : Dev nD) (i j : Fin 256) : (V m c main_cst : S256x256.Idx → EReal) (ix2 i j) =
    Ideal.ofBits .bf16 (lit0t (256 * i.val + j.val)) := by
  show (V m c main_cst) (ix2 i j) = _
  unfold V
  simp only [List.flatten_cons, List.flatten_nil, List.append_nil]
  after_reads_at
  have e : S256x256.rowMajor (ix2 i j) = (⟨256 * i.val + j.val, by omega⟩ : Fin 65536) := by
    apply Fin.ext
    rw [Shape.rowMajor_val_two]
    show i.val * 256 + j.val = 256 * i.val + j.val
    omega
  rw [e]
end Cert.KernelIdeal.Tile
-- ==== Proof.AvgRows0.lean ====
module

public import proofs.«01_k».proof.KernelIdeal

/-! The table of the averaging matrix: 1/64 on the blocks of 64 columns, zero elsewhere; rows 0 to 31. -/

@[expose] public section
set_option maxRecDepth 16384
set_option maxHeartbeats 4000000

namespace Cert.KernelIdeal.Tile
open Cert.KernelIdeal

theorem avg_rows0 : ∀ i : Fin 8, ∀ j : Fin 256, lit0t (256 * (0 + i.val) + j.val) =
    if (0 + i.val) / 64 = j.val / 64 then 0x3C80#16 else 0#16 := by decide +kernel
theorem avg_rows1 : ∀ i : Fin 8, ∀ j : Fin 256, lit0t (256 * (8 + i.val) + j.val) =
    if (8 + i.val) / 64 = j.val / 64 then 0x3C80#16 else 0#16 := by decide +kernel
theorem avg_rows2 : ∀ i : Fin 8, ∀ j : Fin 256, lit0t (256 * (16 + i.val) + j.val) =
    if (16 + i.val) / 64 = j.val / 64 then 0x3C80#16 else 0#16 := by decide +kernel
theorem avg_rows3 : ∀ i : Fin 8, ∀ j : Fin 256, lit0t (256 * (24 + i.val) + j.val) =
    if (24 + i.val) / 64 = j.val / 64 then 0x3C80#16 else 0#16 := by decide +kernel

end Cert.KernelIdeal.Tile
-- ==== Proof.AvgRows1.lean ====
module

public import proofs.«01_k».proof.KernelIdeal

/-! The table of the averaging matrix: 1/64 on the blocks of 64 columns, zero elsewhere; rows 32 to 63. -/

@[expose] public section
set_option maxRecDepth 16384
set_option maxHeartbeats 4000000

namespace Cert.KernelIdeal.Tile
open Cert.KernelIdeal

theorem avg_rows4 : ∀ i : Fin 8, ∀ j : Fin 256, lit0t (256 * (32 + i.val) + j.val) =
    if (32 + i.val) / 64 = j.val / 64 then 0x3C80#16 else 0#16 := by decide +kernel
theorem avg_rows5 : ∀ i : Fin 8, ∀ j : Fin 256, lit0t (256 * (40 + i.val) + j.val) =
    if (40 + i.val) / 64 = j.val / 64 then 0x3C80#16 else 0#16 := by decide +kernel
theorem avg_rows6 : ∀ i : Fin 8, ∀ j : Fin 256, lit0t (256 * (48 + i.val) + j.val) =
    if (48 + i.val) / 64 = j.val / 64 then 0x3C80#16 else 0#16 := by decide +kernel
theorem avg_rows7 : ∀ i : Fin 8, ∀ j : Fin 256, lit0t (256 * (56 + i.val) + j.val) =
    if (56 + i.val) / 64 = j.val / 64 then 0x3C80#16 else 0#16 := by decide +kernel

end Cert.KernelIdeal.Tile
-- ==== Proof.AvgRows2.lean ====
module

public import proofs.«01_k».proof.KernelIdeal

/-! The table of the averaging matrix: 1/64 on the blocks of 64 columns, zero elsewhere; rows 64 to 95. -/

@[expose] public section
set_option maxRecDepth 16384
set_option maxHeartbeats 4000000

namespace Cert.KernelIdeal.Tile
open Cert.KernelIdeal

theorem avg_rows8 : ∀ i : Fin 8, ∀ j : Fin 256, lit0t (256 * (64 + i.val) + j.val) =
    if (64 + i.val) / 64 = j.val / 64 then 0x3C80#16 else 0#16 := by decide +kernel
theorem avg_rows9 : ∀ i : Fin 8, ∀ j : Fin 256, lit0t (256 * (72 + i.val) + j.val) =
    if (72 + i.val) / 64 = j.val / 64 then 0x3C80#16 else 0#16 := by decide +kernel
theorem avg_rows10 : ∀ i : Fin 8, ∀ j : Fin 256, lit0t (256 * (80 + i.val) + j.val) =
    if (80 + i.val) / 64 = j.val / 64 then 0x3C80#16 else 0#16 := by decide +kernel
theorem avg_rows11 : ∀ i : Fin 8, ∀ j : Fin 256, lit0t (256 * (88 + i.val) + j.val) =
    if (88 + i.val) / 64 = j.val / 64 then 0x3C80#16 else 0#16 := by decide +kernel

end Cert.KernelIdeal.Tile
-- ==== Proof.AvgRows3.lean ====
module

public import proofs.«01_k».proof.KernelIdeal

/-! The table of the averaging matrix: 1/64 on the blocks of 64 columns, zero elsewhere; rows 96 to 127. -/

@[expose] public section
set_option maxRecDepth 16384
set_option maxHeartbeats 4000000

namespace Cert.KernelIdeal.Tile
open Cert.KernelIdeal

theorem avg_rows12 : ∀ i : Fin 8, ∀ j : Fin 256, lit0t (256 * (96 + i.val) + j.val) =
    if (96 + i.val) / 64 = j.val / 64 then 0x3C80#16 else 0#16 := by decide +kernel
theorem avg_rows13 : ∀ i : Fin 8, ∀ j : Fin 256, lit0t (256 * (104 + i.val) + j.val) =
    if (104 + i.val) / 64 = j.val / 64 then 0x3C80#16 else 0#16 := by decide +kernel
theorem avg_rows14 : ∀ i : Fin 8, ∀ j : Fin 256, lit0t (256 * (112 + i.val) + j.val) =
    if (112 + i.val) / 64 = j.val / 64 then 0x3C80#16 else 0#16 := by decide +kernel
theorem avg_rows15 : ∀ i : Fin 8, ∀ j : Fin 256, lit0t (256 * (120 + i.val) + j.val) =
    if (120 + i.val) / 64 = j.val / 64 then 0x3C80#16 else 0#16 := by decide +kernel

end Cert.KernelIdeal.Tile
-- ==== Proof.AvgRows4.lean ====
module

public import proofs.«01_k».proof.KernelIdeal

/-! The table of the averaging matrix: 1/64 on the blocks of 64 columns, zero elsewhere; rows 128 to 159. -/

@[expose] public section
set_option maxRecDepth 16384
set_option maxHeartbeats 4000000

namespace Cert.KernelIdeal.Tile
open Cert.KernelIdeal

theorem avg_rows16 : ∀ i : Fin 8, ∀ j : Fin 256, lit0t (256 * (128 + i.val) + j.val) =
    if (128 + i.val) / 64 = j.val / 64 then 0x3C80#16 else 0#16 := by decide +kernel
theorem avg_rows17 : ∀ i : Fin 8, ∀ j : Fin 256, lit0t (256 * (136 + i.val) + j.val) =
    if (136 + i.val) / 64 = j.val / 64 then 0x3C80#16 else 0#16 := by decide +kernel
theorem avg_rows18 : ∀ i : Fin 8, ∀ j : Fin 256, lit0t (256 * (144 + i.val) + j.val) =
    if (144 + i.val) / 64 = j.val / 64 then 0x3C80#16 else 0#16 := by decide +kernel
theorem avg_rows19 : ∀ i : Fin 8, ∀ j : Fin 256, lit0t (256 * (152 + i.val) + j.val) =
    if (152 + i.val) / 64 = j.val / 64 then 0x3C80#16 else 0#16 := by decide +kernel

end Cert.KernelIdeal.Tile
-- ==== Proof.AvgRows5.lean ====
module

public import proofs.«01_k».proof.KernelIdeal

/-! The table of the averaging matrix: 1/64 on the blocks of 64 columns, zero elsewhere; rows 160 to 191. -/

@[expose] public section
set_option maxRecDepth 16384
set_option maxHeartbeats 4000000

namespace Cert.KernelIdeal.Tile
open Cert.KernelIdeal

theorem avg_rows20 : ∀ i : Fin 8, ∀ j : Fin 256, lit0t (256 * (160 + i.val) + j.val) =
    if (160 + i.val) / 64 = j.val / 64 then 0x3C80#16 else 0#16 := by decide +kernel
theorem avg_rows21 : ∀ i : Fin 8, ∀ j : Fin 256, lit0t (256 * (168 + i.val) + j.val) =
    if (168 + i.val) / 64 = j.val / 64 then 0x3C80#16 else 0#16 := by decide +kernel
theorem avg_rows22 : ∀ i : Fin 8, ∀ j : Fin 256, lit0t (256 * (176 + i.val) + j.val) =
    if (176 + i.val) / 64 = j.val / 64 then 0x3C80#16 else 0#16 := by decide +kernel
theorem avg_rows23 : ∀ i : Fin 8, ∀ j : Fin 256, lit0t (256 * (184 + i.val) + j.val) =
    if (184 + i.val) / 64 = j.val / 64 then 0x3C80#16 else 0#16 := by decide +kernel

end Cert.KernelIdeal.Tile
-- ==== Proof.AvgRows6.lean ====
module

public import proofs.«01_k».proof.KernelIdeal

/-! The table of the averaging matrix: 1/64 on the blocks of 64 columns, zero elsewhere; rows 192 to 223. -/

@[expose] public section
set_option maxRecDepth 16384
set_option maxHeartbeats 4000000

namespace Cert.KernelIdeal.Tile
open Cert.KernelIdeal

theorem avg_rows24 : ∀ i : Fin 8, ∀ j : Fin 256, lit0t (256 * (192 + i.val) + j.val) =
    if (192 + i.val) / 64 = j.val / 64 then 0x3C80#16 else 0#16 := by decide +kernel
theorem avg_rows25 : ∀ i : Fin 8, ∀ j : Fin 256, lit0t (256 * (200 + i.val) + j.val) =
    if (200 + i.val) / 64 = j.val / 64 then 0x3C80#16 else 0#16 := by decide +kernel
theorem avg_rows26 : ∀ i : Fin 8, ∀ j : Fin 256, lit0t (256 * (208 + i.val) + j.val) =
    if (208 + i.val) / 64 = j.val / 64 then 0x3C80#16 else 0#16 := by decide +kernel
theorem avg_rows27 : ∀ i : Fin 8, ∀ j : Fin 256, lit0t (256 * (216 + i.val) + j.val) =
    if (216 + i.val) / 64 = j.val / 64 then 0x3C80#16 else 0#16 := by decide +kernel

end Cert.KernelIdeal.Tile
-- ==== Proof.AvgRows7.lean ====
module

public import proofs.«01_k».proof.KernelIdeal

/-! The table of the averaging matrix: 1/64 on the blocks of 64 columns, zero elsewhere; rows 224 to 255. -/

@[expose] public section
set_option maxRecDepth 16384
set_option maxHeartbeats 4000000

namespace Cert.KernelIdeal.Tile
open Cert.KernelIdeal

theorem avg_rows28 : ∀ i : Fin 8, ∀ j : Fin 256, lit0t (256 * (224 + i.val) + j.val) =
    if (224 + i.val) / 64 = j.val / 64 then 0x3C80#16 else 0#16 := by decide +kernel
theorem avg_rows29 : ∀ i : Fin 8, ∀ j : Fin 256, lit0t (256 * (232 + i.val) + j.val) =
    if (232 + i.val) / 64 = j.val / 64 then 0x3C80#16 else 0#16 := by decide +kernel
theorem avg_rows30 : ∀ i : Fin 8, ∀ j : Fin 256, lit0t (256 * (240 + i.val) + j.val) =
    if (240 + i.val) / 64 = j.val / 64 then 0x3C80#16 else 0#16 := by decide +kernel
theorem avg_rows31 : ∀ i : Fin 8, ∀ j : Fin 256, lit0t (256 * (248 + i.val) + j.val) =
    if (248 + i.val) / 64 = j.val / 64 then 0x3C80#16 else 0#16 := by decide +kernel

end Cert.KernelIdeal.Tile
-- ==== Proof.AvgTable.lean ====
module

public import proofs.«01_k».proof.Proof.AvgRows0
public import proofs.«01_k».proof.Proof.AvgRows1
public import proofs.«01_k».proof.Proof.AvgRows2
public import proofs.«01_k».proof.Proof.AvgRows3
public import proofs.«01_k».proof.Proof.AvgRows4
public import proofs.«01_k».proof.Proof.AvgRows5
public import proofs.«01_k».proof.Proof.AvgRows6
public import proofs.«01_k».proof.Proof.AvgRows7
public import Mathlib.Tactic.IntervalCases

/-! The table of the averaging matrix: 1/64 on the blocks of 64 columns, zero elsewhere. -/

@[expose] public section
set_option maxRecDepth 16384
set_option maxHeartbeats 4000000

namespace Cert.KernelIdeal.Tile
open Cert.KernelIdeal

theorem avg_table (i j : Fin 256) : lit0t (256 * i.val + j.val) =
    if i.val / 64 = j.val / 64 then 0x3C80#16 else 0#16 := by
  have hk : i.val / 8 < 32 := by omega
  have key : ∀ k : ℕ, ∀ a : Fin 8, i.val = 8 * k + a.val →
      (∀ a : Fin 8, ∀ j : Fin 256, lit0t (256 * (8 * k + a.val) + j.val) =
        if (8 * k + a.val) / 64 = j.val / 64 then 0x3C80#16 else 0#16) →
      lit0t (256 * i.val + j.val) = if i.val / 64 = j.val / 64 then 0x3C80#16 else 0#16 := by
    intro k a h H
    rw [h]; exact H a j
  have e : i.val = 8 * (i.val / 8) + (⟨i.val % 8, by omega⟩ : Fin 8).val := by
    show i.val = 8 * (i.val / 8) + i.val % 8
    omega
  generalize i.val / 8 = k at e hk
  interval_cases k
  · exact key 0 _ e avg_rows0
  · exact key 1 _ e avg_rows1
  · exact key 2 _ e avg_rows2
  · exact key 3 _ e avg_rows3
  · exact key 4 _ e avg_rows4
  · exact key 5 _ e avg_rows5
  · exact key 6 _ e avg_rows6
  · exact key 7 _ e avg_rows7
  · exact key 8 _ e avg_rows8
  · exact key 9 _ e avg_rows9
  · exact key 10 _ e avg_rows10
  · exact key 11 _ e avg_rows11
  · exact key 12 _ e avg_rows12
  · exact key 13 _ e avg_rows13
  · exact key 14 _ e avg_rows14
  · exact key 15 _ e avg_rows15
  · exact key 16 _ e avg_rows16
  · exact key 17 _ e avg_rows17
  · exact key 18 _ e avg_rows18
  · exact key 19 _ e avg_rows19
  · exact key 20 _ e avg_rows20
  · exact key 21 _ e avg_rows21
  · exact key 22 _ e avg_rows22
  · exact key 23 _ e avg_rows23
  · exact key 24 _ e avg_rows24
  · exact key 25 _ e avg_rows25
  · exact key 26 _ e avg_rows26
  · exact key 27 _ e avg_rows27
  · exact key 28 _ e avg_rows28
  · exact key 29 _ e avg_rows29
  · exact key 30 _ e avg_rows30
  · exact key 31 _ e avg_rows31
end Cert.KernelIdeal.Tile
-- ==== Proof.Gate.lean ====
module

public import proofs.«01_k».proof.Proof.TileReal

/-! The log gate over the real numbers, and the constants of both programs. -/

@[expose] public section
noncomputable section

namespace Gla

/-- The log of the sigmoid, over sixteen. -/
def lg (z : ℝ) : ℝ := -(max (-z) 0 + Real.log (1 + Real.exp (-|z|))) / 16

end Gla

namespace Cert.KernelIdeal.Tile
open Idealize.ShloMosaic Idealize.ShloMosaic.TcCoe

theorem bits_sixteen : Ideal.ofBits .f32 0x41800000#32 = ((16 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_avg : Ideal.ofBits .bf16 0x3C80#16 = (((1 : ℝ) / 64 : ℝ) : EReal) := by
  simp [Ideal.ofBits, Ideal.ieee, -EReal.coe_mul]; norm_num
theorem bits_avg0 : Ideal.ofBits .bf16 0#16 = 0 := by
  simp [Ideal.ofBits, Ideal.ieee]
theorem bits_scale : ∃ κ : ℝ, Ideal.ofBits .f32 0x3E3504F3#32 = ((κ : ℝ) : EReal) := by
  refine ⟨11863283 / 67108864, ?_⟩
  simp [Ideal.ofBits, Ideal.ieee, -EReal.coe_mul]; norm_num

theorem max_coe (a b : ℝ) : max ((a : ℝ) : EReal) ((b : ℝ) : EReal) = ((max a b : ℝ) : EReal) :=
  (EReal.coe_strictMono.monotone.map_max).symm

theorem abs_coe (z : ℝ) : (FloatOps.absf (F := Ideal) (φ := .f32) ((z : ℝ) : EReal) : EReal) = ((|z| : ℝ) : EReal) := by
  show max ((z : ℝ) : EReal) (-((z : ℝ) : EReal)) = _
  rw [← EReal.coe_neg, max_coe]
  rfl

theorem log1p_coe (x : ℝ) (h : 0 ≤ x) : Ideal.log1p ((x : ℝ) : EReal) = ((Real.log (1 + x) : ℝ) : EReal) := by
  show Ideal.log (1 + ((x : ℝ) : EReal)) = _
  rw [← EReal.coe_one, ← EReal.coe_add]
  show (if 1 + x ≤ 0 then (⊥ : EReal) else ((Real.log (1 + x) : ℝ) : EReal)) = _
  rw [if_neg (by linarith)]

theorem lgE_coe (z : ℝ) : lgE ((z : ℝ) : EReal) = ((Gla.lg z : ℝ) : EReal) := by
  unfold lgE
  rw [abs_coe, bits_sixteen, ← EReal.coe_zero, ← EReal.coe_sub, ← EReal.coe_sub, Ideal.exp_coe,
    log1p_coe _ (Real.exp_pos _).le, max_coe, ← EReal.coe_add, ← EReal.coe_sub,
    Ideal.div_coe (by norm_num), ← EReal.coe_mul]
  congr 1
  unfold Gla.lg
  rw [zero_sub, zero_sub, zero_sub]
  ring

end Cert.KernelIdeal.Tile

namespace Gla
open Finset

/-- The log gate of a row at a key lane, from the row's low-rank columns. -/
def gate (X W : ℕ → ℕ → ℝ) (B : ℕ → ℝ) (r d : ℕ) : ℝ :=
  lg (∑ j ∈ range 16, X r (768 + j) * W j d + B d)

end Gla
-- ==== Proof.KernelVal.lean ====
module

public import proofs.«01_k».proof.Proof.TileReal
public import proofs.«01_k».proof.Proof.TileOpen
public import proofs.«01_k».proof.Proof.HostRead
public import proofs.«01_k».proof.Proof.AvgTable
public import proofs.«01_k».proof.Proof.Gate

/-! The call's whole result over real inputs: the grid's points in order, each block's input rows
read off the arrays and the state carried from one block to the next. -/

@[expose] public section
set_option maxRecDepth 16384
set_option maxHeartbeats 1000000
noncomputable section

namespace Cert.KernelIdeal.Tile
open Cert.KernelIdeal Cert.KernelIdeal.Gen Cert.KernelIdeal.Value Idealize.ShloMosaic Idealize.ShloMosaic.TcCoe

variable (m : (ℓ : Loc nD τ sig) → Buf (Elt Ideal) ℓ)

theorem at_rows : ∀ t : Fin cfg0.N, win0_0.index t (0 : Fin 2) = t.val ∧ win0_0.index t (1 : Fin 2) = 0 :=
  (by decide +kernel : ∀ t : Fin grid0.N, _)
theorem at_mats : ∀ t : Fin cfg0.N, win0_1.index t (0 : Fin 3) = 0 ∧ win0_1.index t (1 : Fin 3) = 0 ∧ win0_1.index t (2 : Fin 3) = 0 :=
  (by decide +kernel : ∀ t : Fin grid0.N, _)
theorem at_whole2 : ∀ t : Fin cfg0.N, win0_2.index t (0 : Fin 2) = 0 ∧ win0_2.index t (1 : Fin 2) = 0 :=
  (by decide +kernel : ∀ t : Fin grid0.N, _)
theorem at_whole3 : ∀ t : Fin cfg0.N, win0_3.index t (0 : Fin 2) = 0 ∧ win0_3.index t (1 : Fin 2) = 0 :=
  (by decide +kernel : ∀ t : Fin grid0.N, _)
theorem at_whole4 : ∀ t : Fin cfg0.N, win0_4.index t (0 : Fin 2) = 0 ∧ win0_4.index t (1 : Fin 2) = 0 :=
  (by decide +kernel : ∀ t : Fin grid0.N, _)
theorem at_whole5 : ∀ t : Fin cfg0.N, win0_5.index t (0 : Fin 2) = 0 ∧ win0_5.index t (1 : Fin 2) = 0 :=
  (by decide +kernel : ∀ t : Fin grid0.N, _)

/-- The blocks a point is given, at their shapes. -/
abbrev in0B (c : Dev nD) (t : Fin cfg0.N) : Vec Ideal S256x896 .f32 := iblk m c 0 t
abbrev in1B (c : Dev nD) (t : Fin cfg0.N) : Vec Ideal S12x256x256 .bf16 := iblk m c 1 t
abbrev in2B (c : Dev nD) (t : Fin cfg0.N) : Vec Ideal S128x128 .bf16 := iblk m c 2 t
abbrev in3B (c : Dev nD) (t : Fin cfg0.N) : Vec Ideal S1x128 .f32 := iblk m c 3 t
abbrev in4B (c : Dev nD) (t : Fin cfg0.N) : Vec Ideal S1x256 .f32 := iblk m c 4 t
abbrev in5B (c : Dev nD) (t : Fin cfg0.N) : Vec Ideal S256x256 .bf16 := iblk m c 5 t

theorem in0B_at (c : Dev nD) (t : Fin cfg0.N) (r : Fin 256) (j : Fin 896) : in0B m c t (ix2 r j) =
    (m ((c : Thread nD τ).loc main_arg0) : S16384x896.Idx → EReal)
      (ix2 ⟨256 * t.val + r.val, by have := lt_of_lt_of_eq t.isLt N_0; omega⟩ j) := by
  rw [← V_main_arg0 m c]
  show V m c main_arg0 (((cfg0.win 0).blk t).view.emb (ix2 r j)) = _
  obtain ⟨h0, h1⟩ := at_rows t
  congr 1
  funext a
  apply Fin.ext
  match a with
  | ⟨0, _⟩ =>
    show win0_0.index t (0 : Fin 2) * 256 + 1 * r.val = 256 * t.val + r.val
    rw [h0]; omega
  | ⟨1, _⟩ =>
    show win0_0.index t (1 : Fin 2) * 896 + 1 * j.val = j.val
    rw [h1]; omega

theorem in1B_at (c : Dev nD) (t : Fin cfg0.N) (i : Fin 12) (r j : Fin 256) : in1B m c t (ix3 i r j) =
    if Gla.pm i.val r.val j.val then (1 : EReal) else 0 := by
  rw [← V158_at m c i r j]
  show V m c main_v158 (((cfg0.win 1).blk t).view.emb (ix3 i r j)) = _
  obtain ⟨h0, h1, h2⟩ := at_mats t
  congr 1
  funext a
  apply Fin.ext
  match a with
  | ⟨0, _⟩ =>
    show win0_1.index t (0 : Fin 3) * 12 + 1 * i.val = i.val
    rw [h0]; omega
  | ⟨1, _⟩ =>
    show win0_1.index t (1 : Fin 3) * 256 + 1 * r.val = r.val
    rw [h1]; omega
  | ⟨2, _⟩ =>
    show win0_1.index t (2 : Fin 3) * 256 + 1 * j.val = j.val
    rw [h2]; omega

theorem in2B_at (c : Dev nD) (t : Fin cfg0.N) (i : Fin 128) (j : Fin 128) : in2B m c t (ix2 i j) =
    if h : i.val < 16 then (m ((c : Thread nD τ).loc main_arg1) : S16x128.Idx → EReal) (ix2 ⟨i.val, h⟩ j) else (0 : EReal) := by
  rw [← V1_at m c i j]
  show V m c main_v1 (((cfg0.win 2).blk t).view.emb (ix2 i j)) = _
  obtain ⟨h0, h1⟩ := at_whole2 t
  congr 1
  funext a
  apply Fin.ext
  match a with
  | ⟨0, _⟩ =>
    show win0_2.index t (0 : Fin 2) * 128 + 1 * (i).val = (i).val
    rw [h0]; omega
  | ⟨1, _⟩ =>
    show win0_2.index t (1 : Fin 2) * 128 + 1 * j.val = j.val
    rw [h1]; omega

theorem in3B_at (c : Dev nD) (t : Fin cfg0.N) (j : Fin 128) : in3B m c t (ix2 (0 : Fin 1) j) =
    (m ((c : Thread nD τ).loc main_arg2) : S128.Idx → EReal) (ix1 j) := by
  rw [← V2_at m c j]
  show V m c main_v2 (((cfg0.win 3).blk t).view.emb (ix2 (0 : Fin 1) j)) = _
  obtain ⟨h0, h1⟩ := at_whole3 t
  congr 1
  funext a
  apply Fin.ext
  match a with
  | ⟨0, _⟩ =>
    show win0_3.index t (0 : Fin 2) * 1 + 1 * ((0 : Fin 1)).val = ((0 : Fin 1)).val
    rw [h0]; omega
  | ⟨1, _⟩ =>
    show win0_3.index t (1 : Fin 2) * 128 + 1 * j.val = j.val
    rw [h1]; omega

theorem in4B_at (c : Dev nD) (t : Fin cfg0.N) (j : Fin 256) : in4B m c t (ix2 (0 : Fin 1) j) =
    (m ((c : Thread nD τ).loc main_arg3) : S64.Idx → EReal) (ix1 ⟨j.val % 64, by omega⟩) := by
  rw [← V6_at m c j]
  show V m c main_v6 (((cfg0.win 4).blk t).view.emb (ix2 (0 : Fin 1) j)) = _
  obtain ⟨h0, h1⟩ := at_whole4 t
  congr 1
  funext a
  apply Fin.ext
  match a with
  | ⟨0, _⟩ =>
    show win0_4.index t (0 : Fin 2) * 1 + 1 * ((0 : Fin 1)).val = ((0 : Fin 1)).val
    rw [h0]; omega
  | ⟨1, _⟩ =>
    show win0_4.index t (1 : Fin 2) * 256 + 1 * j.val = j.val
    rw [h1]; omega

theorem in5B_at (c : Dev nD) (t : Fin cfg0.N) (i : Fin 256) (j : Fin 256) : in5B m c t (ix2 i j) =
    if i.val / 64 = j.val / 64 then (((1 : ℝ) / 64 : ℝ) : EReal) else 0 := by
  have e : Ideal.ofBits .bf16 (lit0t (256 * i.val + j.val)) =
      if i.val / 64 = j.val / 64 then (((1 : ℝ) / 64 : ℝ) : EReal) else 0 := by
    rw [avg_table]
    by_cases h : i.val / 64 = j.val / 64
    · rw [if_pos h, if_pos h, bits_avg]
    · rw [if_neg h, if_neg h, bits_avg0]
  rw [← e]
  rw [← Vcst_at m c i j]
  show V m c main_cst (((cfg0.win 5).blk t).view.emb (ix2 i j)) = _
  obtain ⟨h0, h1⟩ := at_whole5 t
  congr 1
  funext a
  apply Fin.ext
  match a with
  | ⟨0, _⟩ =>
    show win0_5.index t (0 : Fin 2) * 256 + 1 * (i).val = (i).val
    rw [h0]; omega
  | ⟨1, _⟩ =>
    show win0_5.index t (1 : Fin 2) * 256 + 1 * j.val = j.val
    rw [h1]; omega

section
variable {m} {c : Dev nD} {X W : ℕ → ℕ → ℝ} {B : ℕ → ℝ} {κ : ℝ}
  (hX : ∀ (r : Fin 16384) (j : Fin 896), (m ((c : Thread nD τ).loc main_arg0) : S16384x896.Idx → EReal) (ix2 r j) = ((X r.val j.val : ℝ) : EReal))
  (hW : ∀ (i : Fin 16) (j : Fin 128), (m ((c : Thread nD τ).loc main_arg1) : S16x128.Idx → EReal) (ix2 i j) = ((W i.val j.val : ℝ) : EReal))
  (hB : ∀ (j : Fin 128), (m ((c : Thread nD τ).loc main_arg2) : S128.Idx → EReal) (ix1 j) = ((B j.val : ℝ) : EReal))
  (hκ : Ideal.ofBits .f32 0x3E3504F3#32 = ((κ : ℝ) : EReal))

include hX in
theorem block_x (t : Fin cfg0.N) (r : Fin 256) (j : Fin 896) :
    in0B m c t (ix2 r j) = ((Gla.shift X t.val r.val j.val : ℝ) : EReal) := by
  rw [in0B_at, hX]; rfl

include hX hW hB in
theorem block_g (t : Fin cfg0.N) (r : Fin 256) (d : Fin 128) :
    lgE (zE (in0B m c t) (in2B m c t) (in3B m c t) r d) = ((Gla.shift (Gla.gate X W B) t.val r.val d.val : ℝ) : EReal) := by
  have hz : zE (in0B m c t) (in2B m c t) (in3B m c t) r d =
      ((∑ j ∈ Finset.range 16, X (256 * t.val + r.val) (768 + j) * W j d.val + B d.val : ℝ) : EReal) := by
    unfold zE
    rw [sum_real 128 _ (fun j => if j < 16 then X (256 * t.val + r.val) (768 + j) * W j d.val else 0), in3B_at, hB,
      ← EReal.coe_add]
    · congr 2
      rw [← Finset.sum_filter]
      congr 1
    · intro j
      rw [block_x hX, in2B_at]
      by_cases h : j.val < 16
      · rw [dif_pos h, if_pos h, hW, ← EReal.coe_mul]; rfl
      · rw [dif_neg h, if_neg h, mul_zero, EReal.coe_zero]
  rw [hz, lgE_coe]
  rfl

theorem zero_st (e : Fin 256) (d : Fin 128) : (zeroSt : FVec Ideal S256x128 .f32) (ix2 e d) = 0 := by
  unfold zeroSt
  pointwise [k0_pay2]

include hX hW hB in
/-- The state each point leaves. -/
theorem carried : ∀ (n : ℕ) (hn : n < cfg0.N) (e : Fin 256) (d : Fin 128),
    ((outsAt0 m c n hn).2 : S256x128.Idx → EReal) (ix2 e d) =
      ((if e.val / 64 = d.val / 32 then Gla.run (Gla.shift X n) (Gla.shift (Gla.gate X W B) n)
        (Gla.state X (Gla.gate X W B) (8 * n)) 8 e.val d.val else 0 : ℝ) : EReal) := by
  intro n
  induction n with
  | zero =>
    intro hn e d
    rw [outsAt0_A m c ⟨0, hn⟩ rfl]
    dsimp only
    rw [sout_A]
    refine s8_real (X := Gla.shift X 0) (block_x hX _) (block_g hX hW hB _) (in1B_at m c _) ?_ e d
    intro e d
    rw [zero_st]
    show (0 : EReal) = ((if e.val / 64 = d.val / 32 then (0 : ℝ) else 0 : ℝ) : EReal)
    simp
  | succ n ih =>
    intro hn e d
    by_cases h0 : (n + 1) % 32 = 0
    · rw [outsAt0_A m c ⟨n + 1, hn⟩ h0]
      dsimp only
      rw [sout_A]
      refine s8_real (X := Gla.shift X (n + 1)) (block_x hX _) (block_g hX hW hB _) (in1B_at m c _) ?_ e d
      intro e d
      rw [zero_st, Gla.state_reset X _ (8 * (n + 1)) (by omega)]
      simp
    · rw [outsAt0_B m c ⟨n + 1, hn⟩ h0]
      dsimp only
      rw [sout_B]
      refine s8_real (X := Gla.shift X (n + 1)) (block_x hX _) (block_g hX hW hB _) (in1B_at m c _) ?_ e d
      intro e d
      refine (ih (Nat.lt_of_succ_lt hn) e d).trans ?_
      rw [Gla.run_shift X (Gla.gate X W B) n 8 (fun b hb => by omega)]
      rfl

/-- The result at a row and a value lane, in real terms. -/
def resultAt (X W : ℕ → ℕ → ℝ) (B : ℕ → ℝ) (κ : ℝ) (g : EReal) (R e : ℕ) : EReal :=
  ((Gla.out X (Gla.gate X W B) κ (R / 32) (R % 32) e : ℝ) : EReal) *
    Ideal.rsqrt (((∑ d ∈ Finset.range 64, Gla.out X (Gla.gate X W B) κ (R / 32) (R % 32) (64 * (e / 64) + d) *
      Gla.out X (Gla.gate X W B) κ (R / 32) (R % 32) (64 * (e / 64) + d)) * (1 / 64) : ℝ) +
      Ideal.ofBits .f32 0x358637BD#32) * g *
    (((X R (512 + e) : ℝ) : EReal) * Ideal.div 1 (1 + Ideal.exp (0 - ((X R (512 + e) : ℝ) : EReal))))

include hX hW hB hκ in
/-- What each point writes. -/
theorem written (n : ℕ) (hn : n < cfg0.N) (r e : Fin 256) :
    ((outsAt0 m c n hn).1 : S256x256.Idx → EReal) (ix2 r e) = resultAt X W B κ
      ((m ((c : Thread nD τ).loc main_arg3) : S64.Idx → EReal) (ix1 ⟨e.val % 64, by omega⟩)) (256 * n + r.val) e.val := by
  have key : ∀ (st : FVec Ideal S256x128 .f32),
      (∀ (e : Fin 256) (d : Fin 128), st (ix2 e d) = ((if e.val / 64 = d.val / 32 then
        Gla.state X (Gla.gate X W B) (8 * n) e.val d.val else 0 : ℝ) : EReal)) →
      yrow (in0B m c ⟨n, hn⟩) (in1B m c ⟨n, hn⟩) (in2B m c ⟨n, hn⟩) (in3B m c ⟨n, hn⟩) st (in4B m c ⟨n, hn⟩) (in5B m c ⟨n, hn⟩)
        (ix2 r e) = resultAt X W B κ
      ((m ((c : Thread nD τ).loc main_arg3) : S64.Idx → EReal) (ix1 ⟨e.val % 64, by omega⟩)) (256 * n + r.val) e.val := by
    intro st hst
    rw [yrow_real (X := Gla.shift X n) (block_x hX _) (block_g hX hW hB _) (in1B_at m c _) hκ hst _ _ (in5B_at m c _),
      in4B_at]
    simp only [Gla.runOut_shift X (Gla.gate X W B) κ n (r.val / 32) (r.val % 32) _ (by omega)]
    unfold resultAt
    have h1 : (256 * n + r.val) / 32 = 8 * n + r.val / 32 := by omega
    have h2 : (256 * n + r.val) % 32 = r.val % 32 := by omega
    rw [h1, h2]
    rfl
  by_cases h0 : n % 32 = 0
  · rw [outsAt0_A m c ⟨n, hn⟩ h0]
    dsimp only
    rw [out_A]
    refine key _ ?_
    intro e d
    rw [zero_st, Gla.state_reset X _ (8 * n) (by omega)]
    simp
  · rw [outsAt0_B m c ⟨n, hn⟩ h0]
    dsimp only
    rw [out_B]
    refine key _ ?_
    intro e d
    obtain ⟨k, rfl⟩ : ∃ k, n = k + 1 := ⟨n - 1, by omega⟩
    refine (carried hX hW hB k (Nat.lt_of_succ_lt hn) e d).trans ?_
    rw [Gla.run_shift X (Gla.gate X W B) k 8 (fun b hb => by omega)]
    rfl

include hX hW hB hκ in
/-- The whole result. -/
theorem result_at (R : Fin 16384) (e : Fin 256) : (G6 m c : S16384x256.Idx → EReal) (ix2 R e) = resultAt X W B κ
      ((m ((c : Thread nD τ).loc main_arg3) : S64.Idx → EReal) (ix1 ⟨e.val % 64, by omega⟩)) R.val e.val := by
  have hp : pt6Of (ix2 R e) = R.val / 256 := by
    show 1 * (R.val / 256 - 0) + 1 * (e.val / 256 - 0) = R.val / 256
    omega
  have hN : R.val / 256 < cfg0.N := by rw [show cfg0.N = 64 from N_0]; omega
  have hl : loc6Of (ix2 R e) = ix2 (⟨R.val % 256, by omega⟩ : Fin 256) e := by
    funext a
    apply Fin.ext
    match a with
    | ⟨0, _⟩ => rfl
    | ⟨1, _⟩ => show e.val % 256 = e.val; omega
  have hG : (G6 m c : S16384x256.Idx → EReal) (ix2 R e) =
      ((outsAt0 m c (R.val / 256) hN).1 : S256x256.Idx → EReal) (ix2 (⟨R.val % 256, by omega⟩ : Fin 256) e) := by
    rw [← hl, outsAt0_sweep]
    unfold G6
    rw [dif_pos (by rw [hp]; exact hN), fold0_congr m c _ _ _ _ hp]
  rw [hG, written hX hW hB hκ]
  congr 1
  show 256 * (R.val / 256) + R.val % 256 = R.val
  omega
end
end Cert.KernelIdeal.Tile
-- ==== Proof.RefEntry.lean ====
module

public import proofs.«01_k».proof.Proof.Gen.ReferenceIdeal.Run
public import proofs.«01_k».proof.Proof.Gate
public import Idealize.ShloMosaic.Lib.StableHlo.ReadAt

/-! What the reference's loop starts from, read at an index: the queries, keys, values and log gates
chunk by chunk, the causal mask, and the zero state. -/

@[expose] public section
set_option maxRecDepth 200000
set_option maxHeartbeats 2000000
noncomputable section

namespace Cert.ReferenceIdeal.Chunk
open Cert.ReferenceIdeal Cert.ReferenceIdeal.Gen Cert.ReferenceIdeal.Value Idealize.ShloMosaic Idealize.ShloMosaic.TcCoe
open Idealize.ShloMosaic.StableHlo
open Cert.KernelIdeal.Tile (bits_sixteen max_coe abs_coe log1p_coe sum_real)

variable (m : (ℓ : Loc nD τ sig) → Buf (Elt Ideal) ℓ)

/-- The row of the flat array a chunk's row is. -/
abbrev rowOf (n : Fin 256) (b : Fin 2) (i : Fin 32) : Fin 16384 := ⟨32 * (256 * b.val + n.val) + i.val, by omega⟩

/-- The arguments, as functions into the extended reals. -/
abbrev A0 (c : Dev nD) : S16384x896.Idx → EReal := m ((c : Thread nD τ).loc main_arg0)
abbrev A1 (c : Dev nD) : S16x128.Idx → EReal := m ((c : Thread nD τ).loc main_arg1)
abbrev A2 (c : Dev nD) : S128.Idx → EReal := m ((c : Thread nD τ).loc main_arg2)
abbrev A3 (c : Dev nD) : S64.Idx → EReal := m ((c : Thread nD τ).loc main_arg3)

theorem ix2_eq {p q : ℕ} {a a' : Fin p} {b b' : Fin q} (h : a.val = a'.val) (h' : b.val = b'.val) : ix2 a b = ix2 a' b' := by
  rw [Fin.ext h, Fin.ext h']

theorem gate_dot (V : Valuation τ sig (Elt Ideal)) (b : Fin 2) (r : Fin 8192) (d : Fin 128)
    (a0 : S16384x896.Idx → EReal) (a1 : S16x128.Idx → EReal) (a2 : S128.Idx → EReal)
    (h0 : V (Proc.devRef .tc main_arg0) = a0) (h1 : V (Proc.devRef .tc main_arg1) = a1) (h2 : V (Proc.devRef .tc main_arg2) = a2) :
    (after hostOps0 V (Proc.devRef .tc main_v9) : S2x8192x128.Idx → EReal) (ix3 b r d) =
      ∑ j : Fin 16, a0 (ix2 ⟨b.val * 8192 + r.val, by omega⟩ ⟨768 + j.val, by omega⟩) * a1 (ix2 j d) + a2 (ix1 d) := by
  subst h0 h1 h2
  show (after hostOps0 V (Proc.devRef .tc main_v9)) (ix3 b r d) = _
  after_reads_simp
  pointwise

theorem gate_log (V : Valuation τ sig (Elt Ideal)) (b : Fin 2) (r : Fin 8192) (d : Fin 128) (z : ℝ)
    (hz : (V (Proc.devRef .tc main_v9) : S2x8192x128.Idx → EReal) (ix3 b r d) = ((z : ℝ) : EReal)) :
    (after hostOps0_1 V (Proc.devRef .tc main_v10) : S2x8192x128.Idx → EReal) (ix3 b r d) =
      ((-(max (-z) 0 + Real.log (1 + Real.exp (-|z|))) : ℝ) : EReal) := by
  show (after hostOps0_1 V (Proc.devRef .tc main_v10)) (ix3 b r d) = _
  after_reads_at
  have key : ∀ y : EReal, y = ((z : ℝ) : EReal) →
      -(max (-y) 0 + Ideal.log1p (Ideal.exp (-FloatOps.absf (F := Ideal) (φ := .f32) (-y)))) =
        ((-(max (-z) 0 + Real.log (1 + Real.exp (-|z|))) : ℝ) : EReal) := by
    rintro y rfl
    rw [← EReal.coe_neg, abs_coe, ← EReal.coe_neg, Ideal.exp_coe, log1p_coe _ (Real.exp_pos _).le, ← EReal.coe_zero, max_coe,
      ← EReal.coe_add, ← EReal.coe_neg, abs_neg]
  rw [if_neg (fun h => h rfl)]
  exact key _ hz

theorem gate_chunk (V : Valuation τ sig (Elt Ideal)) (n : Fin 256) (b : Fin 2) (h : Fin 4) (i d : Fin 32) (y : ℝ)
    (hy : (V (Proc.devRef .tc main_v10) : S2x8192x128.Idx → EReal)
      (ix3 b ⟨n.val * 32 + i.val, by omega⟩ ⟨h.val * 32 + d.val, by omega⟩) = ((y : ℝ) : EReal)) :
    (after hostOps0_2 V (Proc.devRef .tc main_v25_3) : S256x2x4x32x32.Idx → EReal) (ix5 n b h i d) = ((y / 16 : ℝ) : EReal) := by
  show (after hostOps0_2 V (Proc.devRef .tc main_v25_3)) (ix5 n b h i d) = _
  after_reads_simp
  simp only [id_eq]
  pointwise
  show Ideal.div ((V (Proc.devRef .tc main_v10) : S2x8192x128.Idx → EReal)
      (ix3 b ⟨n.val * 32 + i.val, by omega⟩ ⟨h.val * 32 + d.val, by omega⟩)) (Ideal.ofBits .f32 0x41800000#32) = _
  rw [hy, bits_sixteen, Ideal.div_coe (by norm_num), ← EReal.coe_mul]
  congr 1
  ring

theorem mask_table : ∀ i j : Fin 32, lit0t (32 * i.val + j.val) = if j.val ≤ i.val then 1#1 else 0#1 := by decide +kernel

theorem entry_mask (c : Dev nD) (i j : Fin 32) :
    (entryContents preI m c (Proc.devRef .tc main_v25_4) : S32x32x1.Idx → BitVec 1) (ix3 i j (0 : Fin 1)) =
      if j.val ≤ i.val then 1#1 else 0#1 := by
  show (entryContents preI m c (Proc.devRef .tc main_v25_4)) (ix3 i j (0 : Fin 1)) = _
  simp only [entryContents, afterL_cons, afterL_nil]
  after_reads_simp
  simp only [id_eq]
  pointwise
  have e : S32x32.rowMajor (ix2 i j) = (⟨32 * i.val + j.val, by omega⟩ : Fin 1024) := by
    apply Fin.ext
    rw [Shape.rowMajor_val_two]
    show i.val * 32 + j.val = 32 * i.val + j.val
    omega
  rw [e]
  exact mask_table i j

theorem entry_s (c : Dev nD) (b : Fin 2) (h : Fin 4) (d : Fin 32) (e : Fin 64) :
    (entryContents preI m c (Proc.devRef .tc main_v25_6) : S2x4x32x64.Idx → EReal) (ix4 b h d e) = (0 : EReal) := by
  show (entryContents preI m c (Proc.devRef .tc main_v25_6)) (ix4 b h d e) = (0 : EReal)
  simp only [entryContents, afterL_cons, afterL_nil]
  after_reads_simp
  simp only [id_eq]
  pointwise

section
variable {m} {c : Dev nD} {X W : ℕ → ℕ → ℝ} {B : ℕ → ℝ} {κ : ℝ}
  (hX : ∀ (r : Fin 16384) (j : Fin 896), A0 m c (ix2 r j) = ((X r.val j.val : ℝ) : EReal))
  (hW : ∀ (i : Fin 16) (j : Fin 128), A1 m c (ix2 i j) = ((W i.val j.val : ℝ) : EReal))
  (hB : ∀ (j : Fin 128), A2 m c (ix1 j) = ((B j.val : ℝ) : EReal))
  (hκ : Ideal.ofBits .f32 0x3E3504F3#32 = ((κ : ℝ) : EReal))

include hX hκ in
theorem entry_q (n : Fin 256) (b : Fin 2) (h : Fin 4) (i d : Fin 32) :
    (entryContents preI m c (Proc.devRef .tc main_v25_0) : S256x2x4x32x32.Idx → EReal) (ix5 n b h i d) =
      ((X (32 * (256 * b.val + n.val) + i.val) (32 * h.val + d.val) * κ : ℝ) : EReal) := by
  show (entryContents preI m c (Proc.devRef .tc main_v25_0)) (ix5 n b h i d) = _
  simp only [entryContents, afterL_cons, afterL_nil]
  after_reads_simp
  simp only [id_eq]
  pointwise
  show A0 m c (ix2 ⟨b.val * 8192 + (n.val * 32 + i.val), by omega⟩ ⟨h.val * 32 + d.val, by omega⟩) *
    (Ideal.ofBits .f32 0x3E3504F3#32 : EReal) = _
  rw [ix2_eq (a' := rowOf n b i) (b' := (⟨32 * h.val + d.val, by omega⟩ : Fin 896)) (by dsimp only; omega) (by dsimp only; omega),
    hX, hκ, ← EReal.coe_mul]

include hX in
theorem entry_k (n : Fin 256) (b : Fin 2) (h : Fin 4) (i d : Fin 32) :
    (entryContents preI m c (Proc.devRef .tc main_v25_1) : S256x2x4x32x32.Idx → EReal) (ix5 n b h i d) =
      ((X (32 * (256 * b.val + n.val) + i.val) (128 + (32 * h.val + d.val)) : ℝ) : EReal) := by
  show (entryContents preI m c (Proc.devRef .tc main_v25_1)) (ix5 n b h i d) = _
  simp only [entryContents, afterL_cons, afterL_nil]
  after_reads_simp
  simp only [id_eq]
  pointwise
  show A0 m c (ix2 ⟨b.val * 8192 + (n.val * 32 + i.val), by omega⟩ ⟨128 + (h.val * 32 + d.val), by omega⟩) = _
  rw [ix2_eq (a' := rowOf n b i) (b' := (⟨128 + (32 * h.val + d.val), by omega⟩ : Fin 896)) (by dsimp only; omega) (by dsimp only; omega),
    hX]

include hX in
theorem entry_v (n : Fin 256) (b : Fin 2) (h : Fin 4) (i : Fin 32) (e : Fin 64) :
    (entryContents preI m c (Proc.devRef .tc main_v25_2) : S256x2x4x32x64.Idx → EReal) (ix5 n b h i e) =
      ((X (32 * (256 * b.val + n.val) + i.val) (256 + (64 * h.val + e.val)) : ℝ) : EReal) := by
  show (entryContents preI m c (Proc.devRef .tc main_v25_2)) (ix5 n b h i e) = _
  simp only [entryContents, afterL_cons, afterL_nil]
  after_reads_simp
  simp only [id_eq]
  pointwise
  show A0 m c (ix2 ⟨b.val * 8192 + (n.val * 32 + i.val), by omega⟩ ⟨256 + (h.val * 64 + e.val), by omega⟩) = _
  rw [ix2_eq (a' := rowOf n b i) (b' := (⟨256 + (64 * h.val + e.val), by omega⟩ : Fin 896)) (by dsimp only; omega) (by dsimp only; omega),
    hX]

include hX hW hB in
theorem entry_g (n : Fin 256) (b : Fin 2) (h : Fin 4) (i d : Fin 32) :
    (entryContents preI m c (Proc.devRef .tc main_v25_3) : S256x2x4x32x32.Idx → EReal) (ix5 n b h i d) =
      ((Gla.gate X W B (32 * (256 * b.val + n.val) + i.val) (32 * h.val + d.val) : ℝ) : EReal) := by
  show (after hostOps0_2 (after hostOps0_1 (after hostOps0 (launchContents m c))) (Proc.devRef .tc main_v25_3)) (ix5 n b h i d) = _
  refine (gate_chunk _ n b h i d _ (gate_log _ b _ _
    (∑ j ∈ Finset.range 16, X (32 * (256 * b.val + n.val) + i.val) (768 + j) * W j (32 * h.val + d.val) + B (32 * h.val + d.val)) ?_)).trans ?_
  · rw [gate_dot _ b _ _ (A0 m c) (A1 m c) (A2 m c) rfl rfl rfl,
      sum_real 16 _ (fun j => X (32 * (256 * b.val + n.val) + i.val) (768 + j) * W j (32 * h.val + d.val)), hB, ← EReal.coe_add]
    · show ((_ + B (h.val * 32 + d.val) : ℝ) : EReal) = _
      rw [Nat.mul_comm h.val 32]
    · intro j
      rw [hX, hW, ← EReal.coe_mul]
      show ((X (b.val * 8192 + (n.val * 32 + i.val)) (768 + j.val) * W j.val (h.val * 32 + d.val) : ℝ) : EReal) = _
      rw [show b.val * 8192 + (n.val * 32 + i.val) = 32 * (256 * b.val + n.val) + i.val by omega, Nat.mul_comm h.val 32]
  · rfl
end

end Cert.ReferenceIdeal.Chunk
-- ==== Proof.RefStep.lean ====
module

public import proofs.«01_k».proof.Proof.Gen.ReferenceIdeal.Run
public import proofs.«01_k».proof.Proof.Gate
public import Idealize.ShloMosaic.Lib.WordCmp
public import Mathlib.Algebra.BigOperators.Fin

/-! One trip of the reference's loop at an index: the chunk's slices, the running sum of the log
gates, and what the trip makes of the state and of the stacked outputs. -/

@[expose] public section
set_option maxRecDepth 200000
set_option maxHeartbeats 2000000
noncomputable section

namespace Cert.ReferenceIdeal.Chunk
open Cert.ReferenceIdeal Cert.ReferenceIdeal.Gen Cert.ReferenceIdeal.Value Idealize.ShloMosaic Idealize.ShloMosaic.TcCoe
open Idealize.ShloMosaic.StableHlo
open Cert.KernelIdeal.Tile (bits_sixteen max_coe abs_coe log1p_coe sum_real)

theorem word_small (a : ℕ) (ha : a < 4096) : (BitVec.ofNat 32 a).toInt = a := by
  rw [BitVec.toInt_eq_toNat_of_lt]
  · simp only [BitVec.toNat_ofNat]; congr 1; omega
  · simp only [BitVec.toNat_ofNat]; omega

/-! ### A running sum -/

theorem foldl_sum {α : Type} (g : α → EReal) : ∀ (l : List α) (v : EReal), l.foldl (fun r n => r + g n) v = v + (l.map g).sum
  | [], v => by simp
  | a :: l, v => by rw [List.foldl_cons, foldl_sum g l, List.map_cons, List.sum_cons, add_assoc]

theorem window_sum (f : ℕ → ℝ) (i : ℕ) (hi : i < 32) :
    ∑ n ∈ Finset.range 32, (if 31 ≤ i + n then f (i + n - 31) else 0) = ∑ j ∈ Finset.range (i + 1), f j := by
  rw [← Finset.sum_filter]
  apply Finset.sum_nbij' (fun n => i + n - 31) (fun j => j + 31 - i)
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; simp only [Finset.mem_range] at hn ⊢; omega
  · intro n hn; rfl

/-- The window of 32 rows padded by 31 in front adds up the rows so far. -/
theorem running (x : FVec Ideal S2x4x32x32 .f32) (init : FVec Ideal S_ .f32) (hinit : init (Shape.Idx.first h_S_) = (0 : EReal))
    (b : Fin 2) (h : Fin 4) (d : Fin 32) (f : ℕ → ℝ) (hx : ∀ j : Fin 32, x (ix4 b h j d) = ((f j.val : ℝ) : EReal)) (i : Fin 32) :
    Host.reduceWindowAdd ![1, 1, 32, 1] ![1, 1, 1, 1] ![0, 0, 31, 0] ![0, 0, 0, 0] x init
      reduceWindows_S2x4x32x32_S2x4x32x32_w1s1p0_0_w1s1p0_0_w32s1p31_0_w1s1p0_0 h_S_ (ix4 b h i d) =
      ((∑ j ∈ Finset.range (i.val + 1), f j : ℝ) : EReal) := by
  show Ideal.hostReduceWindowAdd ![1, 1, 32, 1] ![1, 1, 1, 1] ![0, 0, 31, 0] ![0, 0, 0, 0]
      reduceWindows_S2x4x32x32_S2x4x32x32_w1s1p0_0_w1s1p0_0_w32s1p31_0_w1s1p0_0 x (init (Shape.Idx.first h_S_)) (ix4 b h i d) = _
  rw [hinit]
  unfold Ideal.hostReduceWindowAdd Host.reduceWindow
  dsimp only
  rw [foldl_sum, zero_add, ← List.ofFn_eq_map, List.sum_ofFn]
  have hN : (⟨S2x4x32x32.rank, ![1, 1, 32, 1]⟩ : Shape).numel = 32 := by decide +kernel
  have hpos : ∀ n : Fin (⟨4, ![1, 1, 32, 1]⟩ : Shape).numel,
      (((⟨4, ![1, 1, 32, 1]⟩ : Shape).rowMajor.symm n) 0).val = 0 ∧ (((⟨4, ![1, 1, 32, 1]⟩ : Shape).rowMajor.symm n) 1).val = 0 ∧
      (((⟨4, ![1, 1, 32, 1]⟩ : Shape).rowMajor.symm n) 2).val = n.val ∧ (((⟨4, ![1, 1, 32, 1]⟩ : Shape).rowMajor.symm n) 3).val = 0 := by
    intro n
    have e := Shape.rowMajor_val_four ((⟨4, ![1, 1, 32, 1]⟩ : Shape).rowMajor.symm n)
    rw [Equiv.apply_symm_apply] at e
    have b0 : (((⟨4, ![1, 1, 32, 1]⟩ : Shape).rowMajor.symm n) 0).val < 1 := (((⟨4, ![1, 1, 32, 1]⟩ : Shape).rowMajor.symm n) 0).isLt
    have b1 : (((⟨4, ![1, 1, 32, 1]⟩ : Shape).rowMajor.symm n) 1).val < 1 := (((⟨4, ![1, 1, 32, 1]⟩ : Shape).rowMajor.symm n) 1).isLt
    have b3 : (((⟨4, ![1, 1, 32, 1]⟩ : Shape).rowMajor.symm n) 3).val < 1 := (((⟨4, ![1, 1, 32, 1]⟩ : Shape).rowMajor.symm n) 3).isLt
    simp only [Matrix.cons_val] at e
    omega
  rw [sum_real _ _ (fun n => if 31 ≤ i.val + n then f (i.val + n - 31) else 0)]
  · rw [hN, window_sum f i.val i.isLt]
  · intro n
    obtain ⟨p0, p1, p2, p3⟩ := hpos n
    have hn : n.val < 32 := lt_of_lt_of_eq n.isLt hN
    split
    · next hin =>
      have h2 := hin 2
      change 31 ≤ i.val * 1 + (((⟨4, ![1, 1, 32, 1]⟩ : Shape).rowMajor.symm n) 2).val ∧
        i.val * 1 + (((⟨4, ![1, 1, 32, 1]⟩ : Shape).rowMajor.symm n) 2).val - 31 < 32 at h2
      rw [p2] at h2
      rw [if_pos (by omega)]
      refine (congrArg x (funext fun a => Fin.ext ?_)).trans (hx ⟨i.val + n.val - 31, by omega⟩)
      match a with
      | ⟨0, _⟩ =>
        show b.val * 1 + (((⟨4, ![1, 1, 32, 1]⟩ : Shape).rowMajor.symm n) 0).val - 0 = b.val
        rw [p0]; omega
      | ⟨1, _⟩ =>
        show h.val * 1 + (((⟨4, ![1, 1, 32, 1]⟩ : Shape).rowMajor.symm n) 1).val - 0 = h.val
        rw [p1]; omega
      | ⟨2, _⟩ =>
        show i.val * 1 + (((⟨4, ![1, 1, 32, 1]⟩ : Shape).rowMajor.symm n) 2).val - 31 = i.val + n.val - 31
        rw [p2]; omega
      | ⟨3, _⟩ =>
        show d.val * 1 + (((⟨4, ![1, 1, 32, 1]⟩ : Shape).rowMajor.symm n) 3).val - 0 = d.val
        rw [p3]; omega
    · next hin =>
      rw [if_neg fun hle => hin fun a => by
        match a with
        | ⟨0, _⟩ =>
          show 0 ≤ b.val * 1 + (((⟨4, ![1, 1, 32, 1]⟩ : Shape).rowMajor.symm n) 0).val ∧
            b.val * 1 + (((⟨4, ![1, 1, 32, 1]⟩ : Shape).rowMajor.symm n) 0).val - 0 < 2
          rw [p0]; omega
        | ⟨1, _⟩ =>
          show 0 ≤ h.val * 1 + (((⟨4, ![1, 1, 32, 1]⟩ : Shape).rowMajor.symm n) 1).val ∧
            h.val * 1 + (((⟨4, ![1, 1, 32, 1]⟩ : Shape).rowMajor.symm n) 1).val - 0 < 4
          rw [p1]; omega
        | ⟨2, _⟩ =>
          show 31 ≤ i.val * 1 + (((⟨4, ![1, 1, 32, 1]⟩ : Shape).rowMajor.symm n) 2).val ∧
            i.val * 1 + (((⟨4, ![1, 1, 32, 1]⟩ : Shape).rowMajor.symm n) 2).val - 31 < 32
          rw [p2]; omega
        | ⟨3, _⟩ =>
          show 0 ≤ d.val * 1 + (((⟨4, ![1, 1, 32, 1]⟩ : Shape).rowMajor.symm n) 3).val ∧
            d.val * 1 + (((⟨4, ![1, 1, 32, 1]⟩ : Shape).rowMajor.symm n) 3).val - 0 < 32
          rw [p3]; omega]
      rw [EReal.coe_zero]

/-! ### The chunk's slices -/

section
variable (V0 : Valuation τ sig (Elt Ideal)) (n : ℕ) (hn : n < 256)
  (hc : V0 (Proc.devRef .tc main_v25_5) = fun _ => BitVec.ofNat 32 n)

include hn hc in
theorem starts (k : Fin 5) : ((![V0 (Proc.devRef .tc main_v25_5), constantI S_ 32 0#32, constantI S_ 32 0#32, constantI S_ 32 0#32,
      constantI S_ 32 0#32] : Fin 5 → (⟨S_, .i32⟩ : BufTy).Contents (Elt Ideal)) k (Shape.Idx.first h_S_)).toInt =
    ((![n, 0, 0, 0, 0] : Fin 5 → ℕ) k : ℤ) := by
  match k with
  | ⟨0, _⟩ =>
    show (V0 (Proc.devRef .tc main_v25_5) (Shape.Idx.first h_S_)).toInt = (n : ℤ)
    rw [hc]; exact word_small n (by omega)
  | ⟨1, _⟩ => rfl
  | ⟨2, _⟩ => rfl
  | ⟨3, _⟩ => rfl
  | ⟨4, _⟩ => rfl

include hn in
theorem fits32 : S256x2x4x32x32.Slices ![n, 0, 0, 0, 0] S1x2x4x32x32 :=
  ⟨rfl, fun a => by
    match a with
    | ⟨0, _⟩ => show n + 1 ≤ 256; omega
    | ⟨1, _⟩ => show 0 + 2 ≤ 2; omega
    | ⟨2, _⟩ => show 0 + 4 ≤ 4; omega
    | ⟨3, _⟩ => show 0 + 32 ≤ 32; omega
    | ⟨4, _⟩ => show 0 + 32 ≤ 32; omega⟩
include hn in
theorem fits64 : S256x2x4x32x64.Slices ![n, 0, 0, 0, 0] S1x2x4x32x64 :=
  ⟨rfl, fun a => by
    match a with
    | ⟨0, _⟩ => show n + 1 ≤ 256; omega
    | ⟨1, _⟩ => show 0 + 2 ≤ 2; omega
    | ⟨2, _⟩ => show 0 + 4 ≤ 4; omega
    | ⟨3, _⟩ => show 0 + 32 ≤ 32; omega
    | ⟨4, _⟩ => show 0 + 64 ≤ 64; omega⟩

include hc in
theorem q_at (b : Fin 2) (h : Fin 4) (i d : Fin 32) : (res_main_while0b_v47 V0 : S2x4x32x32.Idx → EReal) (ix4 b h i d) =
    (V0 (Proc.devRef .tc main_v25_0) : S256x2x4x32x32.Idx → EReal) (ix5 ⟨n, hn⟩ b h i d) := by
  unfold res_main_while0b_v47
  rw [WordCmp.dynamicSlice_eq_extract _ _ _ _ ![n, 0, 0, 0, 0] (fits32 n hn) (starts V0 n hn hc)]
  pointwise
include hc in
theorem k_at (b : Fin 2) (h : Fin 4) (i d : Fin 32) : (res_main_while0b_v48 V0 : S2x4x32x32.Idx → EReal) (ix4 b h i d) =
    (V0 (Proc.devRef .tc main_v25_1) : S256x2x4x32x32.Idx → EReal) (ix5 ⟨n, hn⟩ b h i d) := by
  unfold res_main_while0b_v48
  rw [WordCmp.dynamicSlice_eq_extract _ _ _ _ ![n, 0, 0, 0, 0] (fits32 n hn) (starts V0 n hn hc)]
  pointwise
include hc in
theorem v_at (b : Fin 2) (h : Fin 4) (i : Fin 32) (e : Fin 64) : (res_main_while0b_v49 V0 : S2x4x32x64.Idx → EReal) (ix4 b h i e) =
    (V0 (Proc.devRef .tc main_v25_2) : S256x2x4x32x64.Idx → EReal) (ix5 ⟨n, hn⟩ b h i e) := by
  unfold res_main_while0b_v49
  rw [WordCmp.dynamicSlice_eq_extract _ _ _ _ ![n, 0, 0, 0, 0] (fits64 n hn) (starts V0 n hn hc)]
  pointwise
include hc in
theorem b_at (b : Fin 2) (h : Fin 4) (d : Fin 32) (f : ℕ → ℝ)
    (hg : ∀ j : Fin 32, (V0 (Proc.devRef .tc main_v25_3) : S256x2x4x32x32.Idx → EReal) (ix5 ⟨n, hn⟩ b h j d) = ((f j.val : ℝ) : EReal))
    (i : Fin 32) : (res_main_while0b_v51 V0 : S2x4x32x32.Idx → EReal) (ix4 b h i d) =
      ((∑ j ∈ Finset.range (i.val + 1), f j : ℝ) : EReal) := by
  unfold res_main_while0b_v51
  rw [WordCmp.dynamicSlice_eq_extract _ _ _ _ ![n, 0, 0, 0, 0] (fits32 n hn) (starts V0 n hn hc)]
  refine running _ _ ?_ b h d f ?_ i
  · pointwise
  · intro j
    rw [← hg j]
    pointwise
end

theorem last_at (V0 : Valuation τ sig (Elt Ideal)) (b : Fin 2) (h : Fin 4) (d : Fin 32) :
    (res_main_while0b_v52 V0 : S2x4x1x32.Idx → EReal) (ix4 b h (0 : Fin 1) d) =
      (res_main_while0b_v51 V0 : S2x4x32x32.Idx → EReal) (ix4 b h ⟨31, by omega⟩ d) := by
  unfold res_main_while0b_v52
  pointwise

theorem step_state_at (V0 : Valuation τ sig (Elt Ideal)) (b : Fin 2) (h : Fin 4) (d : Fin 32) (e : Fin 64)
    (S : S2x4x32x64.Idx → EReal) (k bc : S2x4x32x32.Idx → EReal) (v : S2x4x32x64.Idx → EReal) (l : S2x4x1x32.Idx → EReal)
    (hS : V0 (Proc.devRef .tc main_v25_6) = S) (hk : res_main_while0b_v48 V0 = k) (hv : res_main_while0b_v49 V0 = v)
    (hb : res_main_while0b_v51 V0 = bc) (hl : res_main_while0b_v52 V0 = l) :
    (step_main_v25_6 V0 : S2x4x32x64.Idx → EReal) (ix4 b h d e) =
      Ideal.exp (l (ix4 b h (0 : Fin 1) d)) * S (ix4 b h d e) +
      ∑ x : Fin 32, k (ix4 b h x d) * Ideal.exp (l (ix4 b h (0 : Fin 1) d) - bc (ix4 b h x d)) * v (ix4 b h x e) := by
  subst hS hk hv hb hl
  unfold step_main_v25_6
  simp only [id_eq]
  pointwise

/-- The chunk's row put into the stack. -/
theorem put_at (x : S256x2x4x32x64.Idx → EReal) (u : S1x2x4x32x64.Idx → EReal) (n : ℕ) (hs : S256x2x4x32x64.Slices ![n, 0, 0, 0, 0] S1x2x4x32x64)
    (n' : Fin 256) (b : Fin 2) (h : Fin 4) (i : Fin 32) (e : Fin 64) :
    updateSlice x u ![n, 0, 0, 0, 0] hs (ix5 n' b h i e) =
      if n'.val = n then u (ix5 (0 : Fin 1) b h i e) else x (ix5 n' b h i e) := by
  rw [updateSlice_apply]
  by_cases hh : n'.val = n
  · rw [if_pos hh, dif_pos (fun a => by
      match a with
      | ⟨0, _⟩ => show n ≤ n'.val ∧ n'.val < n + 1; omega
      | ⟨1, _⟩ => show 0 ≤ b.val ∧ b.val < 0 + 2; omega
      | ⟨2, _⟩ => show 0 ≤ h.val ∧ h.val < 0 + 4; omega
      | ⟨3, _⟩ => show 0 ≤ i.val ∧ i.val < 0 + 32; omega
      | ⟨4, _⟩ => show 0 ≤ e.val ∧ e.val < 0 + 64; omega)]
    congr 1
    funext a
    apply Fin.ext
    match a with
    | ⟨0, _⟩ => show n'.val - n = 0; omega
    | ⟨1, _⟩ => show b.val - 0 = b.val; omega
    | ⟨2, _⟩ => show h.val - 0 = h.val; omega
    | ⟨3, _⟩ => show i.val - 0 = i.val; omega
    | ⟨4, _⟩ => show e.val - 0 = e.val; omega
  · rw [if_neg hh, dif_neg (fun hin => by
      have h0 := hin 0
      change n ≤ n'.val ∧ n'.val < n + 1 at h0
      omega)]

theorem step_out_at (V0 : Valuation τ sig (Elt Ideal)) (n : ℕ) (hn : n < 256)
    (hc : V0 (Proc.devRef .tc main_v25_5) = fun _ => BitVec.ofNat 32 n)
    (n' : Fin 256) (b : Fin 2) (h : Fin 4) (i : Fin 32) (e : Fin 64)
    (O : S256x2x4x32x64.Idx → EReal) (M : S32x32x1.Idx → BitVec 1)
    (S : S2x4x32x64.Idx → EReal) (q k bc : S2x4x32x32.Idx → EReal) (v : S2x4x32x64.Idx → EReal)
    (hO : V0 (Proc.devRef .tc main_v25_7) = O) (hM : V0 (Proc.devRef .tc main_v25_4) = M)
    (hS : V0 (Proc.devRef .tc main_v25_6) = S) (hq : res_main_while0b_v47 V0 = q) (hk : res_main_while0b_v48 V0 = k)
    (hv : res_main_while0b_v49 V0 = v) (hb : res_main_while0b_v51 V0 = bc) :
    (step_main_v25_7 V0 : S256x2x4x32x64.Idx → EReal) (ix5 n' b h i e) =
      if n'.val = n then
        ∑ j : Fin 32, (∑ d : Fin 32, q (ix4 b h i d) * k (ix4 b h j d) *
          Ideal.exp (if M (ix3 i j (0 : Fin 1)) = 1#1 then bc (ix4 b h i d) - bc (ix4 b h j d) else Ideal.ofBits .f32 0xFF800000#32)) *
            v (ix4 b h j e) +
        ∑ d : Fin 32, q (ix4 b h i d) * Ideal.exp (bc (ix4 b h i d)) * S (ix4 b h d e)
      else O (ix5 n' b h i e) := by
  subst hO hM hS hq hk hv hb
  unfold step_main_v25_7
  rw [id_eq, WordCmp.dynamicUpdateSlice_eq_update _ _ _ _ ![n, 0, 0, 0, 0] (fits64 n hn) (starts V0 n hn hc)]
  refine (put_at _ _ n _ n' b h i e).trans ?_
  by_cases hh : n'.val = n
  · rw [if_pos hh, if_pos hh]
    simp only [id_eq]
    pointwise
    rfl
  · rw [if_neg hh, if_neg hh]

theorem out_at (V0 : Valuation τ sig (Elt Ideal)) (R : Fin 16384) (e : Fin 256) (O : S256x2x4x32x64.Idx → EReal)
    (a0 : S16384x896.Idx → EReal) (a3 : S64.Idx → EReal)
    (hO : V0 (Proc.devRef .tc main_v25_7) = O) (h0 : V0 (Proc.devRef .tc main_arg0) = a0) (h3 : V0 (Proc.devRef .tc main_arg3) = a3) :
    (out_main_v46 V0 : S16384x256.Idx → EReal) (ix2 R e) =
      O (ix5 ⟨R.val % 8192 / 32, by omega⟩ ⟨R.val / 8192, by omega⟩ ⟨e.val / 64, by omega⟩ ⟨R.val % 8192 % 32, by omega⟩ ⟨e.val % 64, by omega⟩) *
          Ideal.rsqrt (Ideal.div
            (∑ x : Fin 64, O (ix5 ⟨R.val % 8192 / 32, by omega⟩ ⟨R.val / 8192, by omega⟩ ⟨e.val / 64, by omega⟩ ⟨R.val % 8192 % 32, by omega⟩ x) *
              O (ix5 ⟨R.val % 8192 / 32, by omega⟩ ⟨R.val / 8192, by omega⟩ ⟨e.val / 64, by omega⟩ ⟨R.val % 8192 % 32, by omega⟩ x))
            (Ideal.ofBits .f32 0x42800000#32) + Ideal.ofBits .f32 0x358637BD#32) *
        a3 (ix1 ⟨e.val % 64, by omega⟩) *
      (a0 (ix2 R ⟨512 + e.val, by omega⟩) * Ideal.div 1 (1 + Ideal.exp (-a0 (ix2 R ⟨512 + e.val, by omega⟩)))) := by
  subst hO h0 h3
  unfold out_main_v46
  pointwise
end Cert.ReferenceIdeal.Chunk
-- ==== Proof.RefVal.lean ====
module

public import proofs.«01_k».proof.Proof.RefEntry
public import proofs.«01_k».proof.Proof.RefStep

/-! The reference's whole result over real inputs: by induction on the trips, the state and the
outputs of every chunk, then the norm and the output gate. -/

@[expose] public section
set_option maxRecDepth 16384
set_option maxHeartbeats 2000000
noncomputable section

namespace Cert.ReferenceIdeal.Chunk
open Cert.ReferenceIdeal Cert.ReferenceIdeal.Gen Cert.ReferenceIdeal.Value Idealize.ShloMosaic Idealize.ShloMosaic.TcCoe
open Idealize.ShloMosaic.StableHlo
open Cert.KernelIdeal.Tile (bits_sixteen bits_64 max_coe abs_coe log1p_coe sum_real)

theorem bits_bottom : Ideal.ofBits .f32 0xFF800000#32 = (⊥ : EReal) := by
  simp [Ideal.ofBits, Ideal.ieee]

/-- What the carried buffers hold before trip `n`. -/
structure Holds (X G : ℕ → ℕ → ℝ) (κ : ℝ) (n : ℕ) (V0 : Valuation τ sig (Elt Ideal)) : Prop where
  ctr : V0 (Proc.devRef .tc main_v25_5) = fun _ => BitVec.ofNat 32 n
  q : ∀ (n : Fin 256) (b : Fin 2) (h : Fin 4) (i d : Fin 32),
    (V0 (Proc.devRef .tc main_v25_0) : S256x2x4x32x32.Idx → EReal) (ix5 n b h i d) =
      ((X (32 * (256 * b.val + n.val) + i.val) (32 * h.val + d.val) * κ : ℝ) : EReal)
  k : ∀ (n : Fin 256) (b : Fin 2) (h : Fin 4) (i d : Fin 32),
    (V0 (Proc.devRef .tc main_v25_1) : S256x2x4x32x32.Idx → EReal) (ix5 n b h i d) =
      ((X (32 * (256 * b.val + n.val) + i.val) (128 + (32 * h.val + d.val)) : ℝ) : EReal)
  v : ∀ (n : Fin 256) (b : Fin 2) (h : Fin 4) (i : Fin 32) (e : Fin 64),
    (V0 (Proc.devRef .tc main_v25_2) : S256x2x4x32x64.Idx → EReal) (ix5 n b h i e) =
      ((X (32 * (256 * b.val + n.val) + i.val) (256 + (64 * h.val + e.val)) : ℝ) : EReal)
  g : ∀ (n : Fin 256) (b : Fin 2) (h : Fin 4) (i d : Fin 32),
    (V0 (Proc.devRef .tc main_v25_3) : S256x2x4x32x32.Idx → EReal) (ix5 n b h i d) =
      ((G (32 * (256 * b.val + n.val) + i.val) (32 * h.val + d.val) : ℝ) : EReal)
  mask : ∀ (i j : Fin 32), (V0 (Proc.devRef .tc main_v25_4) : S32x32x1.Idx → BitVec 1) (ix3 i j (0 : Fin 1)) =
      if j.val ≤ i.val then 1#1 else 0#1
  s : n < 256 → ∀ (b : Fin 2) (h : Fin 4) (d : Fin 32) (e : Fin 64),
    (V0 (Proc.devRef .tc main_v25_6) : S2x4x32x64.Idx → EReal) (ix4 b h d e) =
      ((Gla.state X G (256 * b.val + n) (64 * h.val + e.val) (32 * h.val + d.val) : ℝ) : EReal)
  o : ∀ (n' : Fin 256), n'.val < n → ∀ (b : Fin 2) (h : Fin 4) (i : Fin 32) (e : Fin 64),
    (V0 (Proc.devRef .tc main_v25_7) : S256x2x4x32x64.Idx → EReal) (ix5 n' b h i e) =
      ((Gla.out X G κ (256 * b.val + n'.val) i.val (64 * h.val + e.val) : ℝ) : EReal)

section
variable {X G : ℕ → ℕ → ℝ} {κ : ℝ} {n : ℕ} {V0 : Valuation τ sig (Elt Ideal)} (H : Holds X G κ n V0) (hn : n < 256)
include H hn

theorem cum_at (b : Fin 2) (h : Fin 4) (i d : Fin 32) : (res_main_while0b_v51 V0 : S2x4x32x32.Idx → EReal) (ix4 b h i d) =
    ((Gla.cum G (256 * b.val + n) i.val (32 * h.val + d.val) : ℝ) : EReal) :=
  b_at V0 n hn H.ctr b h d (fun j => G (32 * (256 * b.val + n) + j) (32 * h.val + d.val)) (fun j => H.g ⟨n, hn⟩ b h j d) i

theorem last_cum (b : Fin 2) (h : Fin 4) (d : Fin 32) : (res_main_while0b_v52 V0 : S2x4x1x32.Idx → EReal) (ix4 b h (0 : Fin 1) d) =
    ((Gla.cum G (256 * b.val + n) 31 (32 * h.val + d.val) : ℝ) : EReal) :=
  (last_at V0 b h d).trans (cum_at H hn b h _ d)

theorem next_state (hn' : n + 1 < 256) (b : Fin 2) (h : Fin 4) (d : Fin 32) (e : Fin 64) :
    (step_main_v25_6 V0 : S2x4x32x64.Idx → EReal) (ix4 b h d e) =
      ((Gla.state X G (256 * b.val + (n + 1)) (64 * h.val + e.val) (32 * h.val + d.val) : ℝ) : EReal) := by
  rw [step_state_at V0 b h d e _ _ _ _ _ rfl rfl rfl rfl rfl, last_cum H hn, H.s hn, Ideal.exp_coe, ← EReal.coe_mul,
    sum_real 32 _ (fun j => X (32 * (256 * b.val + n) + j) (256 + (64 * h.val + e.val)) *
        (X (32 * (256 * b.val + n) + j) (128 + (32 * h.val + d.val)) *
          Real.exp (Gla.cum G (256 * b.val + n) 31 (32 * h.val + d.val) - Gla.cum G (256 * b.val + n) j (32 * h.val + d.val)))),
    ← EReal.coe_add]
  · congr 1
    have hs : ∀ C e d, Gla.state X G (C + 1) e d = if (C + 1) % 256 = 0 then 0 else Gla.state X G C e d * Real.exp (Gla.cum G C 31 d) +
        ∑ j ∈ Finset.range 32, X (32 * C + j) (256 + e) * (X (32 * C + j) (128 + d) * Real.exp (Gla.cum G C 31 d - Gla.cum G C j d)) :=
      fun _ _ _ => rfl
    rw [show 256 * b.val + (n + 1) = 256 * b.val + n + 1 from rfl, hs, if_neg (by omega), mul_comm (Real.exp _)]
  · intro j
    rw [cum_at H hn, k_at V0 n hn H.ctr, v_at V0 n hn H.ctr, H.k, H.v, ← EReal.coe_sub, Ideal.exp_coe, ← EReal.coe_mul, ← EReal.coe_mul]
    congr 1
    ring

theorem next_out (n' : Fin 256) (hl : n'.val < n + 1) (b : Fin 2) (h : Fin 4) (i : Fin 32) (e : Fin 64) :
    (step_main_v25_7 V0 : S256x2x4x32x64.Idx → EReal) (ix5 n' b h i e) =
      ((Gla.out X G κ (256 * b.val + n'.val) i.val (64 * h.val + e.val) : ℝ) : EReal) := by
  rw [step_out_at V0 n hn H.ctr n' b h i e _ _ _ _ _ _ _ rfl rfl rfl rfl rfl rfl rfl]
  by_cases hh : n'.val = n
  · rw [if_pos hh, hh]
    have hq : (64 * h.val + e.val) / 64 = h.val := by omega
    rw [sum_real 32 _ (fun j => Gla.score X G κ (256 * b.val + n) i.val j h.val * X (32 * (256 * b.val + n) + j) (256 + (64 * h.val + e.val))),
      sum_real 32 _ (fun d => X (32 * (256 * b.val + n) + i.val) (32 * h.val + d) * κ *
        Real.exp (Gla.cum G (256 * b.val + n) i.val (32 * h.val + d)) *
          Gla.state X G (256 * b.val + n) (64 * h.val + e.val) (32 * h.val + d)), ← EReal.coe_add]
    · unfold Gla.out
      rw [hq]
    · intro d
      rw [q_at V0 n hn H.ctr, H.q, cum_at H hn, Ideal.exp_coe, H.s hn, ← EReal.coe_mul, ← EReal.coe_mul]
    · intro j
      rw [sum_real 32 _ (fun d => if j.val ≤ i.val then X (32 * (256 * b.val + n) + i.val) (32 * h.val + d) * κ *
          X (32 * (256 * b.val + n) + j.val) (128 + (32 * h.val + d)) *
          Real.exp (Gla.cum G (256 * b.val + n) i.val (32 * h.val + d) - Gla.cum G (256 * b.val + n) j.val (32 * h.val + d)) else 0),
        v_at V0 n hn H.ctr, H.v, ← EReal.coe_mul]
      · congr 2
        unfold Gla.score
        by_cases hj : j.val ≤ i.val
        · simp only [if_pos hj]
        · simp only [if_neg hj, Finset.sum_const_zero]
      · intro d
        rw [H.mask, q_at V0 n hn H.ctr, H.q, k_at V0 n hn H.ctr, H.k]
        by_cases hj : j.val ≤ i.val
        · rw [if_pos hj, if_pos rfl, if_pos hj, cum_at H hn, cum_at H hn, ← EReal.coe_sub, Ideal.exp_coe, ← EReal.coe_mul,
            ← EReal.coe_mul]
        · rw [if_neg hj, if_neg (by decide), if_neg hj, bits_bottom, Ideal.exp_bot, mul_zero, EReal.coe_zero]
  · rw [if_neg hh]
    exact H.o n' (by omega) b h i e

theorem trip : Holds X G κ (n + 1) (STEP V0) where
  ctr := by
    rw [STEP_main_v25_5]
    unfold step_main_v25_5
    rw [id_eq, H.ctr]
    funext i
    show BitVec.ofNat 32 n + 1#32 = BitVec.ofNat 32 (n + 1)
    rw [BitVec.ofNat_add]
  q := by rw [STEP_main_v25_0]; exact H.q
  k := by rw [STEP_main_v25_1]; exact H.k
  v := by rw [STEP_main_v25_2]; exact H.v
  g := by rw [STEP_main_v25_3]; exact H.g
  mask := by rw [STEP_main_v25_4]; exact H.mask
  s := by intro h; rw [STEP_main_v25_6]; exact next_state H hn h
  o := by rw [STEP_main_v25_7]; exact next_out H hn
end

section
variable {m : (ℓ : Loc nD τ sig) → Buf (Elt Ideal) ℓ} {c : Dev nD} {X W : ℕ → ℕ → ℝ} {B : ℕ → ℝ} {κ : ℝ}
  (hX : ∀ (r : Fin 16384) (j : Fin 896), A0 m c (ix2 r j) = ((X r.val j.val : ℝ) : EReal))
  (hW : ∀ (i : Fin 16) (j : Fin 128), A1 m c (ix2 i j) = ((W i.val j.val : ℝ) : EReal))
  (hB : ∀ (j : Fin 128), A2 m c (ix1 j) = ((B j.val : ℝ) : EReal))
  (hκ : Ideal.ofBits .f32 0x3E3504F3#32 = ((κ : ℝ) : EReal))
include hX hW hB hκ

theorem start : Holds X (Gla.gate X W B) κ 0 (entryContents preI m c) where
  ctr := ctr_entry m c
  q := entry_q hX hκ
  k := entry_k hX
  v := entry_v hX
  g := entry_g hX hW hB
  mask := entry_mask m c
  s := by
    intro _ b h d e
    rw [entry_s, Gla.state_reset _ _ _ (by omega), EReal.coe_zero]
  o := fun n' h => absurd h (Nat.not_lt_zero _)

theorem trips : ∀ n ≤ 256, Holds X (Gla.gate X W B) κ n (STEP^[n] (entryContents preI m c)) := by
  intro n
  induction n with
  | zero => intro _; exact start hX hW hB hκ
  | succ n ih =>
    intro h
    rw [Function.iterate_succ_apply']
    exact trip (ih (by omega)) (by omega)

theorem result_at (R : Fin 16384) (e : Fin 256) :
    (out_main_v46 (STEP^[256] (entryContents preI m c)) : S16384x256.Idx → EReal) (ix2 R e) =
      ((Gla.out X (Gla.gate X W B) κ (R.val / 32) (R.val % 32) e.val : ℝ) : EReal) *
        Ideal.rsqrt (((∑ d ∈ Finset.range 64, Gla.out X (Gla.gate X W B) κ (R.val / 32) (R.val % 32) (64 * (e.val / 64) + d) *
          Gla.out X (Gla.gate X W B) κ (R.val / 32) (R.val % 32) (64 * (e.val / 64) + d)) * (1 / 64) : ℝ) +
          Ideal.ofBits .f32 0x358637BD#32) * A3 m c (ix1 ⟨e.val % 64, by omega⟩) *
        (((X R.val (512 + e.val) : ℝ) : EReal) * Ideal.div 1 (1 + Ideal.exp (0 - ((X R.val (512 + e.val) : ℝ) : EReal)))) := by
  have H := trips hX hW hB hκ 256 le_rfl
  rw [out_at _ R e _ (A0 m c) (A3 m c) rfl (iter_main_arg0 m c 256) (iter_main_arg3 m c 256)]
  have hO : ∀ x : Fin 64, ((STEP^[256] (entryContents preI m c)) (Proc.devRef .tc main_v25_7) : S256x2x4x32x64.Idx → EReal)
      (ix5 ⟨R.val % 8192 / 32, by omega⟩ ⟨R.val / 8192, by omega⟩ ⟨e.val / 64, by omega⟩ ⟨R.val % 8192 % 32, by omega⟩ x) =
      ((Gla.out X (Gla.gate X W B) κ (R.val / 32) (R.val % 32) (64 * (e.val / 64) + x.val) : ℝ) : EReal) := by
    intro x
    rw [H.o _ (by show R.val % 8192 / 32 < 256; omega)]
    show ((Gla.out X (Gla.gate X W B) κ (256 * (R.val / 8192) + R.val % 8192 / 32) (R.val % 8192 % 32) _ : ℝ) : EReal) = _
    rw [show 256 * (R.val / 8192) + R.val % 8192 / 32 = R.val / 32 by omega, show R.val % 8192 % 32 = R.val % 32 by omega]
  rw [hO, sum_real 64 _ (fun d => Gla.out X (Gla.gate X W B) κ (R.val / 32) (R.val % 32) (64 * (e.val / 64) + d) *
          Gla.out X (Gla.gate X W B) κ (R.val / 32) (R.val % 32) (64 * (e.val / 64) + d)), bits_64, Ideal.div_coe (by norm_num),
    ← EReal.coe_mul, hX, zero_sub]
  · show ((Gla.out X (Gla.gate X W B) κ (R.val / 32) (R.val % 32) (64 * (e.val / 64) + e.val % 64) : ℝ) : EReal) * _ * _ * _ = _
    rw [show 64 * (e.val / 64) + e.val % 64 = e.val by omega, one_div]
  · intro x
    rw [hO, ← EReal.coe_mul]
end
end Cert.ReferenceIdeal.Chunk
-- ==== Proof.Agree.lean ====
module

public import proofs.«01_k».proof.Proof.KernelVal
public import proofs.«01_k».proof.Proof.RefVal

/-! The two results are one array, from memories agreeing on the arguments. -/

@[expose] public section
set_option maxRecDepth 16384
noncomputable section

namespace Cert.Agree
open Idealize.ShloMosaic Idealize.ShloMosaic.TcCoe Idealize.ShloMosaic.StableHlo
open Cert.KernelIdeal.Tile (bits_scale)

abbrev K0 (m : (ℓ : Loc Cert.KernelIdeal.nD Cert.KernelIdeal.τ Cert.KernelIdeal.sig) → Buf (Elt Ideal) ℓ) (c : Dev Cert.KernelIdeal.nD) :
    Cert.KernelIdeal.S16384x896.Idx → EReal := m ((c.tc : Thread Cert.KernelIdeal.nD Cert.KernelIdeal.τ).loc Cert.KernelIdeal.main_arg0)
abbrev K1 (m : (ℓ : Loc Cert.KernelIdeal.nD Cert.KernelIdeal.τ Cert.KernelIdeal.sig) → Buf (Elt Ideal) ℓ) (c : Dev Cert.KernelIdeal.nD) :
    Cert.KernelIdeal.S16x128.Idx → EReal := m ((c.tc : Thread Cert.KernelIdeal.nD Cert.KernelIdeal.τ).loc Cert.KernelIdeal.main_arg1)
abbrev K2 (m : (ℓ : Loc Cert.KernelIdeal.nD Cert.KernelIdeal.τ Cert.KernelIdeal.sig) → Buf (Elt Ideal) ℓ) (c : Dev Cert.KernelIdeal.nD) :
    Cert.KernelIdeal.S128.Idx → EReal := m ((c.tc : Thread Cert.KernelIdeal.nD Cert.KernelIdeal.τ).loc Cert.KernelIdeal.main_arg2)
abbrev K3 (m : (ℓ : Loc Cert.KernelIdeal.nD Cert.KernelIdeal.τ Cert.KernelIdeal.sig) → Buf (Elt Ideal) ℓ) (c : Dev Cert.KernelIdeal.nD) :
    Cert.KernelIdeal.S64.Idx → EReal := m ((c.tc : Thread Cert.KernelIdeal.nD Cert.KernelIdeal.τ).loc Cert.KernelIdeal.main_arg3)

/-- A table of reals as a function of two naturals. -/
def table {p q : ℕ} (f : (⟨2, ![p, q]⟩ : Shape).Idx → EReal) (r j : ℕ) : ℝ :=
  if h : r < p ∧ j < q then (f (ix2 ⟨r, h.1⟩ ⟨j, h.2⟩)).toReal else 0

def line {p : ℕ} (f : (⟨1, ![p]⟩ : Shape).Idx → EReal) (j : ℕ) : ℝ := if h : j < p then (f (ix1 ⟨j, h⟩)).toReal else 0

theorem table_at {p q : ℕ} (f : (⟨2, ![p, q]⟩ : Shape).Idx → EReal) (hf : ∀ i, f i = (((f i).toReal : ℝ) : EReal)) (r : Fin p) (j : Fin q) :
    f (ix2 r j) = ((table f r.val j.val : ℝ) : EReal) := by
  unfold table
  rw [dif_pos ⟨r.isLt, j.isLt⟩]
  exact hf _

theorem line_at {p : ℕ} (f : (⟨1, ![p]⟩ : Shape).Idx → EReal) (hf : ∀ i, f i = (((f i).toReal : ℝ) : EReal)) (j : Fin p) :
    f (ix1 j) = ((line f j.val : ℝ) : EReal) := by
  unfold line
  rw [dif_pos j.isLt]
  exact hf _

theorem results (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ) (c' : Dev Cert.ReferenceIdeal.nD)
    (e0 : Cert.ReferenceIdeal.Chunk.A0 m' c' = K0 m c) (e1 : Cert.ReferenceIdeal.Chunk.A1 m' c' = K1 m c)
    (e2 : Cert.ReferenceIdeal.Chunk.A2 m' c' = K2 m c) (e3 : Cert.ReferenceIdeal.Chunk.A3 m' c' = K3 m c)
    (r0 : ∀ i, K0 m c i = (((K0 m c i).toReal : ℝ) : EReal)) (r1 : ∀ i, K1 m c i = (((K1 m c i).toReal : ℝ) : EReal))
    (r2 : ∀ i, K2 m c i = (((K2 m c i).toReal : ℝ) : EReal)) :
    (Cert.ReferenceIdeal.Value.out_main_v46 (Cert.ReferenceIdeal.Value.STEP^[256]
      (entryContents Cert.ReferenceIdeal.Value.preI m' c')) : Cert.ReferenceIdeal.S16384x256.Idx → EReal) =
      (Cert.KernelIdeal.Value.G6 m c : Cert.KernelIdeal.S16384x256.Idx → EReal) := by
  obtain ⟨κ, hκ⟩ := bits_scale
  have x0 := table_at (K0 m c) r0
  have x1 := table_at (K1 m c) r1
  have x2 := line_at (K2 m c) r2
  funext i
  obtain ⟨R, e, rfl⟩ : ∃ (R : Fin 16384) (e : Fin 256), i = ix2 R e := ⟨i 0, i 1, by funext a; fin_cases a <;> rfl⟩
  rw [Cert.ReferenceIdeal.Chunk.result_at (X := table (K0 m c)) (W := table (K1 m c)) (B := line (K2 m c)) (κ := κ)
    (fun r j => (congrFun e0 _).trans (x0 r j)) (fun r j => (congrFun e1 _).trans (x1 r j)) (fun j => (congrFun e2 _).trans (x2 j)) hκ R e,
    Cert.KernelIdeal.Tile.result_at (X := table (K0 m c)) (W := table (K1 m c)) (B := line (K2 m c)) (κ := κ) x0 x1 x2 hκ R e, e3]
  rfl
end Cert.Agree
-- ==== Proof.OutSpec.lean ====
module

public import Idealize.ShloMosaic.PureOps.Ideal
public import Idealize.ShloMosaic.Lib.Pointwise

/-! The end of the layer as formulas over the extended reals: the S5 mixer's skip, gelu and gated linear unit,
and the output product in one sum and in ten. -/

@[expose] public section
set_option maxRecDepth 16384
set_option maxHeartbeats 4000000
noncomputable section

namespace Cert.Out
open Idealize.ShloMosaic

/-- Gelu in its tanh form. -/
def gel (y : EReal) : EReal := y * (Ideal.ofBits .f32 1056964608#32 * (1 + Ideal.tanh
  (Ideal.ofBits .f32 1061962282#32 * (y + Ideal.ofBits .f32 1027024659#32 * (y * y * y)))))

theorem gel_left (y : EReal) : Ideal.ofBits .f32 1056964608#32 * y * (1 + Ideal.tanh
    (Ideal.ofBits .f32 1061962282#32 * (y + Ideal.ofBits .f32 1027024659#32 * (y * y * y)))) = gel y := by
  rw [gel, mul_comm (Ideal.ofBits .f32 1056964608#32) y, mul_assoc]

/-- The gated linear unit's product before the gate. -/
def lin (Y : Fin 256 → EReal) (Wg : Fin 256 → Fin 512 → EReal) (b : Fin 512 → EReal) (j : Fin 512) : EReal :=
  ∑ x, gel (Y x) * Wg x j + b j

/-- The S5 mixer's result from its skip sum. -/
def s5 (Y : Fin 256 → EReal) (Wg : Fin 256 → Fin 512 → EReal) (b : Fin 512 → EReal) (G : Fin 256 → EReal)
    (j : Fin 256) : EReal :=
  lin Y Wg b ⟨j.val, by omega⟩ * Ideal.div 1 (1 + Ideal.exp (-(lin Y Wg b ⟨256 + j.val, by omega⟩))) *
    (G j * Ideal.div 1 (1 + Ideal.exp (-(G j))))

/-- The mixers' results side by side. -/
def mix (A S : Fin 256 → EReal) (N : Fin 8 → Fin 64 → EReal) (k : Fin 1024) : EReal :=
  if h : k.val < 256 then A ⟨k.val, h⟩
  else if h : k.val - 256 < 256 then S ⟨k.val - 256, h⟩
  else N ⟨(k.val - 256 - 256) / 64, by omega⟩ ⟨(k.val - 256 - 256) % 64, by omega⟩

/-- One head's part of the product. -/
def head (N : Fin 8 → Fin 64 → EReal) (W : Fin 1024 → EReal) (h : Fin 8) : EReal :=
  ∑ k : Fin 64, N h k * W ⟨512 + 64 * h.val + k.val, by omega⟩

/-- The product with the side-by-side array is the sum of the ten products with its parts. -/
theorem split (x : EReal) (A S : Fin 256 → EReal) (N : Fin 8 → Fin 64 → EReal) (W : Fin 1024 → EReal) :
    x + ∑ k, mix A S N k * W k =
      x + (∑ k : Fin 256, A k * W ⟨k.val, by omega⟩) + (∑ k : Fin 256, S k * W ⟨256 + k.val, by omega⟩) +
        head N W 0 + head N W 1 + head N W 2 + head N W 3 + head N W 4 + head N W 5 + head N W 6 + head N W 7 := by
  have e1 := Fin.sum_univ_add (a := 256) (b := 768) fun k : Fin (256 + 768) => mix A S N k * W k
  have e2 := Fin.sum_univ_add (a := 256) (b := 512) fun k : Fin (256 + 512) => mix A S N (Fin.natAdd 256 k) * W (Fin.natAdd 256 k)
  have hd : ∀ k : Fin 512, mix A S N (Fin.natAdd 256 (Fin.natAdd 256 k)) * W (Fin.natAdd 256 (Fin.natAdd 256 k)) =
      N (finProdFinEquiv (m := 8) (n := 64) |>.symm k).1 (finProdFinEquiv (m := 8) (n := 64) |>.symm k).2 * W ⟨512 + k.val, by omega⟩ := by
    intro k
    have h1 : ¬ (256 + (256 + k.val) < 256) := by omega
    have h2 : ¬ (256 + (256 + k.val) - 256 < 256) := by omega
    have hm : mix A S N (Fin.natAdd 256 (Fin.natAdd 256 k)) =
        N (finProdFinEquiv (m := 8) (n := 64) |>.symm k).1 (finProdFinEquiv (m := 8) (n := 64) |>.symm k).2 := by
      refine (dif_neg h1).trans ((dif_neg h2).trans ?_)
      have hv : 256 + (256 + k.val) - 256 - 256 = k.val := by omega
      refine congrArg₂ N (Fin.ext ?_) (Fin.ext ?_)
      · show (256 + (256 + k.val) - 256 - 256) / 64 = k.val / 64
        rw [hv]
      · show (256 + (256 + k.val) - 256 - 256) % 64 = k.val % 64
        rw [hv]
    have hw : (Fin.natAdd 256 (Fin.natAdd 256 k) : Fin (256 + (256 + 512))) = (⟨512 + k.val, by omega⟩ : Fin 1024) := by
      apply Fin.ext
      show 256 + (256 + k.val) = 512 + k.val
      omega
    rw [hm]
    congr 2
  have e3 : ∑ k : Fin 512, mix A S N (Fin.natAdd 256 (Fin.natAdd 256 k)) * W (Fin.natAdd 256 (Fin.natAdd 256 k)) =
      ∑ h : Fin 8, head N W h := by
    rw [Finset.sum_congr rfl (fun k _ => hd k)]
    rw [← (finProdFinEquiv (m := 8) (n := 64)).sum_comp, Fintype.sum_prod_type]
    apply Finset.sum_congr rfl
    intro h _
    unfold head
    apply Finset.sum_congr rfl
    intro k _
    rw [Equiv.symm_apply_apply]
    congr 2
    apply Fin.ext
    show 512 + (k.val + 64 * h.val) = 512 + 64 * h.val + k.val
    omega
  have e : ∑ k, mix A S N k * W k = (∑ k : Fin 256, A k * W ⟨k.val, by omega⟩) +
      ((∑ k : Fin 256, S k * W ⟨256 + k.val, by omega⟩) + ∑ h : Fin 8, head N W h) := by
    refine e1.trans ?_
    refine congrArg₂ (· + ·) ?_ ?_
    · apply Finset.sum_congr rfl
      intro k _
      have h1 : k.val < 256 := k.isLt
      have hm : mix A S N (Fin.castAdd 768 k) = A k := dif_pos h1
      rw [hm]
      rfl
    · refine e2.trans ?_
      rw [e3]
      refine congrArg (· + _) ?_
      apply Finset.sum_congr rfl
      intro k _
      have h1 : ¬ (256 + k.val < 256) := by omega
      have h2 : 256 + k.val - 256 < 256 := by omega
      have hm : mix A S N (Fin.natAdd 256 (Fin.castAdd 512 k)) = S k := by
        refine (dif_neg h1).trans ((dif_pos h2).trans ?_)
        congr 1
        apply Fin.ext
        show 256 + k.val - 256 = k.val
        omega
      rw [hm]
      rfl
  rw [e, Fin.sum_univ_eight]
  simp only [add_assoc]

theorem head0 (N : Fin 8 → Fin 64 → EReal) (W : Fin 1024 → EReal) :
    head N W 0 = ∑ k : Fin 64, N 0 k * W ⟨512 + k.val, by omega⟩ :=
  Finset.sum_congr rfl fun k _ => congrArg (fun i => N 0 k * W i) (Fin.ext (by
    show 512 + 64 * 0 + k.val = 512 + k.val
    omega))

theorem head1 (N : Fin 8 → Fin 64 → EReal) (W : Fin 1024 → EReal) :
    head N W 1 = ∑ k : Fin 64, N 1 k * W ⟨576 + k.val, by omega⟩ :=
  Finset.sum_congr rfl fun k _ => congrArg (fun i => N 1 k * W i) (Fin.ext (by
    show 512 + 64 * 1 + k.val = 576 + k.val
    omega))

theorem head2 (N : Fin 8 → Fin 64 → EReal) (W : Fin 1024 → EReal) :
    head N W 2 = ∑ k : Fin 64, N 2 k * W ⟨640 + k.val, by omega⟩ :=
  Finset.sum_congr rfl fun k _ => congrArg (fun i => N 2 k * W i) (Fin.ext (by
    show 512 + 64 * 2 + k.val = 640 + k.val
    omega))

theorem head3 (N : Fin 8 → Fin 64 → EReal) (W : Fin 1024 → EReal) :
    head N W 3 = ∑ k : Fin 64, N 3 k * W ⟨704 + k.val, by omega⟩ :=
  Finset.sum_congr rfl fun k _ => congrArg (fun i => N 3 k * W i) (Fin.ext (by
    show 512 + 64 * 3 + k.val = 704 + k.val
    omega))

theorem head4 (N : Fin 8 → Fin 64 → EReal) (W : Fin 1024 → EReal) :
    head N W 4 = ∑ k : Fin 64, N 4 k * W ⟨768 + k.val, by omega⟩ :=
  Finset.sum_congr rfl fun k _ => congrArg (fun i => N 4 k * W i) (Fin.ext (by
    show 512 + 64 * 4 + k.val = 768 + k.val
    omega))

theorem head5 (N : Fin 8 → Fin 64 → EReal) (W : Fin 1024 → EReal) :
    head N W 5 = ∑ k : Fin 64, N 5 k * W ⟨832 + k.val, by omega⟩ :=
  Finset.sum_congr rfl fun k _ => congrArg (fun i => N 5 k * W i) (Fin.ext (by
    show 512 + 64 * 5 + k.val = 832 + k.val
    omega))

theorem head6 (N : Fin 8 → Fin 64 → EReal) (W : Fin 1024 → EReal) :
    head N W 6 = ∑ k : Fin 64, N 6 k * W ⟨896 + k.val, by omega⟩ :=
  Finset.sum_congr rfl fun k _ => congrArg (fun i => N 6 k * W i) (Fin.ext (by
    show 512 + 64 * 6 + k.val = 896 + k.val
    omega))

theorem head7 (N : Fin 8 → Fin 64 → EReal) (W : Fin 1024 → EReal) :
    head N W 7 = ∑ k : Fin 64, N 7 k * W ⟨960 + k.val, by omega⟩ :=
  Finset.sum_congr rfl fun k _ => congrArg (fun i => N 7 k * W i) (Fin.ext (by
    show 512 + 64 * 7 + k.val = 960 + k.val
    omega))

end Cert.Out
-- ==== Proof.OutTile.lean ====
module

public import proofs.«01_k».proof.Proof.Gen.Kernel2Ideal.Value
public import Idealize.ShloMosaic.Lib.StableHlo.ReadAt
public import proofs.«01_k».proof.Proof.OutSpec

/-! What one grid point of the output projection computes from its blocks, at an index. -/

@[expose] public section
set_option maxRecDepth 16384
set_option maxHeartbeats 400000
noncomputable section

namespace Cert.Kernel2Ideal.Out
open Cert.Kernel2Ideal Cert.Kernel2Ideal.Gen Idealize.ShloMosaic Idealize.ShloMosaic.TcCoe

theorem offs2 : (![0, 0] : Fin 2 → Nat) = fun _ => 0 := funext fun a => by fin_cases a <;> rfl

theorem pay2_at (v0 : Vec Ideal S512x256 .f32) (v2 : Vec Ideal S512x256 .f32) (v3 : Vec Ideal S1x256 .f32) (v22 : Vec Ideal S256x512 .bf16) (v25 : Vec Ideal S1x512 .f32) (r : Fin 512) (j : Fin 256) :
    k0_pay2 v0 v2 v3 v22 v25 (ix2 r j) =
      Cert.Out.lin (fun x => v2 (ix2 r x) + v3 (ix2 0 x) * v0 (ix2 r x)) (fun x y => v22 (ix2 x y)) (fun y => v25 (ix2 0 y)) ⟨j.val, by omega⟩ *
        Ideal.div 1 (1 + Ideal.exp (-(Cert.Out.lin (fun x => v2 (ix2 r x) + v3 (ix2 0 x) * v0 (ix2 r x)) (fun x y => v22 (ix2 x y)) (fun y => v25 (ix2 0 y)) ⟨256 + j.val, by omega⟩))) := by
  pointwise [k0_pay2]
  simp only [Cert.Out.gel_left, zero_sub]
  rfl

theorem pay3_at (v1 : Vec Ideal S512x256 .f32) (v38 : FVec Ideal S512x256 .f32) (v48 : Vec Ideal S512x1024 .f32) (v49 : Vec Ideal S512x256 .f32) (v51 : Vec Ideal S256x1024 .bf16) (v56 : Vec Ideal S256x1024 .bf16) (v60 : Vec Ideal S1x512x64 .bf16) (v62 : Vec Ideal S64x1024 .bf16) (v66 : Vec Ideal S1x512x64 .bf16) (v68 : Vec Ideal S64x1024 .bf16) (r : Fin 512) (j : Fin 1024) :
    (k0_pay3 v1 v38 v48 v49 v51 v56 v60 v62 v66 v68 (ix2 r j) : EReal) =
      v48 (ix2 r j) + (∑ k : Fin 256, (v49 (ix2 r k) : EReal) * (v51 (ix2 k j) : EReal)) +
        (∑ k : Fin 256, ((v38 (ix2 r k) : EReal) * ((v1 (ix2 r k) : EReal) * Ideal.div 1 (1 + Ideal.exp (-(v1 (ix2 r k) : EReal))))) * (v56 (ix2 k j) : EReal)) +
        (∑ k : Fin 64, (v60 (ix3 0 r k) : EReal) * (v62 (ix2 k j) : EReal)) +
        (∑ k : Fin 64, (v66 (ix3 0 r k) : EReal) * (v68 (ix2 k j) : EReal)) := by
  pointwise [k0_pay3]
  simp only [zero_sub]

theorem pay4_at (v71 : FVec Ideal S512x1024 .f32) (v72 : Vec Ideal S1x512x64 .bf16) (v74 : Vec Ideal S64x1024 .bf16) (v78 : Vec Ideal S1x512x64 .bf16) (v80 : Vec Ideal S64x1024 .bf16) (v84 : Vec Ideal S1x512x64 .bf16) (v86 : Vec Ideal S64x1024 .bf16) (v90 : Vec Ideal S1x512x64 .bf16) (v92 : Vec Ideal S64x1024 .bf16) (v96 : Vec Ideal S1x512x64 .bf16) (v98 : Vec Ideal S64x1024 .bf16) (r : Fin 512) (j : Fin 1024) :
    (k0_pay4 v71 v72 v74 v78 v80 v84 v86 v90 v92 v96 v98 (ix2 r j) : EReal) =
      v71 (ix2 r j) + (∑ k : Fin 64, (v72 (ix3 0 r k) : EReal) * (v74 (ix2 k j) : EReal)) +
        (∑ k : Fin 64, (v78 (ix3 0 r k) : EReal) * (v80 (ix2 k j) : EReal)) +
        (∑ k : Fin 64, (v84 (ix3 0 r k) : EReal) * (v86 (ix2 k j) : EReal)) +
        (∑ k : Fin 64, (v90 (ix3 0 r k) : EReal) * (v92 (ix2 k j) : EReal)) +
        (∑ k : Fin 64, (v96 (ix3 0 r k) : EReal) * (v98 (ix2 k j) : EReal)) := by
  pointwise [k0_pay4]

theorem pay1_at (v101 : FVec Ideal S512x1024 .f32) (v102 : Vec Ideal S1x512x64 .bf16) (v104 : Vec Ideal S64x1024 .bf16) (r : Fin 512) (j : Fin 1024) :
    (k0_pay1 v101 v102 v104 (ix2 r j) : EReal) =
      v101 (ix2 r j) + (∑ k : Fin 64, (v102 (ix3 0 r k) : EReal) * (v104 (ix2 k j) : EReal)) := by
  pointwise [k0_pay1]

theorem ld0 (x : Vec Ideal S512x512 .f32) (r : Fin 512) (j : Fin 256) :
    (View.ld x r0_0 : Vec Ideal S512x256 .f32) (ix2 r j) = x (ix2 ⟨r.val, by omega⟩ ⟨j.val, by omega⟩) := by
  show x _ = x _
  congr 1
  funext a
  apply Fin.ext
  match a with
  | ⟨0, _⟩ =>
    show 0 + 1 * r.val = _
    rw [Nat.one_mul, Nat.zero_add]
    try rfl
  | ⟨1, _⟩ =>
    show 0 + 1 * j.val = _
    rw [Nat.one_mul, Nat.zero_add]
    try rfl

theorem ld1 (x : Vec Ideal S512x512 .f32) (r : Fin 512) (j : Fin 256) :
    (View.ld x r0_1 : Vec Ideal S512x256 .f32) (ix2 r j) = x (ix2 ⟨r.val, by omega⟩ ⟨256 + j.val, by omega⟩) := by
  show x _ = x _
  congr 1
  funext a
  apply Fin.ext
  match a with
  | ⟨0, _⟩ =>
    show 0 + 1 * r.val = _
    rw [Nat.one_mul, Nat.zero_add]
    try rfl
  | ⟨1, _⟩ =>
    show 256 + 1 * j.val = _
    rw [Nat.one_mul]
    try rfl

theorem ld7 (x : Vec Ideal S1024x1024 .bf16) (r : Fin 256) (j : Fin 1024) :
    (View.ld x r0_7 : Vec Ideal S256x1024 .bf16) (ix2 r j) = x (ix2 ⟨r.val, by omega⟩ ⟨j.val, by omega⟩) := by
  show x _ = x _
  congr 1
  funext a
  apply Fin.ext
  match a with
  | ⟨0, _⟩ =>
    show 0 + 1 * r.val = _
    rw [Nat.one_mul, Nat.zero_add]
    try rfl
  | ⟨1, _⟩ =>
    show 0 + 1 * j.val = _
    rw [Nat.one_mul, Nat.zero_add]
    try rfl

theorem ld8 (x : Vec Ideal S1024x1024 .bf16) (r : Fin 256) (j : Fin 1024) :
    (View.ld x r0_8 : Vec Ideal S256x1024 .bf16) (ix2 r j) = x (ix2 ⟨256 + r.val, by omega⟩ ⟨j.val, by omega⟩) := by
  show x _ = x _
  congr 1
  funext a
  apply Fin.ext
  match a with
  | ⟨0, _⟩ =>
    show 256 + 1 * r.val = _
    rw [Nat.one_mul]
    try rfl
  | ⟨1, _⟩ =>
    show 0 + 1 * j.val = _
    rw [Nat.one_mul, Nat.zero_add]
    try rfl

theorem ld10 (x : Vec Ideal S1024x1024 .bf16) (r : Fin 64) (j : Fin 1024) :
    (View.ld x r0_10 : Vec Ideal S64x1024 .bf16) (ix2 r j) = x (ix2 ⟨512 + r.val, by omega⟩ ⟨j.val, by omega⟩) := by
  show x _ = x _
  congr 1
  funext a
  apply Fin.ext
  match a with
  | ⟨0, _⟩ =>
    show 512 + 1 * r.val = _
    rw [Nat.one_mul]
    try rfl
  | ⟨1, _⟩ =>
    show 0 + 1 * j.val = _
    rw [Nat.one_mul, Nat.zero_add]
    try rfl

theorem ld9 (x : Vec Ideal S8x512x64 .bf16) (r : Fin 512) (j : Fin 64) :
    (View.ld x r0_9 : Vec Ideal S1x512x64 .bf16) (ix3 0 r j) = x (ix3 0 r j) := by
  show x _ = x _
  congr 1
  funext a
  apply Fin.ext
  match a with
  | ⟨0, _⟩ => rfl
  | ⟨1, _⟩ =>
    show 0 + 1 * r.val = r.val
    rw [Nat.one_mul, Nat.zero_add]
  | ⟨2, _⟩ =>
    show 0 + 1 * j.val = j.val
    rw [Nat.one_mul, Nat.zero_add]

theorem ld12 (x : Vec Ideal S1024x1024 .bf16) (r : Fin 64) (j : Fin 1024) :
    (View.ld x r0_12 : Vec Ideal S64x1024 .bf16) (ix2 r j) = x (ix2 ⟨576 + r.val, by omega⟩ ⟨j.val, by omega⟩) := by
  show x _ = x _
  congr 1
  funext a
  apply Fin.ext
  match a with
  | ⟨0, _⟩ =>
    show 576 + 1 * r.val = _
    rw [Nat.one_mul]
    try rfl
  | ⟨1, _⟩ =>
    show 0 + 1 * j.val = _
    rw [Nat.one_mul, Nat.zero_add]
    try rfl

theorem ld11 (x : Vec Ideal S8x512x64 .bf16) (r : Fin 512) (j : Fin 64) :
    (View.ld x r0_11 : Vec Ideal S1x512x64 .bf16) (ix3 0 r j) = x (ix3 1 r j) := by
  show x _ = x _
  congr 1
  funext a
  apply Fin.ext
  match a with
  | ⟨0, _⟩ => rfl
  | ⟨1, _⟩ =>
    show 0 + 1 * r.val = r.val
    rw [Nat.one_mul, Nat.zero_add]
  | ⟨2, _⟩ =>
    show 0 + 1 * j.val = j.val
    rw [Nat.one_mul, Nat.zero_add]

theorem ld14 (x : Vec Ideal S1024x1024 .bf16) (r : Fin 64) (j : Fin 1024) :
    (View.ld x r0_14 : Vec Ideal S64x1024 .bf16) (ix2 r j) = x (ix2 ⟨640 + r.val, by omega⟩ ⟨j.val, by omega⟩) := by
  show x _ = x _
  congr 1
  funext a
  apply Fin.ext
  match a with
  | ⟨0, _⟩ =>
    show 640 + 1 * r.val = _
    rw [Nat.one_mul]
    try rfl
  | ⟨1, _⟩ =>
    show 0 + 1 * j.val = _
    rw [Nat.one_mul, Nat.zero_add]
    try rfl

theorem ld13 (x : Vec Ideal S8x512x64 .bf16) (r : Fin 512) (j : Fin 64) :
    (View.ld x r0_13 : Vec Ideal S1x512x64 .bf16) (ix3 0 r j) = x (ix3 2 r j) := by
  show x _ = x _
  congr 1
  funext a
  apply Fin.ext
  match a with
  | ⟨0, _⟩ => rfl
  | ⟨1, _⟩ =>
    show 0 + 1 * r.val = r.val
    rw [Nat.one_mul, Nat.zero_add]
  | ⟨2, _⟩ =>
    show 0 + 1 * j.val = j.val
    rw [Nat.one_mul, Nat.zero_add]

theorem ld16 (x : Vec Ideal S1024x1024 .bf16) (r : Fin 64) (j : Fin 1024) :
    (View.ld x r0_16 : Vec Ideal S64x1024 .bf16) (ix2 r j) = x (ix2 ⟨704 + r.val, by omega⟩ ⟨j.val, by omega⟩) := by
  show x _ = x _
  congr 1
  funext a
  apply Fin.ext
  match a with
  | ⟨0, _⟩ =>
    show 704 + 1 * r.val = _
    rw [Nat.one_mul]
    try rfl
  | ⟨1, _⟩ =>
    show 0 + 1 * j.val = _
    rw [Nat.one_mul, Nat.zero_add]
    try rfl

theorem ld15 (x : Vec Ideal S8x512x64 .bf16) (r : Fin 512) (j : Fin 64) :
    (View.ld x r0_15 : Vec Ideal S1x512x64 .bf16) (ix3 0 r j) = x (ix3 3 r j) := by
  show x _ = x _
  congr 1
  funext a
  apply Fin.ext
  match a with
  | ⟨0, _⟩ => rfl
  | ⟨1, _⟩ =>
    show 0 + 1 * r.val = r.val
    rw [Nat.one_mul, Nat.zero_add]
  | ⟨2, _⟩ =>
    show 0 + 1 * j.val = j.val
    rw [Nat.one_mul, Nat.zero_add]

theorem ld18 (x : Vec Ideal S1024x1024 .bf16) (r : Fin 64) (j : Fin 1024) :
    (View.ld x r0_18 : Vec Ideal S64x1024 .bf16) (ix2 r j) = x (ix2 ⟨768 + r.val, by omega⟩ ⟨j.val, by omega⟩) := by
  show x _ = x _
  congr 1
  funext a
  apply Fin.ext
  match a with
  | ⟨0, _⟩ =>
    show 768 + 1 * r.val = _
    rw [Nat.one_mul]
    try rfl
  | ⟨1, _⟩ =>
    show 0 + 1 * j.val = _
    rw [Nat.one_mul, Nat.zero_add]
    try rfl

theorem ld17 (x : Vec Ideal S8x512x64 .bf16) (r : Fin 512) (j : Fin 64) :
    (View.ld x r0_17 : Vec Ideal S1x512x64 .bf16) (ix3 0 r j) = x (ix3 4 r j) := by
  show x _ = x _
  congr 1
  funext a
  apply Fin.ext
  match a with
  | ⟨0, _⟩ => rfl
  | ⟨1, _⟩ =>
    show 0 + 1 * r.val = r.val
    rw [Nat.one_mul, Nat.zero_add]
  | ⟨2, _⟩ =>
    show 0 + 1 * j.val = j.val
    rw [Nat.one_mul, Nat.zero_add]

theorem ld20 (x : Vec Ideal S1024x1024 .bf16) (r : Fin 64) (j : Fin 1024) :
    (View.ld x r0_20 : Vec Ideal S64x1024 .bf16) (ix2 r j) = x (ix2 ⟨832 + r.val, by omega⟩ ⟨j.val, by omega⟩) := by
  show x _ = x _
  congr 1
  funext a
  apply Fin.ext
  match a with
  | ⟨0, _⟩ =>
    show 832 + 1 * r.val = _
    rw [Nat.one_mul]
    try rfl
  | ⟨1, _⟩ =>
    show 0 + 1 * j.val = _
    rw [Nat.one_mul, Nat.zero_add]
    try rfl

theorem ld19 (x : Vec Ideal S8x512x64 .bf16) (r : Fin 512) (j : Fin 64) :
    (View.ld x r0_19 : Vec Ideal S1x512x64 .bf16) (ix3 0 r j) = x (ix3 5 r j) := by
  show x _ = x _
  congr 1
  funext a
  apply Fin.ext
  match a with
  | ⟨0, _⟩ => rfl
  | ⟨1, _⟩ =>
    show 0 + 1 * r.val = r.val
    rw [Nat.one_mul, Nat.zero_add]
  | ⟨2, _⟩ =>
    show 0 + 1 * j.val = j.val
    rw [Nat.one_mul, Nat.zero_add]

theorem ld22 (x : Vec Ideal S1024x1024 .bf16) (r : Fin 64) (j : Fin 1024) :
    (View.ld x r0_22 : Vec Ideal S64x1024 .bf16) (ix2 r j) = x (ix2 ⟨896 + r.val, by omega⟩ ⟨j.val, by omega⟩) := by
  show x _ = x _
  congr 1
  funext a
  apply Fin.ext
  match a with
  | ⟨0, _⟩ =>
    show 896 + 1 * r.val = _
    rw [Nat.one_mul]
    try rfl
  | ⟨1, _⟩ =>
    show 0 + 1 * j.val = _
    rw [Nat.one_mul, Nat.zero_add]
    try rfl

theorem ld21 (x : Vec Ideal S8x512x64 .bf16) (r : Fin 512) (j : Fin 64) :
    (View.ld x r0_21 : Vec Ideal S1x512x64 .bf16) (ix3 0 r j) = x (ix3 6 r j) := by
  show x _ = x _
  congr 1
  funext a
  apply Fin.ext
  match a with
  | ⟨0, _⟩ => rfl
  | ⟨1, _⟩ =>
    show 0 + 1 * r.val = r.val
    rw [Nat.one_mul, Nat.zero_add]
  | ⟨2, _⟩ =>
    show 0 + 1 * j.val = j.val
    rw [Nat.one_mul, Nat.zero_add]

theorem ld24 (x : Vec Ideal S1024x1024 .bf16) (r : Fin 64) (j : Fin 1024) :
    (View.ld x r0_24 : Vec Ideal S64x1024 .bf16) (ix2 r j) = x (ix2 ⟨960 + r.val, by omega⟩ ⟨j.val, by omega⟩) := by
  show x _ = x _
  congr 1
  funext a
  apply Fin.ext
  match a with
  | ⟨0, _⟩ =>
    show 960 + 1 * r.val = _
    rw [Nat.one_mul]
    try rfl
  | ⟨1, _⟩ =>
    show 0 + 1 * j.val = _
    rw [Nat.one_mul, Nat.zero_add]
    try rfl

theorem ld23 (x : Vec Ideal S8x512x64 .bf16) (r : Fin 512) (j : Fin 64) :
    (View.ld x r0_23 : Vec Ideal S1x512x64 .bf16) (ix3 0 r j) = x (ix3 7 r j) := by
  show x _ = x _
  congr 1
  funext a
  apply Fin.ext
  match a with
  | ⟨0, _⟩ => rfl
  | ⟨1, _⟩ =>
    show 0 + 1 * r.val = r.val
    rw [Nat.one_mul, Nat.zero_add]
  | ⟨2, _⟩ =>
    show 0 + 1 * j.val = j.val
    rw [Nat.one_mul, Nat.zero_add]

/-- The block a grid point writes, from the blocks it reads. -/
theorem out_at (x0 : Vec Ideal S512x1024 .f32) (x1 : Vec Ideal S512x256 .f32) (x2 : Vec Ideal S512x256 .f32) (x3 : Vec Ideal S512x512 .f32) (x4 : Vec Ideal S1x256 .f32) (x5 : Vec Ideal S256x512 .bf16) (x6 : Vec Ideal S1x512 .f32) (x7 : Vec Ideal S8x512x64 .bf16) (x8 : Vec Ideal S1024x1024 .bf16) (r : Fin 512) (j : Fin 1024) :
    (out0_9 x0 x1 x2 x3 x4 x5 x6 x7 x8 (ix2 r j) : EReal) =
      (x0 (ix2 r j) : EReal) + ∑ k, Cert.Out.mix (fun k => x1 (ix2 r k))
        (Cert.Out.s5 (fun x => (x2 (ix2 r x) : EReal) + (x4 (ix2 0 x) : EReal) * (x3 (ix2 r ⟨x.val, by omega⟩) : EReal)) (fun x y => x5 (ix2 x y))
          (fun y => x6 (ix2 0 y)) (fun k => x3 (ix2 r ⟨256 + k.val, by omega⟩)))
        (fun h k => x7 (ix3 h r k)) k * (x8 (ix2 k j) : EReal) := by
  unfold out0_9
  rw [View.canon_unit_zero offs2, pay1_at, pay4_at, pay3_at]
  simp only [pay2_at, View.ld_unit_zero (S := S512x256) offs2, View.ld_unit_zero (S := S512x1024) offs2, View.ld_unit_zero (S := S1x256) offs2,
    View.ld_unit_zero (S := S256x512) offs2, View.ld_unit_zero (S := S1x512) offs2]
  have l0 : ∀ k : Fin 256, View.ld x3 r0_0 (ix2 r k) = x3 (ix2 r ⟨k.val, by omega⟩) := fun k => ld0 x3 r k
  have l1 : ∀ k : Fin 256, View.ld x3 r0_1 (ix2 r k) = x3 (ix2 r ⟨256 + k.val, by omega⟩) := fun k => ld1 x3 r k
  have l7 : ∀ k : Fin 256, View.ld x8 r0_7 (ix2 k j) = x8 (ix2 ⟨k.val, by omega⟩ j) := fun k => ld7 x8 k j
  have l8 : ∀ k : Fin 256, View.ld x8 r0_8 (ix2 k j) = x8 (ix2 ⟨256 + k.val, by omega⟩ j) := fun k => ld8 x8 k j
  have l9 : ∀ k : Fin 64, View.ld x7 r0_9 (ix3 0 r k) = x7 (ix3 0 r k) := fun k => ld9 x7 r k
  have l10 : ∀ k : Fin 64, View.ld x8 r0_10 (ix2 k j) = x8 (ix2 ⟨512 + k.val, by omega⟩ j) := fun k => ld10 x8 k j
  have l11 : ∀ k : Fin 64, View.ld x7 r0_11 (ix3 0 r k) = x7 (ix3 1 r k) := fun k => ld11 x7 r k
  have l12 : ∀ k : Fin 64, View.ld x8 r0_12 (ix2 k j) = x8 (ix2 ⟨576 + k.val, by omega⟩ j) := fun k => ld12 x8 k j
  have l13 : ∀ k : Fin 64, View.ld x7 r0_13 (ix3 0 r k) = x7 (ix3 2 r k) := fun k => ld13 x7 r k
  have l14 : ∀ k : Fin 64, View.ld x8 r0_14 (ix2 k j) = x8 (ix2 ⟨640 + k.val, by omega⟩ j) := fun k => ld14 x8 k j
  have l15 : ∀ k : Fin 64, View.ld x7 r0_15 (ix3 0 r k) = x7 (ix3 3 r k) := fun k => ld15 x7 r k
  have l16 : ∀ k : Fin 64, View.ld x8 r0_16 (ix2 k j) = x8 (ix2 ⟨704 + k.val, by omega⟩ j) := fun k => ld16 x8 k j
  have l17 : ∀ k : Fin 64, View.ld x7 r0_17 (ix3 0 r k) = x7 (ix3 4 r k) := fun k => ld17 x7 r k
  have l18 : ∀ k : Fin 64, View.ld x8 r0_18 (ix2 k j) = x8 (ix2 ⟨768 + k.val, by omega⟩ j) := fun k => ld18 x8 k j
  have l19 : ∀ k : Fin 64, View.ld x7 r0_19 (ix3 0 r k) = x7 (ix3 5 r k) := fun k => ld19 x7 r k
  have l20 : ∀ k : Fin 64, View.ld x8 r0_20 (ix2 k j) = x8 (ix2 ⟨832 + k.val, by omega⟩ j) := fun k => ld20 x8 k j
  have l21 : ∀ k : Fin 64, View.ld x7 r0_21 (ix3 0 r k) = x7 (ix3 6 r k) := fun k => ld21 x7 r k
  have l22 : ∀ k : Fin 64, View.ld x8 r0_22 (ix2 k j) = x8 (ix2 ⟨896 + k.val, by omega⟩ j) := fun k => ld22 x8 k j
  have l23 : ∀ k : Fin 64, View.ld x7 r0_23 (ix3 0 r k) = x7 (ix3 7 r k) := fun k => ld23 x7 r k
  have l24 : ∀ k : Fin 64, View.ld x8 r0_24 (ix2 k j) = x8 (ix2 ⟨960 + k.val, by omega⟩ j) := fun k => ld24 x8 k j
  have l6 : View.ld x0 r0_6 (ix2 r j) = x0 (ix2 r j) := congrFun (View.ld_unit_zero (S := S512x1024) offs2 _ x0) (ix2 r j)
  have l2 : ∀ k : Fin 256, View.ld x1 r0_2 (ix2 r k) = x1 (ix2 r k) := fun k => congrFun (View.ld_unit_zero (S := S512x256) offs2 _ x1) (ix2 r k)
  simp only [l0, l1, l2, l6, l7, l8, l9, l10, l11, l12, l13, l14, l15, l16, l17, l18, l19, l20, l21, l22, l23, l24]
  rw [Cert.Out.split, Cert.Out.head0, Cert.Out.head1, Cert.Out.head2, Cert.Out.head3, Cert.Out.head4, Cert.Out.head5,
    Cert.Out.head6, Cert.Out.head7]
  simp only [Cert.Out.s5]

end Cert.Kernel2Ideal.Out
-- ==== Proof.OutRef.lean ====
module

public import proofs.«01_k».proof.Proof.Gen.Reference2Ideal.Run
public import Idealize.ShloMosaic.Lib.StableHlo.ReadAt
public import proofs.«01_k».proof.Proof.OutSpec

/-! The output projection's reference, at an index. -/

@[expose] public section
set_option maxRecDepth 200000
set_option maxHeartbeats 4000000
noncomputable section

namespace Cert.Reference2Ideal.Out
open Cert.Reference2Ideal Idealize.ShloMosaic Idealize.ShloMosaic.TcCoe

/-- The layer's last step on whole arrays, at a token and a column. -/
def whole (a0 : S16384x1024.Idx → EReal) (a1 a2 : S16384x256.Idx → EReal) (a3 : S16384x512.Idx → EReal)
    (a4 : S8x16384x64.Idx → EReal) (a5 : S16x16.Idx → EReal) (a6 : S256x512.Idx → EReal) (a7 : S512.Idx → EReal)
    (a8 : S1024x1024.Idx → EReal) (r : Fin 16384) (j : Fin 1024) : EReal :=
  a0 (ix2 r j) + ∑ k, Cert.Out.mix (fun k => a1 (ix2 r k))
    (Cert.Out.s5 (fun x => a2 (ix2 r x) + a5 (ix2 ⟨x.val / 16, by omega⟩ ⟨x.val % 16, by omega⟩) * a3 (ix2 r ⟨x.val, by omega⟩))
      (fun x y => a6 (ix2 x y)) (fun y => a7 (ix1 y)) (fun k => a3 (ix2 r ⟨256 + k.val, by omega⟩)))
    (fun h k => a4 (ix3 h r k)) k * a8 (ix2 k j)

variable (m : (ℓ : Loc nD τ sig) → Buf (Elt Ideal) ℓ) (c : Dev nD)

/-- The reference's result at a token and a column. -/
theorem res_at (r : Fin 16384) (j : Fin 1024) :
    (Cert.Reference2Ideal.Value.res_main_v42 m c : S16384x1024.Idx → EReal) (ix2 r j) =
      whole (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) r j := by
  unfold Cert.Reference2Ideal.Value.res_main_v42
  pointwise
  rfl

end Cert.Reference2Ideal.Out
-- ==== Proof.OutKernel.lean ====
module

public import proofs.«01_k».proof.Proof.OutTile
public import proofs.«01_k».proof.Proof.OutRef

/-! The output projection's whole result: each block's inputs read off the arrays, and the blocks put together. -/

@[expose] public section
set_option maxRecDepth 16384
set_option maxHeartbeats 1000000
noncomputable section

namespace Cert.Kernel2Ideal.Out
open Cert.Kernel2Ideal Cert.Kernel2Ideal.Gen Cert.Kernel2Ideal.Value Idealize.ShloMosaic Idealize.ShloMosaic.TcCoe

variable (m : (ℓ : Loc nD τ sig) → Buf (Elt Ideal) ℓ)

theorem at_0 : ∀ t : Fin cfg0.N, win0_0.index t (0 : Fin 2) = t.val ∧ win0_0.index t (1 : Fin 2) = 0 :=
  (by decide +kernel : ∀ t : Fin grid0.N, _)

theorem at_1 : ∀ t : Fin cfg0.N, win0_1.index t (0 : Fin 2) = t.val ∧ win0_1.index t (1 : Fin 2) = 0 :=
  (by decide +kernel : ∀ t : Fin grid0.N, _)

theorem at_2 : ∀ t : Fin cfg0.N, win0_2.index t (0 : Fin 2) = t.val ∧ win0_2.index t (1 : Fin 2) = 0 :=
  (by decide +kernel : ∀ t : Fin grid0.N, _)

theorem at_3 : ∀ t : Fin cfg0.N, win0_3.index t (0 : Fin 2) = t.val ∧ win0_3.index t (1 : Fin 2) = 0 :=
  (by decide +kernel : ∀ t : Fin grid0.N, _)

theorem at_4 : ∀ t : Fin cfg0.N, win0_4.index t (0 : Fin 2) = 0 ∧ win0_4.index t (1 : Fin 2) = 0 :=
  (by decide +kernel : ∀ t : Fin grid0.N, _)

theorem at_5 : ∀ t : Fin cfg0.N, win0_5.index t (0 : Fin 2) = 0 ∧ win0_5.index t (1 : Fin 2) = 0 :=
  (by decide +kernel : ∀ t : Fin grid0.N, _)

theorem at_6 : ∀ t : Fin cfg0.N, win0_6.index t (0 : Fin 2) = 0 ∧ win0_6.index t (1 : Fin 2) = 0 :=
  (by decide +kernel : ∀ t : Fin grid0.N, _)

theorem at_7 : ∀ t : Fin cfg0.N, win0_7.index t (0 : Fin 3) = 0 ∧ win0_7.index t (1 : Fin 3) = t.val ∧ win0_7.index t (2 : Fin 3) = 0 :=
  (by decide +kernel : ∀ t : Fin grid0.N, _)

theorem at_8 : ∀ t : Fin cfg0.N, win0_8.index t (0 : Fin 2) = 0 ∧ win0_8.index t (1 : Fin 2) = 0 :=
  (by decide +kernel : ∀ t : Fin grid0.N, _)

theorem at_9 : ∀ t : Fin cfg0.N, win0_9.index t (0 : Fin 2) = t.val ∧ win0_9.index t (1 : Fin 2) = 0 :=
  (by decide +kernel : ∀ t : Fin grid0.N, _)

theorem blk_0 (c : Dev nD) (t : Fin cfg0.N) (x : Fin 512) (y : Fin 1024) : (iblk m c 0 t : Vec Ideal S512x1024 .f32) (ix2 x y) =
    (V m c main_arg0 : S16384x1024.Idx → EReal) (ix2 ⟨512 * t.val + x.val, by have := lt_of_lt_of_eq t.isLt N_0; omega⟩ y) := by
  show V m c main_arg0 (((cfg0.win 0).blk t).view.emb (ix2 x y)) = _
  obtain ⟨h0, h1⟩ := at_0 t
  congr 1
  funext a
  apply Fin.ext
  match a with
  | ⟨0, _⟩ =>
    show win0_0.index t (0 : Fin 2) * 512 + 1 * x.val = 512 * t.val + x.val
    rw [h0]; omega
  | ⟨1, _⟩ =>
    show win0_0.index t (1 : Fin 2) * 1024 + 1 * y.val = y.val
    rw [h1]; omega

theorem blk_1 (c : Dev nD) (t : Fin cfg0.N) (x : Fin 512) (y : Fin 256) : (iblk m c 1 t : Vec Ideal S512x256 .f32) (ix2 x y) =
    (V m c main_arg1 : S16384x256.Idx → EReal) (ix2 ⟨512 * t.val + x.val, by have := lt_of_lt_of_eq t.isLt N_0; omega⟩ y) := by
  show V m c main_arg1 (((cfg0.win 1).blk t).view.emb (ix2 x y)) = _
  obtain ⟨h0, h1⟩ := at_1 t
  congr 1
  funext a
  apply Fin.ext
  match a with
  | ⟨0, _⟩ =>
    show win0_1.index t (0 : Fin 2) * 512 + 1 * x.val = 512 * t.val + x.val
    rw [h0]; omega
  | ⟨1, _⟩ =>
    show win0_1.index t (1 : Fin 2) * 256 + 1 * y.val = y.val
    rw [h1]; omega

theorem blk_2 (c : Dev nD) (t : Fin cfg0.N) (x : Fin 512) (y : Fin 256) : (iblk m c 2 t : Vec Ideal S512x256 .f32) (ix2 x y) =
    (V m c main_arg2 : S16384x256.Idx → EReal) (ix2 ⟨512 * t.val + x.val, by have := lt_of_lt_of_eq t.isLt N_0; omega⟩ y) := by
  show V m c main_arg2 (((cfg0.win 2).blk t).view.emb (ix2 x y)) = _
  obtain ⟨h0, h1⟩ := at_2 t
  congr 1
  funext a
  apply Fin.ext
  match a with
  | ⟨0, _⟩ =>
    show win0_2.index t (0 : Fin 2) * 512 + 1 * x.val = 512 * t.val + x.val
    rw [h0]; omega
  | ⟨1, _⟩ =>
    show win0_2.index t (1 : Fin 2) * 256 + 1 * y.val = y.val
    rw [h1]; omega

theorem blk_3 (c : Dev nD) (t : Fin cfg0.N) (x : Fin 512) (y : Fin 512) : (iblk m c 3 t : Vec Ideal S512x512 .f32) (ix2 x y) =
    (V m c main_arg3 : S16384x512.Idx → EReal) (ix2 ⟨512 * t.val + x.val, by have := lt_of_lt_of_eq t.isLt N_0; omega⟩ y) := by
  show V m c main_arg3 (((cfg0.win 3).blk t).view.emb (ix2 x y)) = _
  obtain ⟨h0, h1⟩ := at_3 t
  congr 1
  funext a
  apply Fin.ext
  match a with
  | ⟨0, _⟩ =>
    show win0_3.index t (0 : Fin 2) * 512 + 1 * x.val = 512 * t.val + x.val
    rw [h0]; omega
  | ⟨1, _⟩ =>
    show win0_3.index t (1 : Fin 2) * 512 + 1 * y.val = y.val
    rw [h1]; omega

theorem blk_4 (c : Dev nD) (t : Fin cfg0.N) (x : Fin 1) (y : Fin 256) : (iblk m c 4 t : Vec Ideal S1x256 .f32) (ix2 x y) =
    (V m c main_v0 : S1x256.Idx → EReal) (ix2 x y) := by
  show V m c main_v0 (((cfg0.win 4).blk t).view.emb (ix2 x y)) = _
  obtain ⟨h0, h1⟩ := at_4 t
  congr 1
  funext a
  apply Fin.ext
  match a with
  | ⟨0, _⟩ =>
    show win0_4.index t (0 : Fin 2) * 1 + 1 * x.val = x.val
    rw [h0]; omega
  | ⟨1, _⟩ =>
    show win0_4.index t (1 : Fin 2) * 256 + 1 * y.val = y.val
    rw [h1]; omega

theorem blk_5 (c : Dev nD) (t : Fin cfg0.N) (x : Fin 256) (y : Fin 512) : (iblk m c 5 t : Vec Ideal S256x512 .bf16) (ix2 x y) =
    (V m c main_v1 : S256x512.Idx → EReal) (ix2 x y) := by
  show V m c main_v1 (((cfg0.win 5).blk t).view.emb (ix2 x y)) = _
  obtain ⟨h0, h1⟩ := at_5 t
  congr 1
  funext a
  apply Fin.ext
  match a with
  | ⟨0, _⟩ =>
    show win0_5.index t (0 : Fin 2) * 256 + 1 * x.val = x.val
    rw [h0]; omega
  | ⟨1, _⟩ =>
    show win0_5.index t (1 : Fin 2) * 512 + 1 * y.val = y.val
    rw [h1]; omega

theorem blk_6 (c : Dev nD) (t : Fin cfg0.N) (x : Fin 1) (y : Fin 512) : (iblk m c 6 t : Vec Ideal S1x512 .f32) (ix2 x y) =
    (V m c main_v2 : S1x512.Idx → EReal) (ix2 x y) := by
  show V m c main_v2 (((cfg0.win 6).blk t).view.emb (ix2 x y)) = _
  obtain ⟨h0, h1⟩ := at_6 t
  congr 1
  funext a
  apply Fin.ext
  match a with
  | ⟨0, _⟩ =>
    show win0_6.index t (0 : Fin 2) * 1 + 1 * x.val = x.val
    rw [h0]; omega
  | ⟨1, _⟩ =>
    show win0_6.index t (1 : Fin 2) * 512 + 1 * y.val = y.val
    rw [h1]; omega

theorem blk_7 (c : Dev nD) (t : Fin cfg0.N) (x : Fin 8) (y : Fin 512) (z : Fin 64) : (iblk m c 7 t : Vec Ideal S8x512x64 .bf16) (ix3 x y z) =
    (V m c main_arg4 : S8x16384x64.Idx → EReal) (ix3 x ⟨512 * t.val + y.val, by have := lt_of_lt_of_eq t.isLt N_0; omega⟩ z) := by
  show V m c main_arg4 (((cfg0.win 7).blk t).view.emb (ix3 x y z)) = _
  obtain ⟨h0, h1, h2⟩ := at_7 t
  congr 1
  funext a
  apply Fin.ext
  match a with
  | ⟨0, _⟩ =>
    show win0_7.index t (0 : Fin 3) * 8 + 1 * x.val = x.val
    rw [h0]; omega
  | ⟨1, _⟩ =>
    show win0_7.index t (1 : Fin 3) * 512 + 1 * y.val = 512 * t.val + y.val
    rw [h1]; omega
  | ⟨2, _⟩ =>
    show win0_7.index t (2 : Fin 3) * 64 + 1 * z.val = z.val
    rw [h2]; omega

theorem blk_8 (c : Dev nD) (t : Fin cfg0.N) (x : Fin 1024) (y : Fin 1024) : (iblk m c 8 t : Vec Ideal S1024x1024 .bf16) (ix2 x y) =
    (V m c main_v3 : S1024x1024.Idx → EReal) (ix2 x y) := by
  show V m c main_v3 (((cfg0.win 8).blk t).view.emb (ix2 x y)) = _
  obtain ⟨h0, h1⟩ := at_8 t
  congr 1
  funext a
  apply Fin.ext
  match a with
  | ⟨0, _⟩ =>
    show win0_8.index t (0 : Fin 2) * 1024 + 1 * x.val = x.val
    rw [h0]; omega
  | ⟨1, _⟩ =>
    show win0_8.index t (1 : Fin 2) * 1024 + 1 * y.val = y.val
    rw [h1]; omega

theorem host_v0 (c : Dev nD) (y : Fin 256) : (V m c main_v0 : S1x256.Idx → EReal) (ix2 (0 : Fin 1) y) =
    (m ((c : Thread nD τ).loc main_arg5) : S16x16.Idx → EReal) (ix2 ⟨y.val / 16, by omega⟩ ⟨y.val % 16, by omega⟩) := by
  show (V m c main_v0) (ix2 (0 : Fin 1) y) = _
  unfold V

  after_reads_at

theorem host_v1 (c : Dev nD) (x : Fin 256) (y : Fin 512) : (V m c main_v1 : S256x512.Idx → EReal) (ix2 x y) =
    (m ((c : Thread nD τ).loc main_arg6) : S256x512.Idx → EReal) (ix2 x y) := by
  show (V m c main_v1) (ix2 x y) = _
  unfold V

  after_reads_at

theorem host_v2 (c : Dev nD) (y : Fin 512) : (V m c main_v2 : S1x512.Idx → EReal) (ix2 (0 : Fin 1) y) =
    (m ((c : Thread nD τ).loc main_arg7) : S512.Idx → EReal) (ix1 y) := by
  show (V m c main_v2) (ix2 (0 : Fin 1) y) = _
  unfold V

  after_reads_at

theorem host_v3 (c : Dev nD) (x : Fin 1024) (y : Fin 1024) : (V m c main_v3 : S1024x1024.Idx → EReal) (ix2 x y) =
    (m ((c : Thread nD τ).loc main_arg8) : S1024x1024.Idx → EReal) (ix2 x y) := by
  show (V m c main_v3) (ix2 x y) = _
  unfold V

  after_reads_at

theorem mem_9 (t : Fin cfg0.N) (i : S16384x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v4).slice (win0_9.rect t)).set ↔ _
  rw [View.set_slice_whole, Rect.mem_set_unit]
  exact Iff.rfl

theorem flush_9 : ∀ t : Fin cfg0.N, (cfg0.win 9).flush t = true :=
  (by decide +kernel : ∀ t : Fin grid0.N, (cfg0.win 9).flush t = true)

theorem cover_9 (i : S16384x1024.Idx) : ∃ t : Fin cfg0.N, (cfg0.win 9).flush t = true ∧ i ∈ ((cfg0.win 9).blk t).view.set := by
  have b0 : (i 0).val < 16384 := (i 0).isLt
  have b1 : (i 1).val < 1024 := (i 1).isLt
  have hn : (i 0).val / 512 < cfg0.N := lt_of_lt_of_eq (b := 32) (by omega) N_0.symm
  obtain ⟨h0, h1⟩ := at_9 ⟨(i 0).val / 512, hn⟩
  refine ⟨⟨(i 0).val / 512, hn⟩, flush_9 _, ?_⟩
  rw [mem_9]
  intro a
  match a with
  | ⟨0, _⟩ =>
    show win0_9.index ⟨(i 0).val / 512, hn⟩ (0 : Fin 2) * 512 ≤ (i 0).val ∧ (i 0).val < win0_9.index ⟨(i 0).val / 512, hn⟩ (0 : Fin 2) * 512 + 512
    rw [h0]; dsimp only; omega
  | ⟨1, _⟩ =>
    show win0_9.index ⟨(i 0).val / 512, hn⟩ (1 : Fin 2) * 1024 ≤ (i 1).val ∧ (i 1).val < win0_9.index ⟨(i 0).val / 512, hn⟩ (1 : Fin 2) * 1024 + 1024
    rw [h1]; dsimp only; omega

/-- The array after the run, given what each point's block holds. -/
theorem whole_9 (c : Dev nD) (G : S16384x1024.Idx → EReal)
    (h : ∀ (t : Fin cfg0.N) (x : Fin 512) (y : Fin 1024), ((dats m 0 c).after 9 t : S512x1024.Idx → EReal) (ix2 x y) =
      G (ix2 ⟨512 * t.val + x.val, by have := lt_of_lt_of_eq t.isLt N_0; omega⟩ y)) :
    ((dats m 0 c).arrAt 9 cfg0.N : S16384x1024.Idx → EReal) = G := by
  refine (dats m 0 c).arrAt_eq_of_cover 9 G (fun t _ => ?_) cover_9
  funext u
  show ((dats m 0 c).after 9 t : S512x1024.Idx → EReal) u = G (((cfg0.win 9).blk t).view.emb u)
  have e := h t (u 0) (u 1)
  rw [ix2_eta] at e
  rw [e]
  obtain ⟨h0, h1⟩ := at_9 t
  congr 1
  funext a
  apply Fin.ext
  match a with
  | ⟨0, _⟩ =>
    show 512 * t.val + (u 0).val = win0_9.index t (0 : Fin 2) * 512 + 1 * (u 0).val
    rw [h0]; omega
  | ⟨1, _⟩ =>
    show (u 1).val = win0_9.index t (1 : Fin 2) * 1024 + 1 * (u 1).val
    rw [h1]; omega

/-- The output projection's result is the layer's last step on the whole arrays. -/
theorem result (c : Dev nD) : ((dats m 0 c).arrAt 9 cfg0.N : S16384x1024.Idx → EReal) = fun i =>
    Cert.Reference2Ideal.Out.whole (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (i 0) (i 1) := by
  refine whole_9 m c _ fun t x y => ?_
  rw [after0_9]
  refine (out_at (iblk m c 0 t) (iblk m c 1 t) (iblk m c 2 t) (iblk m c 3 t) (iblk m c 4 t) (iblk m c 5 t) (iblk m c 6 t)
    (iblk m c 7 t) (iblk m c 8 t) x y).trans ?_
  have e0 : ∀ y : Fin 1024, (iblk m c 0 t : Vec Ideal S512x1024 .f32) (ix2 x y) = _ := fun y => blk_0 m c t x y
  have e1 : ∀ y : Fin 256, (iblk m c 1 t : Vec Ideal S512x256 .f32) (ix2 x y) = _ := fun y => blk_1 m c t x y
  have e2 : ∀ y : Fin 256, (iblk m c 2 t : Vec Ideal S512x256 .f32) (ix2 x y) = _ := fun y => blk_2 m c t x y
  have e3 : ∀ y : Fin 512, (iblk m c 3 t : Vec Ideal S512x512 .f32) (ix2 x y) = _ := fun y => blk_3 m c t x y
  have e4 : ∀ y : Fin 256, (iblk m c 4 t : Vec Ideal S1x256 .f32) (ix2 0 y) = _ := fun y => (blk_4 m c t 0 y).trans (host_v0 m c y)
  have e5 : ∀ (x : Fin 256) (y : Fin 512), (iblk m c 5 t : Vec Ideal S256x512 .bf16) (ix2 x y) = _ := fun x y => (blk_5 m c t x y).trans (host_v1 m c x y)
  have e6 : ∀ y : Fin 512, (iblk m c 6 t : Vec Ideal S1x512 .f32) (ix2 0 y) = _ := fun y => (blk_6 m c t 0 y).trans (host_v2 m c y)
  have e7 : ∀ (h : Fin 8) (y : Fin 64), (iblk m c 7 t : Vec Ideal S8x512x64 .bf16) (ix3 h x y) = _ := fun h y => blk_7 m c t h x y
  have e8 : ∀ x y : Fin 1024, (iblk m c 8 t : Vec Ideal S1024x1024 .bf16) (ix2 x y) = _ := fun x y => (blk_8 m c t x y).trans (host_v3 m c x y)
  rw [V_main_arg0] at e0
  rw [V_main_arg1] at e1
  rw [V_main_arg2] at e2
  rw [V_main_arg3] at e3
  rw [V_main_arg4] at e7
  simp only [e0, e1, e2, e3, e4, e5, e6, e7, e8]
  rfl

end Cert.Kernel2Ideal.Out
-- ==== Proof.OutProof.lean ====
module

public import proofs.«01_k».proof.Defs
public import proofs.«01_k».proof.Proof.OutKernel
public import proofs.«01_k».proof.Proof.Gen.Kernel2.Frame

/-! The output projection: the reference's frame, and equal results of the kernel and its reference. -/

@[expose] public section
noncomputable section

namespace Cert.Out

open Idealize.ShloMosaic Idealize.SL.Sem

theorem frame_reference : Cert.quiescent_Reference2Ideal (hReference2Ideal := Cert.Reference2Ideal.Gen.facts) := fun m g _ =>
  (θ_run Cert.Reference2Ideal.defs _ _).mono (fun r h => And.intro (fun c => (h c).2) (sem_eq_zero_of_no_sems (by decide) r.2))
    (Cert.Reference2Ideal.Value.run (F := Ideal) m g)

/-- The two results agree on every input: each is the layer's last step on the whole arrays. -/
theorem algebraic : Cert.algebraic_Kernel2Ideal_Reference2Ideal (hKernel2Ideal := Cert.Kernel2Ideal.Gen.facts)
    (hReference2Ideal := Cert.Reference2Ideal.Gen.facts) := by
  intro m g m' g' _ hag
  refine ⟨_, Cert.Kernel2Ideal.Value.run_blocks (F := Ideal) m g, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5, e6, e7, e8⟩ := hag c
  refine Eq.trans ?_ (Cert.Kernel2Ideal.Out.result m c).symm
  funext i
  have e := Cert.Reference2Ideal.Out.res_at m' c (i 0) (i 1)
  rw [ix2_eta] at e
  refine e.trans ?_
  rw [e0, e1, e2, e3, e4, e5, e6, e7, e8]

end Cert.Out
-- ==== Proof.InSpec.lean ====
module

public import proofs.«01_k».proof.Proof.TileReal
public import proofs.«01_k».proof.Proof.Gate

/-! The input projection as formulas over the extended reals: the normalised row, its product with a column, and
the normalisation of 64 neighbouring products. -/

@[expose] public section
set_option maxRecDepth 16384
set_option maxHeartbeats 4000000
noncomputable section

namespace Cert.In
open Idealize.ShloMosaic
open Cert.KernelIdeal.Tile (sum_real bits_64)

/-- The row divided by the root of its mean square, times the gain. -/
def hrow (x g : Fin 1024 → EReal) (k : Fin 1024) : EReal :=
  x k * Ideal.rsqrt (Ideal.div (∑ y, x y * x y) (Ideal.ofBits .f32 0x44800000#32) + Ideal.ofBits .f32 0x358637BD#32) * g k

/-- The normalised row's product with a column of the weights. -/
def pr (x g w : Fin 1024 → EReal) : EReal := ∑ k, hrow x g k * w k

/-- Entry `d` of 64 products divided by the root of their mean square, times a weight. -/
def nrm (p : Fin 64 → EReal) (w : EReal) (d : Fin 64) : EReal :=
  p d * Ideal.rsqrt (Ideal.div (∑ e, p e * p e) (Ideal.ofBits .f32 0x42800000#32) + Ideal.ofBits .f32 0x358637BD#32) * w

def sig (y : EReal) : EReal := Ideal.div 1 (1 + Ideal.exp (-y))

theorem pr_zero (x g w : Fin 1024 → EReal) (h : ∀ k, w k = 0) : pr x g w = 0 := by
  unfold pr
  exact Finset.sum_eq_zero fun k _ => by rw [h, mul_zero]

theorem bits_1024 : Ideal.ofBits .f32 0x44800000#32 = ((1024 : ℝ) : EReal) := by
  simp [Ideal.ofBits, Ideal.ieee, -EReal.coe_mul]; norm_num
theorem bits_eps : ∃ ε : ℝ, 0 < ε ∧ Ideal.ofBits .f32 0x358637BD#32 = ((ε : ℝ) : EReal) := by
  refine ⟨8796093 / 8796093022208, by norm_num, ?_⟩
  simp [Ideal.ofBits, Ideal.ieee, -EReal.coe_mul]; norm_num

theorem sum_reals {N : ℕ} (F : Fin N → EReal) (h : ∀ k, ∃ a : ℝ, F k = a) : ∃ a : ℝ, ∑ k, F k = a := by
  choose a ha using h
  refine ⟨_, sum_real N F (fun k => if h : k < N then a ⟨k, h⟩ else 0) fun i => ?_⟩
  rw [ha, dif_pos i.isLt]

/-- The squares of a row add up to a real that is not negative, or to infinity. -/
theorem squares (x : Fin 1024 → EReal) : (∑ y, x y * x y = ⊤) ∨ ((∀ k, ∃ a : ℝ, x k = a) ∧ ∃ b : ℝ, 0 ≤ b ∧ ∑ y, x y * x y = b) := by
  have hn : ∀ a : EReal, 0 ≤ a * a := fun a => by
    rcases le_total 0 a with h | h
    · exact mul_nonneg h h
    · rw [← neg_mul_neg]
      exact mul_nonneg (EReal.neg_nonneg.mpr h) (EReal.neg_nonneg.mpr h)
  by_cases hx : ∀ k, ∃ a : ℝ, x k = a
  · right
    refine ⟨hx, ?_⟩
    obtain ⟨b, hb⟩ := sum_reals (fun y => x y * x y) fun k => by
      obtain ⟨a, ha⟩ := hx k
      exact ⟨a * a, by rw [ha, EReal.coe_mul]⟩
    refine ⟨b, ?_, hb⟩
    have h : (0 : EReal) ≤ ∑ y, x y * x y := Finset.sum_nonneg fun y _ => hn _
    rw [hb] at h
    exact_mod_cast h
  · left
    push Not at hx
    obtain ⟨k, hk⟩ := hx
    have e : x k * x k = ⊤ := by
      induction h : x k using EReal.rec with
      | bot => rfl
      | top => rfl
      | coe a => exact absurd h (hk a)
    refine top_le_iff.mp ?_
    rw [← e]
    exact Finset.single_le_sum (f := fun y => x y * x y) (fun y _ => hn _) (Finset.mem_univ k)

/-- With real gains and weights the product is a real: an infinite row is normalised to zeros. -/
theorem pr_real (x g w : Fin 1024 → EReal) (hg : ∀ k, ∃ a : ℝ, g k = a)
    (hw : ∀ k, ∃ a : ℝ, w k = a) : ∃ a : ℝ, pr x g w = a := by
  choose G hG using hg
  choose W hW using hw
  obtain ⟨ε, hε, eε⟩ := bits_eps
  refine sum_reals _ fun k => ?_
  unfold hrow
  rcases squares x with h | ⟨hx, b, hb, h⟩
  · refine ⟨0, ?_⟩
    rw [h, bits_1024, eε, Ideal.div_coe (by norm_num), EReal.top_mul_coe_of_pos (by norm_num), EReal.top_add_coe, Ideal.rsqrt_top,
      mul_zero, zero_mul, zero_mul, EReal.coe_zero]
  · obtain ⟨X, hX⟩ := hx k
    rw [h, bits_1024, eε, Ideal.div_coe (by norm_num), ← EReal.coe_mul, ← EReal.coe_add, Ideal.rsqrt_coe,
      if_neg (by have := mul_nonneg hb (by norm_num : (0 : ℝ) ≤ 1 / 1024); linarith),
      if_neg (by have := mul_nonneg hb (by norm_num : (0 : ℝ) ≤ 1 / 1024); linarith), hX, hG, hW,
      ← EReal.coe_mul, ← EReal.coe_mul, ← EReal.coe_mul]
    exact ⟨_, rfl⟩

/-- The squares times the averaging matrix, in a high and a low part, are the mean square of the 64 neighbours. -/
theorem seg {N : ℕ} (M : ℕ) (hN : N = 64 * M) (P A : Fin N → EReal) (hP : ∀ k, ∃ a : ℝ, P k = a) (q : ℕ) (hq : q < M)
    (hA : ∀ k, A k = if k.val / 64 = q then (((1 : ℝ) / 64 : ℝ) : EReal) else 0) :
    (∑ k, P k * P k * A k) + ∑ k, (P k * P k - P k * P k) * A k =
      Ideal.div (∑ e : Fin 64, P ⟨64 * q + e.val, by omega⟩ * P ⟨64 * q + e.val, by omega⟩) (Ideal.ofBits .f32 0x42800000#32) := by
  subst hN
  choose a ha using hP
  rw [sum_real (64 * M) _ (fun k => if k / 64 = q then (if h : k < 64 * M then a ⟨k, h⟩ * a ⟨k, h⟩ else 0) * (1 / 64) else 0),
    sum_real (64 * M) (fun k => (P k * P k - P k * P k) * A k) (fun _ => 0),
    sum_real 64 _ (fun e => if h : 64 * q + e < 64 * M then a ⟨64 * q + e, h⟩ * a ⟨64 * q + e, h⟩ else 0)]
  · rw [Finset.sum_const_zero, EReal.coe_zero, add_zero, Gla.sum_group64 M q hq
      (fun k => (if h : k < 64 * M then a ⟨k, h⟩ * a ⟨k, h⟩ else 0) * (1 / 64)), bits_64, Ideal.div_coe (by norm_num),
      ← EReal.coe_mul, Finset.sum_mul]
  · intro e
    have h : 64 * q + e.val < 64 * M := by omega
    rw [dif_pos h, ha, EReal.coe_mul]
  · intro k
    rw [ha, ← EReal.coe_mul, ← EReal.coe_sub, sub_self, EReal.coe_zero, zero_mul]
  · intro k
    rw [ha, hA, ← EReal.coe_mul, dif_pos k.isLt]
    by_cases h : k.val / 64 = q
    · rw [if_pos h, if_pos h, ← EReal.coe_mul]
    · rw [if_neg h, if_neg h, mul_zero, EReal.coe_zero]

end Cert.In
-- ==== Proof.InTile.lean ====
module

public import proofs.«01_k».proof.Proof.Gen.Kernel3Ideal.Value
public import Idealize.ShloMosaic.Lib.StableHlo.ReadAt
public import proofs.«01_k».proof.Proof.InSpec

/-! What one grid point of the input projection computes from its blocks, at an index. -/

@[expose] public section
set_option maxRecDepth 16384
set_option maxHeartbeats 1000000
noncomputable section

namespace Cert.Kernel3Ideal.In
open Cert.Kernel3Ideal Cert.Kernel3Ideal.Gen Idealize.ShloMosaic Idealize.ShloMosaic.TcCoe
open Cert.In (pr hrow nrm)

theorem pay8_at (x : Vec Ideal S512x1024 .f32) (g : Vec Ideal S1x1024 .f32) (w : Vec Ideal S1024x896 .bf16) (r : Fin 512) (j : Fin 896) :
    (k0_pay8 x g w (ix2 r j) : EReal) = pr (fun k => x (ix2 r k)) (fun k => g (ix2 0 k)) (fun k => w (ix2 k j)) := by
  pointwise [k0_pay8, k0_pay7]
  rfl

theorem pay9_at (x : Vec Ideal S512x1024 .f32) (g : Vec Ideal S1x1024 .f32) (w : Vec Ideal S1024x512 .bf16) (r : Fin 512) (j : Fin 512) :
    (k0_pay9 x g w (ix2 r j) : EReal) = pr (fun k => x (ix2 r k)) (fun k => g (ix2 0 k)) (fun k => w (ix2 k j)) := by
  pointwise [k0_pay9, k0_pay7]
  rfl

theorem pay10_at (x : Vec Ideal S512x1024 .f32) (g : Vec Ideal S1x1024 .f32) (w : Vec Ideal S1024x512 .bf16) (r : Fin 512) (j : Fin 256) :
    (k0_pay10 x g w (ix2 r j) : EReal) = pr (fun k => x (ix2 r k)) (fun k => g (ix2 0 k)) (fun k => w (ix2 k ⟨j.val, by omega⟩)) := by
  pointwise [k0_pay10, k0_pay9, k0_pay7]
  rfl

theorem pay11_at (x : Vec Ideal S512x1024 .f32) (g : Vec Ideal S1x1024 .f32) (w : Vec Ideal S1024x1920 .bf16) (r : Fin 512) (j : Fin 1920) :
    (k0_pay11 x g w (ix2 r j) : EReal) = pr (fun k => x (ix2 r k)) (fun k => g (ix2 0 k)) (fun k => w (ix2 k j)) := by
  pointwise [k0_pay11, k0_pay7]
  rfl

theorem pay12_at (x : Vec Ideal S512x1024 .f32) (g : Vec Ideal S1x1024 .f32) (w : Vec Ideal S1024x1920 .bf16) (r : Fin 512) (j : Fin 512) :
    (k0_pay12 x g w (ix2 r j) : EReal) = pr (fun k => x (ix2 r k)) (fun k => g (ix2 0 k)) (fun k => w (ix2 k ⟨j.val, by omega⟩)) := by
  pointwise [k0_pay12, k0_pay11, k0_pay7]
  rfl

theorem pay13_at (p : FVec Ideal S512x512 .f32) (a : Vec Ideal S512x512 .bf16) (w : Vec Ideal S1x512 .f32) (r j : Fin 512) :
    (k0_pay13 p a w (ix2 r j) : EReal) = p (ix2 r j) * Ideal.rsqrt (((∑ k : Fin 512, (p (ix2 r k) : EReal) * p (ix2 r k) * a (ix2 k j)) +
      ∑ k : Fin 512, ((p (ix2 r k) : EReal) * p (ix2 r k) - (p (ix2 r k) : EReal) * p (ix2 r k)) * a (ix2 k j)) + Ideal.ofBits .f32 0x358637BD#32) * w (ix2 0 j) *
        Ideal.ofBits .f32 0x3E000000#32 := by
  pointwise [k0_pay13]

theorem pay30_at (p : FVec Ideal S512x1920 .f32) (a : Vec Ideal S128x128 .bf16) (w : Vec Ideal S1x1x128 .f32) (r : Fin 512) (j : Fin 128) :
    (k0_pay30 (k0_pay25 p) a (k0_pay28 p) (k0_pay29 p a) (constant S512x128 .f32 0x00000000#32) w (ix2 r j) : EReal) = p (ix2 r ⟨768 + j.val, by omega⟩) * Ideal.rsqrt (((∑ k : Fin 128, (p (ix2 r ⟨768 + k.val, by omega⟩) : EReal) * p (ix2 r ⟨768 + k.val, by omega⟩) * a (ix2 k j)) +
      ∑ k : Fin 128, ((p (ix2 r ⟨768 + k.val, by omega⟩) : EReal) * p (ix2 r ⟨768 + k.val, by omega⟩) - (p (ix2 r ⟨768 + k.val, by omega⟩) : EReal) * p (ix2 r ⟨768 + k.val, by omega⟩)) * a (ix2 k j)) + Ideal.ofBits .f32 0x358637BD#32) * w (ix3 0 0 j) := by
  pointwise [k0_pay30, k0_pay25, k0_pay28, k0_pay29, k0_pay27, k0_pay26, k0_pay22]
  simp only [← Nat.add_assoc]

theorem pay32_at (p : FVec Ideal S512x1920 .f32) (a : Vec Ideal S128x128 .bf16) (w : Vec Ideal S1x1x128 .f32) (r : Fin 512) (j : Fin 128) :
    (k0_pay32 (k0_pay22 p) a w (ix2 r j) : EReal) = p (ix2 r ⟨1024 + j.val, by omega⟩) * Ideal.rsqrt (((∑ k : Fin 128, (p (ix2 r ⟨1024 + k.val, by omega⟩) : EReal) * p (ix2 r ⟨1024 + k.val, by omega⟩) * a (ix2 k j)) +
      ∑ k : Fin 128, ((p (ix2 r ⟨1024 + k.val, by omega⟩) : EReal) * p (ix2 r ⟨1024 + k.val, by omega⟩) - (p (ix2 r ⟨1024 + k.val, by omega⟩) : EReal) * p (ix2 r ⟨1024 + k.val, by omega⟩)) * a (ix2 k j)) + Ideal.ofBits .f32 0x358637BD#32) * w (ix3 0 0 j) := by
  pointwise [k0_pay32, k0_pay22]
  simp only [← Nat.add_assoc]

theorem pay4_at (p : FVec Ideal S512x1920 .f32) (b : Vec Ideal S1x128 .f32) (r : Fin 512) (j : Fin 128) :
    (k0_pay4 p b (ix2 r j) : EReal) = Cert.In.sig (p (ix2 r ⟨1792 + j.val, by omega⟩) + b (ix2 0 j)) := by
  pointwise [k0_pay4]
  simp only [zero_sub]
  rfl

theorem pay5_at (p : FVec Ideal S512x1920 .f32) (b : Vec Ideal S1x128 .f32) (r : Fin 512) (j : Fin 128) :
    (k0_pay5 p b (ix3 0 r j) : EReal) = k0_pay4 p b (ix2 r j) := by
  pointwise [k0_pay5]

theorem pay6_at (p : FVec Ideal S512x1920 .f32) (b : Vec Ideal S1x128 .f32) (r : Fin 512) (j : Fin 128) :
    (k0_pay6 p b (ix3 0 r j) : EReal) = k0_pay4 p b (ix2 r ⟨(j.val + 12) % 128, Nat.mod_lt _ (by decide)⟩) := by
  pointwise [k0_pay6]
  refine congrArg (fun x => k0_pay4 p b (ix2 r x)) (Fin.ext ?_)
  dsimp only
  omega

theorem pay23_at (p : FVec Ideal S512x1920 .f32) (r : Fin 512) (j : Fin 128) :
    (k0_pay23 p (ix2 r j) : EReal) = p (ix2 r ⟨512 + j.val, by omega⟩) := by
  pointwise [k0_pay23, k0_pay22]

theorem pay24_at (p : FVec Ideal S512x1920 .f32) (r : Fin 512) (j : Fin 128) :
    (k0_pay24 p (ix2 r j) : EReal) = p (ix2 r ⟨640 + j.val, by omega⟩) := by
  pointwise [k0_pay24, k0_pay22]
  simp only [← Nat.add_assoc]

theorem pay31_at (p : FVec Ideal S512x1920 .f32) (r : Fin 512) (j : Fin 128) :
    (k0_pay31 (k0_pay22 p) (ix2 r j) : EReal) = p (ix2 r ⟨896 + j.val, by omega⟩) := by
  pointwise [k0_pay31, k0_pay22]
  simp only [← Nat.add_assoc]

theorem pay33_at (p : FVec Ideal S512x1920 .f32) (r : Fin 512) (j : Fin 128) :
    (k0_pay33 (k0_pay22 p) (ix2 r j) : EReal) = p (ix2 r ⟨1152 + j.val, by omega⟩) := by
  pointwise [k0_pay33, k0_pay22]
  simp only [← Nat.add_assoc]

theorem pay49_at (p : FVec Ideal S512x1920 .f32) (r : Fin 512) (j : Fin 512) :
    (k0_pay49 p (ix2 r j) : EReal) = p (ix2 r ⟨1280 + j.val, by omega⟩) * Cert.In.sig (p (ix2 r ⟨1280 + j.val, by omega⟩)) := by
  pointwise [k0_pay49]
  simp only [zero_sub]
  rfl

/-- The first 64 lanes. -/
theorem pay34_at (r : Fin 512) (j : Fin 128) : k0_pay34 (ix2 r j) = if j.val < 64 then 1#1 else 0#1 := by
  have e : k0_pay34 (ix2 r j) = k0_pay34 (ix2 0 j) := by
    pointwise [k0_pay34]
  rw [e]
  clear e
  revert j
  decide +kernel

theorem first_at {α : Type} (x y : α) (r : Fin 512) (j : Fin 128) :
    Scalar.select (k0_pay34 (ix2 r j)) x y = if j.val < 64 then x else y := by
  rw [pay34_at]
  by_cases h : j.val < 64
  · rw [if_pos h, if_pos h]; rfl
  · rw [if_neg h, if_neg h]; rfl

theorem back (n : ℕ) : n + 128 - 64 = n + 64 := by omega

/-- A normalised branch's first group beside a table. -/
theorem pay39_at (k : FVec Ideal S512x128 .f32) (a b c : IVec S512x128 32) (d : IVec S512x128 1) (r : Fin 512) (j : Fin 256) :
    (k0_pay39 k k0_pay34 a b 64#32 c d (ix3 0 r j) : EReal) =
      if h : j.val < 128 then k0_pay38 (F := Ideal) a b 64#32 c d (ix2 r ⟨j.val, h⟩)
      else if j.val - 128 < 64 then k (ix2 r ⟨j.val - 128, by omega⟩) else 0 := by
  pointwise [k0_pay39]
  simp only [first_at]

theorem pay44_at (k : FVec Ideal S512x128 .f32) (o : FVec Ideal S512x128 .f32) (r : Fin 512) (j : Fin 256) :
    (k0_pay44 k k0_pay34 o (ix3 0 r j) : EReal) =
      if h : j.val < 128 then o (ix2 r ⟨j.val, h⟩)
      else if j.val - 128 < 64 then k (ix2 r ⟨(j.val - 128 + 64) % 128, Nat.mod_lt _ (by decide)⟩) else 0 := by
  pointwise [k0_pay44]
  simp only [first_at, back]

theorem pay40_at (k : FVec Ideal S512x128 .f32) (r : Fin 512) (j : Fin 128) :
    (k0_pay40 k k0_pay34 (ix3 0 r j) : EReal) = if j.val < 64 then k (ix2 r j) else 1 := by
  pointwise [k0_pay40]
  rw [first_at]
theorem pay43_at (k : FVec Ideal S512x128 .f32) (r : Fin 512) (j : Fin 128) :
    (k0_pay43 k k0_pay34 (ix3 0 r j) : EReal) = if j.val < 64 then k (ix2 r j) else 1 := by
  pointwise [k0_pay43]
  rw [first_at]
theorem pay45_at (k : FVec Ideal S512x128 .f32) (r : Fin 512) (j : Fin 128) :
    (k0_pay45 k k0_pay34 (ix3 0 r j) : EReal) = if j.val < 64 then k (ix2 r ⟨(j.val + 64) % 128, Nat.mod_lt _ (by decide)⟩) else 1 := by
  pointwise [k0_pay45]
  rw [first_at]
  simp only [back]
theorem pay48_at (k : FVec Ideal S512x128 .f32) (r : Fin 512) (j : Fin 128) :
    (k0_pay48 (k0_pay47 k k0_pay34) (ix3 0 r j) : EReal) = if j.val < 64 then k (ix2 r ⟨(j.val + 64) % 128, Nat.mod_lt _ (by decide)⟩) else 1 := by
  pointwise [k0_pay48, k0_pay47]
  rw [first_at]
  simp only [back]
theorem pay42_at (k : FVec Ideal S512x128 .f32) (r : Fin 512) (j : Fin 64) :
    (k0_pay42 (k0_pay41 k) (ix3 0 r j) : EReal) = k (ix2 r ⟨j.val, by omega⟩) := by
  pointwise [k0_pay42, k0_pay41]
theorem pay46_at (k : FVec Ideal S512x128 .f32) (r : Fin 512) (j : Fin 64) :
    (k0_pay46 k (ix3 0 r j) : EReal) = k (ix2 r ⟨64 + j.val, by omega⟩) := by
  pointwise [k0_pay46]

end Cert.Kernel3Ideal.In
-- ==== Proof.InBlock.lean ====
module

public import proofs.«01_k».proof.Proof.InTile

/-! The block's number in the table beside the keys: a kernel word computed from the point and the row. -/

@[expose] public section
set_option maxRecDepth 200000
set_option maxHeartbeats 4000000
noncomputable section

namespace Cert.Kernel3Ideal.In
open Cert.Kernel3Ideal Cert.Kernel3Ideal.Gen Idealize.ShloMosaic Idealize.ShloMosaic.TcCoe

/-- The floor of a word divided by 64, as the kernel computes it from the truncated quotient. -/
abbrev floor64 (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

theorem floor64_word : ∀ n : Fin 8192, floor64 (BitVec.ofNat 32 n.val) = BitVec.ofNat 32 (n.val / 64) := by
  decide +kernel

theorem start_word : ∀ t : Fin 32, Scalar.remsi (Scalar.muli (BitVec.ofNat 32 t.val) 512#32) 8192#32 =
    BitVec.ofNat 32 (512 * t.val % 8192) := by
  decide +kernel

theorem row_word (t : Fin 32) (r : Fin 512) :
    IntOp.addi (Scalar.remsi (Scalar.muli (BitVec.ofNat 32 t.val) 512#32) 8192#32) (BitVec.ofNat 32 r.val) =
      BitVec.ofNat 32 ((512 * t.val + r.val) % 8192) := by
  rw [start_word]
  show BitVec.ofNat 32 _ + BitVec.ofNat 32 _ = _
  rw [← BitVec.ofNat_add]
  congr 1
  omega

theorem eq_word (a b : ℕ) (ha : a < 4096) (hb : b < 4096) (x y : EReal) :
    Scalar.select (IntOp.cmpi .eq (BitVec.ofNat 32 a) (BitVec.ofNat 32 b)) x y = if a = b then x else y := by
  by_cases h : a = b
  · subst h
    rw [if_pos rfl]
    have e : IntOp.cmpi .eq (BitVec.ofNat 32 a) (BitVec.ofNat 32 a) = 1#1 := by simp [IntOp.cmpi]
    rw [e]; rfl
  · rw [if_neg h]
    have hn : BitVec.ofNat 32 a ≠ BitVec.ofNat 32 b := fun e => h (by
      have := congrArg BitVec.toNat e
      simp only [BitVec.toNat_ofNat] at this
      omega)
    have e : IntOp.cmpi .eq (BitVec.ofNat 32 a) (BitVec.ofNat 32 b) = 0#1 := by
      show BitVec.ofBool (_ == _) = 0#1
      rw [beq_eq_false_iff_ne.mpr hn]; rfl
    rw [e]; rfl

/-- The table's entry: one where the column is the row's block of 64 in its sequence of 8192. -/
theorem pay38_at (t : Fin 32) (r : Fin 512) (j : Fin 128) :
    (k0_pay38 (F := Ideal) (k0_pay35 (BitVec.ofNat 32 t.val)) (iota .tc S512x128 32 [1] iota_S512x128_d1_w32) 64#32
      (k0_pay36 (BitVec.ofNat 32 t.val)) (k0_pay37 (BitVec.ofNat 32 t.val)) (ix2 r j) : EReal) =
      if j.val = (512 * t.val + r.val) % 8192 / 64 then 1 else 0 := by
  pointwise [k0_pay38, k0_pay35, k0_pay36, k0_pay37]
  rw [row_word]
  refine Eq.trans (congrArg (fun w => Scalar.select (IntOp.cmpi .eq (BitVec.ofNat 32 j.val) w) (1 : EReal) 0)
    (floor64_word ⟨(512 * t.val + r.val) % 8192, Nat.mod_lt _ (by decide)⟩)) ?_
  dsimp only
  exact eq_word _ _ (by omega) (by omega) 1 0

end Cert.Kernel3Ideal.In
-- ==== Proof.InOut.lean ====
module

public import proofs.«01_k».proof.Proof.InTile
public import proofs.«01_k».proof.Proof.InBlock
public import Idealize.ShloMosaic.Lib.Pipeline.ValueKit.Tiles

/-! What one grid point of the input projection leaves in each result's block. -/

@[expose] public section
set_option maxRecDepth 16384
set_option maxHeartbeats 1000000
noncomputable section

namespace Cert.Kernel3Ideal.In
open Cert.Kernel3Ideal Cert.Kernel3Ideal.Gen Idealize.ShloMosaic Idealize.ShloMosaic.TcCoe

theorem offs2 : (![0, 0] : Fin 2 → Nat) = fun _ => 0 := funext fun a => by fin_cases a <;> rfl

theorem ld2 (v : Vec Ideal S1024x3328 .bf16) (x : Fin 1024) (y : Fin 896) :
    (View.ld v r0_2 : Vec Ideal S1024x896 .bf16) (ix2 x y) = v (ix2 ⟨0 + x.val, by omega⟩ ⟨0 + y.val, by omega⟩) := by
  show v _ = v _
  congr 1
  funext a
  apply Fin.ext
  match a with
  | ⟨0, _⟩ =>
    show 0 + 1 * x.val = 0 + x.val
    omega
  | ⟨1, _⟩ =>
    show 0 + 1 * y.val = 0 + y.val
    omega

theorem ld4 (v : Vec Ideal S1024x3328 .bf16) (x : Fin 1024) (y : Fin 512) :
    (View.ld v r0_4 : Vec Ideal S1024x512 .bf16) (ix2 x y) = v (ix2 ⟨0 + x.val, by omega⟩ ⟨896 + y.val, by omega⟩) := by
  show v _ = v _
  congr 1
  funext a
  apply Fin.ext
  match a with
  | ⟨0, _⟩ =>
    show 0 + 1 * x.val = 0 + x.val
    omega
  | ⟨1, _⟩ =>
    show 896 + 1 * y.val = 896 + y.val
    omega

theorem ld7 (v : Vec Ideal S1024x3328 .bf16) (x : Fin 1024) (y : Fin 1920) :
    (View.ld v r0_7 : Vec Ideal S1024x1920 .bf16) (ix2 x y) = v (ix2 ⟨0 + x.val, by omega⟩ ⟨1408 + y.val, by omega⟩) := by
  show v _ = v _
  congr 1
  funext a
  apply Fin.ext
  match a with
  | ⟨0, _⟩ =>
    show 0 + 1 * x.val = 0 + x.val
    omega
  | ⟨1, _⟩ =>
    show 1408 + 1 * y.val = 1408 + y.val
    omega

theorem ld19 (v : Vec Ideal S3x1x128 .f32) (x : Fin 1) (y : Fin 1) (z : Fin 128) :
    (View.ld v r0_19 : Vec Ideal S1x1x128 .f32) (ix3 x y z) = v (ix3 ⟨1 + x.val, by omega⟩ ⟨0 + y.val, by omega⟩ ⟨0 + z.val, by omega⟩) := by
  show v _ = v _
  congr 1
  funext a
  apply Fin.ext
  match a with
  | ⟨0, _⟩ =>
    show 1 + 1 * x.val = 1 + x.val
    omega
  | ⟨1, _⟩ =>
    show 0 + 1 * y.val = 0 + y.val
    omega
  | ⟨2, _⟩ =>
    show 0 + 1 * z.val = 0 + z.val
    omega

theorem ld20 (v : Vec Ideal S3x1x128 .f32) (x : Fin 1) (y : Fin 1) (z : Fin 128) :
    (View.ld v r0_20 : Vec Ideal S1x1x128 .f32) (ix3 x y z) = v (ix3 ⟨2 + x.val, by omega⟩ ⟨0 + y.val, by omega⟩ ⟨0 + z.val, by omega⟩) := by
  show v _ = v _
  congr 1
  funext a
  apply Fin.ext
  match a with
  | ⟨0, _⟩ =>
    show 2 + 1 * x.val = 2 + x.val
    omega
  | ⟨1, _⟩ =>
    show 0 + 1 * y.val = 0 + y.val
    omega
  | ⟨2, _⟩ =>
    show 0 + 1 * z.val = 0 + z.val
    omega

theorem tile_8_64 {e : EltTy} (w : S1x512x64.Idx → Elt Ideal e) (h : ℕ) (g : Fin 8) (r : Fin 512) (j : Fin 64) (v : Elt Ideal e)
    (H : g.val = h → w (ix3 0 r j) = v) : View.TileAt (Val := Elt Ideal) (S := S8x512x64) (e := e) (ix3 g r j) ![h, 0, 0] S1x512x64.size w v := by
  intro x hx
  have h0 : g.val = h + (x 0).val := hx 0
  have h1 : r.val = 0 + (x 1).val := hx 1
  have h2 : j.val = 0 + (x 2).val := hx 2
  have l0 : (x 0).val < 1 := (x 0).isLt
  have e : x = ix3 (0 : Fin 1) r j := by
    funext a
    apply Fin.ext
    match a with
    | ⟨0, _⟩ =>
      show (x 0).val = 0
      omega
    | ⟨1, _⟩ =>
      show (x 1).val = r.val
      omega
    | ⟨2, _⟩ =>
      show (x 2).val = j.val
      omega
  rw [e]
  exact H (by omega)

theorem tile_2_256 {e : EltTy} (w : S1x512x256.Idx → Elt Ideal e) (h : ℕ) (g : Fin 2) (r : Fin 512) (j : Fin 256) (v : Elt Ideal e)
    (H : g.val = h → w (ix3 0 r j) = v) : View.TileAt (Val := Elt Ideal) (S := S2x512x256) (e := e) (ix3 g r j) ![h, 0, 0] S1x512x256.size w v := by
  intro x hx
  have h0 : g.val = h + (x 0).val := hx 0
  have h1 : r.val = 0 + (x 1).val := hx 1
  have h2 : j.val = 0 + (x 2).val := hx 2
  have l0 : (x 0).val < 1 := (x 0).isLt
  have e : x = ix3 (0 : Fin 1) r j := by
    funext a
    apply Fin.ext
    match a with
    | ⟨0, _⟩ =>
      show (x 0).val = 0
      omega
    | ⟨1, _⟩ =>
      show (x 1).val = r.val
      omega
    | ⟨2, _⟩ =>
      show (x 2).val = j.val
      omega
  rw [e]
  exact H (by omega)

theorem tile_2_128 {e : EltTy} (w : S1x512x128.Idx → Elt Ideal e) (h : ℕ) (g : Fin 2) (r : Fin 512) (j : Fin 128) (v : Elt Ideal e)
    (H : g.val = h → w (ix3 0 r j) = v) : View.TileAt (Val := Elt Ideal) (S := S2x512x128) (e := e) (ix3 g r j) ![h, 0, 0] S1x512x128.size w v := by
  intro x hx
  have h0 : g.val = h + (x 0).val := hx 0
  have h1 : r.val = 0 + (x 1).val := hx 1
  have h2 : j.val = 0 + (x 2).val := hx 2
  have l0 : (x 0).val < 1 := (x 0).isLt
  have e : x = ix3 (0 : Fin 1) r j := by
    funext a
    apply Fin.ext
    match a with
    | ⟨0, _⟩ =>
      show (x 0).val = 0
      omega
    | ⟨1, _⟩ =>
      show (x 1).val = r.val
      omega
    | ⟨2, _⟩ =>
      show (x 2).val = j.val
      omega
  rw [e]
  exact H (by omega)

theorem tile_2_64 {e : EltTy} (w : S1x512x64.Idx → Elt Ideal e) (h : ℕ) (g : Fin 2) (r : Fin 512) (j : Fin 64) (v : Elt Ideal e)
    (H : g.val = h → w (ix3 0 r j) = v) : View.TileAt (Val := Elt Ideal) (S := S2x512x64) (e := e) (ix3 g r j) ![h, 0, 0] S1x512x64.size w v := by
  intro x hx
  have h0 : g.val = h + (x 0).val := hx 0
  have h1 : r.val = 0 + (x 1).val := hx 1
  have h2 : j.val = 0 + (x 2).val := hx 2
  have l0 : (x 0).val < 1 := (x 0).isLt
  have e : x = ix3 (0 : Fin 1) r j := by
    funext a
    apply Fin.ext
    match a with
    | ⟨0, _⟩ =>
      show (x 0).val = 0
      omega
    | ⟨1, _⟩ =>
      show (x 1).val = r.val
      omega
    | ⟨2, _⟩ =>
      show (x 2).val = j.val
      omega
  rw [e]
  exact H (by omega)

/-- An entry normalised by a row's squares summed in two halves under the weights `A`. -/
def halves {N : ℕ} (p A : Fin N → EReal) (x w : EReal) : EReal :=
  x * Ideal.rsqrt (((∑ k, p k * p k * A k) + ∑ k, (p k * p k - p k * p k) * A k) + Ideal.ofBits .f32 0x358637BD#32) * w

variable (i : grid0.Coords) (x0 : Vec Ideal S512x1024 .f32) (x1 : Vec Ideal S1x1024 .f32) (x2 : Vec Ideal S1024x3328 .bf16)
  (x3 : Vec Ideal S1x512 .f32) (x4 : Vec Ideal S3x1x128 .f32) (x5 : Vec Ideal S1x128 .f32) (x6 : Vec Ideal S512x512 .bf16) (x7 : Vec Ideal S128x128 .bf16)

/-- The block's product of row `r` with the padded weights' column `j`. -/
def prd (r : Fin 512) (j : Fin 3328) : EReal :=
  Cert.In.pr (fun k => x0 (ix2 r k)) (fun k => x1 (ix2 0 k)) (fun k => x2 (ix2 k j))

theorem p56_at (r : Fin 512) (j : Fin 1920) :
    (k0_pay56 i x0 x1 x2 x3 x4 x5 x6 x7 (ix2 r j) : EReal) =
      prd x0 x1 x2 r ⟨1408 + j.val, by omega⟩ := by
  unfold k0_pay56
  rw [View.ld_unit_zero (S := S512x1024) offs2, View.ld_unit_zero (S := S1x1024) offs2]
  refine (pay11_at _ _ _ r j).trans ?_
  refine congrArg (Cert.In.pr _ _) (funext fun k => (ld7 x2 k _).trans (congrArg x2 ?_))
  exact congrArg (fun t => ix2 t _) (Fin.ext (Nat.zero_add _))

theorem p57_at (r : Fin 512) (j : Fin 512) :
    (k0_pay57 i x0 x1 x2 x3 x4 x5 x6 x7 (ix2 r j) : EReal) =
      prd x0 x1 x2 r ⟨1408 + j.val, by omega⟩ := by
  unfold k0_pay57
  rw [View.ld_unit_zero (S := S512x1024) offs2, View.ld_unit_zero (S := S1x1024) offs2]
  refine (pay12_at _ _ _ r j).trans ?_
  refine congrArg (Cert.In.pr _ _) (funext fun k => (ld7 x2 k _).trans (congrArg x2 ?_))
  exact congrArg (fun t => ix2 t _) (Fin.ext (Nat.zero_add _))

theorem o8_at (r : Fin 512) (j : Fin 896) :
    (out0_8 i x0 x1 x2 x3 x4 x5 x6 x7 (ix2 r j) : EReal) =
      prd x0 x1 x2 r ⟨j.val, by omega⟩ := by
  unfold out0_8
  rw [View.canon_unit_zero (S := S512x896) offs2]
  rw [View.ld_unit_zero (S := S512x1024) offs2, View.ld_unit_zero (S := S1x1024) offs2]
  refine (pay8_at _ _ _ r j).trans ?_
  refine congrArg (Cert.In.pr _ _) (funext fun k => (ld2 x2 k _).trans (congrArg x2 ?_))
  exact congr (congrArg ix2 (Fin.ext (Nat.zero_add _))) (Fin.ext (Nat.zero_add _))

theorem o9_at (r : Fin 512) (j : Fin 512) :
    (out0_9 i x0 x1 x2 x3 x4 x5 x6 x7 (ix2 r j) : EReal) =
      prd x0 x1 x2 r ⟨896 + j.val, by omega⟩ := by
  unfold out0_9
  rw [View.canon_unit_zero (S := S512x512) offs2]
  rw [View.ld_unit_zero (S := S512x1024) offs2, View.ld_unit_zero (S := S1x1024) offs2]
  refine (pay9_at _ _ _ r j).trans ?_
  refine congrArg (Cert.In.pr _ _) (funext fun k => (ld4 x2 k _).trans (congrArg x2 ?_))
  exact congrArg (fun t => ix2 t _) (Fin.ext (Nat.zero_add _))

theorem o10_at (r : Fin 512) (j : Fin 256) :
    (out0_10 i x0 x1 x2 x3 x4 x5 x6 x7 (ix2 r j) : EReal) =
      prd x0 x1 x2 r ⟨896 + j.val, by omega⟩ := by
  unfold out0_10
  rw [View.canon_unit_zero (S := S512x256) offs2]
  rw [View.ld_unit_zero (S := S512x1024) offs2, View.ld_unit_zero (S := S1x1024) offs2]
  refine (pay10_at _ _ _ r j).trans ?_
  refine congrArg (Cert.In.pr _ _) (funext fun k => (ld4 x2 k _).trans (congrArg x2 ?_))
  exact congrArg (fun t => ix2 t _) (Fin.ext (Nat.zero_add _))

/-- The queries' row before it is cut into heads. -/
def qrow (r : Fin 512) (j : Fin 512) : EReal :=
  halves (fun k : Fin 512 => prd x0 x1 x2 r ⟨1408 + k.val, by omega⟩) (fun k => x6 (ix2 k j))
    (prd x0 x1 x2 r ⟨1408 + j.val, by omega⟩) (x3 (ix2 0 j)) * Ideal.ofBits .f32 0x3E000000#32

theorem q13_at (r j : Fin 512) :
    (k0_pay13 (k0_pay57 i x0 x1 x2 x3 x4 x5 x6 x7) (View.ld x6 r0_5) (View.ld x3 r0_8) (ix2 r j) : EReal) = qrow x0 x1 x2 x3 x6 r j := by
  rw [View.ld_unit_zero (S := S512x512) offs2, View.ld_unit_zero (S := S1x512) offs2]
  refine (pay13_at _ _ _ r j).trans ?_
  simp only [p57_at]
  rfl

/-- A branch's normalised keys, both groups side by side: the products from column `c`, the weights' row `g`. -/
def krow (c : ℕ) (hc : c + 128 ≤ 3328) (g : Fin 3) (r : Fin 512) (j : Fin 128) : EReal :=
  halves (fun k : Fin 128 => prd x0 x1 x2 r ⟨c + k.val, by omega⟩) (fun k => x7 (ix2 k j))
    (prd x0 x1 x2 r ⟨c + j.val, by omega⟩) (x4 (ix3 g 0 j))

theorem p61_at (r : Fin 512) (j : Fin 128) :
    (k0_pay61 i x0 x1 x2 x3 x4 x5 x6 x7 (ix2 r j) : EReal) = krow x0 x1 x2 x4 x7 2176 (by omega) 1 r j := by
  unfold k0_pay61
  rw [View.ld_unit_zero (S := S128x128) offs2]
  refine (pay30_at _ _ _ r j).trans ?_
  simp only [p56_at, ld19, ← Nat.add_assoc]
  unfold krow halves
  refine congrArg (_ * ·) (congrArg x4 ?_)
  funext a
  apply Fin.ext
  match a with
  | ⟨0, _⟩ => rfl
  | ⟨1, _⟩ => rfl
  | ⟨2, _⟩ =>
    show 0 + 1 * j.val = j.val
    omega

theorem p63_at (r : Fin 512) (j : Fin 128) :
    (k0_pay63 i x0 x1 x2 x3 x4 x5 x6 x7 (ix2 r j) : EReal) = krow x0 x1 x2 x4 x7 2432 (by omega) 2 r j := by
  unfold k0_pay63 k0_pay59
  rw [View.ld_unit_zero (S := S128x128) offs2]
  refine (pay32_at _ _ _ r j).trans ?_
  simp only [p56_at, ld20, ← Nat.add_assoc]
  unfold krow halves
  refine congrArg (_ * ·) (congrArg x4 ?_)
  funext a
  apply Fin.ext
  match a with
  | ⟨0, _⟩ => rfl
  | ⟨1, _⟩ => rfl
  | ⟨2, _⟩ =>
    show 0 + 1 * j.val = j.val
    omega

theorem p62_at (r : Fin 512) (j : Fin 128) :
    (k0_pay62 i x0 x1 x2 x3 x4 x5 x6 x7 (ix2 r j) : EReal) = prd x0 x1 x2 r ⟨2304 + j.val, by omega⟩ := by
  unfold k0_pay62 k0_pay59
  refine (pay31_at _ r j).trans ?_
  simp only [p56_at, ← Nat.add_assoc]

theorem p64_at (r : Fin 512) (j : Fin 128) :
    (k0_pay64 i x0 x1 x2 x3 x4 x5 x6 x7 (ix2 r j) : EReal) = prd x0 x1 x2 r ⟨2560 + j.val, by omega⟩ := by
  unfold k0_pay64 k0_pay59
  refine (pay33_at _ r j).trans ?_
  simp only [p56_at, ← Nat.add_assoc]

/-- The output gate's row before it is cut into heads. -/
def srow (r j : Fin 512) : EReal :=
  prd x0 x1 x2 r ⟨2688 + j.val, by omega⟩ * Cert.In.sig (prd x0 x1 x2 r ⟨2688 + j.val, by omega⟩)

theorem s49_at (r j : Fin 512) :
    (k0_pay49 (k0_pay56 i x0 x1 x2 x3 x4 x5 x6 x7) (ix2 r j) : EReal) = srow x0 x1 x2 r j := by
  refine (pay49_at _ r j).trans ?_
  simp only [p56_at, ← Nat.add_assoc]
  rfl

theorem h14_at (p : FVec Ideal S512x512 .f32) (a : Vec Ideal S512x512 .bf16) (w : Vec Ideal S1x512 .f32) (r : Fin 512) (d : Fin 64) :
    (k0_pay14 p a w (ix3 0 r d) : EReal) = k0_pay13 p a w (ix2 r ⟨d.val, by omega⟩) := by
  pointwise [k0_pay14]

theorem h15_at (p : FVec Ideal S512x512 .f32) (a : Vec Ideal S512x512 .bf16) (w : Vec Ideal S1x512 .f32) (r : Fin 512) (d : Fin 64) :
    (k0_pay15 p a w (ix3 0 r d) : EReal) = k0_pay13 p a w (ix2 r ⟨64 + d.val, by omega⟩) := by
  pointwise [k0_pay15]

theorem h16_at (p : FVec Ideal S512x512 .f32) (a : Vec Ideal S512x512 .bf16) (w : Vec Ideal S1x512 .f32) (r : Fin 512) (d : Fin 64) :
    (k0_pay16 p a w (ix3 0 r d) : EReal) = k0_pay13 p a w (ix2 r ⟨128 + d.val, by omega⟩) := by
  pointwise [k0_pay16]

theorem h17_at (p : FVec Ideal S512x512 .f32) (a : Vec Ideal S512x512 .bf16) (w : Vec Ideal S1x512 .f32) (r : Fin 512) (d : Fin 64) :
    (k0_pay17 p a w (ix3 0 r d) : EReal) = k0_pay13 p a w (ix2 r ⟨192 + d.val, by omega⟩) := by
  pointwise [k0_pay17]

theorem h18_at (p : FVec Ideal S512x512 .f32) (r : Fin 512) (d : Fin 64) :
    (k0_pay18 p (ix3 0 r d) : EReal) = p (ix2 r ⟨256 + d.val, by omega⟩) := by
  pointwise [k0_pay18]

theorem h19_at (p : FVec Ideal S512x512 .f32) (r : Fin 512) (d : Fin 64) :
    (k0_pay19 p (ix3 0 r d) : EReal) = p (ix2 r ⟨320 + d.val, by omega⟩) := by
  pointwise [k0_pay19]

theorem h20_at (p : FVec Ideal S512x512 .f32) (r : Fin 512) (d : Fin 64) :
    (k0_pay20 p (ix3 0 r d) : EReal) = p (ix2 r ⟨384 + d.val, by omega⟩) := by
  pointwise [k0_pay20]

theorem h21_at (p : FVec Ideal S512x512 .f32) (r : Fin 512) (d : Fin 64) :
    (k0_pay21 p (ix3 0 r d) : EReal) = p (ix2 r ⟨448 + d.val, by omega⟩) := by
  pointwise [k0_pay21]

theorem g0_at (p : FVec Ideal S512x1920 .f32) (r : Fin 512) (d : Fin 64) :
    (k0_pay50 p (ix3 0 r d) : EReal) = k0_pay49 p (ix2 r ⟨d.val, by omega⟩) := by
  pointwise [k0_pay50]

theorem g1_at (p : FVec Ideal S512x1920 .f32) (r : Fin 512) (d : Fin 64) :
    (k0_pay51 p (ix3 0 r d) : EReal) = k0_pay49 p (ix2 r ⟨64 + d.val, by omega⟩) := by
  pointwise [k0_pay51]

theorem g2_at (p : FVec Ideal S512x1920 .f32) (r : Fin 512) (d : Fin 64) :
    (k0_pay52 p (ix3 0 r d) : EReal) = k0_pay49 p (ix2 r ⟨128 + d.val, by omega⟩) := by
  pointwise [k0_pay52]

theorem g3_at (p : FVec Ideal S512x1920 .f32) (r : Fin 512) (d : Fin 64) :
    (k0_pay53 p (ix3 0 r d) : EReal) = k0_pay49 p (ix2 r ⟨192 + d.val, by omega⟩) := by
  pointwise [k0_pay53]

theorem g4_at (p : FVec Ideal S512x1920 .f32) (r : Fin 512) (d : Fin 64) :
    (k0_pay54 p (ix3 0 r d) : EReal) = k0_pay49 p (ix2 r ⟨256 + d.val, by omega⟩) := by
  pointwise [k0_pay54]

theorem g5_at (p : FVec Ideal S512x1920 .f32) (r : Fin 512) (d : Fin 64) :
    (k0_pay1 (k0_pay55 p) (ix3 0 r d) : EReal) = k0_pay49 p (ix2 r ⟨320 + d.val, by omega⟩) := by
  pointwise [k0_pay1, k0_pay55]

theorem g6_at (p : FVec Ideal S512x512 .f32) (r : Fin 512) (d : Fin 64) :
    (k0_pay2 p (ix3 0 r d) : EReal) = p (ix2 r ⟨384 + d.val, by omega⟩) := by
  pointwise [k0_pay2]

theorem g7_at (p : FVec Ideal S512x512 .f32) (r : Fin 512) (d : Fin 64) :
    (k0_pay3 p (ix3 0 r d) : EReal) = p (ix2 r ⟨448 + d.val, by omega⟩) := by
  pointwise [k0_pay3]

theorem o11_at (g : Fin 8) (r : Fin 512) (j : Fin 64) :
    (out0_11 i x0 x1 x2 x3 x4 x5 x6 x7 (ix3 g r j) : EReal) =
      qrow x0 x1 x2 x3 x6 r ⟨64 * g.val + j.val, by omega⟩ := by
  unfold out0_11
  refine View.canon_eq_of_allAt _ _ _ (cover0_11 _ _ _ _ _ _ _ _ _) ?_
  refine View.allAt_cons_unit _ _ _ _ _ (tile_8_64 _ 7 g r j _ fun e => ?_) ?_
  · refine (h21_at _ r j).trans ((q13_at ..).trans ?_)
    refine congrArg (qrow x0 x1 x2 x3 x6 r) (Fin.ext ?_)
    dsimp only
    omega
  refine View.allAt_cons_unit _ _ _ _ _ (tile_8_64 _ 6 g r j _ fun e => ?_) ?_
  · refine (h20_at _ r j).trans ((q13_at ..).trans ?_)
    refine congrArg (qrow x0 x1 x2 x3 x6 r) (Fin.ext ?_)
    dsimp only
    omega
  refine View.allAt_cons_unit _ _ _ _ _ (tile_8_64 _ 5 g r j _ fun e => ?_) ?_
  · refine (h19_at _ r j).trans ((q13_at ..).trans ?_)
    refine congrArg (qrow x0 x1 x2 x3 x6 r) (Fin.ext ?_)
    dsimp only
    omega
  refine View.allAt_cons_unit _ _ _ _ _ (tile_8_64 _ 4 g r j _ fun e => ?_) ?_
  · refine (h18_at _ r j).trans ((q13_at ..).trans ?_)
    refine congrArg (qrow x0 x1 x2 x3 x6 r) (Fin.ext ?_)
    dsimp only
    omega
  refine View.allAt_cons_unit _ _ _ _ _ (tile_8_64 _ 3 g r j _ fun e => ?_) ?_
  · refine (h17_at _ _ _ r j).trans ((q13_at ..).trans ?_)
    refine congrArg (qrow x0 x1 x2 x3 x6 r) (Fin.ext ?_)
    dsimp only
    omega
  refine View.allAt_cons_unit _ _ _ _ _ (tile_8_64 _ 2 g r j _ fun e => ?_) ?_
  · refine (h16_at _ _ _ r j).trans ((q13_at ..).trans ?_)
    refine congrArg (qrow x0 x1 x2 x3 x6 r) (Fin.ext ?_)
    dsimp only
    omega
  refine View.allAt_cons_unit _ _ _ _ _ (tile_8_64 _ 1 g r j _ fun e => ?_) ?_
  · refine (h15_at _ _ _ r j).trans ((q13_at ..).trans ?_)
    refine congrArg (qrow x0 x1 x2 x3 x6 r) (Fin.ext ?_)
    dsimp only
    omega
  refine View.allAt_cons_unit _ _ _ _ _ (tile_8_64 _ 0 g r j _ fun e => ?_) ?_
  · refine (h14_at _ _ _ r j).trans ((q13_at ..).trans ?_)
    refine congrArg (qrow x0 x1 x2 x3 x6 r) (Fin.ext ?_)
    dsimp only
    omega
  exact fun p hp => absurd hp List.not_mem_nil

theorem o12_at (r : Fin 512) (j : Fin 128) :
    (out0_12 i x0 x1 x2 x3 x4 x5 x6 x7 (ix2 r j) : EReal) =
      prd x0 x1 x2 r ⟨1920 + j.val, by omega⟩ := by
  unfold out0_12
  rw [View.canon_unit_zero (S := S512x128) offs2]
  refine (pay23_at _ r j).trans ?_
  simp only [p56_at, ← Nat.add_assoc]

theorem o13_at (r : Fin 512) (j : Fin 128) :
    (out0_13 i x0 x1 x2 x3 x4 x5 x6 x7 (ix2 r j) : EReal) =
      prd x0 x1 x2 r ⟨2048 + j.val, by omega⟩ := by
  unfold out0_13
  rw [View.canon_unit_zero (S := S512x128) offs2]
  refine (pay24_at _ r j).trans ?_
  simp only [p56_at, ← Nat.add_assoc]

theorem mark_at (t : Fin 32) (ht : (i 0).val = t.val) (r : Fin 512) (j : Fin 128) :
    (k0_pay38 (F := Ideal) (k0_pay66 i x0 x1 x2 x3 x4 x5 x6 x7) (k0_pay60 i x0 x1 x2 x3 x4 x5 x6 x7) 64#32 (k0_pay67 i x0 x1 x2 x3 x4 x5 x6 x7) (k0_pay68 i x0 x1 x2 x3 x4 x5 x6 x7) (ix2 r j) : EReal) =
      if j.val = (512 * t.val + r.val) % 8192 / 64 then 1 else 0 := by
  unfold k0_pay66 k0_pay60 k0_pay67 k0_pay68
  rw [ht]
  exact pay38_at t r j

theorem o14_at (t : Fin 32) (ht : (i 0).val = t.val) (g : Fin 2) (r : Fin 512) (j : Fin 256) :
    (out0_14 i x0 x1 x2 x3 x4 x5 x6 x7 (ix3 g r j) : EReal) =
      if h : j.val < 128 then (if j.val = (512 * t.val + r.val) % 8192 / 64 then 1 else 0)
      else if h : j.val - 128 < 64 then krow x0 x1 x2 x4 x7 2176 (by omega) 1 r ⟨64 * g.val + (j.val - 128), by omega⟩ else 0 := by
  unfold out0_14
  refine View.canon_eq_of_allAt _ _ _ (cover0_14 _ _ _) ?_
  refine View.allAt_cons_unit _ _ _ _ _ (tile_2_256 _ 1 g r j _ fun e => ?_) ?_
  · refine (pay44_at ..).trans ?_
    by_cases h1 : j.val < 128
    · rw [dif_pos h1, dif_pos h1]
      exact mark_at i x0 x1 x2 x3 x4 x5 x6 x7 t ht r ⟨j.val, h1⟩
    · rw [dif_neg h1, dif_neg h1]
      by_cases h2 : j.val - 128 < 64
      · rw [if_pos h2, dif_pos h2]
        refine (p61_at ..).trans ?_
        refine congrArg (krow x0 x1 x2 x4 x7 2176 (by omega) 1 r) (Fin.ext ?_)
        dsimp only
        omega
      · rw [if_neg h2, dif_neg h2]
  refine View.allAt_cons_unit _ _ _ _ _ (tile_2_256 _ 0 g r j _ fun e => ?_) ?_
  · refine (pay39_at ..).trans ?_
    by_cases h1 : j.val < 128
    · rw [dif_pos h1, dif_pos h1]
      exact mark_at i x0 x1 x2 x3 x4 x5 x6 x7 t ht r ⟨j.val, h1⟩
    · rw [dif_neg h1, dif_neg h1]
      by_cases h2 : j.val - 128 < 64
      · rw [if_pos h2, dif_pos h2]
        refine (p61_at ..).trans ?_
        refine congrArg (krow x0 x1 x2 x4 x7 2176 (by omega) 1 r) (Fin.ext ?_)
        dsimp only
        omega
      · rw [if_neg h2, dif_neg h2]
  exact fun p hp => absurd hp List.not_mem_nil

theorem o15_at (g : Fin 2) (r : Fin 512) (j : Fin 128) :
    (out0_15 i x0 x1 x2 x3 x4 x5 x6 x7 (ix3 g r j) : EReal) =
      if h : j.val < 64 then prd x0 x1 x2 r ⟨2304 + (64 * g.val + j.val), by omega⟩ else 1 := by
  unfold out0_15
  refine View.canon_eq_of_allAt _ _ _ (cover0_15 _ _ _) ?_
  refine View.allAt_cons_unit _ _ _ _ _ (tile_2_128 _ 1 g r j _ fun e => ?_) ?_
  · refine (pay45_at ..).trans ?_
    by_cases h1 : j.val < 64
    · rw [if_pos h1, dif_pos h1]
      refine (p62_at ..).trans ?_
      refine congrArg (prd x0 x1 x2 r) (Fin.ext ?_)
      dsimp only
      omega
    · rw [if_neg h1, dif_neg h1]
  refine View.allAt_cons_unit _ _ _ _ _ (tile_2_128 _ 0 g r j _ fun e => ?_) ?_
  · refine (pay40_at ..).trans ?_
    by_cases h1 : j.val < 64
    · rw [if_pos h1, dif_pos h1]
      refine (p62_at ..).trans ?_
      refine congrArg (prd x0 x1 x2 r) (Fin.ext ?_)
      dsimp only
      omega
    · rw [if_neg h1, dif_neg h1]
  exact fun p hp => absurd hp List.not_mem_nil

theorem o17_at (g : Fin 2) (r : Fin 512) (j : Fin 128) :
    (out0_17 i x0 x1 x2 x3 x4 x5 x6 x7 (ix3 g r j) : EReal) =
      if h : j.val < 64 then prd x0 x1 x2 r ⟨2560 + (64 * g.val + j.val), by omega⟩ else 1 := by
  unfold out0_17
  refine View.canon_eq_of_allAt _ _ _ (cover0_17 _ _ _) ?_
  refine View.allAt_cons_unit _ _ _ _ _ (tile_2_128 _ 1 g r j _ fun e => ?_) ?_
  · refine (pay48_at ..).trans ?_
    by_cases h1 : j.val < 64
    · rw [if_pos h1, dif_pos h1]
      refine (p64_at ..).trans ?_
      refine congrArg (prd x0 x1 x2 r) (Fin.ext ?_)
      dsimp only
      omega
    · rw [if_neg h1, dif_neg h1]
  refine View.allAt_cons_unit _ _ _ _ _ (tile_2_128 _ 0 g r j _ fun e => ?_) ?_
  · refine (pay43_at ..).trans ?_
    by_cases h1 : j.val < 64
    · rw [if_pos h1, dif_pos h1]
      refine (p64_at ..).trans ?_
      refine congrArg (prd x0 x1 x2 r) (Fin.ext ?_)
      dsimp only
      omega
    · rw [if_neg h1, dif_neg h1]
  exact fun p hp => absurd hp List.not_mem_nil

theorem o16_at (g : Fin 2) (r : Fin 512) (j : Fin 64) :
    (out0_16 i x0 x1 x2 x3 x4 x5 x6 x7 (ix3 g r j) : EReal) =
      krow x0 x1 x2 x4 x7 2432 (by omega) 2 r ⟨64 * g.val + j.val, by omega⟩ := by
  unfold out0_16
  refine View.canon_eq_of_allAt _ _ _ (cover0_16 _ _ _) ?_
  refine View.allAt_cons_unit _ _ _ _ _ (tile_2_64 _ 1 g r j _ fun e => ?_) ?_
  · refine (pay46_at ..).trans ((p63_at ..).trans ?_)
    refine congrArg (krow x0 x1 x2 x4 x7 2432 (by omega) 2 r) (Fin.ext ?_)
    dsimp only
    omega
  refine View.allAt_cons_unit _ _ _ _ _ (tile_2_64 _ 0 g r j _ fun e => ?_) ?_
  · refine (pay42_at ..).trans ((p63_at ..).trans ?_)
    refine congrArg (krow x0 x1 x2 x4 x7 2432 (by omega) 2 r) (Fin.ext ?_)
    dsimp only
    omega
  exact fun p hp => absurd hp List.not_mem_nil

/-- A gate. -/
def grow (r : Fin 512) (j : Fin 128) : EReal :=
  Cert.In.sig (prd x0 x1 x2 r ⟨3200 + j.val, by omega⟩ + x5 (ix2 0 j))

theorem gate_at (r : Fin 512) (j : Fin 128) :
    (k0_pay4 (k0_pay56 i x0 x1 x2 x3 x4 x5 x6 x7) (View.ld x5 r0_27) (ix2 r j) : EReal) = grow x0 x1 x2 x5 r j := by
  rw [View.ld_unit_zero (S := S1x128) offs2]
  refine (pay4_at _ _ r j).trans ?_
  simp only [p56_at, ← Nat.add_assoc]
  rfl

theorem o18_at (g : Fin 2) (r : Fin 512) (j : Fin 128) :
    (out0_18 i x0 x1 x2 x3 x4 x5 x6 x7 (ix3 g r j) : EReal) =
      grow x0 x1 x2 x5 r ⟨(j.val + g.val * 12) % 128, Nat.mod_lt _ (by decide)⟩ := by
  unfold out0_18
  refine View.canon_eq_of_allAt _ _ _ (cover0_18 _ _ _) ?_
  refine View.allAt_cons_unit _ _ _ _ _ (tile_2_128 _ 1 g r j _ fun e => ?_) ?_
  · refine (pay6_at ..).trans ((gate_at ..).trans ?_)
    refine congrArg (grow x0 x1 x2 x5 r) (Fin.ext ?_)
    dsimp only
    omega
  refine View.allAt_cons_unit _ _ _ _ _ (tile_2_128 _ 0 g r j _ fun e => ?_) ?_
  · refine (pay5_at ..).trans ((gate_at ..).trans ?_)
    refine congrArg (grow x0 x1 x2 x5 r) (Fin.ext ?_)
    dsimp only
    omega
  exact fun p hp => absurd hp List.not_mem_nil

theorem o19_at (g : Fin 8) (r : Fin 512) (j : Fin 64) :
    (out0_19 i x0 x1 x2 x3 x4 x5 x6 x7 (ix3 g r j) : EReal) =
      srow x0 x1 x2 r ⟨64 * g.val + j.val, by omega⟩ := by
  unfold out0_19
  refine View.canon_eq_of_allAt _ _ _ (cover0_19 _ _ _ _ _ _ _ _ _) ?_
  refine View.allAt_cons_unit _ _ _ _ _ (tile_8_64 _ 7 g r j _ fun e => ?_) ?_
  · refine (g7_at _ r j).trans ((s49_at ..).trans ?_)
    refine congrArg (srow x0 x1 x2 r) (Fin.ext ?_)
    dsimp only
    omega
  refine View.allAt_cons_unit _ _ _ _ _ (tile_8_64 _ 6 g r j _ fun e => ?_) ?_
  · refine (g6_at _ r j).trans ((s49_at ..).trans ?_)
    refine congrArg (srow x0 x1 x2 r) (Fin.ext ?_)
    dsimp only
    omega
  refine View.allAt_cons_unit _ _ _ _ _ (tile_8_64 _ 5 g r j _ fun e => ?_) ?_
  · refine (g5_at _ r j).trans ((s49_at ..).trans ?_)
    refine congrArg (srow x0 x1 x2 r) (Fin.ext ?_)
    dsimp only
    omega
  refine View.allAt_cons_unit _ _ _ _ _ (tile_8_64 _ 4 g r j _ fun e => ?_) ?_
  · refine (g4_at _ r j).trans ((s49_at ..).trans ?_)
    refine congrArg (srow x0 x1 x2 r) (Fin.ext ?_)
    dsimp only
    omega
  refine View.allAt_cons_unit _ _ _ _ _ (tile_8_64 _ 3 g r j _ fun e => ?_) ?_
  · refine (g3_at _ r j).trans ((s49_at ..).trans ?_)
    refine congrArg (srow x0 x1 x2 r) (Fin.ext ?_)
    dsimp only
    omega
  refine View.allAt_cons_unit _ _ _ _ _ (tile_8_64 _ 2 g r j _ fun e => ?_) ?_
  · refine (g2_at _ r j).trans ((s49_at ..).trans ?_)
    refine congrArg (srow x0 x1 x2 r) (Fin.ext ?_)
    dsimp only
    omega
  refine View.allAt_cons_unit _ _ _ _ _ (tile_8_64 _ 1 g r j _ fun e => ?_) ?_
  · refine (g1_at _ r j).trans ((s49_at ..).trans ?_)
    refine congrArg (srow x0 x1 x2 r) (Fin.ext ?_)
    dsimp only
    omega
  refine View.allAt_cons_unit _ _ _ _ _ (tile_8_64 _ 0 g r j _ fun e => ?_) ?_
  · refine (g0_at _ r j).trans ((s49_at ..).trans ?_)
    refine congrArg (srow x0 x1 x2 r) (Fin.ext ?_)
    dsimp only
    omega
  exact fun p hp => absurd hp List.not_mem_nil

end Cert.Kernel3Ideal.In
-- ==== Proof.InTable.lean ====
module

public import proofs.«01_k».proof.Kernel3Ideal
public import Mathlib.Tactic.IntervalCases

/-! The averaging table of 128 rows of the input projection: 1/64 on the blocks of 64 columns, zero elsewhere. -/

@[expose] public section
set_option maxRecDepth 16384
set_option maxHeartbeats 4000000

namespace Cert.Kernel3Ideal.In
open Cert.Kernel3Ideal

theorem row_mod (i : ℕ) : lit0t0_0 i = lit0t0_0 (i % 128) ∧ lit0t0_64 i = lit0t0_64 (i % 128) := by
  unfold lit0t0_0 lit0t0_64
  rw [Nat.mod_mod]
  exact ⟨rfl, rfl⟩

theorem row_first : ∀ d : Fin 128, lit0t0_0 d.val = if d.val / 64 = 0 then 0x3C80#16 else 0#16 := by decide +kernel
theorem row_second : ∀ d : Fin 128, lit0t0_64 d.val = if d.val / 64 = 1 then 0x3C80#16 else 0#16 := by decide +kernel

/-- The first 64 rows are equal, and the last 64. -/
theorem small_leaf (i : ℕ) (hi : i < 16384) : lit0t i = if i / 8192 = 0 then lit0t0_0 i else lit0t0_64 i := by
  have hk : i / 128 < 128 := by omega
  have e : i / 8192 = i / 128 / 64 := by omega
  rw [e]
  unfold lit0t
  generalize i / 128 = k at hk
  interval_cases k <;> rfl

theorem small_table (i j : Fin 128) : lit0t (128 * i.val + j.val) =
    if i.val / 64 = j.val / 64 then 0x3C80#16 else 0#16 := by
  rw [small_leaf _ (by omega)]
  obtain ⟨a, b⟩ := row_mod (128 * i.val + j.val)
  have e : (128 * i.val + j.val) % 128 = j.val := by omega
  rw [a, b, e, row_first j, row_second j]
  have h : (128 * i.val + j.val) / 8192 = i.val / 64 := by omega
  rw [h]
  split_ifs <;> first | rfl | omega

end Cert.Kernel3Ideal.In
-- ==== Proof.InHost.lean ====
module

public import proofs.«01_k».proof.Proof.InOut
public import proofs.«01_k».proof.Proof.InTable
public import proofs.«01_k».proof.Proof.Gate

/-! The arrays the input projection's call is given, read at an index. -/

@[expose] public section
set_option maxRecDepth 200000
set_option maxHeartbeats 4000000
noncomputable section

namespace Cert.Kernel3Ideal.In
open Cert.Kernel3Ideal Cert.Kernel3Ideal.Gen Cert.Kernel3Ideal.Value Idealize.ShloMosaic Idealize.ShloMosaic.TcCoe

/-- The padded weights' column `y` in terms of the weights' columns. -/
def col (a : Fin 3112 → EReal) (y : ℕ) : EReal :=
  if h : y < 512 then a ⟨y, by omega⟩
  else if h : y < 768 then a ⟨528 + (y - 512), by omega⟩
  else if h : y < 784 then a ⟨512 + (y - 768), by omega⟩
  else if h : y < 896 then 0
  else if h : y < 1408 then a ⟨784 + (y - 896), by omega⟩
  else if h : y < 1920 then a ⟨1296 + (y - 1408), by omega⟩
  else if h : y < 2688 then a ⟨1808 + (y - 1920), by omega⟩
  else if h : y < 3200 then a ⟨2600 + (y - 2688), by omega⟩
  else if h : y < 3224 then a ⟨2576 + (y - 3200), by omega⟩
  else 0

variable (m : (ℓ : Loc nD τ sig) → Buf (Elt Ideal) ℓ)

theorem zero_word : (FloatOps.sitofp (F := Ideal) .f32 0#32 : EReal) = 0 := by
  show (((0#32 : BitVec 32).toInt : ℝ) : EReal) = 0
  simp

theorem host_v0 (c : Dev nD) (y : Fin 1024) : (V m c main_v0 : S1x1024.Idx → EReal) (ix2 (0 : Fin 1) y) =
    ((m ((c : Thread nD τ).loc main_arg1) : S1024.Idx → EReal) (ix1 y) : EReal) := by
  show (V m c main_v0) _ = _
  unfold V
  simp only [List.flatten_cons, List.flatten_nil, List.append_nil]
  after_reads_at

theorem host_v19 (c : Dev nD) (y : Fin 512) : (V m c main_v19 : S1x512.Idx → EReal) (ix2 (0 : Fin 1) y) =
    ((m ((c : Thread nD τ).loc main_arg3) : S64.Idx → EReal) (ix1 ⟨y.val % 64, Nat.mod_lt _ (by decide)⟩) : EReal) := by
  show (V m c main_v19) _ = _
  unfold V
  simp only [List.flatten_cons, List.flatten_nil, List.append_nil]
  after_reads_at

theorem host_v23 (c : Dev nD) (g : Fin 3) (y : Fin 128) : (V m c main_v23 : S3x1x128.Idx → EReal) (ix3 g (0 : Fin 1) y) =
    ((m ((c : Thread nD τ).loc main_arg4) : S3x64.Idx → EReal) (ix2 g ⟨y.val % 64, Nat.mod_lt _ (by decide)⟩) : EReal) := by
  show (V m c main_v23) _ = _
  unfold V
  simp only [List.flatten_cons, List.flatten_nil, List.append_nil]
  after_reads_at

theorem host_v25 (c : Dev nD) (y : Fin 128) : (V m c main_v25 : S1x128.Idx → EReal) (ix2 (0 : Fin 1) y) =
    (if h : y.val < 24 then (m ((c : Thread nD τ).loc main_arg5) : S24.Idx → EReal) (ix1 ⟨y.val, h⟩) else 0 : EReal) := by
  show (V m c main_v25) _ = _
  unfold V
  simp only [List.flatten_cons, List.flatten_nil, List.append_nil]
  after_reads_at
  rw [zero_word]

theorem up_v1 (c : Dev nD) (x : Fin 1024) (j : Fin 128) : (StableHlo.upto (hostOps0 ++ (hostOps0_1 ++ (hostOps0_2 ++ (hostOps0_3 ++ (hostOps0_4 ++ (hostOps0_5 ++ hostOps0_6)))))) (fun b => m (c, b)) 19 (Proc.devRef .tc main_v1) : S1024x128.Idx → EReal) (ix2 x j) =
    (m ((c : Thread nD τ).loc main_arg2) : S1024x3112.Idx → EReal) (ix2 x ⟨j.val, by omega⟩) := by
  after_reads_at

theorem up_v2 (c : Dev nD) (x : Fin 1024) (j : Fin 128) : (StableHlo.upto (hostOps0 ++ (hostOps0_1 ++ (hostOps0_2 ++ (hostOps0_3 ++ (hostOps0_4 ++ (hostOps0_5 ++ hostOps0_6)))))) (fun b => m (c, b)) 19 (Proc.devRef .tc main_v2) : S1024x128.Idx → EReal) (ix2 x j) =
    (m ((c : Thread nD τ).loc main_arg2) : S1024x3112.Idx → EReal) (ix2 x ⟨128 + j.val, by omega⟩) := by
  after_reads_at

theorem up_v3 (c : Dev nD) (x : Fin 1024) (j : Fin 256) : (StableHlo.upto (hostOps0 ++ (hostOps0_1 ++ (hostOps0_2 ++ (hostOps0_3 ++ (hostOps0_4 ++ (hostOps0_5 ++ hostOps0_6)))))) (fun b => m (c, b)) 19 (Proc.devRef .tc main_v3) : S1024x256.Idx → EReal) (ix2 x j) =
    (m ((c : Thread nD τ).loc main_arg2) : S1024x3112.Idx → EReal) (ix2 x ⟨256 + j.val, by omega⟩) := by
  after_reads_at

theorem up_v5 (c : Dev nD) (x : Fin 1024) (j : Fin 256) : (StableHlo.upto (hostOps0 ++ (hostOps0_1 ++ (hostOps0_2 ++ (hostOps0_3 ++ (hostOps0_4 ++ (hostOps0_5 ++ hostOps0_6)))))) (fun b => m (c, b)) 19 (Proc.devRef .tc main_v5) : S1024x256.Idx → EReal) (ix2 x j) =
    (m ((c : Thread nD τ).loc main_arg2) : S1024x3112.Idx → EReal) (ix2 x ⟨528 + j.val, by omega⟩) := by
  after_reads_at

theorem up_v12 (c : Dev nD) (x : Fin 1024) (j : Fin 128) : (StableHlo.upto (hostOps0 ++ (hostOps0_1 ++ (hostOps0_2 ++ (hostOps0_3 ++ (hostOps0_4 ++ (hostOps0_5 ++ hostOps0_6)))))) (fun b => m (c, b)) 19 (Proc.devRef .tc main_v12) : S1024x128.Idx → EReal) (ix2 x j) =
    (if h : j.val < 16 then (m ((c : Thread nD τ).loc main_arg2) : S1024x3112.Idx → EReal) (ix2 x ⟨512 + j.val, by omega⟩) else 0 : EReal) := by
  after_reads_at
  rw [zero_word]

theorem up_v6 (c : Dev nD) (x : Fin 1024) (j : Fin 256) : (StableHlo.upto (hostOps0 ++ (hostOps0_1 ++ (hostOps0_2 ++ (hostOps0_3 ++ (hostOps0_4 ++ (hostOps0_5 ++ hostOps0_6)))))) (fun b => m (c, b)) 19 (Proc.devRef .tc main_v6) : S1024x256.Idx → EReal) (ix2 x j) =
    (m ((c : Thread nD τ).loc main_arg2) : S1024x3112.Idx → EReal) (ix2 x ⟨784 + j.val, by omega⟩) := by
  after_reads_at

theorem up_v7 (c : Dev nD) (x : Fin 1024) (j : Fin 256) : (StableHlo.upto (hostOps0 ++ (hostOps0_1 ++ (hostOps0_2 ++ (hostOps0_3 ++ (hostOps0_4 ++ (hostOps0_5 ++ hostOps0_6)))))) (fun b => m (c, b)) 19 (Proc.devRef .tc main_v7) : S1024x256.Idx → EReal) (ix2 x j) =
    (m ((c : Thread nD τ).loc main_arg2) : S1024x3112.Idx → EReal) (ix2 x ⟨1040 + j.val, by omega⟩) := by
  after_reads_at

theorem up_v8 (c : Dev nD) (x : Fin 1024) (j : Fin 512) : (StableHlo.upto (hostOps0 ++ (hostOps0_1 ++ (hostOps0_2 ++ (hostOps0_3 ++ (hostOps0_4 ++ (hostOps0_5 ++ hostOps0_6)))))) (fun b => m (c, b)) 19 (Proc.devRef .tc main_v8) : S1024x512.Idx → EReal) (ix2 x j) =
    (m ((c : Thread nD τ).loc main_arg2) : S1024x3112.Idx → EReal) (ix2 x ⟨1296 + j.val, by omega⟩) := by
  after_reads_at

theorem up_v9 (c : Dev nD) (x : Fin 1024) (j : Fin 768) : (StableHlo.upto (hostOps0 ++ (hostOps0_1 ++ (hostOps0_2 ++ (hostOps0_3 ++ (hostOps0_4 ++ (hostOps0_5 ++ hostOps0_6)))))) (fun b => m (c, b)) 19 (Proc.devRef .tc main_v9) : S1024x768.Idx → EReal) (ix2 x j) =
    (m ((c : Thread nD τ).loc main_arg2) : S1024x3112.Idx → EReal) (ix2 x ⟨1808 + j.val, by omega⟩) := by
  after_reads_at

theorem up_v11 (c : Dev nD) (x : Fin 1024) (j : Fin 512) : (StableHlo.upto (hostOps0 ++ (hostOps0_1 ++ (hostOps0_2 ++ (hostOps0_3 ++ (hostOps0_4 ++ (hostOps0_5 ++ hostOps0_6)))))) (fun b => m (c, b)) 19 (Proc.devRef .tc main_v11) : S1024x512.Idx → EReal) (ix2 x j) =
    (m ((c : Thread nD τ).loc main_arg2) : S1024x3112.Idx → EReal) (ix2 x ⟨2600 + j.val, by omega⟩) := by
  after_reads_at

theorem up_v13 (c : Dev nD) (x : Fin 1024) (j : Fin 128) : (StableHlo.upto (hostOps0 ++ (hostOps0_1 ++ (hostOps0_2 ++ (hostOps0_3 ++ (hostOps0_4 ++ (hostOps0_5 ++ hostOps0_6)))))) (fun b => m (c, b)) 19 (Proc.devRef .tc main_v13) : S1024x128.Idx → EReal) (ix2 x j) =
    (if h : j.val < 24 then (m ((c : Thread nD τ).loc main_arg2) : S1024x3112.Idx → EReal) (ix2 x ⟨2576 + j.val, by omega⟩) else 0 : EReal) := by
  after_reads_at
  rw [zero_word]

theorem host_v15 (c : Dev nD) (x : Fin 1024) (y : Fin 3328) : (V m c main_v15 : S1024x3328.Idx → EReal) (ix2 x y) =
    (col (fun j => (m ((c : Thread nD τ).loc main_arg2) : S1024x3112.Idx → EReal) (ix2 x j)) y.val : EReal) := by
  show (V m c main_v15) _ = _
  unfold V
  simp only [List.flatten_cons, List.flatten_nil, List.append_nil]
  after_reads_at
  have e : ∀ p q : Fin 3112, p.val = q.val → (m ((c : Thread nD τ).loc main_arg2) : S1024x3112.Idx → EReal) (ix2 x p) = (m ((c : Thread nD τ).loc main_arg2) : S1024x3112.Idx → EReal) (ix2 x q) := fun p q h => congrArg (fun t => (m ((c : Thread nD τ).loc main_arg2) : S1024x3112.Idx → EReal) (ix2 x t)) (Fin.ext h)
  by_cases h0 : y.val < 128
  · rw [dif_pos h0]
    refine (up_v1 m c x _).trans ?_
    unfold col
    rw [dif_pos (by omega)]
  · rw [dif_neg h0]
    by_cases h1 : y.val - 128 < 128
    · rw [dif_pos h1]
      refine (up_v2 m c x _).trans ?_
      unfold col
      rw [dif_pos (by omega)]
      exact e _ _ (by dsimp only; omega)
    · rw [dif_neg h1]
      by_cases h2 : y.val - 128 - 128 < 256
      · rw [dif_pos h2]
        refine (up_v3 m c x _).trans ?_
        unfold col
        rw [dif_pos (by omega)]
        exact e _ _ (by dsimp only; omega)
      · rw [dif_neg h2]
        by_cases h3 : y.val - 128 - 128 - 256 < 256
        · rw [dif_pos h3]
          refine (up_v5 m c x _).trans ?_
          unfold col
          rw [dif_neg (by omega), dif_pos (by omega)]
          exact e _ _ (by dsimp only; omega)
        · rw [dif_neg h3]
          by_cases h4 : y.val - 128 - 128 - 256 - 256 < 128
          · rw [dif_pos h4]
            refine (up_v12 m c x _).trans ?_
            by_cases hp : y.val - 128 - 128 - 256 - 256 < 16
            · rw [dif_pos hp]
              unfold col
              rw [dif_neg (by omega), dif_neg (by omega), dif_pos (by omega)]
              exact e _ _ (by dsimp only; omega)
            · rw [dif_neg hp]
              unfold col
              rw [dif_neg (by omega), dif_neg (by omega), dif_neg (by omega), dif_pos (by omega)]
          · rw [dif_neg h4]
            by_cases h5 : y.val - 128 - 128 - 256 - 256 - 128 < 256
            · rw [dif_pos h5]
              refine (up_v6 m c x _).trans ?_
              unfold col
              rw [dif_neg (by omega), dif_neg (by omega), dif_neg (by omega), dif_neg (by omega), dif_pos (by omega)]
              exact e _ _ (by dsimp only; omega)
            · rw [dif_neg h5]
              by_cases h6 : y.val - 128 - 128 - 256 - 256 - 128 - 256 < 256
              · rw [dif_pos h6]
                refine (up_v7 m c x _).trans ?_
                unfold col
                rw [dif_neg (by omega), dif_neg (by omega), dif_neg (by omega), dif_neg (by omega), dif_pos (by omega)]
                exact e _ _ (by dsimp only; omega)
              · rw [dif_neg h6]
                by_cases h7 : y.val - 128 - 128 - 256 - 256 - 128 - 256 - 256 < 512
                · rw [dif_pos h7]
                  refine (up_v8 m c x _).trans ?_
                  unfold col
                  rw [dif_neg (by omega), dif_neg (by omega), dif_neg (by omega), dif_neg (by omega), dif_neg (by omega), dif_pos (by omega)]
                  exact e _ _ (by dsimp only; omega)
                · rw [dif_neg h7]
                  by_cases h8 : y.val - 128 - 128 - 256 - 256 - 128 - 256 - 256 - 512 < 768
                  · rw [dif_pos h8]
                    refine (up_v9 m c x _).trans ?_
                    unfold col
                    rw [dif_neg (by omega), dif_neg (by omega), dif_neg (by omega), dif_neg (by omega), dif_neg (by omega), dif_neg (by omega), dif_pos (by omega)]
                    exact e _ _ (by dsimp only; omega)
                  · rw [dif_neg h8]
                    by_cases h9 : y.val - 128 - 128 - 256 - 256 - 128 - 256 - 256 - 512 - 768 < 512
                    · rw [dif_pos h9]
                      refine (up_v11 m c x _).trans ?_
                      unfold col
                      rw [dif_neg (by omega), dif_neg (by omega), dif_neg (by omega), dif_neg (by omega), dif_neg (by omega), dif_neg (by omega), dif_neg (by omega), dif_pos (by omega)]
                      exact e _ _ (by dsimp only; omega)
                    · rw [dif_neg h9]
                      refine (up_v13 m c x _).trans ?_
                      by_cases hp : y.val - 128 - 128 - 256 - 256 - 128 - 256 - 256 - 512 - 768 - 512 < 24
                      · rw [dif_pos hp]
                        unfold col
                        rw [dif_neg (by omega), dif_neg (by omega), dif_neg (by omega), dif_neg (by omega), dif_neg (by omega), dif_neg (by omega), dif_neg (by omega), dif_neg (by omega), dif_pos (by omega)]
                        exact e _ _ (by dsimp only; omega)
                      · rw [dif_neg hp]
                        unfold col
                        rw [dif_neg (by omega), dif_neg (by omega), dif_neg (by omega), dif_neg (by omega), dif_neg (by omega), dif_neg (by omega), dif_neg (by omega), dif_neg (by omega), dif_neg (by omega)]

theorem host_cst (c : Dev nD) (i j : Fin 128) : (V m c main_cst : S128x128.Idx → EReal) (ix2 i j) =
    (if i.val / 64 = j.val / 64 then (((1 : ℝ) / 64 : ℝ) : EReal) else 0 : EReal) := by
  show (V m c main_cst) _ = _
  unfold V
  simp only [List.flatten_cons, List.flatten_nil, List.append_nil]
  after_reads_at
  have e : S128x128.rowMajor (ix2 i j) = (⟨128 * i.val + j.val, by omega⟩ : Fin 16384) := by
    apply Fin.ext
    rw [Shape.rowMajor_val_two]
    show i.val * 128 + j.val = 128 * i.val + j.val
    omega
  rw [e]
  show Ideal.ofBits .bf16 (lit0t (128 * i.val + j.val)) = _
  rw [small_table]
  by_cases h : i.val / 64 = j.val / 64
  · rw [if_pos h, if_pos h, Cert.KernelIdeal.Tile.bits_avg]
  · rw [if_neg h, if_neg h, Cert.KernelIdeal.Tile.bits_avg0]

theorem div64_word : ∀ i : Fin 512, IntOp.divsi .host (BitVec.ofNat 32 i.val) 64#32 = BitVec.ofNat 32 (i.val / 64) := by
  decide +kernel

theorem same_word (a b : ℕ) (ha : a < 4096) (hb : b < 4096) :
    (FloatOps.uitofp (F := Ideal) .f32 (IntOp.cmpi .eq (BitVec.ofNat 32 a) (BitVec.ofNat 32 b)) : EReal) = if a = b then 1 else 0 := by
  by_cases h : a = b
  · subst h
    rw [if_pos rfl]
    have e : IntOp.cmpi .eq (BitVec.ofNat 32 a) (BitVec.ofNat 32 a) = 1#1 := by simp [IntOp.cmpi]
    rw [e]
    show (((1 : ℕ) : ℝ) : EReal) = 1
    simp
  · rw [if_neg h]
    have hn : BitVec.ofNat 32 a ≠ BitVec.ofNat 32 b := fun e => h (by
      have := congrArg BitVec.toNat e
      simp only [BitVec.toNat_ofNat] at this
      omega)
    have e : IntOp.cmpi .eq (BitVec.ofNat 32 a) (BitVec.ofNat 32 b) = 0#1 := by
      show BitVec.ofBool (_ == _) = 0#1
      rw [beq_eq_false_iff_ne.mpr hn]
      rfl
    rw [e]
    show (((0 : ℕ) : ℝ) : EReal) = 0
    simp

theorem host_v36 (c : Dev nD) (i j : Fin 512) : (V m c main_v36 : S512x512.Idx → EReal) (ix2 i j) =
    (if i.val / 64 = j.val / 64 then (((1 : ℝ) / 64 : ℝ) : EReal) else 0 : EReal) := by
  show (V m c main_v36) _ = _
  unfold V
  simp only [List.flatten_cons, List.flatten_nil, List.append_nil]
  after_reads_at
  rw [div64_word i, div64_word j, same_word _ _ (by omega) (by omega), Cert.KernelIdeal.Tile.bits_64, Ideal.div_coe (by norm_num)]
  by_cases h : i.val / 64 = j.val / 64
  · rw [if_pos h, if_pos h, one_mul]
  · rw [if_neg h, if_neg h, zero_mul]

end Cert.Kernel3Ideal.In
-- ==== Proof.InWhole.lean ====
module

public import proofs.«01_k».proof.Proof.InSpec

/-! The input projection's results at one row, from the row's products with the columns of the weights. -/

@[expose] public section
noncomputable section

namespace Cert.In
open Idealize.ShloMosaic

variable (p : Fin 3112 → EReal)

/-- The linear attention's inputs. -/
def ogla (j : Fin 896) : EReal :=
  if h : j.val < 512 then p ⟨j.val, by omega⟩
  else if h : j.val < 768 then p ⟨528 + (j.val - 512), by omega⟩
  else if h : j.val < 784 then p ⟨512 + (j.val - 768), by omega⟩
  else 0

/-- The state space branch's inputs. -/
def os5 (j : Fin 512) : EReal := p ⟨784 + j.val, by omega⟩

/-- The first half of them. -/
def u16 (j : Fin 256) : EReal := p ⟨784 + j.val, by omega⟩

/-- The normalised and scaled queries. -/
def qh (w : Fin 64 → EReal) (g : Fin 8) (d : Fin 64) : EReal :=
  nrm (fun e => p ⟨1296 + (g.val * 64 + e.val), by omega⟩) (w d) d * Ideal.ofBits .f32 0x3E000000#32

/-- The compressed branch's keys, before their compression. -/
def kc (j : Fin 128) : EReal := p ⟨1808 + j.val, by omega⟩

/-- The compressed branch's values, before their compression. -/
def vc (j : Fin 128) : EReal := p ⟨1936 + j.val, by omega⟩

/-- The mark of the row's block of 64 among the 128 of its sequence. -/
def mark (R : ℕ) (j : Fin 128) : EReal := if j.val = R % 8192 / 64 then 1 else 0

/-- The selected branch's keys: the mark, the normalised key, zeros. -/
def ks (w : Fin 64 → EReal) (R : ℕ) (g : Fin 2) (j : Fin 256) : EReal :=
  if h : j.val < 128 then mark R ⟨j.val, h⟩
  else if h : j.val < 192 then
    nrm (fun e => p ⟨1808 + (256 + g.val * 64 + e.val), by omega⟩) (w ⟨j.val - 128, by omega⟩) ⟨j.val - 128, by omega⟩
  else 0

/-- The selected branch's values, then ones. -/
def vs (g : Fin 2) (j : Fin 128) : EReal :=
  if h : j.val < 64 then p ⟨1808 + (384 + g.val * 64 + j.val), by omega⟩ else 1

/-- The window branch's normalised keys. -/
def kw (w : Fin 64 → EReal) (g : Fin 2) (d : Fin 64) : EReal :=
  nrm (fun e => p ⟨1808 + (512 + g.val * 64 + e.val), by omega⟩) (w d) d

/-- The window branch's values, then ones. -/
def vw (g : Fin 2) (j : Fin 128) : EReal :=
  if h : j.val < 64 then p ⟨1808 + (640 + g.val * 64 + j.val), by omega⟩ else 1

/-- A gate before its sigmoid. -/
def gpre (b : Fin 24 → EReal) (i : ℕ) : EReal :=
  if h : i < 24 then p ⟨2576 + i, by omega⟩ + b ⟨i, h⟩ else 0

/-- The gates of the two groups: the second group's are the first's moved by 12. -/
def gates (b : Fin 24 → EReal) (g : Fin 2) (j : Fin 128) : EReal :=
  sig (gpre p b ((j.val + g.val * 12) % 128))

/-- The output gate. -/
def silu (g : Fin 8) (d : Fin 64) : EReal :=
  p ⟨2600 + (g.val * 64 + d.val), by omega⟩ * sig (p ⟨2600 + (g.val * 64 + d.val), by omega⟩)

end Cert.In
-- ==== Proof.InRef.lean ====
module

public import proofs.«01_k».proof.Proof.Gen.Reference3Ideal.Run
public import Idealize.ShloMosaic.Lib.StableHlo.ReadAt
public import proofs.«01_k».proof.Proof.InWhole

/-! The input projection's reference, at an index. -/

@[expose] public section
set_option maxRecDepth 200000
set_option maxHeartbeats 4000000
noncomputable section

namespace Cert.Reference3Ideal.In
open Cert.Reference3Ideal Cert.Reference3Ideal.Gen Cert.Reference3Ideal.Value Idealize.ShloMosaic Idealize.ShloMosaic.TcCoe Idealize.SL.Sem Idealize.ShloMosaic.StableHlo

/-- A word's remainder by 8192, as the reference computes it. -/
abbrev rmod (w : BitVec 32) : BitVec 32 :=
  Scalar.select
    (IntOp.andi
      (IntOp.cmpi .ne
        (IntOp.cmpi .slt (IntOp.remsi .host w (Scalar.select (IntOp.cmpi .eq 8192#32 0#32) 1#32 8192#32)) 0#32)
        (IntOp.cmpi .slt (Scalar.select (IntOp.cmpi .eq 8192#32 0#32) 1#32 8192#32) 0#32))
      (IntOp.cmpi .ne (IntOp.remsi .host w (Scalar.select (IntOp.cmpi .eq 8192#32 0#32) 1#32 8192#32)) 0#32))
    (IntOp.addi (IntOp.remsi .host w (Scalar.select (IntOp.cmpi .eq 8192#32 0#32) 1#32 8192#32)) (Scalar.select (IntOp.cmpi .eq 8192#32 0#32) 1#32 8192#32))
    (IntOp.remsi .host w (Scalar.select (IntOp.cmpi .eq 8192#32 0#32) 1#32 8192#32))

/-- A word's quotient by 64, as the reference computes it. -/
abbrev rdiv (w : BitVec 32) : BitVec 32 :=
  Scalar.select
    (IntOp.andi
      (IntOp.cmpi .ne (if w = 0 then 0 else if BitVec.msb w = true then -1 else 1 : BitVec 32)
        (if (64#32 : BitVec 32) = 0 then 0 else if BitVec.msb 64#32 = true then -1 else 1 : BitVec 32))
      (IntOp.cmpi .ne (IntOp.remsi .host w 64#32) 0#32))
    (IntOp.subi (IntOp.divsi .host w 64#32) 1#32)
    (IntOp.divsi .host w 64#32)

theorem rmod_word : ∀ n : Fin 16384, rmod (BitVec.ofNat 32 n.val) = BitVec.ofNat 32 (n.val % 8192) := by
  decide +kernel

theorem rdiv_word : ∀ n : Fin 8192, rdiv (BitVec.ofNat 32 n.val) = BitVec.ofNat 32 (n.val / 64) := by
  decide +kernel

theorem eq_word (a b : ℕ) (ha : a < 4096) (hb : b < 4096) :
    (FloatOps.uitofp (F := Ideal) .f32 (IntOp.cmpi .eq (BitVec.ofNat 32 a) (BitVec.ofNat 32 b)) : EReal) = if b = a then 1 else 0 := by
  by_cases h : a = b
  · subst h
    rw [if_pos rfl]
    have e : IntOp.cmpi .eq (BitVec.ofNat 32 a) (BitVec.ofNat 32 a) = 1#1 := by simp [IntOp.cmpi]
    rw [e]
    show (((1 : ℕ) : ℝ) : EReal) = 1
    simp
  · rw [if_neg (fun e => h e.symm)]
    have hn : BitVec.ofNat 32 a ≠ BitVec.ofNat 32 b := fun e => h (by
      have := congrArg BitVec.toNat e
      simp only [BitVec.toNat_ofNat] at this
      omega)
    have e : IntOp.cmpi .eq (BitVec.ofNat 32 a) (BitVec.ofNat 32 b) = 0#1 := by
      show BitVec.ofBool (_ == _) = 0#1
      rw [beq_eq_false_iff_ne.mpr hn]; rfl
    rw [e]
    show (((0 : ℕ) : ℝ) : EReal) = 0
    simp

theorem mark_word (R : Fin 16384) (j : Fin 128) :
    (FloatOps.uitofp (F := Ideal) .f32 (IntOp.cmpi .eq (rdiv (rmod (BitVec.ofNat 32 R.val))) (BitVec.ofNat 32 j.val)) : EReal) =
      if j.val = R.val % 8192 / 64 then 1 else 0 := by
  rw [rmod_word]
  have e := rdiv_word ⟨R.val % 8192, Nat.mod_lt _ (by decide)⟩
  dsimp only at e
  rw [e]
  exact eq_word _ _ (by omega) (by omega)

/-- The product of the normalised row `R` with column `j` of the weights. -/
def prj (a0 : S16384x1024.Idx → EReal) (a1 : S1024.Idx → EReal) (a2 : S1024x3112.Idx → EReal) (R : Fin 16384) (j : Fin 3112) : EReal :=
  Cert.In.pr (fun k => a0 (ix2 R k)) (fun k => a1 (ix1 k)) (fun k => a2 (ix2 k j))

variable (V0 : Valuation τ sig (Elt Ideal))

/-- The reference's products of row `R`. -/
def row (R : Fin 16384) : Fin 3112 → EReal :=
  prj (V0 (Proc.devRef .tc main_arg0)) (V0 (Proc.devRef .tc main_arg1)) (V0 (Proc.devRef .tc main_arg2)) R

theorem v13_at (R : Fin 16384) (j : Fin 3112) : (res_main_v13 V0 : S16384x3112.Idx → EReal) (ix2 R j) =
    row V0 R j := by
  unfold res_main_v13
  pointwise
  rfl

theorem r0 (R : Fin 16384) (j : Fin 896) : (((concatenate S16384x896 1 [⟨S16384x128, ((extractStridedSlice S16384x128 ![0, 0] (res_main_v13 V0) slices_S16384x3112_S16384x128_0_0) : (⟨S16384x128, .f32⟩ : BufTy).Contents (Elt Ideal))⟩, ⟨S16384x128, ((extractStridedSlice S16384x128 ![0, 128] (res_main_v13 V0) slices_S16384x3112_S16384x128_0_128) : (⟨S16384x128, .f32⟩ : BufTy).Contents (Elt Ideal))⟩, ⟨S16384x256, ((extractStridedSlice S16384x256 ![0, 256] (res_main_v13 V0) slices_S16384x3112_S16384x256_0_256) : (⟨S16384x256, .f32⟩ : BufTy).Contents (Elt Ideal))⟩, ⟨S16384x256, ((extractStridedSlice S16384x256 ![0, 528] (res_main_v13 V0) slices_S16384x3112_S16384x256_0_528) : (⟨S16384x256, .f32⟩ : BufTy).Contents (Elt Ideal))⟩, ⟨S16384x16, ((extractStridedSlice S16384x16 ![0, 512] (res_main_v13 V0) slices_S16384x3112_S16384x16_0_512) : (⟨S16384x16, .f32⟩ : BufTy).Contents (Elt Ideal))⟩, ⟨S16384x112, ((broadcastInDim S16384x112 ![] bcast_S_S16384x112 (constant (F := Ideal) S_ .f32 0x00000000#32)) : (⟨S16384x112, .f32⟩ : BufTy).Contents (Elt Ideal))⟩] concatenates_S16384x128_S16384x128_S16384x256_S16384x256_S16384x16_S16384x112_S16384x896_d1 : (⟨S16384x896, .f32⟩ : BufTy).Contents (Elt Ideal)) : Vec Ideal S16384x896 .f32) (ix2 R j) : EReal) =
    Cert.In.ogla (row V0 R) j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  unfold Cert.In.ogla
  have e : ∀ x y : Fin 3112, x.val = y.val → row V0 R x = row V0 R y := fun x y h => congrArg (row V0 R) (Fin.ext h)
  by_cases h1 : j.val < 512
  · rw [dif_pos h1]
    by_cases h2 : j.val < 128
    · rw [dif_pos h2]
    · rw [dif_neg h2]
      by_cases h3 : j.val - 128 < 128
      · rw [dif_pos h3]; refine e _ _ ?_; dsimp only; omega
      · rw [dif_neg h3, dif_pos (by omega)]; refine e _ _ ?_; dsimp only; omega
  · rw [dif_neg h1, dif_neg (by omega), dif_neg (by omega), dif_neg (by omega)]
    by_cases h2 : j.val < 768
    · rw [dif_pos h2, dif_pos (by omega)]; refine e _ _ ?_; dsimp only; omega
    · rw [dif_neg h2, dif_neg (by omega)]
      by_cases h3 : j.val < 784
      · rw [dif_pos h3, dif_pos (by omega)]; refine e _ _ ?_; dsimp only; omega
      · rw [dif_neg h3, dif_neg (by omega)]

theorem r1 (R : Fin 16384) (j : Fin 512) : ((concatenate S16384x512 1 [⟨S16384x256, (res_main_v19 V0)⟩, ⟨S16384x256, (extractStridedSlice S16384x256 ![0, 1040] (res_main_v13 V0) slices_S16384x3112_S16384x256_0_1040)⟩] concatenates_S16384x256_S16384x256_S16384x512_d1 : Vec Ideal S16384x512 .f32) (ix2 R j) : EReal) =
    Cert.In.os5 (row V0 R) j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  unfold Cert.In.os5
  by_cases h : j.val < 256
  · rw [dif_pos h]
  · rw [dif_neg h]
    refine congrArg (row V0 R) (Fin.ext ?_)
    show 1040 + (j.val - 256) = 784 + j.val
    omega

theorem r2 (R : Fin 16384) (j : Fin 256) : ((truncf (F := Ideal) .bf16 (res_main_v19 V0) bitsLt_bf16_f32 : Vec Ideal S16384x256 .bf16) (ix2 R j) : EReal) =
    Cert.In.u16 (row V0 R) j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  rfl

theorem r3 (g : Fin 8) (R : Fin 16384) (j : Fin 64) : ((truncf (F := Ideal) .bf16 (transpose S8x16384x64 [1, 0, 2] (mulf (mulf (mulf (res_main_v28 V0) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (res_main_v28 V0) (res_main_v28 V0)) (constant (F := Ideal) S_ .f32 0x00000000#32) reducesTo_S16384x8x64_S16384x8_d2 h_S_)) (broadcastInDim S16384x8x1 ![] bcast_S_S16384x8x1 (constant (F := Ideal) S_ .f32 0x42800000#32))) (broadcastInDim S16384x8x1 ![] bcast_S_S16384x8x1 (constant (F := Ideal) S_ .f32 0x358637BD#32)))))) (broadcastInDim S16384x8x64 ![0, 1, 2] bcast_S1x1x64_S16384x8x64_0_1_2 (broadcastInDim S1x1x64 ![2] bcast_S64_S1x1x64_2 (V0 (Proc.devRef .tc main_arg3))))) (broadcastInDim S16384x8x64 ![] bcast_S_S16384x8x64 (constant (F := Ideal) S_ .f32 0x3E000000#32))) transposes_S16384x8x64_S8x16384x64_1_0_2) bitsLt_bf16_f32 : Vec Ideal S8x16384x64 .bf16) (ix3 g R j) : EReal) =
    Cert.In.qh (row V0 R) (fun d => (V0 (Proc.devRef .tc main_arg3) : S64.Idx → EReal) (ix1 d)) g j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  rfl

theorem r4 (R : Fin 16384) (j : Fin 128) : ((shapeCast _ (shapeCast _ (extractStridedSlice S16384x1x1x2x64 ![0, 0, 0, 0, 0] (res_main_v44 V0) slices_S16384x3x2x2x64_S16384x1x1x2x64_0_0_0_0_0) shapeCasts_S16384x1x1x2x64_S16384x2x64) shapeCasts_S16384x2x64_S16384x128 : Vec Ideal S16384x128 .f32) (ix2 R j) : EReal) =
    Cert.In.kc (row V0 R) j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  refine congrArg (row V0 R) (Fin.ext ?_)
  show 1808 + (j.val / 64 * 64 + j.val % 64) = 1808 + j.val
  omega

theorem r5 (R : Fin 16384) (j : Fin 128) : ((shapeCast _ (shapeCast _ (extractStridedSlice S16384x1x1x2x64 ![0, 0, 1, 0, 0] (res_main_v44 V0) slices_S16384x3x2x2x64_S16384x1x1x2x64_0_0_1_0_0) shapeCasts_S16384x1x1x2x64_S16384x2x64) shapeCasts_S16384x2x64_S16384x128 : Vec Ideal S16384x128 .f32) (ix2 R j) : EReal) =
    Cert.In.vc (row V0 R) j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  refine congrArg (row V0 R) (Fin.ext ?_)
  show 1808 + (128 + j.val / 64 * 64 + j.val % 64) = 1936 + j.val
  omega

theorem r6 (g : Fin 2) (R : Fin 16384) (j : Fin 256) : ((truncf (F := Ideal) .bf16 ((concatenate S2x16384x256 2 [⟨S2x16384x128, ((broadcastInDim S2x16384x128 ![0, 1, 2] bcast_S1x16384x128_S2x16384x128_0_1_2 (broadcastInDim S1x16384x128 ![1, 2] bcast_S16384x128_S1x16384x128_1_2 (uitofp (F := Ideal) .f32 (cmpi .eq (broadcastInDim S16384x128 ![0, 1] bcast_S16384x1_S16384x128_0_1 (broadcastInDim S16384x1 ![0] bcast_S16384_S16384x1_0 (select (andi (cmpi .ne (signi (res_main_v88 V0)) (broadcastInDim S16384 ![] bcast_S_S16384 (signi (res_main_call1_v0 V0)))) (cmpi .ne (Host.remsi (res_main_v88 V0) (broadcastInDim S16384 ![] bcast_S_S16384 (res_main_call1_v0 V0))) (broadcastInDim S16384 ![] bcast_S_S16384 (constantI S_ 32 0#32)))) (subi (res_main_call1_v2 V0) (broadcastInDim S16384 ![] bcast_S_S16384 (constantI S_ 32 1#32))) (res_main_call1_v2 V0)))) (broadcastInDim S16384x128 ![0, 1] bcast_S1x128_S16384x128_0_1 (iotaInDim S1x128 32 1)))))) : (⟨S2x16384x128, .f32⟩ : BufTy).Contents (Elt Ideal))⟩, ⟨S2x16384x64, ((transpose S2x16384x64 [1, 0, 2] (mulf (mulf (res_main_v46 V0) (broadcastInDim S16384x2x64 ![0, 1, 2] bcast_S16384x2x1_S16384x2x64_0_1_2 (Host.rsqrt (addf (Host.divf (broadcastInDim S16384x2x1 ![0, 1] bcast_S16384x2_S16384x2x1_0_1 (Host.reduceAdd (mulf (res_main_v46 V0) (res_main_v46 V0)) (constant (F := Ideal) S_ .f32 0x00000000#32) reducesTo_S16384x2x64_S16384x2_d2 h_S_)) (broadcastInDim S16384x2x1 ![] bcast_S_S16384x2x1 (constant (F := Ideal) S_ .f32 0x42800000#32))) (broadcastInDim S16384x2x1 ![] bcast_S_S16384x2x1 (constant (F := Ideal) S_ .f32 0x358637BD#32)))))) (broadcastInDim S16384x2x64 ![0, 1, 2] bcast_S1x1x64_S16384x2x64_0_1_2 (broadcastInDim S1x1x64 ![2] bcast_S64_S1x1x64_2 (shapeCast _ (extractStridedSlice S1x64 ![1, 0] (V0 (Proc.devRef .tc main_arg4)) slices_S3x64_S1x64_1_0) shapeCasts_S1x64_S64)))) transposes_S16384x2x64_S2x16384x64_1_0_2) : (⟨S2x16384x64, .f32⟩ : BufTy).Contents (Elt Ideal))⟩, ⟨S2x16384x64, ((broadcastInDim S2x16384x64 ![] bcast_S_S2x16384x64 (constant (F := Ideal) S_ .f32 0x00000000#32)) : (⟨S2x16384x64, .f32⟩ : BufTy).Contents (Elt Ideal))⟩] concatenates_S2x16384x128_S2x16384x64_S2x16384x64_S2x16384x256_d2 : (⟨S2x16384x256, .f32⟩ : BufTy).Contents (Elt Ideal))) bitsLt_bf16_f32 : Vec Ideal S2x16384x256 .bf16) (ix3 g R j) : EReal) =
    Cert.In.ks (row V0 R) (fun d => (V0 (Proc.devRef .tc main_arg4) : S3x64.Idx → EReal) (ix2 1 d)) R.val g j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  unfold Cert.In.ks Cert.In.mark
  by_cases h1 : j.val < 128
  · rw [dif_pos h1, dif_pos h1]
    exact mark_word R ⟨j.val, h1⟩
  · rw [dif_neg h1, dif_neg h1]
    by_cases h2 : j.val < 192
    · rw [dif_pos h2, dif_pos (by omega)]
      rfl
    · rw [dif_neg h2, dif_neg (by omega)]

theorem r7 (g : Fin 2) (R : Fin 16384) (j : Fin 128) : ((truncf (F := Ideal) .bf16 (concatenate S2x16384x128 2 [⟨S2x16384x64, (transpose S2x16384x64 [1, 0, 2] (shapeCast _ (extractStridedSlice S16384x1x1x2x64 ![0, 1, 1, 0, 0] (res_main_v44 V0) slices_S16384x3x2x2x64_S16384x1x1x2x64_0_1_1_0_0) shapeCasts_S16384x1x1x2x64_S16384x2x64) transposes_S16384x2x64_S2x16384x64_1_0_2)⟩, ⟨S2x16384x64, (res_main_v93 V0)⟩] concatenates_S2x16384x64_S2x16384x64_S2x16384x128_d2) bitsLt_bf16_f32 : Vec Ideal S2x16384x128 .bf16) (ix3 g R j) : EReal) =
    Cert.In.vs (row V0 R) g j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  rfl

theorem r8 (g : Fin 2) (R : Fin 16384) (j : Fin 64) : ((truncf (F := Ideal) .bf16 (transpose S2x16384x64 [1, 0, 2] (mulf (mulf (res_main_v67 V0) (broadcastInDim S16384x2x64 ![0, 1, 2] bcast_S16384x2x1_S16384x2x64_0_1_2 (Host.rsqrt (addf (Host.divf (broadcastInDim S16384x2x1 ![0, 1] bcast_S16384x2_S16384x2x1_0_1 (Host.reduceAdd (mulf (res_main_v67 V0) (res_main_v67 V0)) (constant (F := Ideal) S_ .f32 0x00000000#32) reducesTo_S16384x2x64_S16384x2_d2 h_S_)) (broadcastInDim S16384x2x1 ![] bcast_S_S16384x2x1 (constant (F := Ideal) S_ .f32 0x42800000#32))) (broadcastInDim S16384x2x1 ![] bcast_S_S16384x2x1 (constant (F := Ideal) S_ .f32 0x358637BD#32)))))) (broadcastInDim S16384x2x64 ![0, 1, 2] bcast_S1x1x64_S16384x2x64_0_1_2 (broadcastInDim S1x1x64 ![2] bcast_S64_S1x1x64_2 (shapeCast _ (extractStridedSlice S1x64 ![2, 0] (V0 (Proc.devRef .tc main_arg4)) slices_S3x64_S1x64_2_0) shapeCasts_S1x64_S64)))) transposes_S16384x2x64_S2x16384x64_1_0_2) bitsLt_bf16_f32 : Vec Ideal S2x16384x64 .bf16) (ix3 g R j) : EReal) =
    Cert.In.kw (row V0 R) (fun d => (V0 (Proc.devRef .tc main_arg4) : S3x64.Idx → EReal) (ix2 2 d)) g j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  rfl

theorem r9 (g : Fin 2) (R : Fin 16384) (j : Fin 128) : ((truncf (F := Ideal) .bf16 (concatenate S2x16384x128 2 [⟨S2x16384x64, (transpose S2x16384x64 [1, 0, 2] (shapeCast _ (extractStridedSlice S16384x1x1x2x64 ![0, 2, 1, 0, 0] (res_main_v44 V0) slices_S16384x3x2x2x64_S16384x1x1x2x64_0_2_1_0_0) shapeCasts_S16384x1x1x2x64_S16384x2x64) transposes_S16384x2x64_S2x16384x64_1_0_2)⟩, ⟨S2x16384x64, (res_main_v93 V0)⟩] concatenates_S2x16384x64_S2x16384x64_S2x16384x128_d2) bitsLt_bf16_f32 : Vec Ideal S2x16384x128 .bf16) (ix3 g R j) : EReal) =
    Cert.In.vw (row V0 R) g j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  rfl

theorem r10 (g : Fin 2) (R : Fin 16384) (j : Fin 128) : ((concatenate S2x16384x128 0 [⟨S1x16384x128, (broadcastInDim S1x16384x128 ![1, 2] bcast_S16384x128_S1x16384x128_1_2 (res_main_v108 V0))⟩, ⟨S1x16384x128, (broadcastInDim S1x16384x128 ![1, 2] bcast_S16384x128_S1x16384x128_1_2 (concatenate S16384x128 1 [⟨S16384x116, (extractStridedSlice S16384x116 ![0, 12] (res_main_v108 V0) slices_S16384x128_S16384x116_0_12)⟩, ⟨S16384x12, (extractStridedSlice S16384x12 ![0, 0] (res_main_v108 V0) slices_S16384x128_S16384x12_0_0)⟩] concatenates_S16384x116_S16384x12_S16384x128_d1))⟩] concatenates_S1x16384x128_S1x16384x128_S2x16384x128_d0 : Vec Ideal S2x16384x128 .f32) (ix3 g R j) : EReal) =
    Cert.In.gates (row V0 R) (fun d => (V0 (Proc.devRef .tc main_arg5) : S24.Idx → EReal) (ix1 d)) g j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  unfold Cert.In.gates
  by_cases h : g.val < 1
  · have e : (j.val + g.val * 12) % 128 = j.val := by omega
    rw [dif_pos h, e]; rfl
  · rw [dif_neg h]
    by_cases h2 : j.val < 116
    · have e : (j.val + g.val * 12) % 128 = 12 + j.val := by omega
      rw [dif_pos h2, e]; rfl
    · have e : (j.val + g.val * 12) % 128 = j.val - 116 := by omega
      rw [dif_neg h2, e]; rfl

theorem r11 (g : Fin 8) (R : Fin 16384) (j : Fin 64) : ((transpose S8x16384x64 [1, 0, 2] (shapeCast _ (mulf (res_main_v24 V0) (Host.divf (broadcastInDim S16384x512 ![] bcast_S_S16384x512 (constant (F := Ideal) S_ .f32 0x3F800000#32)) (addf (broadcastInDim S16384x512 ![] bcast_S_S16384x512 (constant (F := Ideal) S_ .f32 0x3F800000#32)) (Host.exp (Host.negf (res_main_v24 V0)))))) shapeCasts_S16384x512_S16384x8x64) transposes_S16384x8x64_S8x16384x64_1_0_2 : Vec Ideal S8x16384x64 .f32) (ix3 g R j) : EReal) =
    Cert.In.silu (row V0 R) g j := by
  pointwise [res_main_v19, res_main_v24, res_main_v28, res_main_v44, res_main_v46, res_main_v67, res_main_call0_v0, res_main_call0_v2, res_main_call0_v4, res_main_v88, res_main_call1_v0, res_main_call1_v2, res_main_v93, res_main_v108]
  simp only [v13_at]
  rfl

end Cert.Reference3Ideal.In
-- ==== Proof.InKernel.lean ====
module

public import proofs.«01_k».proof.Proof.InHost
public import proofs.«01_k».proof.Proof.InWhole
public import proofs.«01_k».proof.Proof.InRef

/-! The input projection's whole results: each block's inputs read off the arrays, and the blocks put together. -/

@[expose] public section
set_option maxRecDepth 16384
set_option maxHeartbeats 1000000
noncomputable section

namespace Cert.Kernel3Ideal.In
open Cert.Kernel3Ideal Cert.Kernel3Ideal.Gen Cert.Kernel3Ideal.Value Idealize.ShloMosaic Idealize.ShloMosaic.TcCoe

theorem pr_col (x g : Fin 1024 → EReal) (w : Fin 1024 → Fin 3112 → EReal) (y : ℕ) :
    Cert.In.pr x g (fun k => col (w k) y) = col (fun j => Cert.In.pr x g (fun k => w k j)) y := by
  unfold col
  split_ifs <;> first | rfl | exact Cert.In.pr_zero x g _ (fun _ => rfl)

section
variable (p : Fin 3112 → EReal)

theorem col_os5 (y : ℕ) (h1 : 896 ≤ y) (h2 : y < 1408) : col p y = p ⟨784 + (y - 896), by omega⟩ := by
  unfold col
  rw [dif_neg (by omega), dif_neg (by omega), dif_neg (by omega), dif_neg (by omega), dif_pos h2]
theorem col_q (y : ℕ) (h1 : 1408 ≤ y) (h2 : y < 1920) : col p y = p ⟨1296 + (y - 1408), by omega⟩ := by
  unfold col
  rw [dif_neg (by omega), dif_neg (by omega), dif_neg (by omega), dif_neg (by omega), dif_neg (by omega), dif_pos h2]
theorem col_kv (y : ℕ) (h1 : 1920 ≤ y) (h2 : y < 2688) : col p y = p ⟨1808 + (y - 1920), by omega⟩ := by
  unfold col
  rw [dif_neg (by omega), dif_neg (by omega), dif_neg (by omega), dif_neg (by omega), dif_neg (by omega), dif_neg (by omega), dif_pos h2]
theorem col_silu (y : ℕ) (h1 : 2688 ≤ y) (h2 : y < 3200) : col p y = p ⟨2600 + (y - 2688), by omega⟩ := by
  unfold col
  rw [dif_neg (by omega), dif_neg (by omega), dif_neg (by omega), dif_neg (by omega), dif_neg (by omega), dif_neg (by omega), dif_neg (by omega), dif_pos h2]
theorem col_gate (y : ℕ) (h1 : 3200 ≤ y) : col p y = if h : y < 3224 then p ⟨2576 + (y - 3200), by omega⟩ else 0 := by
  unfold col
  rw [dif_neg (by omega), dif_neg (by omega), dif_neg (by omega), dif_neg (by omega), dif_neg (by omega), dif_neg (by omega), dif_neg (by omega), dif_neg (by omega)]
theorem col_ogla (j : Fin 896) : col p j.val = Cert.In.ogla p j := by
  unfold col Cert.In.ogla
  by_cases h1 : j.val < 512
  · rw [dif_pos h1, dif_pos h1]
  · rw [dif_neg h1, dif_neg h1]
    by_cases h2 : j.val < 768
    · rw [dif_pos h2, dif_pos h2]
    · rw [dif_neg h2, dif_neg h2]
      by_cases h3 : j.val < 784
      · rw [dif_pos h3, dif_pos h3]
      · rw [dif_neg h3, dif_neg h3, dif_pos j.isLt]

theorem same (x y : Fin 3112) (h : x.val = y.val) : p x = p y := congrArg p (Fin.ext h)
end

theorem halves_nrm {N : ℕ} (M : ℕ) (hN : N = 64 * M) (P A : Fin N → EReal) (hP : ∀ k, ∃ a : ℝ, P k = (a : EReal)) (g : Fin M)
    (d : Fin 64) (hA : ∀ k, A k = if k.val / 64 = g.val then (((1 : ℝ) / 64 : ℝ) : EReal) else 0) (w : EReal) :
    halves P A (P ⟨64 * g.val + d.val, by omega⟩) w = Cert.In.nrm (fun e => P ⟨64 * g.val + e.val, by omega⟩) w d := by
  unfold halves Cert.In.nrm
  rw [Cert.In.seg M hN P A hP g.val g.isLt hA]

variable (m : (ℓ : Loc nD τ sig) → Buf (Elt Ideal) ℓ)

theorem at_0 : ∀ t : Fin cfg0.N, win0_0.index t (0 : Fin 2) = t.val ∧ win0_0.index t (1 : Fin 2) = 0 :=
  (by decide +kernel : ∀ t : Fin grid0.N, _)

theorem at_1 : ∀ t : Fin cfg0.N, win0_1.index t (0 : Fin 2) = 0 ∧ win0_1.index t (1 : Fin 2) = 0 :=
  (by decide +kernel : ∀ t : Fin grid0.N, _)

theorem at_2 : ∀ t : Fin cfg0.N, win0_2.index t (0 : Fin 2) = 0 ∧ win0_2.index t (1 : Fin 2) = 0 :=
  (by decide +kernel : ∀ t : Fin grid0.N, _)

theorem at_3 : ∀ t : Fin cfg0.N, win0_3.index t (0 : Fin 2) = 0 ∧ win0_3.index t (1 : Fin 2) = 0 :=
  (by decide +kernel : ∀ t : Fin grid0.N, _)

theorem at_4 : ∀ t : Fin cfg0.N, win0_4.index t (0 : Fin 3) = 0 ∧ win0_4.index t (1 : Fin 3) = 0 ∧ win0_4.index t (2 : Fin 3) = 0 :=
  (by decide +kernel : ∀ t : Fin grid0.N, _)

theorem at_5 : ∀ t : Fin cfg0.N, win0_5.index t (0 : Fin 2) = 0 ∧ win0_5.index t (1 : Fin 2) = 0 :=
  (by decide +kernel : ∀ t : Fin grid0.N, _)

theorem at_6 : ∀ t : Fin cfg0.N, win0_6.index t (0 : Fin 2) = 0 ∧ win0_6.index t (1 : Fin 2) = 0 :=
  (by decide +kernel : ∀ t : Fin grid0.N, _)

theorem at_7 : ∀ t : Fin cfg0.N, win0_7.index t (0 : Fin 2) = 0 ∧ win0_7.index t (1 : Fin 2) = 0 :=
  (by decide +kernel : ∀ t : Fin grid0.N, _)

theorem at_8 : ∀ t : Fin cfg0.N, win0_8.index t (0 : Fin 2) = t.val ∧ win0_8.index t (1 : Fin 2) = 0 :=
  (by decide +kernel : ∀ t : Fin grid0.N, _)

theorem at_9 : ∀ t : Fin cfg0.N, win0_9.index t (0 : Fin 2) = t.val ∧ win0_9.index t (1 : Fin 2) = 0 :=
  (by decide +kernel : ∀ t : Fin grid0.N, _)

theorem at_10 : ∀ t : Fin cfg0.N, win0_10.index t (0 : Fin 2) = t.val ∧ win0_10.index t (1 : Fin 2) = 0 :=
  (by decide +kernel : ∀ t : Fin grid0.N, _)

theorem at_11 : ∀ t : Fin cfg0.N, win0_11.index t (0 : Fin 3) = 0 ∧ win0_11.index t (1 : Fin 3) = t.val ∧ win0_11.index t (2 : Fin 3) = 0 :=
  (by decide +kernel : ∀ t : Fin grid0.N, _)

theorem at_12 : ∀ t : Fin cfg0.N, win0_12.index t (0 : Fin 2) = t.val ∧ win0_12.index t (1 : Fin 2) = 0 :=
  (by decide +kernel : ∀ t : Fin grid0.N, _)

theorem at_13 : ∀ t : Fin cfg0.N, win0_13.index t (0 : Fin 2) = t.val ∧ win0_13.index t (1 : Fin 2) = 0 :=
  (by decide +kernel : ∀ t : Fin grid0.N, _)

theorem at_14 : ∀ t : Fin cfg0.N, win0_14.index t (0 : Fin 3) = 0 ∧ win0_14.index t (1 : Fin 3) = t.val ∧ win0_14.index t (2 : Fin 3) = 0 :=
  (by decide +kernel : ∀ t : Fin grid0.N, _)

theorem at_15 : ∀ t : Fin cfg0.N, win0_15.index t (0 : Fin 3) = 0 ∧ win0_15.index t (1 : Fin 3) = t.val ∧ win0_15.index t (2 : Fin 3) = 0 :=
  (by decide +kernel : ∀ t : Fin grid0.N, _)

theorem at_16 : ∀ t : Fin cfg0.N, win0_16.index t (0 : Fin 3) = 0 ∧ win0_16.index t (1 : Fin 3) = t.val ∧ win0_16.index t (2 : Fin 3) = 0 :=
  (by decide +kernel : ∀ t : Fin grid0.N, _)

theorem at_17 : ∀ t : Fin cfg0.N, win0_17.index t (0 : Fin 3) = 0 ∧ win0_17.index t (1 : Fin 3) = t.val ∧ win0_17.index t (2 : Fin 3) = 0 :=
  (by decide +kernel : ∀ t : Fin grid0.N, _)

theorem at_18 : ∀ t : Fin cfg0.N, win0_18.index t (0 : Fin 3) = 0 ∧ win0_18.index t (1 : Fin 3) = t.val ∧ win0_18.index t (2 : Fin 3) = 0 :=
  (by decide +kernel : ∀ t : Fin grid0.N, _)

theorem at_19 : ∀ t : Fin cfg0.N, win0_19.index t (0 : Fin 3) = 0 ∧ win0_19.index t (1 : Fin 3) = t.val ∧ win0_19.index t (2 : Fin 3) = 0 :=
  (by decide +kernel : ∀ t : Fin grid0.N, _)

theorem blk_0 (c : Dev nD) (t : Fin cfg0.N) (x : Fin 512) (y : Fin 1024) : (iblk m c 0 t : Vec Ideal S512x1024 .f32) (ix2 x y) =
    (V m c main_arg0 : S16384x1024.Idx → EReal) (ix2 ⟨512 * t.val + x.val, by have := lt_of_lt_of_eq t.isLt N_0; omega⟩ y) := by
  show V m c main_arg0 (((cfg0.win 0).blk t).view.emb (ix2 x y)) = _
  obtain ⟨h0, h1⟩ := at_0 t
  congr 1
  funext a
  apply Fin.ext
  match a with
  | ⟨0, _⟩ =>
    show win0_0.index t (0 : Fin 2) * 512 + 1 * x.val = 512 * t.val + x.val
    rw [h0]; omega
  | ⟨1, _⟩ =>
    show win0_0.index t (1 : Fin 2) * 1024 + 1 * y.val = y.val
    rw [h1]; omega

theorem blk_1 (c : Dev nD) (t : Fin cfg0.N) (x : Fin 1) (y : Fin 1024) : (iblk m c 1 t : Vec Ideal S1x1024 .f32) (ix2 x y) =
    (V m c main_v0 : S1x1024.Idx → EReal) (ix2 x y) := by
  show V m c main_v0 (((cfg0.win 1).blk t).view.emb (ix2 x y)) = _
  obtain ⟨h0, h1⟩ := at_1 t
  congr 1
  funext a
  apply Fin.ext
  match a with
  | ⟨0, _⟩ =>
    show win0_1.index t (0 : Fin 2) * 1 + 1 * x.val = x.val
    rw [h0]; omega
  | ⟨1, _⟩ =>
    show win0_1.index t (1 : Fin 2) * 1024 + 1 * y.val = y.val
    rw [h1]; omega

theorem blk_2 (c : Dev nD) (t : Fin cfg0.N) (x : Fin 1024) (y : Fin 3328) : (iblk m c 2 t : Vec Ideal S1024x3328 .bf16) (ix2 x y) =
    (V m c main_v15 : S1024x3328.Idx → EReal) (ix2 x y) := by
  show V m c main_v15 (((cfg0.win 2).blk t).view.emb (ix2 x y)) = _
  obtain ⟨h0, h1⟩ := at_2 t
  congr 1
  funext a
  apply Fin.ext
  match a with
  | ⟨0, _⟩ =>
    show win0_2.index t (0 : Fin 2) * 1024 + 1 * x.val = x.val
    rw [h0]; omega
  | ⟨1, _⟩ =>
    show win0_2.index t (1 : Fin 2) * 3328 + 1 * y.val = y.val
    rw [h1]; omega

theorem blk_3 (c : Dev nD) (t : Fin cfg0.N) (x : Fin 1) (y : Fin 512) : (iblk m c 3 t : Vec Ideal S1x512 .f32) (ix2 x y) =
    (V m c main_v19 : S1x512.Idx → EReal) (ix2 x y) := by
  show V m c main_v19 (((cfg0.win 3).blk t).view.emb (ix2 x y)) = _
  obtain ⟨h0, h1⟩ := at_3 t
  congr 1
  funext a
  apply Fin.ext
  match a with
  | ⟨0, _⟩ =>
    show win0_3.index t (0 : Fin 2) * 1 + 1 * x.val = x.val
    rw [h0]; omega
  | ⟨1, _⟩ =>
    show win0_3.index t (1 : Fin 2) * 512 + 1 * y.val = y.val
    rw [h1]; omega

theorem blk_4 (c : Dev nD) (t : Fin cfg0.N) (x : Fin 3) (y : Fin 1) (z : Fin 128) : (iblk m c 4 t : Vec Ideal S3x1x128 .f32) (ix3 x y z) =
    (V m c main_v23 : S3x1x128.Idx → EReal) (ix3 x y z) := by
  show V m c main_v23 (((cfg0.win 4).blk t).view.emb (ix3 x y z)) = _
  obtain ⟨h0, h1, h2⟩ := at_4 t
  congr 1
  funext a
  apply Fin.ext
  match a with
  | ⟨0, _⟩ =>
    show win0_4.index t (0 : Fin 3) * 3 + 1 * x.val = x.val
    rw [h0]; omega
  | ⟨1, _⟩ =>
    show win0_4.index t (1 : Fin 3) * 1 + 1 * y.val = y.val
    rw [h1]; omega
  | ⟨2, _⟩ =>
    show win0_4.index t (2 : Fin 3) * 128 + 1 * z.val = z.val
    rw [h2]; omega

theorem blk_5 (c : Dev nD) (t : Fin cfg0.N) (x : Fin 1) (y : Fin 128) : (iblk m c 5 t : Vec Ideal S1x128 .f32) (ix2 x y) =
    (V m c main_v25 : S1x128.Idx → EReal) (ix2 x y) := by
  show V m c main_v25 (((cfg0.win 5).blk t).view.emb (ix2 x y)) = _
  obtain ⟨h0, h1⟩ := at_5 t
  congr 1
  funext a
  apply Fin.ext
  match a with
  | ⟨0, _⟩ =>
    show win0_5.index t (0 : Fin 2) * 1 + 1 * x.val = x.val
    rw [h0]; omega
  | ⟨1, _⟩ =>
    show win0_5.index t (1 : Fin 2) * 128 + 1 * y.val = y.val
    rw [h1]; omega

theorem blk_6 (c : Dev nD) (t : Fin cfg0.N) (x : Fin 512) (y : Fin 512) : (iblk m c 6 t : Vec Ideal S512x512 .bf16) (ix2 x y) =
    (V m c main_v36 : S512x512.Idx → EReal) (ix2 x y) := by
  show V m c main_v36 (((cfg0.win 6).blk t).view.emb (ix2 x y)) = _
  obtain ⟨h0, h1⟩ := at_6 t
  congr 1
  funext a
  apply Fin.ext
  match a with
  | ⟨0, _⟩ =>
    show win0_6.index t (0 : Fin 2) * 512 + 1 * x.val = x.val
    rw [h0]; omega
  | ⟨1, _⟩ =>
    show win0_6.index t (1 : Fin 2) * 512 + 1 * y.val = y.val
    rw [h1]; omega

theorem blk_7 (c : Dev nD) (t : Fin cfg0.N) (x : Fin 128) (y : Fin 128) : (iblk m c 7 t : Vec Ideal S128x128 .bf16) (ix2 x y) =
    (V m c main_cst : S128x128.Idx → EReal) (ix2 x y) := by
  show V m c main_cst (((cfg0.win 7).blk t).view.emb (ix2 x y)) = _
  obtain ⟨h0, h1⟩ := at_7 t
  congr 1
  funext a
  apply Fin.ext
  match a with
  | ⟨0, _⟩ =>
    show win0_7.index t (0 : Fin 2) * 128 + 1 * x.val = x.val
    rw [h0]; omega
  | ⟨1, _⟩ =>
    show win0_7.index t (1 : Fin 2) * 128 + 1 * y.val = y.val
    rw [h1]; omega

theorem mem_8 (t : Fin cfg0.N) (i : S16384x896.Idx) :
    i ∈ ((cfg0.win 8).blk t).view.set ↔ ∀ a : Fin 2, win0_8.index t a * S512x896.size a ≤ (i a).val ∧ (i a).val < win0_8.index t a * S512x896.size a + S512x896.size a := by
  show i ∈ ((View.whole main_v37_0).slice (win0_8.rect t)).set ↔ _
  rw [View.set_slice_whole, Rect.mem_set_unit]
  exact Iff.rfl

theorem flush_8 : ∀ t : Fin cfg0.N, (cfg0.win 8).flush t = true :=
  (by decide +kernel : ∀ t : Fin grid0.N, (cfg0.win 8).flush t = true)

theorem cover_8 (i : S16384x896.Idx) : ∃ t : Fin cfg0.N, (cfg0.win 8).flush t = true ∧ i ∈ ((cfg0.win 8).blk t).view.set := by
  have b0 : (i 0).val < 16384 := (i 0).isLt
  have b1 : (i 1).val < 896 := (i 1).isLt
  have hn : (i 0).val / 512 < cfg0.N := lt_of_lt_of_eq (b := 32) (by omega) N_0.symm
  obtain ⟨h0, h1⟩ := at_8 ⟨(i 0).val / 512, hn⟩
  refine ⟨⟨(i 0).val / 512, hn⟩, flush_8 _, ?_⟩
  rw [mem_8]
  intro a
  match a with
  | ⟨0, _⟩ =>
    show win0_8.index ⟨(i 0).val / 512, hn⟩ (0 : Fin 2) * 512 ≤ (i 0).val ∧ (i 0).val < win0_8.index ⟨(i 0).val / 512, hn⟩ (0 : Fin 2) * 512 + 512
    rw [h0]; dsimp only; omega
  | ⟨1, _⟩ =>
    show win0_8.index ⟨(i 0).val / 512, hn⟩ (1 : Fin 2) * 896 ≤ (i 1).val ∧ (i 1).val < win0_8.index ⟨(i 0).val / 512, hn⟩ (1 : Fin 2) * 896 + 896
    rw [h1]; dsimp only; omega

/-- The array after the run, given what each point's block holds. -/
theorem whole_8 (c : Dev nD) (G : S16384x896.Idx → EReal)
    (h : ∀ (t : Fin cfg0.N) (x : Fin 512) (y : Fin 896), ((dats m 0 c).after 8 t : S512x896.Idx → EReal) (ix2 x y) =
      G (ix2 ⟨512 * t.val + x.val, by have := lt_of_lt_of_eq t.isLt N_0; omega⟩ y)) :
    ((dats m 0 c).arrAt 8 cfg0.N : S16384x896.Idx → EReal) = G := by
  refine (dats m 0 c).arrAt_eq_of_cover 8 G (fun t _ => ?_) cover_8
  funext u
  show ((dats m 0 c).after 8 t : S512x896.Idx → EReal) u = G (((cfg0.win 8).blk t).view.emb u)
  have e := h t (u 0) (u 1)
  rw [ix2_eta] at e
  rw [e]
  obtain ⟨h0, h1⟩ := at_8 t
  congr 1
  funext a
  apply Fin.ext
  match a with
  | ⟨0, _⟩ =>
    show 512 * t.val + (u 0).val = win0_8.index t (0 : Fin 2) * 512 + 1 * (u 0).val
    rw [h0]; omega
  | ⟨1, _⟩ =>
    show (u 1).val = win0_8.index t (1 : Fin 2) * 896 + 1 * (u 1).val
    rw [h1]; omega

theorem mem_9 (t : Fin cfg0.N) (i : S16384x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v37_1).slice (win0_9.rect t)).set ↔ _
  rw [View.set_slice_whole, Rect.mem_set_unit]
  exact Iff.rfl

theorem flush_9 : ∀ t : Fin cfg0.N, (cfg0.win 9).flush t = true :=
  (by decide +kernel : ∀ t : Fin grid0.N, (cfg0.win 9).flush t = true)

theorem cover_9 (i : S16384x512.Idx) : ∃ t : Fin cfg0.N, (cfg0.win 9).flush t = true ∧ i ∈ ((cfg0.win 9).blk t).view.set := by
  have b0 : (i 0).val < 16384 := (i 0).isLt
  have b1 : (i 1).val < 512 := (i 1).isLt
  have hn : (i 0).val / 512 < cfg0.N := lt_of_lt_of_eq (b := 32) (by omega) N_0.symm
  obtain ⟨h0, h1⟩ := at_9 ⟨(i 0).val / 512, hn⟩
  refine ⟨⟨(i 0).val / 512, hn⟩, flush_9 _, ?_⟩
  rw [mem_9]
  intro a
  match a with
  | ⟨0, _⟩ =>
    show win0_9.index ⟨(i 0).val / 512, hn⟩ (0 : Fin 2) * 512 ≤ (i 0).val ∧ (i 0).val < win0_9.index ⟨(i 0).val / 512, hn⟩ (0 : Fin 2) * 512 + 512
    rw [h0]; dsimp only; omega
  | ⟨1, _⟩ =>
    show win0_9.index ⟨(i 0).val / 512, hn⟩ (1 : Fin 2) * 512 ≤ (i 1).val ∧ (i 1).val < win0_9.index ⟨(i 0).val / 512, hn⟩ (1 : Fin 2) * 512 + 512
    rw [h1]; dsimp only; omega

/-- The array after the run, given what each point's block holds. -/
theorem whole_9 (c : Dev nD) (G : S16384x512.Idx → EReal)
    (h : ∀ (t : Fin cfg0.N) (x : Fin 512) (y : Fin 512), ((dats m 0 c).after 9 t : S512x512.Idx → EReal) (ix2 x y) =
      G (ix2 ⟨512 * t.val + x.val, by have := lt_of_lt_of_eq t.isLt N_0; omega⟩ y)) :
    ((dats m 0 c).arrAt 9 cfg0.N : S16384x512.Idx → EReal) = G := by
  refine (dats m 0 c).arrAt_eq_of_cover 9 G (fun t _ => ?_) cover_9
  funext u
  show ((dats m 0 c).after 9 t : S512x512.Idx → EReal) u = G (((cfg0.win 9).blk t).view.emb u)
  have e := h t (u 0) (u 1)
  rw [ix2_eta] at e
  rw [e]
  obtain ⟨h0, h1⟩ := at_9 t
  congr 1
  funext a
  apply Fin.ext
  match a with
  | ⟨0, _⟩ =>
    show 512 * t.val + (u 0).val = win0_9.index t (0 : Fin 2) * 512 + 1 * (u 0).val
    rw [h0]; omega
  | ⟨1, _⟩ =>
    show (u 1).val = win0_9.index t (1 : Fin 2) * 512 + 1 * (u 1).val
    rw [h1]; omega

theorem mem_10 (t : Fin cfg0.N) (i : S16384x256.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v37_2).slice (win0_10.rect t)).set ↔ _
  rw [View.set_slice_whole, Rect.mem_set_unit]
  exact Iff.rfl

theorem flush_10 : ∀ t : Fin cfg0.N, (cfg0.win 10).flush t = true :=
  (by decide +kernel : ∀ t : Fin grid0.N, (cfg0.win 10).flush t = true)

theorem cover_10 (i : S16384x256.Idx) : ∃ t : Fin cfg0.N, (cfg0.win 10).flush t = true ∧ i ∈ ((cfg0.win 10).blk t).view.set := by
  have b0 : (i 0).val < 16384 := (i 0).isLt
  have b1 : (i 1).val < 256 := (i 1).isLt
  have hn : (i 0).val / 512 < cfg0.N := lt_of_lt_of_eq (b := 32) (by omega) N_0.symm
  obtain ⟨h0, h1⟩ := at_10 ⟨(i 0).val / 512, hn⟩
  refine ⟨⟨(i 0).val / 512, hn⟩, flush_10 _, ?_⟩
  rw [mem_10]
  intro a
  match a with
  | ⟨0, _⟩ =>
    show win0_10.index ⟨(i 0).val / 512, hn⟩ (0 : Fin 2) * 512 ≤ (i 0).val ∧ (i 0).val < win0_10.index ⟨(i 0).val / 512, hn⟩ (0 : Fin 2) * 512 + 512
    rw [h0]; dsimp only; omega
  | ⟨1, _⟩ =>
    show win0_10.index ⟨(i 0).val / 512, hn⟩ (1 : Fin 2) * 256 ≤ (i 1).val ∧ (i 1).val < win0_10.index ⟨(i 0).val / 512, hn⟩ (1 : Fin 2) * 256 + 256
    rw [h1]; dsimp only; omega

/-- The array after the run, given what each point's block holds. -/
theorem whole_10 (c : Dev nD) (G : S16384x256.Idx → EReal)
    (h : ∀ (t : Fin cfg0.N) (x : Fin 512) (y : Fin 256), ((dats m 0 c).after 10 t : S512x256.Idx → EReal) (ix2 x y) =
      G (ix2 ⟨512 * t.val + x.val, by have := lt_of_lt_of_eq t.isLt N_0; omega⟩ y)) :
    ((dats m 0 c).arrAt 10 cfg0.N : S16384x256.Idx → EReal) = G := by
  refine (dats m 0 c).arrAt_eq_of_cover 10 G (fun t _ => ?_) cover_10
  funext u
  show ((dats m 0 c).after 10 t : S512x256.Idx → EReal) u = G (((cfg0.win 10).blk t).view.emb u)
  have e := h t (u 0) (u 1)
  rw [ix2_eta] at e
  rw [e]
  obtain ⟨h0, h1⟩ := at_10 t
  congr 1
  funext a
  apply Fin.ext
  match a with
  | ⟨0, _⟩ =>
    show 512 * t.val + (u 0).val = win0_10.index t (0 : Fin 2) * 512 + 1 * (u 0).val
    rw [h0]; omega
  | ⟨1, _⟩ =>
    show (u 1).val = win0_10.index t (1 : Fin 2) * 256 + 1 * (u 1).val
    rw [h1]; omega

theorem mem_11 (t : Fin cfg0.N) (i : S8x16384x64.Idx) :
    i ∈ ((cfg0.win 11).blk t).view.set ↔ ∀ a : Fin 3, win0_11.index t a * S8x512x64.size a ≤ (i a).val ∧ (i a).val < win0_11.index t a * S8x512x64.size a + S8x512x64.size a := by
  show i ∈ ((View.whole main_v37_3).slice (win0_11.rect t)).set ↔ _
  rw [View.set_slice_whole, Rect.mem_set_unit]
  exact Iff.rfl

theorem flush_11 : ∀ t : Fin cfg0.N, (cfg0.win 11).flush t = true :=
  (by decide +kernel : ∀ t : Fin grid0.N, (cfg0.win 11).flush t = true)

theorem cover_11 (i : S8x16384x64.Idx) : ∃ t : Fin cfg0.N, (cfg0.win 11).flush t = true ∧ i ∈ ((cfg0.win 11).blk t).view.set := by
  have b0 : (i 0).val < 8 := (i 0).isLt
  have b1 : (i 1).val < 16384 := (i 1).isLt
  have b2 : (i 2).val < 64 := (i 2).isLt
  have hn : (i 1).val / 512 < cfg0.N := lt_of_lt_of_eq (b := 32) (by omega) N_0.symm
  obtain ⟨h0, h1, h2⟩ := at_11 ⟨(i 1).val / 512, hn⟩
  refine ⟨⟨(i 1).val / 512, hn⟩, flush_11 _, ?_⟩
  rw [mem_11]
  intro a
  match a with
  | ⟨0, _⟩ =>
    show win0_11.index ⟨(i 1).val / 512, hn⟩ (0 : Fin 3) * 8 ≤ (i 0).val ∧ (i 0).val < win0_11.index ⟨(i 1).val / 512, hn⟩ (0 : Fin 3) * 8 + 8
    rw [h0]; dsimp only; omega
  | ⟨1, _⟩ =>
    show win0_11.index ⟨(i 1).val / 512, hn⟩ (1 : Fin 3) * 512 ≤ (i 1).val ∧ (i 1).val < win0_11.index ⟨(i 1).val / 512, hn⟩ (1 : Fin 3) * 512 + 512
    rw [h1]; dsimp only; omega
  | ⟨2, _⟩ =>
    show win0_11.index ⟨(i 1).val / 512, hn⟩ (2 : Fin 3) * 64 ≤ (i 2).val ∧ (i 2).val < win0_11.index ⟨(i 1).val / 512, hn⟩ (2 : Fin 3) * 64 + 64
    rw [h2]; dsimp only; omega

/-- The array after the run, given what each point's block holds. -/
theorem whole_11 (c : Dev nD) (G : S8x16384x64.Idx → EReal)
    (h : ∀ (t : Fin cfg0.N) (x : Fin 8) (y : Fin 512) (z : Fin 64), ((dats m 0 c).after 11 t : S8x512x64.Idx → EReal) (ix3 x y z) =
      G (ix3 x ⟨512 * t.val + y.val, by have := lt_of_lt_of_eq t.isLt N_0; omega⟩ z)) :
    ((dats m 0 c).arrAt 11 cfg0.N : S8x16384x64.Idx → EReal) = G := by
  refine (dats m 0 c).arrAt_eq_of_cover 11 G (fun t _ => ?_) cover_11
  funext u
  show ((dats m 0 c).after 11 t : S8x512x64.Idx → EReal) u = G (((cfg0.win 11).blk t).view.emb u)
  have e := h t (u 0) (u 1) (u 2)
  rw [ix3_eta] at e
  rw [e]
  obtain ⟨h0, h1, h2⟩ := at_11 t
  congr 1
  funext a
  apply Fin.ext
  match a with
  | ⟨0, _⟩ =>
    show (u 0).val = win0_11.index t (0 : Fin 3) * 8 + 1 * (u 0).val
    rw [h0]; omega
  | ⟨1, _⟩ =>
    show 512 * t.val + (u 1).val = win0_11.index t (1 : Fin 3) * 512 + 1 * (u 1).val
    rw [h1]; omega
  | ⟨2, _⟩ =>
    show (u 2).val = win0_11.index t (2 : Fin 3) * 64 + 1 * (u 2).val
    rw [h2]; omega

theorem mem_12 (t : Fin cfg0.N) (i : S16384x128.Idx) :
    i ∈ ((cfg0.win 12).blk t).view.set ↔ ∀ a : Fin 2, win0_12.index t a * S512x128.size a ≤ (i a).val ∧ (i a).val < win0_12.index t a * S512x128.size a + S512x128.size a := by
  show i ∈ ((View.whole main_v37_4).slice (win0_12.rect t)).set ↔ _
  rw [View.set_slice_whole, Rect.mem_set_unit]
  exact Iff.rfl

theorem flush_12 : ∀ t : Fin cfg0.N, (cfg0.win 12).flush t = true :=
  (by decide +kernel : ∀ t : Fin grid0.N, (cfg0.win 12).flush t = true)

theorem cover_12 (i : S16384x128.Idx) : ∃ t : Fin cfg0.N, (cfg0.win 12).flush t = true ∧ i ∈ ((cfg0.win 12).blk t).view.set := by
  have b0 : (i 0).val < 16384 := (i 0).isLt
  have b1 : (i 1).val < 128 := (i 1).isLt
  have hn : (i 0).val / 512 < cfg0.N := lt_of_lt_of_eq (b := 32) (by omega) N_0.symm
  obtain ⟨h0, h1⟩ := at_12 ⟨(i 0).val / 512, hn⟩
  refine ⟨⟨(i 0).val / 512, hn⟩, flush_12 _, ?_⟩
  rw [mem_12]
  intro a
  match a with
  | ⟨0, _⟩ =>
    show win0_12.index ⟨(i 0).val / 512, hn⟩ (0 : Fin 2) * 512 ≤ (i 0).val ∧ (i 0).val < win0_12.index ⟨(i 0).val / 512, hn⟩ (0 : Fin 2) * 512 + 512
    rw [h0]; dsimp only; omega
  | ⟨1, _⟩ =>
    show win0_12.index ⟨(i 0).val / 512, hn⟩ (1 : Fin 2) * 128 ≤ (i 1).val ∧ (i 1).val < win0_12.index ⟨(i 0).val / 512, hn⟩ (1 : Fin 2) * 128 + 128
    rw [h1]; dsimp only; omega

/-- The array after the run, given what each point's block holds. -/
theorem whole_12 (c : Dev nD) (G : S16384x128.Idx → EReal)
    (h : ∀ (t : Fin cfg0.N) (x : Fin 512) (y : Fin 128), ((dats m 0 c).after 12 t : S512x128.Idx → EReal) (ix2 x y) =
      G (ix2 ⟨512 * t.val + x.val, by have := lt_of_lt_of_eq t.isLt N_0; omega⟩ y)) :
    ((dats m 0 c).arrAt 12 cfg0.N : S16384x128.Idx → EReal) = G := by
  refine (dats m 0 c).arrAt_eq_of_cover 12 G (fun t _ => ?_) cover_12
  funext u
  show ((dats m 0 c).after 12 t : S512x128.Idx → EReal) u = G (((cfg0.win 12).blk t).view.emb u)
  have e := h t (u 0) (u 1)
  rw [ix2_eta] at e
  rw [e]
  obtain ⟨h0, h1⟩ := at_12 t
  congr 1
  funext a
  apply Fin.ext
  match a with
  | ⟨0, _⟩ =>
    show 512 * t.val + (u 0).val = win0_12.index t (0 : Fin 2) * 512 + 1 * (u 0).val
    rw [h0]; omega
  | ⟨1, _⟩ =>
    show (u 1).val = win0_12.index t (1 : Fin 2) * 128 + 1 * (u 1).val
    rw [h1]; omega

theorem mem_13 (t : Fin cfg0.N) (i : S16384x128.Idx) :
    i ∈ ((cfg0.win 13).blk t).view.set ↔ ∀ a : Fin 2, win0_13.index t a * S512x128.size a ≤ (i a).val ∧ (i a).val < win0_13.index t a * S512x128.size a + S512x128.size a := by
  show i ∈ ((View.whole main_v37_5).slice (win0_13.rect t)).set ↔ _
  rw [View.set_slice_whole, Rect.mem_set_unit]
  exact Iff.rfl

theorem flush_13 : ∀ t : Fin cfg0.N, (cfg0.win 13).flush t = true :=
  (by decide +kernel : ∀ t : Fin grid0.N, (cfg0.win 13).flush t = true)

theorem cover_13 (i : S16384x128.Idx) : ∃ t : Fin cfg0.N, (cfg0.win 13).flush t = true ∧ i ∈ ((cfg0.win 13).blk t).view.set := by
  have b0 : (i 0).val < 16384 := (i 0).isLt
  have b1 : (i 1).val < 128 := (i 1).isLt
  have hn : (i 0).val / 512 < cfg0.N := lt_of_lt_of_eq (b := 32) (by omega) N_0.symm
  obtain ⟨h0, h1⟩ := at_13 ⟨(i 0).val / 512, hn⟩
  refine ⟨⟨(i 0).val / 512, hn⟩, flush_13 _, ?_⟩
  rw [mem_13]
  intro a
  match a with
  | ⟨0, _⟩ =>
    show win0_13.index ⟨(i 0).val / 512, hn⟩ (0 : Fin 2) * 512 ≤ (i 0).val ∧ (i 0).val < win0_13.index ⟨(i 0).val / 512, hn⟩ (0 : Fin 2) * 512 + 512
    rw [h0]; dsimp only; omega
  | ⟨1, _⟩ =>
    show win0_13.index ⟨(i 0).val / 512, hn⟩ (1 : Fin 2) * 128 ≤ (i 1).val ∧ (i 1).val < win0_13.index ⟨(i 0).val / 512, hn⟩ (1 : Fin 2) * 128 + 128
    rw [h1]; dsimp only; omega

/-- The array after the run, given what each point's block holds. -/
theorem whole_13 (c : Dev nD) (G : S16384x128.Idx → EReal)
    (h : ∀ (t : Fin cfg0.N) (x : Fin 512) (y : Fin 128), ((dats m 0 c).after 13 t : S512x128.Idx → EReal) (ix2 x y) =
      G (ix2 ⟨512 * t.val + x.val, by have := lt_of_lt_of_eq t.isLt N_0; omega⟩ y)) :
    ((dats m 0 c).arrAt 13 cfg0.N : S16384x128.Idx → EReal) = G := by
  refine (dats m 0 c).arrAt_eq_of_cover 13 G (fun t _ => ?_) cover_13
  funext u
  show ((dats m 0 c).after 13 t : S512x128.Idx → EReal) u = G (((cfg0.win 13).blk t).view.emb u)
  have e := h t (u 0) (u 1)
  rw [ix2_eta] at e
  rw [e]
  obtain ⟨h0, h1⟩ := at_13 t
  congr 1
  funext a
  apply Fin.ext
  match a with
  | ⟨0, _⟩ =>
    show 512 * t.val + (u 0).val = win0_13.index t (0 : Fin 2) * 512 + 1 * (u 0).val
    rw [h0]; omega
  | ⟨1, _⟩ =>
    show (u 1).val = win0_13.index t (1 : Fin 2) * 128 + 1 * (u 1).val
    rw [h1]; omega

theorem mem_14 (t : Fin cfg0.N) (i : S2x16384x256.Idx) :
    i ∈ ((cfg0.win 14).blk t).view.set ↔ ∀ a : Fin 3, win0_14.index t a * S2x512x256.size a ≤ (i a).val ∧ (i a).val < win0_14.index t a * S2x512x256.size a + S2x512x256.size a := by
  show i ∈ ((View.whole main_v37_6).slice (win0_14.rect t)).set ↔ _
  rw [View.set_slice_whole, Rect.mem_set_unit]
  exact Iff.rfl

theorem flush_14 : ∀ t : Fin cfg0.N, (cfg0.win 14).flush t = true :=
  (by decide +kernel : ∀ t : Fin grid0.N, (cfg0.win 14).flush t = true)

theorem cover_14 (i : S2x16384x256.Idx) : ∃ t : Fin cfg0.N, (cfg0.win 14).flush t = true ∧ i ∈ ((cfg0.win 14).blk t).view.set := by
  have b0 : (i 0).val < 2 := (i 0).isLt
  have b1 : (i 1).val < 16384 := (i 1).isLt
  have b2 : (i 2).val < 256 := (i 2).isLt
  have hn : (i 1).val / 512 < cfg0.N := lt_of_lt_of_eq (b := 32) (by omega) N_0.symm
  obtain ⟨h0, h1, h2⟩ := at_14 ⟨(i 1).val / 512, hn⟩
  refine ⟨⟨(i 1).val / 512, hn⟩, flush_14 _, ?_⟩
  rw [mem_14]
  intro a
  match a with
  | ⟨0, _⟩ =>
    show win0_14.index ⟨(i 1).val / 512, hn⟩ (0 : Fin 3) * 2 ≤ (i 0).val ∧ (i 0).val < win0_14.index ⟨(i 1).val / 512, hn⟩ (0 : Fin 3) * 2 + 2
    rw [h0]; dsimp only; omega
  | ⟨1, _⟩ =>
    show win0_14.index ⟨(i 1).val / 512, hn⟩ (1 : Fin 3) * 512 ≤ (i 1).val ∧ (i 1).val < win0_14.index ⟨(i 1).val / 512, hn⟩ (1 : Fin 3) * 512 + 512
    rw [h1]; dsimp only; omega
  | ⟨2, _⟩ =>
    show win0_14.index ⟨(i 1).val / 512, hn⟩ (2 : Fin 3) * 256 ≤ (i 2).val ∧ (i 2).val < win0_14.index ⟨(i 1).val / 512, hn⟩ (2 : Fin 3) * 256 + 256
    rw [h2]; dsimp only; omega

/-- The array after the run, given what each point's block holds. -/
theorem whole_14 (c : Dev nD) (G : S2x16384x256.Idx → EReal)
    (h : ∀ (t : Fin cfg0.N) (x : Fin 2) (y : Fin 512) (z : Fin 256), ((dats m 0 c).after 14 t : S2x512x256.Idx → EReal) (ix3 x y z) =
      G (ix3 x ⟨512 * t.val + y.val, by have := lt_of_lt_of_eq t.isLt N_0; omega⟩ z)) :
    ((dats m 0 c).arrAt 14 cfg0.N : S2x16384x256.Idx → EReal) = G := by
  refine (dats m 0 c).arrAt_eq_of_cover 14 G (fun t _ => ?_) cover_14
  funext u
  show ((dats m 0 c).after 14 t : S2x512x256.Idx → EReal) u = G (((cfg0.win 14).blk t).view.emb u)
  have e := h t (u 0) (u 1) (u 2)
  rw [ix3_eta] at e
  rw [e]
  obtain ⟨h0, h1, h2⟩ := at_14 t
  congr 1
  funext a
  apply Fin.ext
  match a with
  | ⟨0, _⟩ =>
    show (u 0).val = win0_14.index t (0 : Fin 3) * 2 + 1 * (u 0).val
    rw [h0]; omega
  | ⟨1, _⟩ =>
    show 512 * t.val + (u 1).val = win0_14.index t (1 : Fin 3) * 512 + 1 * (u 1).val
    rw [h1]; omega
  | ⟨2, _⟩ =>
    show (u 2).val = win0_14.index t (2 : Fin 3) * 256 + 1 * (u 2).val
    rw [h2]; omega

theorem mem_15 (t : Fin cfg0.N) (i : S2x16384x128.Idx) :
    i ∈ ((cfg0.win 15).blk t).view.set ↔ ∀ a : Fin 3, win0_15.index t a * S2x512x128.size a ≤ (i a).val ∧ (i a).val < win0_15.index t a * S2x512x128.size a + S2x512x128.size a := by
  show i ∈ ((View.whole main_v37_7).slice (win0_15.rect t)).set ↔ _
  rw [View.set_slice_whole, Rect.mem_set_unit]
  exact Iff.rfl

theorem flush_15 : ∀ t : Fin cfg0.N, (cfg0.win 15).flush t = true :=
  (by decide +kernel : ∀ t : Fin grid0.N, (cfg0.win 15).flush t = true)

theorem cover_15 (i : S2x16384x128.Idx) : ∃ t : Fin cfg0.N, (cfg0.win 15).flush t = true ∧ i ∈ ((cfg0.win 15).blk t).view.set := by
  have b0 : (i 0).val < 2 := (i 0).isLt
  have b1 : (i 1).val < 16384 := (i 1).isLt
  have b2 : (i 2).val < 128 := (i 2).isLt
  have hn : (i 1).val / 512 < cfg0.N := lt_of_lt_of_eq (b := 32) (by omega) N_0.symm
  obtain ⟨h0, h1, h2⟩ := at_15 ⟨(i 1).val / 512, hn⟩
  refine ⟨⟨(i 1).val / 512, hn⟩, flush_15 _, ?_⟩
  rw [mem_15]
  intro a
  match a with
  | ⟨0, _⟩ =>
    show win0_15.index ⟨(i 1).val / 512, hn⟩ (0 : Fin 3) * 2 ≤ (i 0).val ∧ (i 0).val < win0_15.index ⟨(i 1).val / 512, hn⟩ (0 : Fin 3) * 2 + 2
    rw [h0]; dsimp only; omega
  | ⟨1, _⟩ =>
    show win0_15.index ⟨(i 1).val / 512, hn⟩ (1 : Fin 3) * 512 ≤ (i 1).val ∧ (i 1).val < win0_15.index ⟨(i 1).val / 512, hn⟩ (1 : Fin 3) * 512 + 512
    rw [h1]; dsimp only; omega
  | ⟨2, _⟩ =>
    show win0_15.index ⟨(i 1).val / 512, hn⟩ (2 : Fin 3) * 128 ≤ (i 2).val ∧ (i 2).val < win0_15.index ⟨(i 1).val / 512, hn⟩ (2 : Fin 3) * 128 + 128
    rw [h2]; dsimp only; omega

/-- The array after the run, given what each point's block holds. -/
theorem whole_15 (c : Dev nD) (G : S2x16384x128.Idx → EReal)
    (h : ∀ (t : Fin cfg0.N) (x : Fin 2) (y : Fin 512) (z : Fin 128), ((dats m 0 c).after 15 t : S2x512x128.Idx → EReal) (ix3 x y z) =
      G (ix3 x ⟨512 * t.val + y.val, by have := lt_of_lt_of_eq t.isLt N_0; omega⟩ z)) :
    ((dats m 0 c).arrAt 15 cfg0.N : S2x16384x128.Idx → EReal) = G := by
  refine (dats m 0 c).arrAt_eq_of_cover 15 G (fun t _ => ?_) cover_15
  funext u
  show ((dats m 0 c).after 15 t : S2x512x128.Idx → EReal) u = G (((cfg0.win 15).blk t).view.emb u)
  have e := h t (u 0) (u 1) (u 2)
  rw [ix3_eta] at e
  rw [e]
  obtain ⟨h0, h1, h2⟩ := at_15 t
  congr 1
  funext a
  apply Fin.ext
  match a with
  | ⟨0, _⟩ =>
    show (u 0).val = win0_15.index t (0 : Fin 3) * 2 + 1 * (u 0).val
    rw [h0]; omega
  | ⟨1, _⟩ =>
    show 512 * t.val + (u 1).val = win0_15.index t (1 : Fin 3) * 512 + 1 * (u 1).val
    rw [h1]; omega
  | ⟨2, _⟩ =>
    show (u 2).val = win0_15.index t (2 : Fin 3) * 128 + 1 * (u 2).val
    rw [h2]; omega

theorem mem_16 (t : Fin cfg0.N) (i : S2x16384x64.Idx) :
    i ∈ ((cfg0.win 16).blk t).view.set ↔ ∀ a : Fin 3, win0_16.index t a * S2x512x64.size a ≤ (i a).val ∧ (i a).val < win0_16.index t a * S2x512x64.size a + S2x512x64.size a := by
  show i ∈ ((View.whole main_v37_8).slice (win0_16.rect t)).set ↔ _
  rw [View.set_slice_whole, Rect.mem_set_unit]
  exact Iff.rfl

theorem flush_16 : ∀ t : Fin cfg0.N, (cfg0.win 16).flush t = true :=
  (by decide +kernel : ∀ t : Fin grid0.N, (cfg0.win 16).flush t = true)

theorem cover_16 (i : S2x16384x64.Idx) : ∃ t : Fin cfg0.N, (cfg0.win 16).flush t = true ∧ i ∈ ((cfg0.win 16).blk t).view.set := by
  have b0 : (i 0).val < 2 := (i 0).isLt
  have b1 : (i 1).val < 16384 := (i 1).isLt
  have b2 : (i 2).val < 64 := (i 2).isLt
  have hn : (i 1).val / 512 < cfg0.N := lt_of_lt_of_eq (b := 32) (by omega) N_0.symm
  obtain ⟨h0, h1, h2⟩ := at_16 ⟨(i 1).val / 512, hn⟩
  refine ⟨⟨(i 1).val / 512, hn⟩, flush_16 _, ?_⟩
  rw [mem_16]
  intro a
  match a with
  | ⟨0, _⟩ =>
    show win0_16.index ⟨(i 1).val / 512, hn⟩ (0 : Fin 3) * 2 ≤ (i 0).val ∧ (i 0).val < win0_16.index ⟨(i 1).val / 512, hn⟩ (0 : Fin 3) * 2 + 2
    rw [h0]; dsimp only; omega
  | ⟨1, _⟩ =>
    show win0_16.index ⟨(i 1).val / 512, hn⟩ (1 : Fin 3) * 512 ≤ (i 1).val ∧ (i 1).val < win0_16.index ⟨(i 1).val / 512, hn⟩ (1 : Fin 3) * 512 + 512
    rw [h1]; dsimp only; omega
  | ⟨2, _⟩ =>
    show win0_16.index ⟨(i 1).val / 512, hn⟩ (2 : Fin 3) * 64 ≤ (i 2).val ∧ (i 2).val < win0_16.index ⟨(i 1).val / 512, hn⟩ (2 : Fin 3) * 64 + 64
    rw [h2]; dsimp only; omega

/-- The array after the run, given what each point's block holds. -/
theorem whole_16 (c : Dev nD) (G : S2x16384x64.Idx → EReal)
    (h : ∀ (t : Fin cfg0.N) (x : Fin 2) (y : Fin 512) (z : Fin 64), ((dats m 0 c).after 16 t : S2x512x64.Idx → EReal) (ix3 x y z) =
      G (ix3 x ⟨512 * t.val + y.val, by have := lt_of_lt_of_eq t.isLt N_0; omega⟩ z)) :
    ((dats m 0 c).arrAt 16 cfg0.N : S2x16384x64.Idx → EReal) = G := by
  refine (dats m 0 c).arrAt_eq_of_cover 16 G (fun t _ => ?_) cover_16
  funext u
  show ((dats m 0 c).after 16 t : S2x512x64.Idx → EReal) u = G (((cfg0.win 16).blk t).view.emb u)
  have e := h t (u 0) (u 1) (u 2)
  rw [ix3_eta] at e
  rw [e]
  obtain ⟨h0, h1, h2⟩ := at_16 t
  congr 1
  funext a
  apply Fin.ext
  match a with
  | ⟨0, _⟩ =>
    show (u 0).val = win0_16.index t (0 : Fin 3) * 2 + 1 * (u 0).val
    rw [h0]; omega
  | ⟨1, _⟩ =>
    show 512 * t.val + (u 1).val = win0_16.index t (1 : Fin 3) * 512 + 1 * (u 1).val
    rw [h1]; omega
  | ⟨2, _⟩ =>
    show (u 2).val = win0_16.index t (2 : Fin 3) * 64 + 1 * (u 2).val
    rw [h2]; omega

theorem mem_17 (t : Fin cfg0.N) (i : S2x16384x128.Idx) :
    i ∈ ((cfg0.win 17).blk t).view.set ↔ ∀ a : Fin 3, win0_17.index t a * S2x512x128.size a ≤ (i a).val ∧ (i a).val < win0_17.index t a * S2x512x128.size a + S2x512x128.size a := by
  show i ∈ ((View.whole main_v37_9).slice (win0_17.rect t)).set ↔ _
  rw [View.set_slice_whole, Rect.mem_set_unit]
  exact Iff.rfl

theorem flush_17 : ∀ t : Fin cfg0.N, (cfg0.win 17).flush t = true :=
  (by decide +kernel : ∀ t : Fin grid0.N, (cfg0.win 17).flush t = true)

theorem cover_17 (i : S2x16384x128.Idx) : ∃ t : Fin cfg0.N, (cfg0.win 17).flush t = true ∧ i ∈ ((cfg0.win 17).blk t).view.set := by
  have b0 : (i 0).val < 2 := (i 0).isLt
  have b1 : (i 1).val < 16384 := (i 1).isLt
  have b2 : (i 2).val < 128 := (i 2).isLt
  have hn : (i 1).val / 512 < cfg0.N := lt_of_lt_of_eq (b := 32) (by omega) N_0.symm
  obtain ⟨h0, h1, h2⟩ := at_17 ⟨(i 1).val / 512, hn⟩
  refine ⟨⟨(i 1).val / 512, hn⟩, flush_17 _, ?_⟩
  rw [mem_17]
  intro a
  match a with
  | ⟨0, _⟩ =>
    show win0_17.index ⟨(i 1).val / 512, hn⟩ (0 : Fin 3) * 2 ≤ (i 0).val ∧ (i 0).val < win0_17.index ⟨(i 1).val / 512, hn⟩ (0 : Fin 3) * 2 + 2
    rw [h0]; dsimp only; omega
  | ⟨1, _⟩ =>
    show win0_17.index ⟨(i 1).val / 512, hn⟩ (1 : Fin 3) * 512 ≤ (i 1).val ∧ (i 1).val < win0_17.index ⟨(i 1).val / 512, hn⟩ (1 : Fin 3) * 512 + 512
    rw [h1]; dsimp only; omega
  | ⟨2, _⟩ =>
    show win0_17.index ⟨(i 1).val / 512, hn⟩ (2 : Fin 3) * 128 ≤ (i 2).val ∧ (i 2).val < win0_17.index ⟨(i 1).val / 512, hn⟩ (2 : Fin 3) * 128 + 128
    rw [h2]; dsimp only; omega

/-- The array after the run, given what each point's block holds. -/
theorem whole_17 (c : Dev nD) (G : S2x16384x128.Idx → EReal)
    (h : ∀ (t : Fin cfg0.N) (x : Fin 2) (y : Fin 512) (z : Fin 128), ((dats m 0 c).after 17 t : S2x512x128.Idx → EReal) (ix3 x y z) =
      G (ix3 x ⟨512 * t.val + y.val, by have := lt_of_lt_of_eq t.isLt N_0; omega⟩ z)) :
    ((dats m 0 c).arrAt 17 cfg0.N : S2x16384x128.Idx → EReal) = G := by
  refine (dats m 0 c).arrAt_eq_of_cover 17 G (fun t _ => ?_) cover_17
  funext u
  show ((dats m 0 c).after 17 t : S2x512x128.Idx → EReal) u = G (((cfg0.win 17).blk t).view.emb u)
  have e := h t (u 0) (u 1) (u 2)
  rw [ix3_eta] at e
  rw [e]
  obtain ⟨h0, h1, h2⟩ := at_17 t
  congr 1
  funext a
  apply Fin.ext
  match a with
  | ⟨0, _⟩ =>
    show (u 0).val = win0_17.index t (0 : Fin 3) * 2 + 1 * (u 0).val
    rw [h0]; omega
  | ⟨1, _⟩ =>
    show 512 * t.val + (u 1).val = win0_17.index t (1 : Fin 3) * 512 + 1 * (u 1).val
    rw [h1]; omega
  | ⟨2, _⟩ =>
    show (u 2).val = win0_17.index t (2 : Fin 3) * 128 + 1 * (u 2).val
    rw [h2]; omega

theorem mem_18 (t : Fin cfg0.N) (i : S2x16384x128.Idx) :
    i ∈ ((cfg0.win 18).blk t).view.set ↔ ∀ a : Fin 3, win0_18.index t a * S2x512x128.size a ≤ (i a).val ∧ (i a).val < win0_18.index t a * S2x512x128.size a + S2x512x128.size a := by
  show i ∈ ((View.whole main_v37_10).slice (win0_18.rect t)).set ↔ _
  rw [View.set_slice_whole, Rect.mem_set_unit]
  exact Iff.rfl

theorem flush_18 : ∀ t : Fin cfg0.N, (cfg0.win 18).flush t = true :=
  (by decide +kernel : ∀ t : Fin grid0.N, (cfg0.win 18).flush t = true)

theorem cover_18 (i : S2x16384x128.Idx) : ∃ t : Fin cfg0.N, (cfg0.win 18).flush t = true ∧ i ∈ ((cfg0.win 18).blk t).view.set := by
  have b0 : (i 0).val < 2 := (i 0).isLt
  have b1 : (i 1).val < 16384 := (i 1).isLt
  have b2 : (i 2).val < 128 := (i 2).isLt
  have hn : (i 1).val / 512 < cfg0.N := lt_of_lt_of_eq (b := 32) (by omega) N_0.symm
  obtain ⟨h0, h1, h2⟩ := at_18 ⟨(i 1).val / 512, hn⟩
  refine ⟨⟨(i 1).val / 512, hn⟩, flush_18 _, ?_⟩
  rw [mem_18]
  intro a
  match a with
  | ⟨0, _⟩ =>
    show win0_18.index ⟨(i 1).val / 512, hn⟩ (0 : Fin 3) * 2 ≤ (i 0).val ∧ (i 0).val < win0_18.index ⟨(i 1).val / 512, hn⟩ (0 : Fin 3) * 2 + 2
    rw [h0]; dsimp only; omega
  | ⟨1, _⟩ =>
    show win0_18.index ⟨(i 1).val / 512, hn⟩ (1 : Fin 3) * 512 ≤ (i 1).val ∧ (i 1).val < win0_18.index ⟨(i 1).val / 512, hn⟩ (1 : Fin 3) * 512 + 512
    rw [h1]; dsimp only; omega
  | ⟨2, _⟩ =>
    show win0_18.index ⟨(i 1).val / 512, hn⟩ (2 : Fin 3) * 128 ≤ (i 2).val ∧ (i 2).val < win0_18.index ⟨(i 1).val / 512, hn⟩ (2 : Fin 3) * 128 + 128
    rw [h2]; dsimp only; omega

/-- The array after the run, given what each point's block holds. -/
theorem whole_18 (c : Dev nD) (G : S2x16384x128.Idx → EReal)
    (h : ∀ (t : Fin cfg0.N) (x : Fin 2) (y : Fin 512) (z : Fin 128), ((dats m 0 c).after 18 t : S2x512x128.Idx → EReal) (ix3 x y z) =
      G (ix3 x ⟨512 * t.val + y.val, by have := lt_of_lt_of_eq t.isLt N_0; omega⟩ z)) :
    ((dats m 0 c).arrAt 18 cfg0.N : S2x16384x128.Idx → EReal) = G := by
  refine (dats m 0 c).arrAt_eq_of_cover 18 G (fun t _ => ?_) cover_18
  funext u
  show ((dats m 0 c).after 18 t : S2x512x128.Idx → EReal) u = G (((cfg0.win 18).blk t).view.emb u)
  have e := h t (u 0) (u 1) (u 2)
  rw [ix3_eta] at e
  rw [e]
  obtain ⟨h0, h1, h2⟩ := at_18 t
  congr 1
  funext a
  apply Fin.ext
  match a with
  | ⟨0, _⟩ =>
    show (u 0).val = win0_18.index t (0 : Fin 3) * 2 + 1 * (u 0).val
    rw [h0]; omega
  | ⟨1, _⟩ =>
    show 512 * t.val + (u 1).val = win0_18.index t (1 : Fin 3) * 512 + 1 * (u 1).val
    rw [h1]; omega
  | ⟨2, _⟩ =>
    show (u 2).val = win0_18.index t (2 : Fin 3) * 128 + 1 * (u 2).val
    rw [h2]; omega

theorem mem_19 (t : Fin cfg0.N) (i : S8x16384x64.Idx) :
    i ∈ ((cfg0.win 19).blk t).view.set ↔ ∀ a : Fin 3, win0_19.index t a * S8x512x64.size a ≤ (i a).val ∧ (i a).val < win0_19.index t a * S8x512x64.size a + S8x512x64.size a := by
  show i ∈ ((View.whole main_v37_11).slice (win0_19.rect t)).set ↔ _
  rw [View.set_slice_whole, Rect.mem_set_unit]
  exact Iff.rfl

theorem flush_19 : ∀ t : Fin cfg0.N, (cfg0.win 19).flush t = true :=
  (by decide +kernel : ∀ t : Fin grid0.N, (cfg0.win 19).flush t = true)

theorem cover_19 (i : S8x16384x64.Idx) : ∃ t : Fin cfg0.N, (cfg0.win 19).flush t = true ∧ i ∈ ((cfg0.win 19).blk t).view.set := by
  have b0 : (i 0).val < 8 := (i 0).isLt
  have b1 : (i 1).val < 16384 := (i 1).isLt
  have b2 : (i 2).val < 64 := (i 2).isLt
  have hn : (i 1).val / 512 < cfg0.N := lt_of_lt_of_eq (b := 32) (by omega) N_0.symm
  obtain ⟨h0, h1, h2⟩ := at_19 ⟨(i 1).val / 512, hn⟩
  refine ⟨⟨(i 1).val / 512, hn⟩, flush_19 _, ?_⟩
  rw [mem_19]
  intro a
  match a with
  | ⟨0, _⟩ =>
    show win0_19.index ⟨(i 1).val / 512, hn⟩ (0 : Fin 3) * 8 ≤ (i 0).val ∧ (i 0).val < win0_19.index ⟨(i 1).val / 512, hn⟩ (0 : Fin 3) * 8 + 8
    rw [h0]; dsimp only; omega
  | ⟨1, _⟩ =>
    show win0_19.index ⟨(i 1).val / 512, hn⟩ (1 : Fin 3) * 512 ≤ (i 1).val ∧ (i 1).val < win0_19.index ⟨(i 1).val / 512, hn⟩ (1 : Fin 3) * 512 + 512
    rw [h1]; dsimp only; omega
  | ⟨2, _⟩ =>
    show win0_19.index ⟨(i 1).val / 512, hn⟩ (2 : Fin 3) * 64 ≤ (i 2).val ∧ (i 2).val < win0_19.index ⟨(i 1).val / 512, hn⟩ (2 : Fin 3) * 64 + 64
    rw [h2]; dsimp only; omega

/-- The array after the run, given what each point's block holds. -/
theorem whole_19 (c : Dev nD) (G : S8x16384x64.Idx → EReal)
    (h : ∀ (t : Fin cfg0.N) (x : Fin 8) (y : Fin 512) (z : Fin 64), ((dats m 0 c).after 19 t : S8x512x64.Idx → EReal) (ix3 x y z) =
      G (ix3 x ⟨512 * t.val + y.val, by have := lt_of_lt_of_eq t.isLt N_0; omega⟩ z)) :
    ((dats m 0 c).arrAt 19 cfg0.N : S8x16384x64.Idx → EReal) = G := by
  refine (dats m 0 c).arrAt_eq_of_cover 19 G (fun t _ => ?_) cover_19
  funext u
  show ((dats m 0 c).after 19 t : S8x512x64.Idx → EReal) u = G (((cfg0.win 19).blk t).view.emb u)
  have e := h t (u 0) (u 1) (u 2)
  rw [ix3_eta] at e
  rw [e]
  obtain ⟨h0, h1, h2⟩ := at_19 t
  congr 1
  funext a
  apply Fin.ext
  match a with
  | ⟨0, _⟩ =>
    show (u 0).val = win0_19.index t (0 : Fin 3) * 8 + 1 * (u 0).val
    rw [h0]; omega
  | ⟨1, _⟩ =>
    show 512 * t.val + (u 1).val = win0_19.index t (1 : Fin 3) * 512 + 1 * (u 1).val
    rw [h1]; omega
  | ⟨2, _⟩ =>
    show (u 2).val = win0_19.index t (2 : Fin 3) * 64 + 1 * (u 2).val
    rw [h2]; omega

theorem at_point : ∀ t : Fin cfg0.N, (grid0.coords t 0).val = t.val :=
  (by decide +kernel : ∀ t : Fin grid0.N, _)

/-- The products of row `R` with the weights' columns. -/
abbrev row (c : Dev nD) (R : Fin 16384) : Fin 3112 → EReal :=
  Cert.Reference3Ideal.In.prj (m ((c : Thread nD τ).loc main_arg0)) (m ((c : Thread nD τ).loc main_arg1)) (m ((c : Thread nD τ).loc main_arg2)) R

/-- The row of the whole array that row `r` of point `t` is. -/
abbrev at_row (t : Fin cfg0.N) (r : Fin 512) : Fin 16384 := ⟨512 * t.val + r.val, by have := lt_of_lt_of_eq t.isLt N_0; omega⟩

theorem blk_prd (c : Dev nD) (t : Fin cfg0.N) (r : Fin 512) (y : Fin 3328) :
    prd (iblk m c 0 t) (iblk m c 1 t) (iblk m c 2 t) r y = col (row m c (at_row t r)) y.val := by
  have e0 : ∀ y : Fin 1024, (iblk m c 0 t : Vec Ideal S512x1024 .f32) (ix2 r y) = _ := fun y => blk_0 m c t r y
  have e1 : ∀ y : Fin 1024, (iblk m c 1 t : Vec Ideal S1x1024 .f32) (ix2 0 y) = _ := fun y => (blk_1 m c t 0 y).trans (host_v0 m c y)
  have e2 : ∀ x : Fin 1024, (iblk m c 2 t : Vec Ideal S1024x3328 .bf16) (ix2 x y) = _ := fun x => (blk_2 m c t x y).trans (host_v15 m c x y)
  rw [V_main_arg0] at e0
  unfold prd
  simp only [e0, e1, e2]
  exact pr_col _ _ (fun k j => (m ((c : Thread nD τ).loc main_arg2) : S1024x3112.Idx → EReal) (ix2 k j)) _

theorem result_8 (c : Dev nD) : ((dats m 0 c).arrAt 8 cfg0.N : S16384x896.Idx → EReal) = fun i =>
    Cert.In.ogla (row m c (i 0)) (i 1) := by
  refine whole_8 m c _ fun t x y => ?_
  rw [after0_8]
  refine (o8_at (grid0.coords t) (iblk m c 0 t) (iblk m c 1 t) (iblk m c 2 t) (iblk m c 3 t) (iblk m c 4 t) (iblk m c 5 t) (iblk m c 6 t) (iblk m c 7 t) x y).trans ?_
  rw [blk_prd]
  exact col_ogla _ y

theorem result_9 (c : Dev nD) : ((dats m 0 c).arrAt 9 cfg0.N : S16384x512.Idx → EReal) = fun i =>
    Cert.In.os5 (row m c (i 0)) (i 1) := by
  refine whole_9 m c _ fun t x y => ?_
  rw [after0_9]
  refine (o9_at (grid0.coords t) (iblk m c 0 t) (iblk m c 1 t) (iblk m c 2 t) (iblk m c 3 t) (iblk m c 4 t) (iblk m c 5 t) (iblk m c 6 t) (iblk m c 7 t) x y).trans ?_
  show _ = Cert.In.os5 (row m c (at_row t x)) y
  unfold Cert.In.os5
  rw [blk_prd, col_os5 _ _ (by dsimp only; omega) (by dsimp only; omega)]
  exact same _ _ _ (by dsimp only; omega)

theorem result_10 (c : Dev nD) : ((dats m 0 c).arrAt 10 cfg0.N : S16384x256.Idx → EReal) = fun i =>
    Cert.In.u16 (row m c (i 0)) (i 1) := by
  refine whole_10 m c _ fun t x y => ?_
  rw [after0_10]
  refine (o10_at (grid0.coords t) (iblk m c 0 t) (iblk m c 1 t) (iblk m c 2 t) (iblk m c 3 t) (iblk m c 4 t) (iblk m c 5 t) (iblk m c 6 t) (iblk m c 7 t) x y).trans ?_
  show _ = Cert.In.u16 (row m c (at_row t x)) y
  unfold Cert.In.u16
  rw [blk_prd, col_os5 _ _ (by dsimp only; omega) (by dsimp only; omega)]
  exact same _ _ _ (by dsimp only; omega)

theorem result_12 (c : Dev nD) : ((dats m 0 c).arrAt 12 cfg0.N : S16384x128.Idx → EReal) = fun i =>
    Cert.In.kc (row m c (i 0)) (i 1) := by
  refine whole_12 m c _ fun t x y => ?_
  rw [after0_12]
  refine (o12_at (grid0.coords t) (iblk m c 0 t) (iblk m c 1 t) (iblk m c 2 t) (iblk m c 3 t) (iblk m c 4 t) (iblk m c 5 t) (iblk m c 6 t) (iblk m c 7 t) x y).trans ?_
  show _ = Cert.In.kc (row m c (at_row t x)) y
  unfold Cert.In.kc
  rw [blk_prd, col_kv _ _ (by dsimp only; omega) (by dsimp only; omega)]
  exact same _ _ _ (by dsimp only; omega)

theorem result_13 (c : Dev nD) : ((dats m 0 c).arrAt 13 cfg0.N : S16384x128.Idx → EReal) = fun i =>
    Cert.In.vc (row m c (i 0)) (i 1) := by
  refine whole_13 m c _ fun t x y => ?_
  rw [after0_13]
  refine (o13_at (grid0.coords t) (iblk m c 0 t) (iblk m c 1 t) (iblk m c 2 t) (iblk m c 3 t) (iblk m c 4 t) (iblk m c 5 t) (iblk m c 6 t) (iblk m c 7 t) x y).trans ?_
  show _ = Cert.In.vc (row m c (at_row t x)) y
  unfold Cert.In.vc
  rw [blk_prd, col_kv _ _ (by dsimp only; omega) (by dsimp only; omega)]
  exact same _ _ _ (by dsimp only; omega)

theorem result_15 (c : Dev nD) : ((dats m 0 c).arrAt 15 cfg0.N : S2x16384x128.Idx → EReal) = fun i =>
    Cert.In.vs (row m c (i 1)) (i 0) (i 2) := by
  refine whole_15 m c _ fun t x y z => ?_
  rw [after0_15]
  refine (o15_at (grid0.coords t) (iblk m c 0 t) (iblk m c 1 t) (iblk m c 2 t) (iblk m c 3 t) (iblk m c 4 t) (iblk m c 5 t) (iblk m c 6 t) (iblk m c 7 t) x y z).trans ?_
  show _ = Cert.In.vs (row m c (at_row t y)) x z
  unfold Cert.In.vs
  by_cases h : z.val < 64
  · rw [dif_pos h, dif_pos h, blk_prd, col_kv _ _ (by dsimp only; omega) (by dsimp only; omega)]
    exact same _ _ _ (by dsimp only; omega)
  · rw [dif_neg h, dif_neg h]

theorem result_17 (c : Dev nD) : ((dats m 0 c).arrAt 17 cfg0.N : S2x16384x128.Idx → EReal) = fun i =>
    Cert.In.vw (row m c (i 1)) (i 0) (i 2) := by
  refine whole_17 m c _ fun t x y z => ?_
  rw [after0_17]
  refine (o17_at (grid0.coords t) (iblk m c 0 t) (iblk m c 1 t) (iblk m c 2 t) (iblk m c 3 t) (iblk m c 4 t) (iblk m c 5 t) (iblk m c 6 t) (iblk m c 7 t) x y z).trans ?_
  show _ = Cert.In.vw (row m c (at_row t y)) x z
  unfold Cert.In.vw
  by_cases h : z.val < 64
  · rw [dif_pos h, dif_pos h, blk_prd, col_kv _ _ (by dsimp only; omega) (by dsimp only; omega)]
    exact same _ _ _ (by dsimp only; omega)
  · rw [dif_neg h, dif_neg h]

theorem result_19 (c : Dev nD) : ((dats m 0 c).arrAt 19 cfg0.N : S8x16384x64.Idx → EReal) = fun i =>
    Cert.In.silu (row m c (i 1)) (i 0) (i 2) := by
  refine whole_19 m c _ fun t x y z => ?_
  rw [after0_19]
  refine (o19_at (grid0.coords t) (iblk m c 0 t) (iblk m c 1 t) (iblk m c 2 t) (iblk m c 3 t) (iblk m c 4 t) (iblk m c 5 t) (iblk m c 6 t) (iblk m c 7 t) x y z).trans ?_
  show _ = Cert.In.silu (row m c (at_row t y)) x z
  unfold srow Cert.In.silu
  rw [blk_prd, col_silu _ _ (by dsimp only; omega) (by dsimp only; omega)]
  have e : ∀ (p : Fin 3112 → EReal) (a b : Fin 3112), a.val = b.val → p a * Cert.In.sig (p a) = p b * Cert.In.sig (p b) := by
    intro p a b h
    rw [same p a b h]
  exact e _ _ _ (by dsimp only; omega)

theorem result_18 (c : Dev nD) : ((dats m 0 c).arrAt 18 cfg0.N : S2x16384x128.Idx → EReal) = fun i =>
    Cert.In.gates (row m c (i 1)) (fun d => (m ((c : Thread nD τ).loc main_arg5) : S24.Idx → EReal) (ix1 d)) (i 0) (i 2) := by
  refine whole_18 m c _ fun t x y z => ?_
  rw [after0_18]
  refine (o18_at (grid0.coords t) (iblk m c 0 t) (iblk m c 1 t) (iblk m c 2 t) (iblk m c 3 t) (iblk m c 4 t) (iblk m c 5 t) (iblk m c 6 t) (iblk m c 7 t) x y z).trans ?_
  show _ = Cert.In.gates (row m c (at_row t y)) (fun d => (m ((c : Thread nD τ).loc main_arg5) : S24.Idx → EReal) (ix1 d)) x z
  unfold grow Cert.In.gates Cert.In.gpre
  have e5 : ∀ y : Fin 128, (iblk m c 5 t : Vec Ideal S1x128 .f32) (ix2 0 y) = _ := fun y => (blk_5 m c t 0 y).trans (host_v25 m c y)
  rw [e5, blk_prd, col_gate _ _ (by dsimp only; omega)]
  refine congrArg Cert.In.sig ?_
  dsimp only
  by_cases h : (z.val + x.val * 12) % 128 < 24
  · rw [dif_pos (by omega), dif_pos h, dif_pos h]
    exact congrArg (· + _) (same _ _ _ (by dsimp only; omega))
  · rw [dif_neg (by omega), dif_neg h, dif_neg h, add_zero]

theorem blk_avg (c : Dev nD) (t : Fin cfg0.N) (g : Fin 8) (d : Fin 64) (k : Fin 512) :
    (iblk m c 6 t : Vec Ideal S512x512 .bf16) (ix2 k ⟨64 * g.val + d.val, by omega⟩) =
      (if k.val / 64 = g.val then (((1 : ℝ) / 64 : ℝ) : EReal) else 0 : EReal) := by
  refine (blk_6 m c t k _).trans ((host_v36 m c k _).trans ?_)
  have e : (64 * g.val + d.val) / 64 = g.val := by omega
  dsimp only
  rw [e]

theorem blk_avg' (c : Dev nD) (t : Fin cfg0.N) (g : Fin 2) (d : Fin 64) (k : Fin 128) :
    (iblk m c 7 t : Vec Ideal S128x128 .bf16) (ix2 k ⟨64 * g.val + d.val, by omega⟩) =
      (if k.val / 64 = g.val then (((1 : ℝ) / 64 : ℝ) : EReal) else 0 : EReal) := by
  refine (blk_7 m c t k _).trans ((host_cst m c k _).trans ?_)
  have e : (64 * g.val + d.val) / 64 = g.val := by omega
  dsimp only
  rw [e]

theorem blk_qn (c : Dev nD) (t : Fin cfg0.N) (g : Fin 8) (d : Fin 64) :
    (iblk m c 3 t : Vec Ideal S1x512 .f32) (ix2 0 ⟨64 * g.val + d.val, by omega⟩) = (m ((c : Thread nD τ).loc main_arg3) : S64.Idx → EReal) (ix1 d) := by
  refine (blk_3 m c t 0 _).trans ((host_v19 m c _).trans ?_)
  refine congrArg (fun k => (m ((c : Thread nD τ).loc main_arg3) : S64.Idx → EReal) (ix1 k)) (Fin.ext ?_)
  dsimp only
  omega

theorem blk_kn (c : Dev nD) (t : Fin cfg0.N) (n : Fin 3) (g : Fin 2) (d : Fin 64) :
    (iblk m c 4 t : Vec Ideal S3x1x128 .f32) (ix3 n 0 ⟨64 * g.val + d.val, by omega⟩) = (m ((c : Thread nD τ).loc main_arg4) : S3x64.Idx → EReal) (ix2 n d) := by
  refine (blk_4 m c t n 0 _).trans ((host_v23 m c n _).trans ?_)
  refine congrArg (fun k => (m ((c : Thread nD τ).loc main_arg4) : S3x64.Idx → EReal) (ix2 n k)) (Fin.ext ?_)
  dsimp only
  omega

theorem blk_krow (c : Dev nD) (hr : ∀ R j, ∃ a : ℝ, row m c R j = (a : EReal)) (t : Fin cfg0.N) (n : ℕ) (hn : 1920 ≤ n) (hc : n + 128 ≤ 2688) (k : Fin 3)
    (g : Fin 2) (r : Fin 512) (d : Fin 64) :
    krow (iblk m c 0 t) (iblk m c 1 t) (iblk m c 2 t) (iblk m c 4 t) (iblk m c 7 t) n (by omega) k r ⟨64 * g.val + d.val, by omega⟩ =
      Cert.In.nrm (fun e => row m c (at_row t r) ⟨1808 + (n - 1920 + g.val * 64 + e.val), by omega⟩) ((m ((c : Thread nD τ).loc main_arg4) : S3x64.Idx → EReal) (ix2 k d)) d := by
  unfold krow
  simp only [blk_prd]
  refine (halves_nrm 2 rfl (fun j : Fin 128 => col (row m c (at_row t r)) (n + j.val)) _ (fun j => ?_) g d (fun j => blk_avg' m c t g d j) _).trans ?_
  · rw [col_kv _ _ (by omega) (by omega)]
    exact hr _ _
  · rw [blk_kn]
    refine congrArg (fun f => Cert.In.nrm f _ d) (funext fun e => ?_)
    dsimp only
    rw [col_kv _ _ (by omega) (by omega)]
    exact same _ _ _ (by dsimp only; omega)

theorem result_11 (c : Dev nD) (hr : ∀ R j, ∃ a : ℝ, row m c R j = (a : EReal)) : ((dats m 0 c).arrAt 11 cfg0.N : S8x16384x64.Idx → EReal) = fun i =>
    Cert.In.qh (row m c (i 1)) (fun d => (m ((c : Thread nD τ).loc main_arg3) : S64.Idx → EReal) (ix1 d)) (i 0) (i 2) := by
  refine whole_11 m c _ fun t x y z => ?_
  rw [after0_11]
  refine (o11_at (grid0.coords t) (iblk m c 0 t) (iblk m c 1 t) (iblk m c 2 t) (iblk m c 3 t) (iblk m c 4 t) (iblk m c 5 t) (iblk m c 6 t) (iblk m c 7 t) x y z).trans ?_
  show _ = Cert.In.qh (row m c (at_row t y)) (fun d => (m ((c : Thread nD τ).loc main_arg3) : S64.Idx → EReal) (ix1 d)) x z
  unfold qrow Cert.In.qh
  simp only [blk_prd]
  refine congrArg (· * _) ?_
  refine (halves_nrm 8 rfl (fun j : Fin 512 => col (row m c (at_row t y)) (1408 + j.val)) _ (fun j => ?_) x z (fun j => blk_avg m c t x z j) _).trans ?_
  · rw [col_q _ _ (by omega) (by omega)]
    exact hr _ _
  · rw [blk_qn]
    refine congrArg (fun f => Cert.In.nrm f _ z) (funext fun e => ?_)
    dsimp only
    rw [col_q _ _ (by omega) (by omega)]
    exact same _ _ _ (by dsimp only; omega)

theorem result_16 (c : Dev nD) (hr : ∀ R j, ∃ a : ℝ, row m c R j = (a : EReal)) : ((dats m 0 c).arrAt 16 cfg0.N : S2x16384x64.Idx → EReal) = fun i =>
    Cert.In.kw (row m c (i 1)) (fun d => (m ((c : Thread nD τ).loc main_arg4) : S3x64.Idx → EReal) (ix2 2 d)) (i 0) (i 2) := by
  refine whole_16 m c _ fun t x y z => ?_
  rw [after0_16]
  refine (o16_at (grid0.coords t) (iblk m c 0 t) (iblk m c 1 t) (iblk m c 2 t) (iblk m c 3 t) (iblk m c 4 t) (iblk m c 5 t) (iblk m c 6 t) (iblk m c 7 t) x y z).trans ?_
  exact blk_krow m c hr t 2432 (by omega) (by omega) 2 x y z

theorem result_14 (c : Dev nD) (hr : ∀ R j, ∃ a : ℝ, row m c R j = (a : EReal)) : ((dats m 0 c).arrAt 14 cfg0.N : S2x16384x256.Idx → EReal) = fun i =>
    Cert.In.ks (row m c (i 1)) (fun d => (m ((c : Thread nD τ).loc main_arg4) : S3x64.Idx → EReal) (ix2 1 d)) (i 1).val (i 0) (i 2) := by
  refine whole_14 m c _ fun t x y z => ?_
  rw [after0_14]
  refine (o14_at (grid0.coords t) (iblk m c 0 t) (iblk m c 1 t) (iblk m c 2 t) (iblk m c 3 t) (iblk m c 4 t) (iblk m c 5 t) (iblk m c 6 t) (iblk m c 7 t) ⟨t.val, lt_of_lt_of_eq t.isLt N_0⟩ (at_point t) x y z).trans ?_
  show _ = Cert.In.ks (row m c (at_row t y)) (fun d => (m ((c : Thread nD τ).loc main_arg4) : S3x64.Idx → EReal) (ix2 1 d)) (512 * t.val + y.val) x z
  unfold Cert.In.ks Cert.In.mark
  by_cases h1 : z.val < 128
  · rw [dif_pos h1, dif_pos h1]
  · rw [dif_neg h1, dif_neg h1]
    by_cases h2 : z.val < 192
    · rw [dif_pos (by omega), dif_pos h2]
      exact blk_krow m c hr t 2176 (by omega) (by omega) 1 x y ⟨z.val - 128, by omega⟩
    · rw [dif_neg (by omega), dif_neg h2]

end Cert.Kernel3Ideal.In
-- ==== Proof.InProof.lean ====
module

public import proofs.«01_k».proof.Defs
public import proofs.«01_k».proof.Proof.InKernel
public import proofs.«01_k».proof.Proof.Finite
public import Idealize.ShloMosaic.Adequacy
public import Idealize.ShloMosaic.Init

/-! The input projection: its reference's frame, and equal results of the kernel and its reference over finite gains and weights. -/

@[expose] public section
set_option maxRecDepth 16384
set_option maxHeartbeats 2000000
noncomputable section

namespace Cert.In

open Idealize.ShloMosaic Idealize.SL.Sem

theorem finite_facts : Cert.Pre_finite3.Facts where
  bcast_S_S1024 := by decide
  reducesTo_S1024_S_d0 := by decide
  h_S_ := by decide
  bcast_S_S1024x3112 := by decide
  reducesTo_S1024x3112_S_d0_1 := by decide

section
open Cert.Pre_finite3
variable [Cert.Pre_finite3.Facts]

theorem reals (a0 : S16384x1024.Idx → EReal) (a1 : S1024.Idx → EReal) (a2 : S1024x3112.Idx → EReal) (a3 : S64.Idx → EReal)
    (a4 : S3x64.Idx → EReal) (a5 : S24.Idx → EReal)
    (h : Cert.Pre_finite3.fn (F := Ideal) a0 a1 a2 a3 a4 a5 = fun _ => 1#1) :
    (∀ i, a1 i = (((a1 i).toReal : ℝ) : EReal)) ∧ ∀ i, a2 i = (((a2 i).toReal : ℝ) : EReal) := by
  have h := congrFun h (fun i => i.elim0)
  dsimp only [Cert.Pre_finite3.fn] at h
  obtain ⟨h1, h2⟩ := Cert.Finite.both h
  exact ⟨fun i => Cert.Finite.real_of_less _ (Host.reduce_andi_all _ _ _ _ _ h1 i),
    fun i => Cert.Finite.real_of_less _ (Host.reduce_andi_all _ _ _ _ _ h2 i)⟩
end

theorem frame_reference : Cert.quiescent_Reference3Ideal (hReference3Ideal := Cert.Reference3Ideal.Gen.facts) := fun m g _ =>
  (θ_run Cert.Reference3Ideal.defs _ _).mono (fun r h => And.intro (fun c => (h c).2.2.2.2.2.2.2.2.2.2.2.2) (sem_eq_zero_of_no_sems (by decide) r.2))
    (Cert.Reference3Ideal.Value.run (F := Ideal) m g)

/-- The twelve results agree over finite gains and weights: each is the same function of the rows of products, and these are reals. -/
theorem algebraic : Cert.algebraic_Kernel3Ideal_Reference3Ideal_pre_finite3 (hKernel3Ideal := Cert.Kernel3Ideal.Gen.facts)
    (hReference3Ideal := Cert.Reference3Ideal.Gen.facts) (hPre_finite3 := finite_facts) := by
  intro m g m' g' hpre hag
  refine ⟨_, _, _, _, _, _, _, _, _, _, _, _, Cert.Kernel3Ideal.Value.run_blocks (F := Ideal) m g, ?_⟩
  refine (θ_run Cert.Reference3Ideal.defs _ _).mono (fun r h c => ?_) (Cert.Reference3Ideal.Value.run (F := Ideal) m' g')
  obtain ⟨e0, e1, e2, e3, e4, e5⟩ := hag c
  obtain ⟨q1, q2⟩ := @reals finite_facts _ _ _ _ _ _ (hpre c)
  have hr : ∀ R j, ∃ a : ℝ, Cert.Kernel3Ideal.In.row m c R j = (a : EReal) := fun R j =>
    pr_real _ _ _ (fun k => ⟨_, q1 _⟩) (fun k => ⟨_, q2 _⟩)
  have hrow : ∀ R, Cert.Reference3Ideal.In.row (StableHlo.launchContents m' c) R = Cert.Kernel3Ideal.In.row m c R := fun R => by
    show Cert.Reference3Ideal.In.prj (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) R = _
    rw [e0, e1, e2]
  have h3 : (StableHlo.launchContents m' c (Proc.devRef .tc Cert.Reference3Ideal.main_arg3) : Cert.Reference3Ideal.S64.Idx → EReal) = _ := e3
  have h4 : (StableHlo.launchContents m' c (Proc.devRef .tc Cert.Reference3Ideal.main_arg4) : Cert.Reference3Ideal.S3x64.Idx → EReal) = _ := e4
  have h5 : (StableHlo.launchContents m' c (Proc.devRef .tc Cert.Reference3Ideal.main_arg5) : Cert.Reference3Ideal.S24.Idx → EReal) = _ := e5
  obtain ⟨p0, p1, p2, p3, p4, p5, p6, p7, p8, p9, p10, p11, hkeep⟩ := h c
  refine ⟨p0.trans ?_, p1.trans ?_, p2.trans ?_, p3.trans ?_, p4.trans ?_, p5.trans ?_, p6.trans ?_, p7.trans ?_, p8.trans ?_, p9.trans ?_, p10.trans ?_, p11.trans ?_, hkeep⟩
  · refine Eq.trans ?_ (Cert.Kernel3Ideal.In.result_8 m c).symm
    funext i
    have e := Cert.Reference3Ideal.In.r0 (StableHlo.launchContents m' c) (i 0) (i 1)
    rw [ix2_eta] at e
    exact e.trans (congrArg (fun p => Cert.In.ogla p (i 1)) (hrow (i 0)))
  · refine Eq.trans ?_ (Cert.Kernel3Ideal.In.result_9 m c).symm
    funext i
    have e := Cert.Reference3Ideal.In.r1 (StableHlo.launchContents m' c) (i 0) (i 1)
    rw [ix2_eta] at e
    exact e.trans (congrArg (fun p => Cert.In.os5 p (i 1)) (hrow (i 0)))
  · refine Eq.trans ?_ (Cert.Kernel3Ideal.In.result_10 m c).symm
    funext i
    have e := Cert.Reference3Ideal.In.r2 (StableHlo.launchContents m' c) (i 0) (i 1)
    rw [ix2_eta] at e
    exact e.trans (congrArg (fun p => Cert.In.u16 p (i 1)) (hrow (i 0)))
  · refine Eq.trans ?_ (Cert.Kernel3Ideal.In.result_11 m c hr).symm
    funext i
    have e := Cert.Reference3Ideal.In.r3 (StableHlo.launchContents m' c) (i 0) (i 1) (i 2)
    rw [ix3_eta] at e
    exact e.trans ((congrArg (fun p => Cert.In.qh p _ (i 0) (i 2)) (hrow (i 1))).trans (congrArg (fun a => Cert.In.qh _ (fun d => a (ix1 d)) (i 0) (i 2)) h3))
  · refine Eq.trans ?_ (Cert.Kernel3Ideal.In.result_12 m c).symm
    funext i
    have e := Cert.Reference3Ideal.In.r4 (StableHlo.launchContents m' c) (i 0) (i 1)
    rw [ix2_eta] at e
    exact e.trans (congrArg (fun p => Cert.In.kc p (i 1)) (hrow (i 0)))
  · refine Eq.trans ?_ (Cert.Kernel3Ideal.In.result_13 m c).symm
    funext i
    have e := Cert.Reference3Ideal.In.r5 (StableHlo.launchContents m' c) (i 0) (i 1)
    rw [ix2_eta] at e
    exact e.trans (congrArg (fun p => Cert.In.vc p (i 1)) (hrow (i 0)))
  · refine Eq.trans ?_ (Cert.Kernel3Ideal.In.result_14 m c hr).symm
    funext i
    have e := Cert.Reference3Ideal.In.r6 (StableHlo.launchContents m' c) (i 0) (i 1) (i 2)
    rw [ix3_eta] at e
    exact e.trans ((congrArg (fun p => Cert.In.ks p _ (i 1).val (i 0) (i 2)) (hrow (i 1))).trans (congrArg (fun a => Cert.In.ks _ (fun d => a (ix2 1 d)) (i 1).val (i 0) (i 2)) h4))
  · refine Eq.trans ?_ (Cert.Kernel3Ideal.In.result_15 m c).symm
    funext i
    have e := Cert.Reference3Ideal.In.r7 (StableHlo.launchContents m' c) (i 0) (i 1) (i 2)
    rw [ix3_eta] at e
    exact e.trans (congrArg (fun p => Cert.In.vs p (i 0) (i 2)) (hrow (i 1)))
  · refine Eq.trans ?_ (Cert.Kernel3Ideal.In.result_16 m c hr).symm
    funext i
    have e := Cert.Reference3Ideal.In.r8 (StableHlo.launchContents m' c) (i 0) (i 1) (i 2)
    rw [ix3_eta] at e
    exact e.trans ((congrArg (fun p => Cert.In.kw p _ (i 0) (i 2)) (hrow (i 1))).trans (congrArg (fun a => Cert.In.kw _ (fun d => a (ix2 2 d)) (i 0) (i 2)) h4))
  · refine Eq.trans ?_ (Cert.Kernel3Ideal.In.result_17 m c).symm
    funext i
    have e := Cert.Reference3Ideal.In.r9 (StableHlo.launchContents m' c) (i 0) (i 1) (i 2)
    rw [ix3_eta] at e
    exact e.trans (congrArg (fun p => Cert.In.vw p (i 0) (i 2)) (hrow (i 1)))
  · refine Eq.trans ?_ (Cert.Kernel3Ideal.In.result_18 m c).symm
    funext i
    have e := Cert.Reference3Ideal.In.r10 (StableHlo.launchContents m' c) (i 0) (i 1) (i 2)
    rw [ix3_eta] at e
    exact e.trans ((congrArg (fun p => Cert.In.gates p _ (i 0) (i 2)) (hrow (i 1))).trans (congrArg (fun a => Cert.In.gates _ (fun d => a (ix1 d)) (i 0) (i 2)) h5))
  · refine Eq.trans ?_ (Cert.Kernel3Ideal.In.result_19 m c).symm
    funext i
    have e := Cert.Reference3Ideal.In.r11 (StableHlo.launchContents m' c) (i 0) (i 1) (i 2)
    rw [ix3_eta] at e
    exact e.trans (congrArg (fun p => Cert.In.silu p (i 0) (i 2)) (hrow (i 1)))

end Cert.In
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Finite
public import proofs.«01_k».proof.Proof.Agree
public import proofs.«01_k».proof.Proof.OutProof
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.InProof
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import Idealize.ShloMosaic.Adequacy
public import Idealize.ShloMosaic.Init

/-! The claim: frames of the programs, and equal results of each kernel and its reference: the gated linear attention
over finite projections, the output projection over all inputs, the input projection over finite gains and weights. -/

@[expose] public section

noncomputable section

namespace Cert.Proof

open Idealize.ShloMosaic Idealize.SL.Sem Cert.Kernel

/-- The reference runs and leaves its arguments: its value run says so, and it has no semaphore. -/
theorem frame_reference : Cert.quiescent_ReferenceIdeal (hReferenceIdeal := Cert.ReferenceIdeal.Gen.facts) := fun m g _ =>
  (θ_run Cert.ReferenceIdeal.defs _ _).mono (fun r h => And.intro (fun c => (h c).2) (sem_eq_zero_of_no_sems (by decide) r.2))
    (Cert.ReferenceIdeal.Value.run (F := Ideal) m g)

/-- The two results agree over finite projections: each is the real recurrence of `Spec`, read by
`Cert.KernelIdeal.Tile.result_at` and by `Cert.ReferenceIdeal.Chunk.result_at`. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hag
  refine ⟨fun c => Cert.KernelIdeal.Value.G6 m c, Cert.KernelIdeal.Value.run (F := Ideal) m g, ?_⟩
  refine (θ_run Cert.ReferenceIdeal.defs _ _).mono (fun r h c => ⟨(h c).1.trans ?_, (h c).2⟩) (Cert.ReferenceIdeal.Value.run (F := Ideal) m' g')
  obtain ⟨e0, e1, e2, e3⟩ := hag c
  obtain ⟨r0, r1, r2⟩ := @Cert.Finite.reals Cert.Finite.facts _ _ _ _ (hpre c)
  exact Cert.Agree.results m c m' c e0 e1 e2 e3 r0 r1 r2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Finite.facts, Cert.In.finite_facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Kernel2.Gen.frame m g, fun m g _ => Cert.Kernel2Ideal.Gen.frame m g, Cert.Out.frame_reference,
  fun m g _ => Cert.Kernel3.Gen.frame m g, fun m g _ => Cert.Kernel3Ideal.Gen.frame m g, fun m g _ => Cert.Kernel3Ideal.Gen.frame m g,
  Cert.In.frame_reference, fun m g _ => Cert.In.frame_reference m g trivial,
  trivial, algebraic, trivial, Cert.Out.algebraic, trivial, Cert.In.algebraic⟩

end Cert.Proof

end
